-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v601) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128 : Shape := ⟨1, ![128]⟩
abbrev S128x1x64x64 : Shape := ⟨4, ![128, 1, 64, 64]⟩
abbrev S128x3 : Shape := ⟨2, ![128, 3]⟩
abbrev S64x1x3x3 : Shape := ⟨4, ![64, 1, 3, 3]⟩
abbrev S128x64x3x3 : Shape := ⟨4, ![128, 64, 3, 3]⟩
abbrev S256x128x3x3 : Shape := ⟨4, ![256, 128, 3, 3]⟩
abbrev S256x256x3x3 : Shape := ⟨4, ![256, 256, 3, 3]⟩
abbrev S128x256x3x3 : Shape := ⟨4, ![128, 256, 3, 3]⟩
abbrev S64x128x3x3 : Shape := ⟨4, ![64, 128, 3, 3]⟩
abbrev S32x64x3x3 : Shape := ⟨4, ![32, 64, 3, 3]⟩
abbrev S1x32x3x3 : Shape := ⟨4, ![1, 32, 3, 3]⟩
abbrev S_ : Shape := ⟨0, ![]⟩

class Facts : Prop where
  bcast_S_S128 : S_.BroadcastsInDim S128 (![] : Fin 0 → Fin S128.rank)
  bcast_S_S128x3 : S_.BroadcastsInDim S128x3 (![] : Fin 0 → Fin S128x3.rank)

variable [Facts]

def fn_part1 {F : FTy → Type} [FloatOps F] (main_arg4 : IVec S128x3 32) (main_v4 : IVec S128 1) (main_v9 : IVec S128 1) (main_v14 : IVec S128 1) (main_v16 : IVec S128x3 1) : IVec S128 1 × IVec S128 1 × IVec S128 1 × IVec S128x3 1 :=
  let main_c_6 : IVec S_ 32 := constantI S_ 32 68#32
  let main_v17 : IVec S128x3 32 := broadcastInDim S128x3 ![] bcast_S_S128x3 main_c_6
  let main_v18 : IVec S128x3 1 := cmpi .slt main_arg4 main_v17
  let main_v19 : IVec S128x3 1 := andi main_v16 main_v18
  (main_v4, main_v9, main_v14, main_v19)

def fn {F : FTy → Type} [FloatOps F] (main_arg0 : IVec S128 32) (main_arg1 : IVec S128 32) (main_arg2 : FVec F S128x1x64x64 .f32) (main_arg3 : IVec S128 32) (main_arg4 : IVec S128x3 32) (main_arg5 : FVec F S64x1x3x3 .f32) (main_arg6 : FVec F S128x64x3x3 .f32) (main_arg7 : FVec F S256x128x3x3 .f32) (main_arg8 : FVec F S256x256x3x3 .f32) (main_arg9 : FVec F S128x256x3x3 .f32) (main_arg10 : FVec F S64x128x3x3 .f32) (main_arg11 : FVec F S32x64x3x3 .f32) (main_arg12 : FVec F S1x32x3x3 .f32) : IVec S128 1 × IVec S128 1 × IVec S128 1 × IVec S128x3 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 8#32
  let main_v2 : IVec S128 32 := broadcastInDim S128 ![] bcast_S_S128 main_c_0
  let main_v3 : IVec S128 1 := cmpi .slt main_arg0 main_v2
  let main_v4 : IVec S128 1 := andi main_v1 main_v3
  let main_c_1 : IVec S_ 32 := constantI S_ 32 0#32
  let main_v5 : IVec S128 32 := broadcastInDim S128 ![] bcast_S_S128 main_c_1
  let main_v6 : IVec S128 1 := cmpi .sge main_arg1 main_v5
  let main_c_2 : IVec S_ 32 := constantI S_ 32 68#32
  let main_v7 : IVec S128 32 := broadcastInDim S128 ![] bcast_S_S128 main_c_2
  let main_v8 : IVec S128 1 := cmpi .slt main_arg1 main_v7
  let main_v9 : IVec S128 1 := andi main_v6 main_v8
  let main_c_3 : IVec S_ 32 := constantI S_ 32 0#32
  let main_v10 : IVec S128 32 := broadcastInDim S128 ![] bcast_S_S128 main_c_3
  let main_v11 : IVec S128 1 := cmpi .sge main_arg3 main_v10
  let main_c_4 : IVec S_ 32 := constantI S_ 32 8#32
  let main_v12 : IVec S128 32 := broadcastInDim S128 ![] bcast_S_S128 main_c_4
  let main_v13 : IVec S128 1 := cmpi .slt main_arg3 main_v12
  let main_v14 : IVec S128 1 := andi main_v11 main_v13
  let main_c_5 : IVec S_ 32 := constantI S_ 32 0#32
  let main_v15 : IVec S128x3 32 := broadcastInDim S128x3 ![] bcast_S_S128x3 main_c_5
  let main_v16 : IVec S128x3 1 := cmpi .sge main_arg4 main_v15
  fn_part1 (F := F) main_arg4 main_v4 main_v9 main_v14 main_v16
-- ==== Kernel.lean ====
abbrev S128 : Shape := ⟨1, ![128]⟩
abbrev S128x1x64x64 : Shape := ⟨4, ![128, 1, 64, 64]⟩
abbrev S128x3 : Shape := ⟨2, ![128, 3]⟩
abbrev S64x1x3x3 : Shape := ⟨4, ![64, 1, 3, 3]⟩
abbrev S128x64x3x3 : Shape := ⟨4, ![128, 64, 3, 3]⟩
abbrev S256x128x3x3 : Shape := ⟨4, ![256, 128, 3, 3]⟩
abbrev S256x256x3x3 : Shape := ⟨4, ![256, 256, 3, 3]⟩
abbrev S128x256x3x3 : Shape := ⟨4, ![128, 256, 3, 3]⟩
abbrev S64x128x3x3 : Shape := ⟨4, ![64, 128, 3, 3]⟩
abbrev S32x64x3x3 : Shape := ⟨4, ![32, 64, 3, 3]⟩
abbrev S1x32x3x3 : Shape := ⟨4, ![1, 32, 3, 3]⟩
abbrev S128x64x64 : Shape := ⟨3, ![128, 64, 64]⟩
abbrev S_ : Shape := ⟨0, ![]⟩
abbrev S128x65x65 : Shape := ⟨3, ![128, 65, 65]⟩
abbrev S128x32x32 : Shape := ⟨3, ![128, 32, 32]⟩
abbrev S128x1024 : Shape := ⟨2, ![128, 1024]⟩
abbrev S128x1024x1 : Shape := ⟨3, ![128, 1024, 1]⟩
abbrev S128x1024x9 : Shape := ⟨3, ![128, 1024, 9]⟩
abbrev S3x3x1x64 : Shape := ⟨4, ![3, 3, 1, 64]⟩
abbrev S1x9x64 : Shape := ⟨3, ![1, 9, 64]⟩
abbrev S8x16384x9 : Shape := ⟨3, ![8, 16384, 9]⟩
abbrev S8x16384x64 : Shape := ⟨3, ![8, 16384, 64]⟩
abbrev S1x16384x9 : Shape := ⟨3, ![1, 16384, 9]⟩
abbrev S1x16384x64 : Shape := ⟨3, ![1, 16384, 64]⟩
abbrev S1x2048x9 : Shape := ⟨3, ![1, 2048, 9]⟩
abbrev S2048x9 : Shape := ⟨2, ![2048, 9]⟩
abbrev S9x64 : Shape := ⟨2, ![9, 64]⟩
abbrev S2048x64 : Shape := ⟨2, ![2048, 64]⟩
abbrev S1x2048x64 : Shape := ⟨3, ![1, 2048, 64]⟩
abbrev S128x32x32x64 : Shape := ⟨4, ![128, 32, 32, 64]⟩
abbrev S3x3x64x128 : Shape := ⟨4, ![3, 3, 64, 128]⟩
abbrev S9x64x128 : Shape := ⟨3, ![9, 64, 128]⟩
abbrev S128x34x34x64 : Shape := ⟨4, ![128, 34, 34, 64]⟩
abbrev S128x34x17x128 : Shape := ⟨4, ![128, 34, 17, 128]⟩
abbrev S128x17x17x128 : Shape := ⟨4, ![128, 17, 17, 128]⟩
abbrev S128x289x128 : Shape := ⟨3, ![128, 289, 128]⟩
abbrev S8x4624x128 : Shape := ⟨3, ![8, 4624, 128]⟩
abbrev S8x4642x128 : Shape := ⟨3, ![8, 4642, 128]⟩
abbrev S3x64x128 : Shape := ⟨3, ![3, 64, 128]⟩
abbrev S3x128x128 : Shape := ⟨3, ![3, 128, 128]⟩
abbrev S1x4642x128 : Shape := ⟨3, ![1, 4642, 128]⟩
abbrev S1x4624x128 : Shape := ⟨3, ![1, 4624, 128]⟩
abbrev S1x2048x128 : Shape := ⟨3, ![1, 2048, 128]⟩
abbrev S2048x128 : Shape := ⟨2, ![2048, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S1x528x128 : Shape := ⟨3, ![1, 528, 128]⟩
abbrev S528x128 : Shape := ⟨2, ![528, 128]⟩
abbrev S1x528x64 : Shape := ⟨3, ![1, 528, 64]⟩
abbrev S528x64 : Shape := ⟨2, ![528, 64]⟩
abbrev S128x272x128 : Shape := ⟨3, ![128, 272, 128]⟩
abbrev S128x16x17x128 : Shape := ⟨4, ![128, 16, 17, 128]⟩
abbrev S128x16x16x128 : Shape := ⟨4, ![128, 16, 16, 128]⟩
abbrev S3x3x128x256 : Shape := ⟨4, ![3, 3, 128, 256]⟩
abbrev S9x128x256 : Shape := ⟨3, ![9, 128, 256]⟩
abbrev S128x18x18x128 : Shape := ⟨4, ![128, 18, 18, 128]⟩
abbrev S128x18x9x256 : Shape := ⟨4, ![128, 18, 9, 256]⟩
abbrev S128x9x9x256 : Shape := ⟨4, ![128, 9, 9, 256]⟩
abbrev S128x81x256 : Shape := ⟨3, ![128, 81, 256]⟩
abbrev S4x2592x256 : Shape := ⟨3, ![4, 2592, 256]⟩
abbrev S4x2602x256 : Shape := ⟨3, ![4, 2602, 256]⟩
abbrev S3x128x256 : Shape := ⟨3, ![3, 128, 256]⟩
abbrev S3x256x256 : Shape := ⟨3, ![3, 256, 256]⟩
abbrev S1x2602x256 : Shape := ⟨3, ![1, 2602, 256]⟩
abbrev S1x2592x256 : Shape := ⟨3, ![1, 2592, 256]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x544x256 : Shape := ⟨3, ![1, 544, 256]⟩
abbrev S544x256 : Shape := ⟨2, ![544, 256]⟩
abbrev S1x544x128 : Shape := ⟨3, ![1, 544, 128]⟩
abbrev S544x128 : Shape := ⟨2, ![544, 128]⟩
abbrev S128x72x256 : Shape := ⟨3, ![128, 72, 256]⟩
abbrev S128x8x9x256 : Shape := ⟨4, ![128, 8, 9, 256]⟩
abbrev S128x8x8x256 : Shape := ⟨4, ![128, 8, 8, 256]⟩
abbrev S3x3x256x256 : Shape := ⟨4, ![3, 3, 256, 256]⟩
abbrev S9x256x256 : Shape := ⟨3, ![9, 256, 256]⟩
abbrev S128x10x10x256 : Shape := ⟨4, ![128, 10, 10, 256]⟩
abbrev S128x10x5x512 : Shape := ⟨4, ![128, 10, 5, 512]⟩
abbrev S128x5x5x512 : Shape := ⟨4, ![128, 5, 5, 512]⟩
abbrev S128x25x512 : Shape := ⟨3, ![128, 25, 512]⟩
abbrev S4x800x512 : Shape := ⟨3, ![4, 800, 512]⟩
abbrev S4x806x512 : Shape := ⟨3, ![4, 806, 512]⟩
abbrev S3x512x256 : Shape := ⟨3, ![3, 512, 256]⟩
abbrev S4x800x256 : Shape := ⟨3, ![4, 800, 256]⟩
abbrev S1x806x512 : Shape := ⟨3, ![1, 806, 512]⟩
abbrev S1x800x256 : Shape := ⟨3, ![1, 800, 256]⟩
abbrev S1x800x512 : Shape := ⟨3, ![1, 800, 512]⟩
abbrev S800x512 : Shape := ⟨2, ![800, 512]⟩
abbrev S1x512x256 : Shape := ⟨3, ![1, 512, 256]⟩
abbrev S512x256 : Shape := ⟨2, ![512, 256]⟩
abbrev S800x256 : Shape := ⟨2, ![800, 256]⟩
abbrev S128x25x256 : Shape := ⟨3, ![128, 25, 256]⟩
abbrev S128x20x256 : Shape := ⟨3, ![128, 20, 256]⟩
abbrev S128x4x5x256 : Shape := ⟨4, ![128, 4, 5, 256]⟩
abbrev S128x4x4x256 : Shape := ⟨4, ![128, 4, 4, 256]⟩
abbrev S1x128 : Shape := ⟨2, ![1, 128]⟩
abbrev S128x1 : Shape := ⟨2, ![128, 1]⟩
abbrev S128x4096 : Shape := ⟨2, ![128, 4096]⟩
abbrev S128x2048 : Shape := ⟨2, ![128, 2048]⟩
abbrev S128x32768 : Shape := ⟨2, ![128, 32768]⟩
abbrev S128x8192 : Shape := ⟨2, ![128, 8192]⟩
abbrev S128x4x1x4x1x256 : Shape := ⟨6, ![128, 4, 1, 4, 1, 256]⟩
abbrev S128x4x4x4x4x256 : Shape := ⟨6, ![128, 4, 4, 4, 4, 256]⟩
abbrev S128x16x16x256 : Shape := ⟨4, ![128, 16, 16, 256]⟩
abbrev S3x3x256x128 : Shape := ⟨4, ![3, 3, 256, 128]⟩
abbrev S9x256x128 : Shape := ⟨3, ![9, 256, 128]⟩
abbrev S128x18x18x256 : Shape := ⟨4, ![128, 18, 18, 256]⟩
abbrev S128x324x256 : Shape := ⟨3, ![128, 324, 256]⟩
abbrev S128x326x256 : Shape := ⟨3, ![128, 326, 256]⟩
abbrev S8x5216x256 : Shape := ⟨3, ![8, 5216, 256]⟩
abbrev S8x5254x256 : Shape := ⟨3, ![8, 5254, 256]⟩
abbrev S128x16x18x128 : Shape := ⟨4, ![128, 16, 18, 128]⟩
abbrev S128x288x128 : Shape := ⟨3, ![128, 288, 128]⟩
abbrev S128x326x128 : Shape := ⟨3, ![128, 326, 128]⟩
abbrev S8x5216x128 : Shape := ⟨3, ![8, 5216, 128]⟩
abbrev S1x5254x256 : Shape := ⟨3, ![1, 5254, 256]⟩
abbrev S1x5216x128 : Shape := ⟨3, ![1, 5216, 128]⟩
abbrev S1x256x128 : Shape := ⟨3, ![1, 256, 128]⟩
abbrev S256x128 : Shape := ⟨2, ![256, 128]⟩
abbrev S1x1120x256 : Shape := ⟨3, ![1, 1120, 256]⟩
abbrev S1120x256 : Shape := ⟨2, ![1120, 256]⟩
abbrev S1120x128 : Shape := ⟨2, ![1120, 128]⟩
abbrev S1x1120x128 : Shape := ⟨3, ![1, 1120, 128]⟩
abbrev S128x16x1x16x1x128 : Shape := ⟨6, ![128, 16, 1, 16, 1, 128]⟩
abbrev S128x16x2x16x2x128 : Shape := ⟨6, ![128, 16, 2, 16, 2, 128]⟩
abbrev S128x32x32x128 : Shape := ⟨4, ![128, 32, 32, 128]⟩
abbrev S3x3x128x64 : Shape := ⟨4, ![3, 3, 128, 64]⟩
abbrev S9x128x64 : Shape := ⟨3, ![9, 128, 64]⟩
abbrev S128x34x34x128 : Shape := ⟨4, ![128, 34, 34, 128]⟩
abbrev S128x1156x128 : Shape := ⟨3, ![128, 1156, 128]⟩
abbrev S128x1158x128 : Shape := ⟨3, ![128, 1158, 128]⟩
abbrev S8x18528x128 : Shape := ⟨3, ![8, 18528, 128]⟩
abbrev S8x18598x128 : Shape := ⟨3, ![8, 18598, 128]⟩
abbrev S8x18528x64 : Shape := ⟨3, ![8, 18528, 64]⟩
abbrev S1x18598x128 : Shape := ⟨3, ![1, 18598, 128]⟩
abbrev S1x18528x64 : Shape := ⟨3, ![1, 18528, 64]⟩
abbrev S1x128x64 : Shape := ⟨3, ![1, 128, 64]⟩
abbrev S128x64 : Shape := ⟨2, ![128, 64]⟩
abbrev S1x96x128 : Shape := ⟨3, ![1, 96, 128]⟩
abbrev S96x128 : Shape := ⟨2, ![96, 128]⟩
abbrev S96x64 : Shape := ⟨2, ![96, 64]⟩
abbrev S1x96x64 : Shape := ⟨3, ![1, 96, 64]⟩
abbrev S128x1158x64 : Shape := ⟨3, ![128, 1158, 64]⟩
abbrev S128x1088x64 : Shape := ⟨3, ![128, 1088, 64]⟩
abbrev S128x32x34x64 : Shape := ⟨4, ![128, 32, 34, 64]⟩
abbrev S128x32x1x32x1x64 : Shape := ⟨6, ![128, 32, 1, 32, 1, 64]⟩
abbrev S128x32x2x32x2x64 : Shape := ⟨6, ![128, 32, 2, 32, 2, 64]⟩
abbrev S128x64x64x64 : Shape := ⟨4, ![128, 64, 64, 64]⟩
abbrev S3x3x64x32 : Shape := ⟨4, ![3, 3, 64, 32]⟩
abbrev S9x64x32 : Shape := ⟨3, ![9, 64, 32]⟩
abbrev S128x66x66x64 : Shape := ⟨4, ![128, 66, 66, 64]⟩
abbrev S128x4356x64 : Shape := ⟨3, ![128, 4356, 64]⟩
abbrev S128x4358x64 : Shape := ⟨3, ![128, 4358, 64]⟩
abbrev S16x34864x64 : Shape := ⟨3, ![16, 34864, 64]⟩
abbrev S16x34998x64 : Shape := ⟨3, ![16, 34998, 64]⟩
abbrev S16x34864x32 : Shape := ⟨3, ![16, 34864, 32]⟩
abbrev S1x34998x64 : Shape := ⟨3, ![1, 34998, 64]⟩
abbrev S1x34864x32 : Shape := ⟨3, ![1, 34864, 32]⟩
abbrev S1x64x32 : Shape := ⟨3, ![1, 64, 32]⟩
abbrev S64x32 : Shape := ⟨2, ![64, 32]⟩
abbrev S2048x32 : Shape := ⟨2, ![2048, 32]⟩
abbrev S1x2048x32 : Shape := ⟨3, ![1, 2048, 32]⟩
abbrev S1x48x64 : Shape := ⟨3, ![1, 48, 64]⟩
abbrev S48x64 : Shape := ⟨2, ![48, 64]⟩
abbrev S48x32 : Shape := ⟨2, ![48, 32]⟩
abbrev S1x48x32 : Shape := ⟨3, ![1, 48, 32]⟩
abbrev S128x4358x32 : Shape := ⟨3, ![128, 4358, 32]⟩
abbrev S128x4224x32 : Shape := ⟨3, ![128, 4224, 32]⟩
abbrev S128x64x66x32 : Shape := ⟨4, ![128, 64, 66, 32]⟩
abbrev S128x64x64x32 : Shape := ⟨4, ![128, 64, 64, 32]⟩
abbrev S3x3x32x1 : Shape := ⟨4, ![3, 3, 32, 1]⟩
abbrev S9x32x1 : Shape := ⟨3, ![9, 32, 1]⟩
abbrev S128x66x66x32 : Shape := ⟨4, ![128, 66, 66, 32]⟩
abbrev S128x4356x32 : Shape := ⟨3, ![128, 4356, 32]⟩
abbrev S64x8716x32 : Shape := ⟨3, ![64, 8716, 32]⟩
abbrev S64x8850x32 : Shape := ⟨3, ![64, 8850, 32]⟩
abbrev S64x8716x1 : Shape := ⟨3, ![64, 8716, 1]⟩
abbrev S1x8850x32 : Shape := ⟨3, ![1, 8850, 32]⟩
abbrev S1x8716x1 : Shape := ⟨3, ![1, 8716, 1]⟩
abbrev S1x32x1 : Shape := ⟨3, ![1, 32, 1]⟩
abbrev S32x1 : Shape := ⟨2, ![32, 1]⟩
abbrev S2048x1 : Shape := ⟨2, ![2048, 1]⟩
abbrev S1x2048x1 : Shape := ⟨3, ![1, 2048, 1]⟩
abbrev S1x524x32 : Shape := ⟨3, ![1, 524, 32]⟩
abbrev S524x32 : Shape := ⟨2, ![524, 32]⟩
abbrev S524x1 : Shape := ⟨2, ![524, 1]⟩
abbrev S1x524x1 : Shape := ⟨3, ![1, 524, 1]⟩
abbrev S128x4358x1 : Shape := ⟨3, ![128, 4358, 1]⟩
abbrev S128x4224x1 : Shape := ⟨3, ![128, 4224, 1]⟩
abbrev S128x64x66x1 : Shape := ⟨4, ![128, 64, 66, 1]⟩
abbrev S128x64x64x1 : Shape := ⟨4, ![128, 64, 64, 1]⟩

abbrev nBuf : Space → Nat
  | .hbm => 249
  | .vmem => 61
  | .smem => 0
  | _ => 0

abbrev hbmTy0_0 (i : Nat) : BufTy := match i % 128 with
  | 0 => ⟨S128, .i32⟩
  | 1 => ⟨S128, .i32⟩
  | 2 => ⟨S128x1x64x64, .f32⟩
  | 3 => ⟨S128, .i32⟩
  | 4 => ⟨S128x3, .i32⟩
  | 5 => ⟨S64x1x3x3, .f32⟩
  | 6 => ⟨S128x64x3x3, .f32⟩
  | 7 => ⟨S256x128x3x3, .f32⟩
  | 8 => ⟨S256x256x3x3, .f32⟩
  | 9 => ⟨S128x256x3x3, .f32⟩
  | 10 => ⟨S64x128x3x3, .f32⟩
  | 11 => ⟨S32x64x3x3, .f32⟩
  | 12 => ⟨S1x32x3x3, .f32⟩
  | 13 => ⟨S128x64x64, .f32⟩
  | 14 => ⟨S128x64x64, .bf16⟩
  | 15 => ⟨S_, .i32⟩
  | 16 => ⟨S_, .bf16⟩
  | 17 => ⟨S128x65x65, .bf16⟩
  | 18 => ⟨S128x32x32, .bf16⟩
  | 19 => ⟨S128x1024, .bf16⟩
  | 20 => ⟨S128x32x32, .bf16⟩
  | 21 => ⟨S128x1024, .bf16⟩
  | 22 => ⟨S128x32x32, .bf16⟩
  | 23 => ⟨S128x1024, .bf16⟩
  | 24 => ⟨S128x32x32, .bf16⟩
  | 25 => ⟨S128x1024, .bf16⟩
  | 26 => ⟨S128x32x32, .bf16⟩
  | 27 => ⟨S128x1024, .bf16⟩
  | 28 => ⟨S128x32x32, .bf16⟩
  | 29 => ⟨S128x1024, .bf16⟩
  | 30 => ⟨S128x32x32, .bf16⟩
  | 31 => ⟨S128x1024, .bf16⟩
  | 32 => ⟨S128x32x32, .bf16⟩
  | 33 => ⟨S128x1024, .bf16⟩
  | 34 => ⟨S128x32x32, .bf16⟩
  | 35 => ⟨S128x1024, .bf16⟩
  | 36 => ⟨S128x1024x1, .bf16⟩
  | 37 => ⟨S128x1024x1, .bf16⟩
  | 38 => ⟨S128x1024x1, .bf16⟩
  | 39 => ⟨S128x1024x1, .bf16⟩
  | 40 => ⟨S128x1024x1, .bf16⟩
  | 41 => ⟨S128x1024x1, .bf16⟩
  | 42 => ⟨S128x1024x1, .bf16⟩
  | 43 => ⟨S128x1024x1, .bf16⟩
  | 44 => ⟨S128x1024x1, .bf16⟩
  | 45 => ⟨S128x1024x9, .bf16⟩
  | 46 => ⟨S3x3x1x64, .f32⟩
  | 47 => ⟨S1x9x64, .f32⟩
  | 48 => ⟨S1x9x64, .bf16⟩
  | 49 => ⟨S8x16384x9, .bf16⟩
  | 50 => ⟨S8x16384x64, .bf16⟩
  | 51 => ⟨S128x32x32x64, .bf16⟩
  | 52 => ⟨S3x3x64x128, .f32⟩
  | 53 => ⟨S9x64x128, .f32⟩
  | 54 => ⟨S9x64x128, .bf16⟩
  | 55 => ⟨S_, .i32⟩
  | 56 => ⟨S_, .bf16⟩
  | 57 => ⟨S128x34x34x64, .bf16⟩
  | 58 => ⟨S128x34x17x128, .bf16⟩
  | 59 => ⟨S128x17x17x128, .bf16⟩
  | 60 => ⟨S128x289x128, .bf16⟩
  | 61 => ⟨S128x17x17x128, .bf16⟩
  | 62 => ⟨S128x289x128, .bf16⟩
  | 63 => ⟨S8x4624x128, .bf16⟩
  | 64 => ⟨S_, .i32⟩
  | 65 => ⟨S_, .bf16⟩
  | 66 => ⟨S8x4642x128, .bf16⟩
  | 67 => ⟨S8x4624x128, .bf16⟩
  | 68 => ⟨S_, .i32⟩
  | 69 => ⟨S_, .bf16⟩
  | 70 => ⟨S8x4642x128, .bf16⟩
  | 71 => ⟨S3x64x128, .bf16⟩
  | 72 => ⟨S3x64x128, .bf16⟩
  | 73 => ⟨S3x128x128, .bf16⟩
  | 74 => ⟨S3x64x128, .bf16⟩
  | 75 => ⟨S8x4624x128, .bf16⟩
  | 76 => ⟨S128x289x128, .bf16⟩
  | 77 => ⟨S128x272x128, .bf16⟩
  | 78 => ⟨S128x16x17x128, .bf16⟩
  | 79 => ⟨S128x16x16x128, .bf16⟩
  | 80 => ⟨S3x3x128x256, .f32⟩
  | 81 => ⟨S9x128x256, .f32⟩
  | 82 => ⟨S9x128x256, .bf16⟩
  | 83 => ⟨S_, .i32⟩
  | 84 => ⟨S_, .bf16⟩
  | 85 => ⟨S128x18x18x128, .bf16⟩
  | 86 => ⟨S128x18x9x256, .bf16⟩
  | 87 => ⟨S128x9x9x256, .bf16⟩
  | 88 => ⟨S128x81x256, .bf16⟩
  | 89 => ⟨S128x9x9x256, .bf16⟩
  | 90 => ⟨S128x81x256, .bf16⟩
  | 91 => ⟨S4x2592x256, .bf16⟩
  | 92 => ⟨S_, .i32⟩
  | 93 => ⟨S_, .bf16⟩
  | 94 => ⟨S4x2602x256, .bf16⟩
  | 95 => ⟨S4x2592x256, .bf16⟩
  | 96 => ⟨S_, .i32⟩
  | 97 => ⟨S_, .bf16⟩
  | 98 => ⟨S4x2602x256, .bf16⟩
  | 99 => ⟨S3x128x256, .bf16⟩
  | 100 => ⟨S3x128x256, .bf16⟩
  | 101 => ⟨S3x256x256, .bf16⟩
  | 102 => ⟨S3x128x256, .bf16⟩
  | 103 => ⟨S4x2592x256, .bf16⟩
  | 104 => ⟨S128x81x256, .bf16⟩
  | 105 => ⟨S128x72x256, .bf16⟩
  | 106 => ⟨S128x8x9x256, .bf16⟩
  | 107 => ⟨S128x8x8x256, .bf16⟩
  | 108 => ⟨S3x3x256x256, .f32⟩
  | 109 => ⟨S9x256x256, .f32⟩
  | 110 => ⟨S9x256x256, .bf16⟩
  | 111 => ⟨S_, .i32⟩
  | 112 => ⟨S_, .bf16⟩
  | 113 => ⟨S128x10x10x256, .bf16⟩
  | 114 => ⟨S128x10x5x512, .bf16⟩
  | 115 => ⟨S128x5x5x512, .bf16⟩
  | 116 => ⟨S128x25x512, .bf16⟩
  | 117 => ⟨S128x5x5x512, .bf16⟩
  | 118 => ⟨S128x25x512, .bf16⟩
  | 119 => ⟨S4x800x512, .bf16⟩
  | 120 => ⟨S_, .i32⟩
  | 121 => ⟨S_, .bf16⟩
  | 122 => ⟨S4x806x512, .bf16⟩
  | 123 => ⟨S4x800x512, .bf16⟩
  | 124 => ⟨S_, .i32⟩
  | 125 => ⟨S_, .bf16⟩
  | 126 => ⟨S4x806x512, .bf16⟩
  | 127 => ⟨S3x256x256, .bf16⟩
  | _ => ⟨S128, .i32⟩

abbrev hbmTy0_1 (i : Nat) : BufTy := match i % 128 with
  | 0 => ⟨S3x256x256, .bf16⟩
  | 1 => ⟨S3x512x256, .bf16⟩
  | 2 => ⟨S3x256x256, .bf16⟩
  | 3 => ⟨S4x800x256, .bf16⟩
  | 4 => ⟨S128x25x256, .bf16⟩
  | 5 => ⟨S128x20x256, .bf16⟩
  | 6 => ⟨S128x4x5x256, .bf16⟩
  | 7 => ⟨S128x4x4x256, .bf16⟩
  | 8 => ⟨S_, .i32⟩
  | 9 => ⟨S128, .i32⟩
  | 10 => ⟨S128, .i32⟩
  | 11 => ⟨S128, .i32⟩
  | 12 => ⟨S1x128, .i32⟩
  | 13 => ⟨S128x1, .i32⟩
  | 14 => ⟨S_, .i32⟩
  | 15 => ⟨S128x1, .i32⟩
  | 16 => ⟨S128x1, .i32⟩
  | 17 => ⟨S128x3, .i32⟩
  | 18 => ⟨S128x3, .i32⟩
  | 19 => ⟨S128x4096, .bf16⟩
  | 20 => ⟨S128x4096, .f32⟩
  | 21 => ⟨S128x32768, .bf16⟩
  | 22 => ⟨S128x32768, .f32⟩
  | 23 => ⟨S128x4x4x256, .f32⟩
  | 24 => ⟨S128x16x16x128, .f32⟩
  | 25 => ⟨S128x4x1x4x1x256, .f32⟩
  | 26 => ⟨S128x4x4x4x4x256, .f32⟩
  | 27 => ⟨S128x16x16x256, .f32⟩
  | 28 => ⟨S128x16x16x256, .bf16⟩
  | 29 => ⟨S3x3x256x128, .f32⟩
  | 30 => ⟨S9x256x128, .f32⟩
  | 31 => ⟨S9x256x128, .bf16⟩
  | 32 => ⟨S_, .i32⟩
  | 33 => ⟨S_, .bf16⟩
  | 34 => ⟨S128x18x18x256, .bf16⟩
  | 35 => ⟨S128x324x256, .bf16⟩
  | 36 => ⟨S_, .i32⟩
  | 37 => ⟨S_, .bf16⟩
  | 38 => ⟨S128x326x256, .bf16⟩
  | 39 => ⟨S8x5216x256, .bf16⟩
  | 40 => ⟨S_, .i32⟩
  | 41 => ⟨S_, .bf16⟩
  | 42 => ⟨S8x5254x256, .bf16⟩
  | 43 => ⟨S_, .i32⟩
  | 44 => ⟨S_, .f32⟩
  | 45 => ⟨S128x16x18x128, .f32⟩
  | 46 => ⟨S128x288x128, .f32⟩
  | 47 => ⟨S_, .i32⟩
  | 48 => ⟨S_, .f32⟩
  | 49 => ⟨S128x326x128, .f32⟩
  | 50 => ⟨S128x326x128, .bf16⟩
  | 51 => ⟨S8x5216x128, .bf16⟩
  | 52 => ⟨S8x5216x128, .bf16⟩
  | 53 => ⟨S128x326x128, .bf16⟩
  | 54 => ⟨S128x288x128, .bf16⟩
  | 55 => ⟨S128x16x18x128, .bf16⟩
  | 56 => ⟨S128x16x16x128, .bf16⟩
  | 57 => ⟨S128x16x1x16x1x128, .bf16⟩
  | 58 => ⟨S128x16x2x16x2x128, .bf16⟩
  | 59 => ⟨S128x32x32x128, .bf16⟩
  | 60 => ⟨S3x3x128x64, .f32⟩
  | 61 => ⟨S9x128x64, .f32⟩
  | 62 => ⟨S9x128x64, .bf16⟩
  | 63 => ⟨S_, .i32⟩
  | 64 => ⟨S_, .bf16⟩
  | 65 => ⟨S128x34x34x128, .bf16⟩
  | 66 => ⟨S128x1156x128, .bf16⟩
  | 67 => ⟨S_, .i32⟩
  | 68 => ⟨S_, .bf16⟩
  | 69 => ⟨S128x1158x128, .bf16⟩
  | 70 => ⟨S8x18528x128, .bf16⟩
  | 71 => ⟨S_, .i32⟩
  | 72 => ⟨S_, .bf16⟩
  | 73 => ⟨S8x18598x128, .bf16⟩
  | 74 => ⟨S8x18528x64, .bf16⟩
  | 75 => ⟨S128x1158x64, .bf16⟩
  | 76 => ⟨S128x1088x64, .bf16⟩
  | 77 => ⟨S128x32x34x64, .bf16⟩
  | 78 => ⟨S128x32x32x64, .bf16⟩
  | 79 => ⟨S128x32x1x32x1x64, .bf16⟩
  | 80 => ⟨S128x32x2x32x2x64, .bf16⟩
  | 81 => ⟨S128x64x64x64, .bf16⟩
  | 82 => ⟨S3x3x64x32, .f32⟩
  | 83 => ⟨S9x64x32, .f32⟩
  | 84 => ⟨S9x64x32, .bf16⟩
  | 85 => ⟨S_, .i32⟩
  | 86 => ⟨S_, .bf16⟩
  | 87 => ⟨S128x66x66x64, .bf16⟩
  | 88 => ⟨S128x4356x64, .bf16⟩
  | 89 => ⟨S_, .i32⟩
  | 90 => ⟨S_, .bf16⟩
  | 91 => ⟨S128x4358x64, .bf16⟩
  | 92 => ⟨S16x34864x64, .bf16⟩
  | 93 => ⟨S_, .i32⟩
  | 94 => ⟨S_, .bf16⟩
  | 95 => ⟨S16x34998x64, .bf16⟩
  | 96 => ⟨S16x34864x32, .bf16⟩
  | 97 => ⟨S128x4358x32, .bf16⟩
  | 98 => ⟨S128x4224x32, .bf16⟩
  | 99 => ⟨S128x64x66x32, .bf16⟩
  | 100 => ⟨S128x64x64x32, .bf16⟩
  | 101 => ⟨S3x3x32x1, .f32⟩
  | 102 => ⟨S9x32x1, .f32⟩
  | 103 => ⟨S9x32x1, .bf16⟩
  | 104 => ⟨S_, .i32⟩
  | 105 => ⟨S_, .bf16⟩
  | 106 => ⟨S128x66x66x32, .bf16⟩
  | 107 => ⟨S128x4356x32, .bf16⟩
  | 108 => ⟨S_, .i32⟩
  | 109 => ⟨S_, .bf16⟩
  | 110 => ⟨S128x4358x32, .bf16⟩
  | 111 => ⟨S64x8716x32, .bf16⟩
  | 112 => ⟨S_, .i32⟩
  | 113 => ⟨S_, .bf16⟩
  | 114 => ⟨S64x8850x32, .bf16⟩
  | 115 => ⟨S64x8716x1, .f32⟩
  | 116 => ⟨S128x4358x1, .f32⟩
  | 117 => ⟨S128x4224x1, .f32⟩
  | 118 => ⟨S128x64x66x1, .f32⟩
  | 119 => ⟨S128x64x64x1, .f32⟩
  | 120 => ⟨S128x1x64x64, .f32⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | .local _ .vmem, ⟨0, _⟩ => ⟨S1x16384x9, .bf16⟩
  | .local _ .vmem, ⟨1, _⟩ => ⟨S1x16384x9, .bf16⟩
  | .local _ .vmem, ⟨2, _⟩ => ⟨S1x9x64, .bf16⟩
  | .local _ .vmem, ⟨3, _⟩ => ⟨S1x16384x64, .bf16⟩
  | .local _ .vmem, ⟨4, _⟩ => ⟨S1x16384x64, .bf16⟩
  | .local _ .vmem, ⟨5, _⟩ => ⟨S1x4642x128, .bf16⟩
  | .local _ .vmem, ⟨6, _⟩ => ⟨S1x4642x128, .bf16⟩
  | .local _ .vmem, ⟨7, _⟩ => ⟨S1x4642x128, .bf16⟩
  | .local _ .vmem, ⟨8, _⟩ => ⟨S1x4642x128, .bf16⟩
  | .local _ .vmem, ⟨9, _⟩ => ⟨S3x128x128, .bf16⟩
  | .local _ .vmem, ⟨10, _⟩ => ⟨S3x64x128, .bf16⟩
  | .local _ .vmem, ⟨11, _⟩ => ⟨S1x4624x128, .bf16⟩
  | .local _ .vmem, ⟨12, _⟩ => ⟨S1x4624x128, .bf16⟩
  | .local _ .vmem, ⟨13, _⟩ => ⟨S1x2602x256, .bf16⟩
  | .local _ .vmem, ⟨14, _⟩ => ⟨S1x2602x256, .bf16⟩
  | .local _ .vmem, ⟨15, _⟩ => ⟨S1x2602x256, .bf16⟩
  | .local _ .vmem, ⟨16, _⟩ => ⟨S1x2602x256, .bf16⟩
  | .local _ .vmem, ⟨17, _⟩ => ⟨S3x256x256, .bf16⟩
  | .local _ .vmem, ⟨18, _⟩ => ⟨S3x128x256, .bf16⟩
  | .local _ .vmem, ⟨19, _⟩ => ⟨S1x2592x256, .bf16⟩
  | .local _ .vmem, ⟨20, _⟩ => ⟨S1x2592x256, .bf16⟩
  | .local _ .vmem, ⟨21, _⟩ => ⟨S1x806x512, .bf16⟩
  | .local _ .vmem, ⟨22, _⟩ => ⟨S1x806x512, .bf16⟩
  | .local _ .vmem, ⟨23, _⟩ => ⟨S1x806x512, .bf16⟩
  | .local _ .vmem, ⟨24, _⟩ => ⟨S1x806x512, .bf16⟩
  | .local _ .vmem, ⟨25, _⟩ => ⟨S3x512x256, .bf16⟩
  | .local _ .vmem, ⟨26, _⟩ => ⟨S3x256x256, .bf16⟩
  | .local _ .vmem, ⟨27, _⟩ => ⟨S1x800x256, .bf16⟩
  | .local _ .vmem, ⟨28, _⟩ => ⟨S1x800x256, .bf16⟩
  | .local _ .vmem, ⟨29, _⟩ => ⟨S1x128, .i32⟩
  | .local _ .vmem, ⟨30, _⟩ => ⟨S128x3, .i32⟩
  | .local _ .vmem, ⟨31, _⟩ => ⟨S128x4096, .bf16⟩
  | .local _ .vmem, ⟨32, _⟩ => ⟨S128x4096, .f32⟩
  | .local _ .vmem, ⟨33, _⟩ => ⟨S1x128, .i32⟩
  | .local _ .vmem, ⟨34, _⟩ => ⟨S128x3, .i32⟩
  | .local _ .vmem, ⟨35, _⟩ => ⟨S128x8192, .bf16⟩
  | .local _ .vmem, ⟨36, _⟩ => ⟨S128x8192, .bf16⟩
  | .local _ .vmem, ⟨37, _⟩ => ⟨S128x8192, .f32⟩
  | .local _ .vmem, ⟨38, _⟩ => ⟨S128x8192, .f32⟩
  | .local _ .vmem, ⟨39, _⟩ => ⟨S1x5254x256, .bf16⟩
  | .local _ .vmem, ⟨40, _⟩ => ⟨S1x5254x256, .bf16⟩
  | .local _ .vmem, ⟨41, _⟩ => ⟨S9x256x128, .bf16⟩
  | .local _ .vmem, ⟨42, _⟩ => ⟨S1x5216x128, .bf16⟩
  | .local _ .vmem, ⟨43, _⟩ => ⟨S1x5216x128, .bf16⟩
  | .local _ .vmem, ⟨44, _⟩ => ⟨S1x5216x128, .bf16⟩
  | .local _ .vmem, ⟨45, _⟩ => ⟨S1x5216x128, .bf16⟩
  | .local _ .vmem, ⟨46, _⟩ => ⟨S1x18598x128, .bf16⟩
  | .local _ .vmem, ⟨47, _⟩ => ⟨S1x18598x128, .bf16⟩
  | .local _ .vmem, ⟨48, _⟩ => ⟨S9x128x64, .bf16⟩
  | .local _ .vmem, ⟨49, _⟩ => ⟨S1x18528x64, .bf16⟩
  | .local _ .vmem, ⟨50, _⟩ => ⟨S1x18528x64, .bf16⟩
  | .local _ .vmem, ⟨51, _⟩ => ⟨S1x34998x64, .bf16⟩
  | .local _ .vmem, ⟨52, _⟩ => ⟨S1x34998x64, .bf16⟩
  | .local _ .vmem, ⟨53, _⟩ => ⟨S9x64x32, .bf16⟩
  | .local _ .vmem, ⟨54, _⟩ => ⟨S1x34864x32, .bf16⟩
  | .local _ .vmem, ⟨55, _⟩ => ⟨S1x34864x32, .bf16⟩
  | .local _ .vmem, ⟨56, _⟩ => ⟨S1x8850x32, .bf16⟩
  | .local _ .vmem, ⟨57, _⟩ => ⟨S1x8850x32, .bf16⟩
  | .local _ .vmem, ⟨58, _⟩ => ⟨S9x32x1, .bf16⟩
  | .local _ .vmem, ⟨59, _⟩ => ⟨S1x8716x1, .f32⟩
  | .local _ .vmem, ⟨60, _⟩ => ⟨S1x8716x1, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_0 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_1 : Ref sig .tc := ⟨.hbm, 64, rfl⟩
abbrev main_call2_v0 : Ref sig .tc := ⟨.hbm, 65, rfl⟩
abbrev main_v47 : Ref sig .tc := ⟨.hbm, 66, rfl⟩
abbrev main_v48 : Ref sig .tc := ⟨.hbm, 67, rfl⟩
abbrev main_c_2 : Ref sig .tc := ⟨.hbm, 68, rfl⟩
abbrev main_call3_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_3 : Ref sig .tc := ⟨.hbm, 83, rfl⟩
abbrev main_call4_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_4 : Ref sig .tc := ⟨.hbm, 92, rfl⟩
abbrev main_call5_v0 : Ref sig .tc := ⟨.hbm, 93, rfl⟩
abbrev main_v69 : Ref sig .tc := ⟨.hbm, 94, rfl⟩
abbrev main_v70 : Ref sig .tc := ⟨.hbm, 95, rfl⟩
abbrev main_c_5 : Ref sig .tc := ⟨.hbm, 96, rfl⟩
abbrev main_call6_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_6 : Ref sig .tc := ⟨.hbm, 111, rfl⟩
abbrev main_call7_v0 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_7 : Ref sig .tc := ⟨.hbm, 120, rfl⟩
abbrev main_call8_v0 : Ref sig .tc := ⟨.hbm, 121, rfl⟩
abbrev main_v91 : Ref sig .tc := ⟨.hbm, 122, rfl⟩
abbrev main_v92 : Ref sig .tc := ⟨.hbm, 123, rfl⟩
abbrev main_c_8 : Ref sig .tc := ⟨.hbm, 124, rfl⟩
abbrev main_call9_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_9 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_10 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_c_11 : Ref sig .tc := ⟨.hbm, 160, rfl⟩
abbrev main_call10_v0 : Ref sig .tc := ⟨.hbm, 161, rfl⟩
abbrev main_v125 : Ref sig .tc := ⟨.hbm, 162, rfl⟩
abbrev main_v126 : Ref sig .tc := ⟨.hbm, 163, rfl⟩
abbrev main_c_12 : Ref sig .tc := ⟨.hbm, 164, rfl⟩
abbrev main_call11_v0 : Ref sig .tc := ⟨.hbm, 165, rfl⟩
abbrev main_v127 : Ref sig .tc := ⟨.hbm, 166, rfl⟩
abbrev main_v128 : Ref sig .tc := ⟨.hbm, 167, rfl⟩
abbrev main_c_13 : Ref sig .tc := ⟨.hbm, 168, rfl⟩
abbrev main_call12_v0 : Ref sig .tc := ⟨.hbm, 169, rfl⟩
abbrev main_v129 : Ref sig .tc := ⟨.hbm, 170, rfl⟩
abbrev main_c_14 : Ref sig .tc := ⟨.hbm, 171, rfl⟩
abbrev main_call13_v0 : Ref sig .tc := ⟨.hbm, 172, rfl⟩
abbrev main_v130 : Ref sig .tc := ⟨.hbm, 173, rfl⟩
abbrev main_v131 : Ref sig .tc := ⟨.hbm, 174, rfl⟩
abbrev main_c_15 : Ref sig .tc := ⟨.hbm, 175, rfl⟩
abbrev main_call14_v0 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_c_16 : Ref sig .tc := ⟨.hbm, 191, rfl⟩
abbrev main_call15_v0 : Ref sig .tc := ⟨.hbm, 192, rfl⟩
abbrev main_v146 : Ref sig .tc := ⟨.hbm, 193, rfl⟩
abbrev main_v147 : Ref sig .tc := ⟨.hbm, 194, rfl⟩
abbrev main_c_17 : Ref sig .tc := ⟨.hbm, 195, rfl⟩
abbrev main_call16_v0 : Ref sig .tc := ⟨.hbm, 196, rfl⟩
abbrev main_v148 : Ref sig .tc := ⟨.hbm, 197, rfl⟩
abbrev main_v149 : Ref sig .tc := ⟨.hbm, 198, rfl⟩
abbrev main_c_18 : Ref sig .tc := ⟨.hbm, 199, rfl⟩
abbrev main_call17_v0 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_19 : Ref sig .tc := ⟨.hbm, 213, rfl⟩
abbrev main_call18_v0 : Ref sig .tc := ⟨.hbm, 214, rfl⟩
abbrev main_v162 : Ref sig .tc := ⟨.hbm, 215, rfl⟩
abbrev main_v163 : Ref sig .tc := ⟨.hbm, 216, rfl⟩
abbrev main_c_20 : Ref sig .tc := ⟨.hbm, 217, rfl⟩
abbrev main_call19_v0 : Ref sig .tc := ⟨.hbm, 218, rfl⟩
abbrev main_v164 : Ref sig .tc := ⟨.hbm, 219, rfl⟩
abbrev main_v165 : Ref sig .tc := ⟨.hbm, 220, rfl⟩
abbrev main_c_21 : Ref sig .tc := ⟨.hbm, 221, rfl⟩
abbrev main_call20_v0 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_22 : Ref sig .tc := ⟨.hbm, 232, rfl⟩
abbrev main_call21_v0 : Ref sig .tc := ⟨.hbm, 233, rfl⟩
abbrev main_v175 : Ref sig .tc := ⟨.hbm, 234, rfl⟩
abbrev main_v176 : Ref sig .tc := ⟨.hbm, 235, rfl⟩
abbrev main_c_23 : Ref sig .tc := ⟨.hbm, 236, rfl⟩
abbrev main_call22_v0 : Ref sig .tc := ⟨.hbm, 237, rfl⟩
abbrev main_v177 : Ref sig .tc := ⟨.hbm, 238, rfl⟩
abbrev main_v178 : Ref sig .tc := ⟨.hbm, 239, rfl⟩
abbrev main_c_24 : Ref sig .tc := ⟨.hbm, 240, rfl⟩
abbrev main_call23_v0 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg2_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem1_0 : DmaSem sig := 30
abbrev cc4_sem2_0 : DmaSem sig := 31
abbrev cc4_sem3_0 : DmaSem sig := 32
abbrev cc5_sem0_0 : DmaSem sig := 33
abbrev cc5_sem1_0 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem2_1 : DmaSem sig := 60

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x9 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4642x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4642x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x4624x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2602x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2602x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x2592x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x806x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x806x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x512x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x800x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x128 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x3 .i32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x4096 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S128x4096 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x128 .i32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x3 .i32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S128x8192 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S128x8192 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x5254x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x256x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x5216x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x5216x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x18598x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S9x128x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x18528x64 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x34998x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S9x64x32 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1x34864x32 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![64], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x8850x32 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S9x32x1 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1x8716x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S128 : Shape := ⟨1, ![128]⟩
abbrev S128x1x64x64 : Shape := ⟨4, ![128, 1, 64, 64]⟩
abbrev S128x3 : Shape := ⟨2, ![128, 3]⟩
abbrev S64x1x3x3 : Shape := ⟨4, ![64, 1, 3, 3]⟩
abbrev S128x64x3x3 : Shape := ⟨4, ![128, 64, 3, 3]⟩
abbrev S256x128x3x3 : Shape := ⟨4, ![256, 128, 3, 3]⟩
abbrev S256x256x3x3 : Shape := ⟨4, ![256, 256, 3, 3]⟩
abbrev S128x256x3x3 : Shape := ⟨4, ![128, 256, 3, 3]⟩
abbrev S64x128x3x3 : Shape := ⟨4, ![64, 128, 3, 3]⟩
abbrev S32x64x3x3 : Shape := ⟨4, ![32, 64, 3, 3]⟩
abbrev S1x32x3x3 : Shape := ⟨4, ![1, 32, 3, 3]⟩
abbrev S_ : Shape := ⟨0, ![]⟩
abbrev S128x1x65x65 : Shape := ⟨4, ![128, 1, 65, 65]⟩
abbrev S128x1x32x32 : Shape := ⟨4, ![128, 1, 32, 32]⟩
abbrev S64x1x1x1 : Shape := ⟨4, ![64, 1, 1, 1]⟩
abbrev S64x1 : Shape := ⟨2, ![64, 1]⟩
abbrev S64x128x32x32 : Shape := ⟨4, ![64, 128, 32, 32]⟩
abbrev S128x64x32x32 : Shape := ⟨4, ![128, 64, 32, 32]⟩
abbrev S128x64x33x33 : Shape := ⟨4, ![128, 64, 33, 33]⟩
abbrev S128x64x16x16 : Shape := ⟨4, ![128, 64, 16, 16]⟩
abbrev S128x64x1x1 : Shape := ⟨4, ![128, 64, 1, 1]⟩
abbrev S128x64 : Shape := ⟨2, ![128, 64]⟩
abbrev S128x128x16x16 : Shape := ⟨4, ![128, 128, 16, 16]⟩
abbrev S128x128x17x17 : Shape := ⟨4, ![128, 128, 17, 17]⟩
abbrev S128x128x8x8 : Shape := ⟨4, ![128, 128, 8, 8]⟩
abbrev S256x128x1x1 : Shape := ⟨4, ![256, 128, 1, 1]⟩
abbrev S256x128 : Shape := ⟨2, ![256, 128]⟩
abbrev S256x128x8x8 : Shape := ⟨4, ![256, 128, 8, 8]⟩
abbrev S128x256x8x8 : Shape := ⟨4, ![128, 256, 8, 8]⟩
abbrev S128x256x9x9 : Shape := ⟨4, ![128, 256, 9, 9]⟩
abbrev S128x256x4x4 : Shape := ⟨4, ![128, 256, 4, 4]⟩
abbrev S256x256x1x1 : Shape := ⟨4, ![256, 256, 1, 1]⟩
abbrev S256x256 : Shape := ⟨2, ![256, 256]⟩
abbrev S256x128x4x4 : Shape := ⟨4, ![256, 128, 4, 4]⟩
abbrev S8x68x256x4x4 : Shape := ⟨5, ![8, 68, 256, 4, 4]⟩
abbrev S128x1 : Shape := ⟨2, ![128, 1]⟩
abbrev S128x2 : Shape := ⟨2, ![128, 2]⟩
abbrev S8x68 : Shape := ⟨2, ![8, 68]⟩
abbrev S8x68x128x16x16 : Shape := ⟨5, ![8, 68, 128, 16, 16]⟩
abbrev S128x3x1 : Shape := ⟨3, ![128, 3, 1]⟩
abbrev S128x3x2 : Shape := ⟨3, ![128, 3, 2]⟩
abbrev S128x3x256x4x4 : Shape := ⟨5, ![128, 3, 256, 4, 4]⟩
abbrev S128x3x1x1x1 : Shape := ⟨5, ![128, 3, 1, 1, 1]⟩
abbrev S128x3x128x16x16 : Shape := ⟨5, ![128, 3, 128, 16, 16]⟩
abbrev S128x256x4x4x4 : Shape := ⟨5, ![128, 256, 4, 4, 4]⟩
abbrev S128x256x16x4 : Shape := ⟨4, ![128, 256, 16, 4]⟩
abbrev S128x256x16x4x4 : Shape := ⟨5, ![128, 256, 16, 4, 4]⟩
abbrev S128x256x16x16 : Shape := ⟨4, ![128, 256, 16, 16]⟩
abbrev S128x256x18x18 : Shape := ⟨4, ![128, 256, 18, 18]⟩
abbrev S128x256x1x1 : Shape := ⟨4, ![128, 256, 1, 1]⟩
abbrev S128x256 : Shape := ⟨2, ![128, 256]⟩
abbrev S128x128x16x2x16 : Shape := ⟨5, ![128, 128, 16, 2, 16]⟩
abbrev S128x128x32x16 : Shape := ⟨4, ![128, 128, 32, 16]⟩
abbrev S128x128x32x16x2 : Shape := ⟨5, ![128, 128, 32, 16, 2]⟩
abbrev S128x128x32x32 : Shape := ⟨4, ![128, 128, 32, 32]⟩
abbrev S128x128x34x34 : Shape := ⟨4, ![128, 128, 34, 34]⟩
abbrev S64x128x1x1 : Shape := ⟨4, ![64, 128, 1, 1]⟩
abbrev S64x128 : Shape := ⟨2, ![64, 128]⟩
abbrev S128x64x32x2x32 : Shape := ⟨5, ![128, 64, 32, 2, 32]⟩
abbrev S128x64x64x32 : Shape := ⟨4, ![128, 64, 64, 32]⟩
abbrev S128x64x64x32x2 : Shape := ⟨5, ![128, 64, 64, 32, 2]⟩
abbrev S128x64x64x64 : Shape := ⟨4, ![128, 64, 64, 64]⟩
abbrev S128x64x66x66 : Shape := ⟨4, ![128, 64, 66, 66]⟩
abbrev S32x64x1x1 : Shape := ⟨4, ![32, 64, 1, 1]⟩
abbrev S32x64 : Shape := ⟨2, ![32, 64]⟩
abbrev S32x128x64x64 : Shape := ⟨4, ![32, 128, 64, 64]⟩
abbrev S128x32x64x64 : Shape := ⟨4, ![128, 32, 64, 64]⟩
abbrev S128x32x66x66 : Shape := ⟨4, ![128, 32, 66, 66]⟩
abbrev S1x32x1x1 : Shape := ⟨4, ![1, 32, 1, 1]⟩
abbrev S1x32 : Shape := ⟨2, ![1, 32]⟩
abbrev S1x128x64x64 : Shape := ⟨4, ![1, 128, 64, 64]⟩

abbrev nBuf : Space → Nat
  | .hbm => 682
  | .vmem => 0
  | .smem => 0
  | _ => 0

abbrev hbmTy0_0 (i : Nat) : BufTy := match i % 128 with
  | 0 => ⟨S128, .i32⟩
  | 1 => ⟨S128, .i32⟩
  | 2 => ⟨S128x1x64x64, .f32⟩
  | 3 => ⟨S128, .i32⟩
  | 4 => ⟨S128x3, .i32⟩
  | 5 => ⟨S64x1x3x3, .f32⟩
  | 6 => ⟨S128x64x3x3, .f32⟩
  | 7 => ⟨S256x128x3x3, .f32⟩
  | 8 => ⟨S256x256x3x3, .f32⟩
  | 9 => ⟨S128x256x3x3, .f32⟩
  | 10 => ⟨S64x128x3x3, .f32⟩
  | 11 => ⟨S32x64x3x3, .f32⟩
  | 12 => ⟨S1x32x3x3, .f32⟩
  | 13 => ⟨S_, .i32⟩
  | 14 => ⟨S_, .f32⟩
  | 15 => ⟨S128x1x65x65, .f32⟩
  | 16 => ⟨S128x1x32x32, .f32⟩
  | 17 => ⟨S64x1x1x1, .f32⟩
  | 18 => ⟨S64x1, .f32⟩
  | 19 => ⟨S64x128x32x32, .f32⟩
  | 20 => ⟨S128x64x32x32, .f32⟩
  | 21 => ⟨S128x1x32x32, .f32⟩
  | 22 => ⟨S64x1x1x1, .f32⟩
  | 23 => ⟨S64x1, .f32⟩
  | 24 => ⟨S64x128x32x32, .f32⟩
  | 25 => ⟨S128x64x32x32, .f32⟩
  | 26 => ⟨S128x64x32x32, .f32⟩
  | 27 => ⟨S128x1x32x32, .f32⟩
  | 28 => ⟨S64x1x1x1, .f32⟩
  | 29 => ⟨S64x1, .f32⟩
  | 30 => ⟨S64x128x32x32, .f32⟩
  | 31 => ⟨S128x64x32x32, .f32⟩
  | 32 => ⟨S128x64x32x32, .f32⟩
  | 33 => ⟨S128x1x32x32, .f32⟩
  | 34 => ⟨S64x1x1x1, .f32⟩
  | 35 => ⟨S64x1, .f32⟩
  | 36 => ⟨S64x128x32x32, .f32⟩
  | 37 => ⟨S128x64x32x32, .f32⟩
  | 38 => ⟨S128x64x32x32, .f32⟩
  | 39 => ⟨S128x1x32x32, .f32⟩
  | 40 => ⟨S64x1x1x1, .f32⟩
  | 41 => ⟨S64x1, .f32⟩
  | 42 => ⟨S64x128x32x32, .f32⟩
  | 43 => ⟨S128x64x32x32, .f32⟩
  | 44 => ⟨S128x64x32x32, .f32⟩
  | 45 => ⟨S128x1x32x32, .f32⟩
  | 46 => ⟨S64x1x1x1, .f32⟩
  | 47 => ⟨S64x1, .f32⟩
  | 48 => ⟨S64x128x32x32, .f32⟩
  | 49 => ⟨S128x64x32x32, .f32⟩
  | 50 => ⟨S128x64x32x32, .f32⟩
  | 51 => ⟨S128x1x32x32, .f32⟩
  | 52 => ⟨S64x1x1x1, .f32⟩
  | 53 => ⟨S64x1, .f32⟩
  | 54 => ⟨S64x128x32x32, .f32⟩
  | 55 => ⟨S128x64x32x32, .f32⟩
  | 56 => ⟨S128x64x32x32, .f32⟩
  | 57 => ⟨S128x1x32x32, .f32⟩
  | 58 => ⟨S64x1x1x1, .f32⟩
  | 59 => ⟨S64x1, .f32⟩
  | 60 => ⟨S64x128x32x32, .f32⟩
  | 61 => ⟨S128x64x32x32, .f32⟩
  | 62 => ⟨S128x64x32x32, .f32⟩
  | 63 => ⟨S128x1x32x32, .f32⟩
  | 64 => ⟨S64x1x1x1, .f32⟩
  | 65 => ⟨S64x1, .f32⟩
  | 66 => ⟨S64x128x32x32, .f32⟩
  | 67 => ⟨S128x64x32x32, .f32⟩
  | 68 => ⟨S128x64x32x32, .f32⟩
  | 69 => ⟨S_, .f32⟩
  | 70 => ⟨S128x64x32x32, .f32⟩
  | 71 => ⟨S128x64x32x32, .f32⟩
  | 72 => ⟨S_, .i32⟩
  | 73 => ⟨S_, .f32⟩
  | 74 => ⟨S128x64x33x33, .f32⟩
  | 75 => ⟨S128x64x16x16, .f32⟩
  | 76 => ⟨S128x64x1x1, .f32⟩
  | 77 => ⟨S128x64, .f32⟩
  | 78 => ⟨S128x128x16x16, .f32⟩
  | 79 => ⟨S128x128x16x16, .f32⟩
  | 80 => ⟨S128x64x16x16, .f32⟩
  | 81 => ⟨S128x64x1x1, .f32⟩
  | 82 => ⟨S128x64, .f32⟩
  | 83 => ⟨S128x128x16x16, .f32⟩
  | 84 => ⟨S128x128x16x16, .f32⟩
  | 85 => ⟨S128x128x16x16, .f32⟩
  | 86 => ⟨S128x64x16x16, .f32⟩
  | 87 => ⟨S128x64x1x1, .f32⟩
  | 88 => ⟨S128x64, .f32⟩
  | 89 => ⟨S128x128x16x16, .f32⟩
  | 90 => ⟨S128x128x16x16, .f32⟩
  | 91 => ⟨S128x128x16x16, .f32⟩
  | 92 => ⟨S128x64x16x16, .f32⟩
  | 93 => ⟨S128x64x1x1, .f32⟩
  | 94 => ⟨S128x64, .f32⟩
  | 95 => ⟨S128x128x16x16, .f32⟩
  | 96 => ⟨S128x128x16x16, .f32⟩
  | 97 => ⟨S128x128x16x16, .f32⟩
  | 98 => ⟨S128x64x16x16, .f32⟩
  | 99 => ⟨S128x64x1x1, .f32⟩
  | 100 => ⟨S128x64, .f32⟩
  | 101 => ⟨S128x128x16x16, .f32⟩
  | 102 => ⟨S128x128x16x16, .f32⟩
  | 103 => ⟨S128x128x16x16, .f32⟩
  | 104 => ⟨S128x64x16x16, .f32⟩
  | 105 => ⟨S128x64x1x1, .f32⟩
  | 106 => ⟨S128x64, .f32⟩
  | 107 => ⟨S128x128x16x16, .f32⟩
  | 108 => ⟨S128x128x16x16, .f32⟩
  | 109 => ⟨S128x128x16x16, .f32⟩
  | 110 => ⟨S128x64x16x16, .f32⟩
  | 111 => ⟨S128x64x1x1, .f32⟩
  | 112 => ⟨S128x64, .f32⟩
  | 113 => ⟨S128x128x16x16, .f32⟩
  | 114 => ⟨S128x128x16x16, .f32⟩
  | 115 => ⟨S128x128x16x16, .f32⟩
  | 116 => ⟨S128x64x16x16, .f32⟩
  | 117 => ⟨S128x64x1x1, .f32⟩
  | 118 => ⟨S128x64, .f32⟩
  | 119 => ⟨S128x128x16x16, .f32⟩
  | 120 => ⟨S128x128x16x16, .f32⟩
  | 121 => ⟨S128x128x16x16, .f32⟩
  | 122 => ⟨S128x64x16x16, .f32⟩
  | 123 => ⟨S128x64x1x1, .f32⟩
  | 124 => ⟨S128x64, .f32⟩
  | 125 => ⟨S128x128x16x16, .f32⟩
  | 126 => ⟨S128x128x16x16, .f32⟩
  | 127 => ⟨S128x128x16x16, .f32⟩
  | _ => ⟨S128, .i32⟩

abbrev hbmTy0_1 (i : Nat) : BufTy := match i % 128 with
  | 0 => ⟨S_, .f32⟩
  | 1 => ⟨S128x128x16x16, .f32⟩
  | 2 => ⟨S128x128x16x16, .f32⟩
  | 3 => ⟨S_, .i32⟩
  | 4 => ⟨S_, .f32⟩
  | 5 => ⟨S128x128x17x17, .f32⟩
  | 6 => ⟨S128x128x8x8, .f32⟩
  | 7 => ⟨S256x128x1x1, .f32⟩
  | 8 => ⟨S256x128, .f32⟩
  | 9 => ⟨S256x128x8x8, .f32⟩
  | 10 => ⟨S128x256x8x8, .f32⟩
  | 11 => ⟨S128x128x8x8, .f32⟩
  | 12 => ⟨S256x128x1x1, .f32⟩
  | 13 => ⟨S256x128, .f32⟩
  | 14 => ⟨S256x128x8x8, .f32⟩
  | 15 => ⟨S128x256x8x8, .f32⟩
  | 16 => ⟨S128x256x8x8, .f32⟩
  | 17 => ⟨S128x128x8x8, .f32⟩
  | 18 => ⟨S256x128x1x1, .f32⟩
  | 19 => ⟨S256x128, .f32⟩
  | 20 => ⟨S256x128x8x8, .f32⟩
  | 21 => ⟨S128x256x8x8, .f32⟩
  | 22 => ⟨S128x256x8x8, .f32⟩
  | 23 => ⟨S128x128x8x8, .f32⟩
  | 24 => ⟨S256x128x1x1, .f32⟩
  | 25 => ⟨S256x128, .f32⟩
  | 26 => ⟨S256x128x8x8, .f32⟩
  | 27 => ⟨S128x256x8x8, .f32⟩
  | 28 => ⟨S128x256x8x8, .f32⟩
  | 29 => ⟨S128x128x8x8, .f32⟩
  | 30 => ⟨S256x128x1x1, .f32⟩
  | 31 => ⟨S256x128, .f32⟩
  | 32 => ⟨S256x128x8x8, .f32⟩
  | 33 => ⟨S128x256x8x8, .f32⟩
  | 34 => ⟨S128x256x8x8, .f32⟩
  | 35 => ⟨S128x128x8x8, .f32⟩
  | 36 => ⟨S256x128x1x1, .f32⟩
  | 37 => ⟨S256x128, .f32⟩
  | 38 => ⟨S256x128x8x8, .f32⟩
  | 39 => ⟨S128x256x8x8, .f32⟩
  | 40 => ⟨S128x256x8x8, .f32⟩
  | 41 => ⟨S128x128x8x8, .f32⟩
  | 42 => ⟨S256x128x1x1, .f32⟩
  | 43 => ⟨S256x128, .f32⟩
  | 44 => ⟨S256x128x8x8, .f32⟩
  | 45 => ⟨S128x256x8x8, .f32⟩
  | 46 => ⟨S128x256x8x8, .f32⟩
  | 47 => ⟨S128x128x8x8, .f32⟩
  | 48 => ⟨S256x128x1x1, .f32⟩
  | 49 => ⟨S256x128, .f32⟩
  | 50 => ⟨S256x128x8x8, .f32⟩
  | 51 => ⟨S128x256x8x8, .f32⟩
  | 52 => ⟨S128x256x8x8, .f32⟩
  | 53 => ⟨S128x128x8x8, .f32⟩
  | 54 => ⟨S256x128x1x1, .f32⟩
  | 55 => ⟨S256x128, .f32⟩
  | 56 => ⟨S256x128x8x8, .f32⟩
  | 57 => ⟨S128x256x8x8, .f32⟩
  | 58 => ⟨S128x256x8x8, .f32⟩
  | 59 => ⟨S_, .f32⟩
  | 60 => ⟨S128x256x8x8, .f32⟩
  | 61 => ⟨S128x256x8x8, .f32⟩
  | 62 => ⟨S_, .i32⟩
  | 63 => ⟨S_, .f32⟩
  | 64 => ⟨S128x256x9x9, .f32⟩
  | 65 => ⟨S128x256x4x4, .f32⟩
  | 66 => ⟨S256x256x1x1, .f32⟩
  | 67 => ⟨S256x256, .f32⟩
  | 68 => ⟨S256x128x4x4, .f32⟩
  | 69 => ⟨S128x256x4x4, .f32⟩
  | 70 => ⟨S128x256x4x4, .f32⟩
  | 71 => ⟨S256x256x1x1, .f32⟩
  | 72 => ⟨S256x256, .f32⟩
  | 73 => ⟨S256x128x4x4, .f32⟩
  | 74 => ⟨S128x256x4x4, .f32⟩
  | 75 => ⟨S128x256x4x4, .f32⟩
  | 76 => ⟨S128x256x4x4, .f32⟩
  | 77 => ⟨S256x256x1x1, .f32⟩
  | 78 => ⟨S256x256, .f32⟩
  | 79 => ⟨S256x128x4x4, .f32⟩
  | 80 => ⟨S128x256x4x4, .f32⟩
  | 81 => ⟨S128x256x4x4, .f32⟩
  | 82 => ⟨S128x256x4x4, .f32⟩
  | 83 => ⟨S256x256x1x1, .f32⟩
  | 84 => ⟨S256x256, .f32⟩
  | 85 => ⟨S256x128x4x4, .f32⟩
  | 86 => ⟨S128x256x4x4, .f32⟩
  | 87 => ⟨S128x256x4x4, .f32⟩
  | 88 => ⟨S128x256x4x4, .f32⟩
  | 89 => ⟨S256x256x1x1, .f32⟩
  | 90 => ⟨S256x256, .f32⟩
  | 91 => ⟨S256x128x4x4, .f32⟩
  | 92 => ⟨S128x256x4x4, .f32⟩
  | 93 => ⟨S128x256x4x4, .f32⟩
  | 94 => ⟨S128x256x4x4, .f32⟩
  | 95 => ⟨S256x256x1x1, .f32⟩
  | 96 => ⟨S256x256, .f32⟩
  | 97 => ⟨S256x128x4x4, .f32⟩
  | 98 => ⟨S128x256x4x4, .f32⟩
  | 99 => ⟨S128x256x4x4, .f32⟩
  | 100 => ⟨S128x256x4x4, .f32⟩
  | 101 => ⟨S256x256x1x1, .f32⟩
  | 102 => ⟨S256x256, .f32⟩
  | 103 => ⟨S256x128x4x4, .f32⟩
  | 104 => ⟨S128x256x4x4, .f32⟩
  | 105 => ⟨S128x256x4x4, .f32⟩
  | 106 => ⟨S128x256x4x4, .f32⟩
  | 107 => ⟨S256x256x1x1, .f32⟩
  | 108 => ⟨S256x256, .f32⟩
  | 109 => ⟨S256x128x4x4, .f32⟩
  | 110 => ⟨S128x256x4x4, .f32⟩
  | 111 => ⟨S128x256x4x4, .f32⟩
  | 112 => ⟨S128x256x4x4, .f32⟩
  | 113 => ⟨S256x256x1x1, .f32⟩
  | 114 => ⟨S256x256, .f32⟩
  | 115 => ⟨S256x128x4x4, .f32⟩
  | 116 => ⟨S128x256x4x4, .f32⟩
  | 117 => ⟨S128x256x4x4, .f32⟩
  | 118 => ⟨S_, .f32⟩
  | 119 => ⟨S128x256x4x4, .f32⟩
  | 120 => ⟨S128x256x4x4, .f32⟩
  | 121 => ⟨S_, .f32⟩
  | 122 => ⟨S8x68x256x4x4, .f32⟩
  | 123 => ⟨S_, .i32⟩
  | 124 => ⟨S128, .i32⟩
  | 125 => ⟨S128, .i1⟩
  | 126 => ⟨S_, .i32⟩
  | 127 => ⟨S128, .i32⟩
  | _ => ⟨S128, .i32⟩

abbrev hbmTy0_2 (i : Nat) : BufTy := match i % 128 with
  | 0 => ⟨S128, .i32⟩
  | 1 => ⟨S128, .i32⟩
  | 2 => ⟨S_, .i32⟩
  | 3 => ⟨S128, .i32⟩
  | 4 => ⟨S128, .i1⟩
  | 5 => ⟨S_, .i32⟩
  | 6 => ⟨S128, .i32⟩
  | 7 => ⟨S128, .i32⟩
  | 8 => ⟨S128, .i32⟩
  | 9 => ⟨S128x1, .i32⟩
  | 10 => ⟨S128x1, .i32⟩
  | 11 => ⟨S128x2, .i32⟩
  | 12 => ⟨S8x68x256x4x4, .f32⟩
  | 13 => ⟨S_, .f32⟩
  | 14 => ⟨S8x68, .f32⟩
  | 15 => ⟨S_, .i32⟩
  | 16 => ⟨S128, .i32⟩
  | 17 => ⟨S128, .i1⟩
  | 18 => ⟨S_, .i32⟩
  | 19 => ⟨S128, .i32⟩
  | 20 => ⟨S128, .i32⟩
  | 21 => ⟨S128, .i32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S128x1, .i32⟩
  | 31 => ⟨S128x2, .i32⟩
  | 32 => ⟨S_, .f32⟩
  | 33 => ⟨S128, .f32⟩
  | 34 => ⟨S8x68, .f32⟩
  | 35 => ⟨S_, .f32⟩
  | 36 => ⟨S8x68x128x16x16, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S128x1, .i32⟩
  | 53 => ⟨S128x2, .i32⟩
  | 54 => ⟨S8x68x128x16x16, .f32⟩
  | 55 => ⟨S_, .f32⟩
  | 56 => ⟨S8x68, .f32⟩
  | 57 => ⟨S_, .i32⟩
  | 58 => ⟨S128, .i32⟩
  | 59 => ⟨S128, .i1⟩
  | 60 => ⟨S_, .i32⟩
  | 61 => ⟨S128, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i32⟩
  | 70 => ⟨S128, .i32⟩
  | 71 => ⟨S128x1, .i32⟩
  | 72 => ⟨S128x1, .i32⟩
  | 73 => ⟨S128x2, .i32⟩
  | 74 => ⟨S_, .f32⟩
  | 75 => ⟨S128, .f32⟩
  | 76 => ⟨S8x68, .f32⟩
  | 77 => ⟨S128x1, .i32⟩
  | 78 => ⟨S_, .i32⟩
  | 79 => ⟨S128x1, .i32⟩
  | 80 => ⟨S128x1, .i1⟩
  | 81 => ⟨S_, .i32⟩
  | 82 => ⟨S128x1, .i32⟩
  | 83 => ⟨S128x1, .i32⟩
  | 84 => ⟨S128x1, .i32⟩
  | 85 => ⟨S_, .i32⟩
  | 86 => ⟨S128x3, .i32⟩
  | 87 => ⟨S128x3, .i1⟩
  | 88 => ⟨S_, .i32⟩
  | 89 => ⟨S128x3, .i32⟩
  | 90 => ⟨S128x3, .i32⟩
  | 91 => ⟨S128x3, .i32⟩
  | 92 => ⟨S128x3, .i32⟩
  | 93 => ⟨S128x3x1, .i32⟩
  | 94 => ⟨S128x3x1, .i32⟩
  | 95 => ⟨S128x3x2, .i32⟩
  | 96 => ⟨S128x3x256x4x4, .f32⟩
  | 97 => ⟨S128x1, .i32⟩
  | 98 => ⟨S_, .i32⟩
  | 99 => ⟨S128x1, .i32⟩
  | 100 => ⟨S128x1, .i1⟩
  | 101 => ⟨S_, .i32⟩
  | 102 => ⟨S128x1, .i32⟩
  | 103 => ⟨S128x1, .i32⟩
  | 104 => ⟨S128x1, .i32⟩
  | 105 => ⟨S_, .i32⟩
  | 106 => ⟨S128x3, .i32⟩
  | 107 => ⟨S128x3, .i1⟩
  | 108 => ⟨S_, .i32⟩
  | 109 => ⟨S128x3, .i32⟩
  | 110 => ⟨S128x3, .i32⟩
  | 111 => ⟨S128x3, .i32⟩
  | 112 => ⟨S128x3, .i32⟩
  | 113 => ⟨S128x3x1, .i32⟩
  | 114 => ⟨S128x3x1, .i32⟩
  | 115 => ⟨S128x3x2, .i32⟩
  | 116 => ⟨S128x3, .f32⟩
  | 117 => ⟨S_, .f32⟩
  | 118 => ⟨S128x3, .f32⟩
  | 119 => ⟨S128x3, .f32⟩
  | 120 => ⟨S128x3x1x1x1, .f32⟩
  | 121 => ⟨S128x3x256x4x4, .f32⟩
  | 122 => ⟨S128x3x256x4x4, .f32⟩
  | 123 => ⟨S_, .f32⟩
  | 124 => ⟨S128x256x4x4, .f32⟩
  | 125 => ⟨S_, .f32⟩
  | 126 => ⟨S128x256x4x4, .f32⟩
  | 127 => ⟨S128x256x4x4, .f32⟩
  | _ => ⟨S128, .i32⟩

abbrev hbmTy0_3 (i : Nat) : BufTy := match i % 128 with
  | 0 => ⟨S128x1, .i32⟩
  | 1 => ⟨S_, .i32⟩
  | 2 => ⟨S128x1, .i32⟩
  | 3 => ⟨S128x1, .i1⟩
  | 4 => ⟨S_, .i32⟩
  | 5 => ⟨S128x1, .i32⟩
  | 6 => ⟨S128x1, .i32⟩
  | 7 => ⟨S128x1, .i32⟩
  | 8 => ⟨S_, .i32⟩
  | 9 => ⟨S128x3, .i32⟩
  | 10 => ⟨S128x3, .i1⟩
  | 11 => ⟨S_, .i32⟩
  | 12 => ⟨S128x3, .i32⟩
  | 13 => ⟨S128x3, .i32⟩
  | 14 => ⟨S128x3, .i32⟩
  | 15 => ⟨S128x3, .i32⟩
  | 16 => ⟨S128x3x1, .i32⟩
  | 17 => ⟨S128x3x1, .i32⟩
  | 18 => ⟨S128x3x2, .i32⟩
  | 19 => ⟨S128x3x128x16x16, .f32⟩
  | 20 => ⟨S128x1, .i32⟩
  | 21 => ⟨S_, .i32⟩
  | 22 => ⟨S128x1, .i32⟩
  | 23 => ⟨S128x1, .i1⟩
  | 24 => ⟨S_, .i32⟩
  | 25 => ⟨S128x1, .i32⟩
  | 26 => ⟨S128x1, .i32⟩
  | 27 => ⟨S128x1, .i32⟩
  | 28 => ⟨S_, .i32⟩
  | 29 => ⟨S128x3, .i32⟩
  | 30 => ⟨S128x3, .i1⟩
  | 31 => ⟨S_, .i32⟩
  | 32 => ⟨S128x3, .i32⟩
  | 33 => ⟨S128x3, .i32⟩
  | 34 => ⟨S128x3, .i32⟩
  | 35 => ⟨S128x3, .i32⟩
  | 36 => ⟨S128x3x1, .i32⟩
  | 37 => ⟨S128x3x1, .i32⟩
  | 38 => ⟨S128x3x2, .i32⟩
  | 39 => ⟨S128x3, .f32⟩
  | 40 => ⟨S_, .f32⟩
  | 41 => ⟨S128x3, .f32⟩
  | 42 => ⟨S128x3, .f32⟩
  | 43 => ⟨S128x3x1x1x1, .f32⟩
  | 44 => ⟨S128x3x128x16x16, .f32⟩
  | 45 => ⟨S128x3x128x16x16, .f32⟩
  | 46 => ⟨S_, .f32⟩
  | 47 => ⟨S128x128x16x16, .f32⟩
  | 48 => ⟨S_, .f32⟩
  | 49 => ⟨S128x128x16x16, .f32⟩
  | 50 => ⟨S128x128x16x16, .f32⟩
  | 51 => ⟨S128x256x4x4x4, .f32⟩
  | 52 => ⟨S128x256x16x4, .f32⟩
  | 53 => ⟨S128x256x16x4x4, .f32⟩
  | 54 => ⟨S128x256x16x16, .f32⟩
  | 55 => ⟨S_, .i32⟩
  | 56 => ⟨S_, .f32⟩
  | 57 => ⟨S128x256x18x18, .f32⟩
  | 58 => ⟨S128x256x16x16, .f32⟩
  | 59 => ⟨S128x256x1x1, .f32⟩
  | 60 => ⟨S128x256, .f32⟩
  | 61 => ⟨S128x128x16x16, .f32⟩
  | 62 => ⟨S128x128x16x16, .f32⟩
  | 63 => ⟨S128x256x16x16, .f32⟩
  | 64 => ⟨S128x256x1x1, .f32⟩
  | 65 => ⟨S128x256, .f32⟩
  | 66 => ⟨S128x128x16x16, .f32⟩
  | 67 => ⟨S128x128x16x16, .f32⟩
  | 68 => ⟨S128x128x16x16, .f32⟩
  | 69 => ⟨S128x256x16x16, .f32⟩
  | 70 => ⟨S128x256x1x1, .f32⟩
  | 71 => ⟨S128x256, .f32⟩
  | 72 => ⟨S128x128x16x16, .f32⟩
  | 73 => ⟨S128x128x16x16, .f32⟩
  | 74 => ⟨S128x128x16x16, .f32⟩
  | 75 => ⟨S128x256x16x16, .f32⟩
  | 76 => ⟨S128x256x1x1, .f32⟩
  | 77 => ⟨S128x256, .f32⟩
  | 78 => ⟨S128x128x16x16, .f32⟩
  | 79 => ⟨S128x128x16x16, .f32⟩
  | 80 => ⟨S128x128x16x16, .f32⟩
  | 81 => ⟨S128x256x16x16, .f32⟩
  | 82 => ⟨S128x256x1x1, .f32⟩
  | 83 => ⟨S128x256, .f32⟩
  | 84 => ⟨S128x128x16x16, .f32⟩
  | 85 => ⟨S128x128x16x16, .f32⟩
  | 86 => ⟨S128x128x16x16, .f32⟩
  | 87 => ⟨S128x256x16x16, .f32⟩
  | 88 => ⟨S128x256x1x1, .f32⟩
  | 89 => ⟨S128x256, .f32⟩
  | 90 => ⟨S128x128x16x16, .f32⟩
  | 91 => ⟨S128x128x16x16, .f32⟩
  | 92 => ⟨S128x128x16x16, .f32⟩
  | 93 => ⟨S128x256x16x16, .f32⟩
  | 94 => ⟨S128x256x1x1, .f32⟩
  | 95 => ⟨S128x256, .f32⟩
  | 96 => ⟨S128x128x16x16, .f32⟩
  | 97 => ⟨S128x128x16x16, .f32⟩
  | 98 => ⟨S128x128x16x16, .f32⟩
  | 99 => ⟨S128x256x16x16, .f32⟩
  | 100 => ⟨S128x256x1x1, .f32⟩
  | 101 => ⟨S128x256, .f32⟩
  | 102 => ⟨S128x128x16x16, .f32⟩
  | 103 => ⟨S128x128x16x16, .f32⟩
  | 104 => ⟨S128x128x16x16, .f32⟩
  | 105 => ⟨S128x256x16x16, .f32⟩
  | 106 => ⟨S128x256x1x1, .f32⟩
  | 107 => ⟨S128x256, .f32⟩
  | 108 => ⟨S128x128x16x16, .f32⟩
  | 109 => ⟨S128x128x16x16, .f32⟩
  | 110 => ⟨S128x128x16x16, .f32⟩
  | 111 => ⟨S_, .f32⟩
  | 112 => ⟨S128x128x16x16, .f32⟩
  | 113 => ⟨S128x128x16x16, .f32⟩
  | 114 => ⟨S128x128x16x16, .f32⟩
  | 115 => ⟨S128x128x16x2x16, .f32⟩
  | 116 => ⟨S128x128x32x16, .f32⟩
  | 117 => ⟨S128x128x32x16x2, .f32⟩
  | 118 => ⟨S128x128x32x32, .f32⟩
  | 119 => ⟨S_, .i32⟩
  | 120 => ⟨S_, .f32⟩
  | 121 => ⟨S128x128x34x34, .f32⟩
  | 122 => ⟨S128x128x32x32, .f32⟩
  | 123 => ⟨S64x128x1x1, .f32⟩
  | 124 => ⟨S64x128, .f32⟩
  | 125 => ⟨S64x128x32x32, .f32⟩
  | 126 => ⟨S128x64x32x32, .f32⟩
  | 127 => ⟨S128x128x32x32, .f32⟩
  | _ => ⟨S128, .i32⟩

abbrev hbmTy0_4 (i : Nat) : BufTy := match i % 128 with
  | 0 => ⟨S64x128x1x1, .f32⟩
  | 1 => ⟨S64x128, .f32⟩
  | 2 => ⟨S64x128x32x32, .f32⟩
  | 3 => ⟨S128x64x32x32, .f32⟩
  | 4 => ⟨S128x64x32x32, .f32⟩
  | 5 => ⟨S128x128x32x32, .f32⟩
  | 6 => ⟨S64x128x1x1, .f32⟩
  | 7 => ⟨S64x128, .f32⟩
  | 8 => ⟨S64x128x32x32, .f32⟩
  | 9 => ⟨S128x64x32x32, .f32⟩
  | 10 => ⟨S128x64x32x32, .f32⟩
  | 11 => ⟨S128x128x32x32, .f32⟩
  | 12 => ⟨S64x128x1x1, .f32⟩
  | 13 => ⟨S64x128, .f32⟩
  | 14 => ⟨S64x128x32x32, .f32⟩
  | 15 => ⟨S128x64x32x32, .f32⟩
  | 16 => ⟨S128x64x32x32, .f32⟩
  | 17 => ⟨S128x128x32x32, .f32⟩
  | 18 => ⟨S64x128x1x1, .f32⟩
  | 19 => ⟨S64x128, .f32⟩
  | 20 => ⟨S64x128x32x32, .f32⟩
  | 21 => ⟨S128x64x32x32, .f32⟩
  | 22 => ⟨S128x64x32x32, .f32⟩
  | 23 => ⟨S128x128x32x32, .f32⟩
  | 24 => ⟨S64x128x1x1, .f32⟩
  | 25 => ⟨S64x128, .f32⟩
  | 26 => ⟨S64x128x32x32, .f32⟩
  | 27 => ⟨S128x64x32x32, .f32⟩
  | 28 => ⟨S128x64x32x32, .f32⟩
  | 29 => ⟨S128x128x32x32, .f32⟩
  | 30 => ⟨S64x128x1x1, .f32⟩
  | 31 => ⟨S64x128, .f32⟩
  | 32 => ⟨S64x128x32x32, .f32⟩
  | 33 => ⟨S128x64x32x32, .f32⟩
  | 34 => ⟨S128x64x32x32, .f32⟩
  | 35 => ⟨S128x128x32x32, .f32⟩
  | 36 => ⟨S64x128x1x1, .f32⟩
  | 37 => ⟨S64x128, .f32⟩
  | 38 => ⟨S64x128x32x32, .f32⟩
  | 39 => ⟨S128x64x32x32, .f32⟩
  | 40 => ⟨S128x64x32x32, .f32⟩
  | 41 => ⟨S128x128x32x32, .f32⟩
  | 42 => ⟨S64x128x1x1, .f32⟩
  | 43 => ⟨S64x128, .f32⟩
  | 44 => ⟨S64x128x32x32, .f32⟩
  | 45 => ⟨S128x64x32x32, .f32⟩
  | 46 => ⟨S128x64x32x32, .f32⟩
  | 47 => ⟨S_, .f32⟩
  | 48 => ⟨S128x64x32x32, .f32⟩
  | 49 => ⟨S128x64x32x32, .f32⟩
  | 50 => ⟨S128x64x32x2x32, .f32⟩
  | 51 => ⟨S128x64x64x32, .f32⟩
  | 52 => ⟨S128x64x64x32x2, .f32⟩
  | 53 => ⟨S128x64x64x64, .f32⟩
  | 54 => ⟨S_, .i32⟩
  | 55 => ⟨S_, .f32⟩
  | 56 => ⟨S128x64x66x66, .f32⟩
  | 57 => ⟨S128x64x64x64, .f32⟩
  | 58 => ⟨S32x64x1x1, .f32⟩
  | 59 => ⟨S32x64, .f32⟩
  | 60 => ⟨S32x128x64x64, .f32⟩
  | 61 => ⟨S128x32x64x64, .f32⟩
  | 62 => ⟨S128x64x64x64, .f32⟩
  | 63 => ⟨S32x64x1x1, .f32⟩
  | 64 => ⟨S32x64, .f32⟩
  | 65 => ⟨S32x128x64x64, .f32⟩
  | 66 => ⟨S128x32x64x64, .f32⟩
  | 67 => ⟨S128x32x64x64, .f32⟩
  | 68 => ⟨S128x64x64x64, .f32⟩
  | 69 => ⟨S32x64x1x1, .f32⟩
  | 70 => ⟨S32x64, .f32⟩
  | 71 => ⟨S32x128x64x64, .f32⟩
  | 72 => ⟨S128x32x64x64, .f32⟩
  | 73 => ⟨S128x32x64x64, .f32⟩
  | 74 => ⟨S128x64x64x64, .f32⟩
  | 75 => ⟨S32x64x1x1, .f32⟩
  | 76 => ⟨S32x64, .f32⟩
  | 77 => ⟨S32x128x64x64, .f32⟩
  | 78 => ⟨S128x32x64x64, .f32⟩
  | 79 => ⟨S128x32x64x64, .f32⟩
  | 80 => ⟨S128x64x64x64, .f32⟩
  | 81 => ⟨S32x64x1x1, .f32⟩
  | 82 => ⟨S32x64, .f32⟩
  | 83 => ⟨S32x128x64x64, .f32⟩
  | 84 => ⟨S128x32x64x64, .f32⟩
  | 85 => ⟨S128x32x64x64, .f32⟩
  | 86 => ⟨S128x64x64x64, .f32⟩
  | 87 => ⟨S32x64x1x1, .f32⟩
  | 88 => ⟨S32x64, .f32⟩
  | 89 => ⟨S32x128x64x64, .f32⟩
  | 90 => ⟨S128x32x64x64, .f32⟩
  | 91 => ⟨S128x32x64x64, .f32⟩
  | 92 => ⟨S128x64x64x64, .f32⟩
  | 93 => ⟨S32x64x1x1, .f32⟩
  | 94 => ⟨S32x64, .f32⟩
  | 95 => ⟨S32x128x64x64, .f32⟩
  | 96 => ⟨S128x32x64x64, .f32⟩
  | 97 => ⟨S128x32x64x64, .f32⟩
  | 98 => ⟨S128x64x64x64, .f32⟩
  | 99 => ⟨S32x64x1x1, .f32⟩
  | 100 => ⟨S32x64, .f32⟩
  | 101 => ⟨S32x128x64x64, .f32⟩
  | 102 => ⟨S128x32x64x64, .f32⟩
  | 103 => ⟨S128x32x64x64, .f32⟩
  | 104 => ⟨S128x64x64x64, .f32⟩
  | 105 => ⟨S32x64x1x1, .f32⟩
  | 106 => ⟨S32x64, .f32⟩
  | 107 => ⟨S32x128x64x64, .f32⟩
  | 108 => ⟨S128x32x64x64, .f32⟩
  | 109 => ⟨S128x32x64x64, .f32⟩
  | 110 => ⟨S_, .f32⟩
  | 111 => ⟨S128x32x64x64, .f32⟩
  | 112 => ⟨S128x32x64x64, .f32⟩
  | 113 => ⟨S_, .i32⟩
  | 114 => ⟨S_, .f32⟩
  | 115 => ⟨S128x32x66x66, .f32⟩
  | 116 => ⟨S128x32x64x64, .f32⟩
  | 117 => ⟨S1x32x1x1, .f32⟩
  | 118 => ⟨S1x32, .f32⟩
  | 119 => ⟨S1x128x64x64, .f32⟩
  | 120 => ⟨S128x1x64x64, .f32⟩
  | 121 => ⟨S128x32x64x64, .f32⟩
  | 122 => ⟨S1x32x1x1, .f32⟩
  | 123 => ⟨S1x32, .f32⟩
  | 124 => ⟨S1x128x64x64, .f32⟩
  | 125 => ⟨S128x1x64x64, .f32⟩
  | 126 => ⟨S128x1x64x64, .f32⟩
  | 127 => ⟨S128x32x64x64, .f32⟩
  | _ => ⟨S128, .i32⟩

abbrev hbmTy0_5 (i : Nat) : BufTy := match i % 128 with
  | 0 => ⟨S1x32x1x1, .f32⟩
  | 1 => ⟨S1x32, .f32⟩
  | 2 => ⟨S1x128x64x64, .f32⟩
  | 3 => ⟨S128x1x64x64, .f32⟩
  | 4 => ⟨S128x1x64x64, .f32⟩
  | 5 => ⟨S128x32x64x64, .f32⟩
  | 6 => ⟨S1x32x1x1, .f32⟩
  | 7 => ⟨S1x32, .f32⟩
  | 8 => ⟨S1x128x64x64, .f32⟩
  | 9 => ⟨S128x1x64x64, .f32⟩
  | 10 => ⟨S128x1x64x64, .f32⟩
  | 11 => ⟨S128x32x64x64, .f32⟩
  | 12 => ⟨S1x32x1x1, .f32⟩
  | 13 => ⟨S1x32, .f32⟩
  | 14 => ⟨S1x128x64x64, .f32⟩
  | 15 => ⟨S128x1x64x64, .f32⟩
  | 16 => ⟨S128x1x64x64, .f32⟩
  | 17 => ⟨S128x32x64x64, .f32⟩
  | 18 => ⟨S1x32x1x1, .f32⟩
  | 19 => ⟨S1x32, .f32⟩
  | 20 => ⟨S1x128x64x64, .f32⟩
  | 21 => ⟨S128x1x64x64, .f32⟩
  | 22 => ⟨S128x1x64x64, .f32⟩
  | 23 => ⟨S128x32x64x64, .f32⟩
  | 24 => ⟨S1x32x1x1, .f32⟩
  | 25 => ⟨S1x32, .f32⟩
  | 26 => ⟨S1x128x64x64, .f32⟩
  | 27 => ⟨S128x1x64x64, .f32⟩
  | 28 => ⟨S128x1x64x64, .f32⟩
  | 29 => ⟨S128x32x64x64, .f32⟩
  | 30 => ⟨S1x32x1x1, .f32⟩
  | 31 => ⟨S1x32, .f32⟩
  | 32 => ⟨S1x128x64x64, .f32⟩
  | 33 => ⟨S128x1x64x64, .f32⟩
  | 34 => ⟨S128x1x64x64, .f32⟩
  | 35 => ⟨S128x32x64x64, .f32⟩
  | 36 => ⟨S1x32x1x1, .f32⟩
  | 37 => ⟨S1x32, .f32⟩
  | 38 => ⟨S1x128x64x64, .f32⟩
  | 39 => ⟨S128x1x64x64, .f32⟩
  | 40 => ⟨S128x1x64x64, .f32⟩
  | 41 => ⟨S128x1x64x64, .f32⟩
  | _ => ⟨S128, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst : Ref sig .tc := ⟨.hbm, 69, rfl⟩
abbrev main_v54 : Ref sig .tc := ⟨.hbm, 70, rfl⟩
abbrev main_v55 : Ref sig .tc := ⟨.hbm, 71, rfl⟩
abbrev main_c_0 : Ref sig .tc := ⟨.hbm, 72, rfl⟩
abbrev main_call1_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_1 : Ref sig .tc := ⟨.hbm, 128, rfl⟩
abbrev main_v110 : Ref sig .tc := ⟨.hbm, 129, rfl⟩
abbrev main_v111 : Ref sig .tc := ⟨.hbm, 130, rfl⟩
abbrev main_c_2 : Ref sig .tc := ⟨.hbm, 131, rfl⟩
abbrev main_call2_v0 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_cst_3 : Ref sig .tc := ⟨.hbm, 187, rfl⟩
abbrev main_v166 : Ref sig .tc := ⟨.hbm, 188, rfl⟩
abbrev main_v167 : Ref sig .tc := ⟨.hbm, 189, rfl⟩
abbrev main_c_4 : Ref sig .tc := ⟨.hbm, 190, rfl⟩
abbrev main_call3_v0 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_cst_5 : Ref sig .tc := ⟨.hbm, 246, rfl⟩
abbrev main_v222 : Ref sig .tc := ⟨.hbm, 247, rfl⟩
abbrev main_v223 : Ref sig .tc := ⟨.hbm, 248, rfl⟩
abbrev main_cst_6 : Ref sig .tc := ⟨.hbm, 249, rfl⟩
abbrev main_v224 : Ref sig .tc := ⟨.hbm, 250, rfl⟩
abbrev main_c_7 : Ref sig .tc := ⟨.hbm, 251, rfl⟩
abbrev main_v225 : Ref sig .tc := ⟨.hbm, 252, rfl⟩
abbrev main_v226 : Ref sig .tc := ⟨.hbm, 253, rfl⟩
abbrev main_c_8 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_c_9 : Ref sig .tc := ⟨.hbm, 258, rfl⟩
abbrev main_v230 : Ref sig .tc := ⟨.hbm, 259, rfl⟩
abbrev main_v231 : Ref sig .tc := ⟨.hbm, 260, rfl⟩
abbrev main_c_10 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_cst_11 : Ref sig .tc := ⟨.hbm, 269, rfl⟩
abbrev main_v239 : Ref sig .tc := ⟨.hbm, 270, rfl⟩
abbrev main_c_12 : Ref sig .tc := ⟨.hbm, 271, rfl⟩
abbrev main_v240 : Ref sig .tc := ⟨.hbm, 272, rfl⟩
abbrev main_v241 : Ref sig .tc := ⟨.hbm, 273, rfl⟩
abbrev main_c_13 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_c_14 : Ref sig .tc := ⟨.hbm, 278, rfl⟩
abbrev main_v245 : Ref sig .tc := ⟨.hbm, 279, rfl⟩
abbrev main_v246 : Ref sig .tc := ⟨.hbm, 280, rfl⟩
abbrev main_c_15 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_cst_16 : Ref sig .tc := ⟨.hbm, 288, rfl⟩
abbrev main_v253 : Ref sig .tc := ⟨.hbm, 289, rfl⟩
abbrev main_v254 : Ref sig .tc := ⟨.hbm, 290, rfl⟩
abbrev main_cst_17 : Ref sig .tc := ⟨.hbm, 291, rfl⟩
abbrev main_v255 : Ref sig .tc := ⟨.hbm, 292, rfl⟩
abbrev main_c_18 : Ref sig .tc := ⟨.hbm, 293, rfl⟩
abbrev main_v256 : Ref sig .tc := ⟨.hbm, 294, rfl⟩
abbrev main_v257 : Ref sig .tc := ⟨.hbm, 295, rfl⟩
abbrev main_c_19 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_c_20 : Ref sig .tc := ⟨.hbm, 300, rfl⟩
abbrev main_v261 : Ref sig .tc := ⟨.hbm, 301, rfl⟩
abbrev main_v262 : Ref sig .tc := ⟨.hbm, 302, rfl⟩
abbrev main_c_21 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_cst_22 : Ref sig .tc := ⟨.hbm, 311, rfl⟩
abbrev main_v270 : Ref sig .tc := ⟨.hbm, 312, rfl⟩
abbrev main_c_23 : Ref sig .tc := ⟨.hbm, 313, rfl⟩
abbrev main_v271 : Ref sig .tc := ⟨.hbm, 314, rfl⟩
abbrev main_v272 : Ref sig .tc := ⟨.hbm, 315, rfl⟩
abbrev main_c_24 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_c_25 : Ref sig .tc := ⟨.hbm, 320, rfl⟩
abbrev main_v276 : Ref sig .tc := ⟨.hbm, 321, rfl⟩
abbrev main_v277 : Ref sig .tc := ⟨.hbm, 322, rfl⟩
abbrev main_c_26 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_cst_27 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_c_28 : Ref sig .tc := ⟨.hbm, 334, rfl⟩
abbrev main_v287 : Ref sig .tc := ⟨.hbm, 335, rfl⟩
abbrev main_v288 : Ref sig .tc := ⟨.hbm, 336, rfl⟩
abbrev main_c_29 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_c_30 : Ref sig .tc := ⟨.hbm, 341, rfl⟩
abbrev main_v292 : Ref sig .tc := ⟨.hbm, 342, rfl⟩
abbrev main_v293 : Ref sig .tc := ⟨.hbm, 343, rfl⟩
abbrev main_c_31 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_c_32 : Ref sig .tc := ⟨.hbm, 354, rfl⟩
abbrev main_v303 : Ref sig .tc := ⟨.hbm, 355, rfl⟩
abbrev main_v304 : Ref sig .tc := ⟨.hbm, 356, rfl⟩
abbrev main_c_33 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_c_34 : Ref sig .tc := ⟨.hbm, 361, rfl⟩
abbrev main_v308 : Ref sig .tc := ⟨.hbm, 362, rfl⟩
abbrev main_v309 : Ref sig .tc := ⟨.hbm, 363, rfl⟩
abbrev main_c_35 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_cst_36 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_cst_37 : Ref sig .tc := ⟨.hbm, 379, rfl⟩
abbrev main_v323 : Ref sig .tc := ⟨.hbm, 380, rfl⟩
abbrev main_cst_38 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_c_39 : Ref sig .tc := ⟨.hbm, 385, rfl⟩
abbrev main_v327 : Ref sig .tc := ⟨.hbm, 386, rfl⟩
abbrev main_v328 : Ref sig .tc := ⟨.hbm, 387, rfl⟩
abbrev main_c_40 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_c_41 : Ref sig .tc := ⟨.hbm, 392, rfl⟩
abbrev main_v332 : Ref sig .tc := ⟨.hbm, 393, rfl⟩
abbrev main_v333 : Ref sig .tc := ⟨.hbm, 394, rfl⟩
abbrev main_c_42 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_c_43 : Ref sig .tc := ⟨.hbm, 405, rfl⟩
abbrev main_v343 : Ref sig .tc := ⟨.hbm, 406, rfl⟩
abbrev main_v344 : Ref sig .tc := ⟨.hbm, 407, rfl⟩
abbrev main_c_44 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_c_45 : Ref sig .tc := ⟨.hbm, 412, rfl⟩
abbrev main_v348 : Ref sig .tc := ⟨.hbm, 413, rfl⟩
abbrev main_v349 : Ref sig .tc := ⟨.hbm, 414, rfl⟩
abbrev main_c_46 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_cst_47 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_cst_48 : Ref sig .tc := ⟨.hbm, 430, rfl⟩
abbrev main_v363 : Ref sig .tc := ⟨.hbm, 431, rfl⟩
abbrev main_cst_49 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_v369 : Ref sig .tc := ⟨.hbm, 438, rfl⟩
abbrev main_c_50 : Ref sig .tc := ⟨.hbm, 439, rfl⟩
abbrev main_call4_v0 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_v379 : Ref sig .tc := ⟨.hbm, 450, rfl⟩
abbrev main_v380 : Ref sig .tc := ⟨.hbm, 451, rfl⟩
abbrev main_v381 : Ref sig .tc := ⟨.hbm, 452, rfl⟩
abbrev main_v382 : Ref sig .tc := ⟨.hbm, 453, rfl⟩
abbrev main_v383 : Ref sig .tc := ⟨.hbm, 454, rfl⟩
abbrev main_v384 : Ref sig .tc := ⟨.hbm, 455, rfl⟩
abbrev main_v385 : Ref sig .tc := ⟨.hbm, 456, rfl⟩
abbrev main_v386 : Ref sig .tc := ⟨.hbm, 457, rfl⟩
abbrev main_v387 : Ref sig .tc := ⟨.hbm, 458, rfl⟩
abbrev main_v388 : Ref sig .tc := ⟨.hbm, 459, rfl⟩
abbrev main_v389 : Ref sig .tc := ⟨.hbm, 460, rfl⟩
abbrev main_v390 : Ref sig .tc := ⟨.hbm, 461, rfl⟩
abbrev main_v391 : Ref sig .tc := ⟨.hbm, 462, rfl⟩
abbrev main_v392 : Ref sig .tc := ⟨.hbm, 463, rfl⟩
abbrev main_v393 : Ref sig .tc := ⟨.hbm, 464, rfl⟩
abbrev main_v394 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_v405 : Ref sig .tc := ⟨.hbm, 476, rfl⟩
abbrev main_v406 : Ref sig .tc := ⟨.hbm, 477, rfl⟩
abbrev main_v407 : Ref sig .tc := ⟨.hbm, 478, rfl⟩
abbrev main_v408 : Ref sig .tc := ⟨.hbm, 479, rfl⟩
abbrev main_v409 : Ref sig .tc := ⟨.hbm, 480, rfl⟩
abbrev main_v410 : Ref sig .tc := ⟨.hbm, 481, rfl⟩
abbrev main_v411 : Ref sig .tc := ⟨.hbm, 482, rfl⟩
abbrev main_v412 : Ref sig .tc := ⟨.hbm, 483, rfl⟩
abbrev main_v413 : Ref sig .tc := ⟨.hbm, 484, rfl⟩
abbrev main_v414 : Ref sig .tc := ⟨.hbm, 485, rfl⟩
abbrev main_v415 : Ref sig .tc := ⟨.hbm, 486, rfl⟩
abbrev main_v416 : Ref sig .tc := ⟨.hbm, 487, rfl⟩
abbrev main_v417 : Ref sig .tc := ⟨.hbm, 488, rfl⟩
abbrev main_v418 : Ref sig .tc := ⟨.hbm, 489, rfl⟩
abbrev main_v419 : Ref sig .tc := ⟨.hbm, 490, rfl⟩
abbrev main_v420 : Ref sig .tc := ⟨.hbm, 491, rfl⟩
abbrev main_v421 : Ref sig .tc := ⟨.hbm, 492, rfl⟩
abbrev main_v422 : Ref sig .tc := ⟨.hbm, 493, rfl⟩
abbrev main_v423 : Ref sig .tc := ⟨.hbm, 494, rfl⟩
abbrev main_cst_51 : Ref sig .tc := ⟨.hbm, 495, rfl⟩
abbrev main_v424 : Ref sig .tc := ⟨.hbm, 496, rfl⟩
abbrev main_v425 : Ref sig .tc := ⟨.hbm, 497, rfl⟩
abbrev main_v426 : Ref sig .tc := ⟨.hbm, 498, rfl⟩
abbrev main_v427 : Ref sig .tc := ⟨.hbm, 499, rfl⟩
abbrev main_v428 : Ref sig .tc := ⟨.hbm, 500, rfl⟩
abbrev main_v429 : Ref sig .tc := ⟨.hbm, 501, rfl⟩
abbrev main_v430 : Ref sig .tc := ⟨.hbm, 502, rfl⟩
abbrev main_c_52 : Ref sig .tc := ⟨.hbm, 503, rfl⟩
abbrev main_call5_v0 : Ref sig .tc := ⟨.hbm, 504, rfl⟩
abbrev main_v431 : Ref sig .tc := ⟨.hbm, 505, rfl⟩
abbrev main_v432 : Ref sig .tc := ⟨.hbm, 506, rfl⟩
abbrev main_v433 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_v452 : Ref sig .tc := ⟨.hbm, 526, rfl⟩
abbrev main_v453 : Ref sig .tc := ⟨.hbm, 527, rfl⟩
abbrev main_v454 : Ref sig .tc := ⟨.hbm, 528, rfl⟩
abbrev main_v455 : Ref sig .tc := ⟨.hbm, 529, rfl⟩
abbrev main_v456 : Ref sig .tc := ⟨.hbm, 530, rfl⟩
abbrev main_v457 : Ref sig .tc := ⟨.hbm, 531, rfl⟩
abbrev main_v458 : Ref sig .tc := ⟨.hbm, 532, rfl⟩
abbrev main_v459 : Ref sig .tc := ⟨.hbm, 533, rfl⟩
abbrev main_v460 : Ref sig .tc := ⟨.hbm, 534, rfl⟩
abbrev main_v461 : Ref sig .tc := ⟨.hbm, 535, rfl⟩
abbrev main_v462 : Ref sig .tc := ⟨.hbm, 536, rfl⟩
abbrev main_v463 : Ref sig .tc := ⟨.hbm, 537, rfl⟩
abbrev main_v464 : Ref sig .tc := ⟨.hbm, 538, rfl⟩
abbrev main_v465 : Ref sig .tc := ⟨.hbm, 539, rfl⟩
abbrev main_v466 : Ref sig .tc := ⟨.hbm, 540, rfl⟩
abbrev main_v467 : Ref sig .tc := ⟨.hbm, 541, rfl⟩
abbrev main_v468 : Ref sig .tc := ⟨.hbm, 542, rfl⟩
abbrev main_v469 : Ref sig .tc := ⟨.hbm, 543, rfl⟩
abbrev main_v470 : Ref sig .tc := ⟨.hbm, 544, rfl⟩
abbrev main_v471 : Ref sig .tc := ⟨.hbm, 545, rfl⟩
abbrev main_v472 : Ref sig .tc := ⟨.hbm, 546, rfl⟩
abbrev main_v473 : Ref sig .tc := ⟨.hbm, 547, rfl⟩
abbrev main_v474 : Ref sig .tc := ⟨.hbm, 548, rfl⟩
abbrev main_v475 : Ref sig .tc := ⟨.hbm, 549, rfl⟩
abbrev main_v476 : Ref sig .tc := ⟨.hbm, 550, rfl⟩
abbrev main_v477 : Ref sig .tc := ⟨.hbm, 551, rfl⟩
abbrev main_v478 : Ref sig .tc := ⟨.hbm, 552, rfl⟩
abbrev main_v479 : Ref sig .tc := ⟨.hbm, 553, rfl⟩
abbrev main_v480 : Ref sig .tc := ⟨.hbm, 554, rfl⟩
abbrev main_v481 : Ref sig .tc := ⟨.hbm, 555, rfl⟩
abbrev main_v482 : Ref sig .tc := ⟨.hbm, 556, rfl⟩
abbrev main_v483 : Ref sig .tc := ⟨.hbm, 557, rfl⟩
abbrev main_v484 : Ref sig .tc := ⟨.hbm, 558, rfl⟩
abbrev main_cst_53 : Ref sig .tc := ⟨.hbm, 559, rfl⟩
abbrev main_v485 : Ref sig .tc := ⟨.hbm, 560, rfl⟩
abbrev main_v486 : Ref sig .tc := ⟨.hbm, 561, rfl⟩
abbrev main_v487 : Ref sig .tc := ⟨.hbm, 562, rfl⟩
abbrev main_v488 : Ref sig .tc := ⟨.hbm, 563, rfl⟩
abbrev main_v489 : Ref sig .tc := ⟨.hbm, 564, rfl⟩
abbrev main_v490 : Ref sig .tc := ⟨.hbm, 565, rfl⟩
abbrev main_c_54 : Ref sig .tc := ⟨.hbm, 566, rfl⟩
abbrev main_call6_v0 : Ref sig .tc := ⟨.hbm, 567, rfl⟩
abbrev main_v491 : Ref sig .tc := ⟨.hbm, 568, rfl⟩
abbrev main_v492 : Ref sig .tc := ⟨.hbm, 569, rfl⟩
abbrev main_v493 : Ref sig .tc := ⟨.hbm, 570, rfl⟩
abbrev main_v494 : Ref sig .tc := ⟨.hbm, 571, rfl⟩
abbrev main_v495 : Ref sig .tc := ⟨.hbm, 572, rfl⟩
abbrev main_v496 : Ref sig .tc := ⟨.hbm, 573, rfl⟩
abbrev main_v497 : Ref sig .tc := ⟨.hbm, 574, rfl⟩
abbrev main_v498 : Ref sig .tc := ⟨.hbm, 575, rfl⟩
abbrev main_v499 : Ref sig .tc := ⟨.hbm, 576, rfl⟩
abbrev main_v500 : Ref sig .tc := ⟨.hbm, 577, rfl⟩
abbrev main_v501 : Ref sig .tc := ⟨.hbm, 578, rfl⟩
abbrev main_v502 : Ref sig .tc := ⟨.hbm, 579, rfl⟩
abbrev main_v503 : Ref sig .tc := ⟨.hbm, 580, rfl⟩
abbrev main_v504 : Ref sig .tc := ⟨.hbm, 581, rfl⟩
abbrev main_v505 : Ref sig .tc := ⟨.hbm, 582, rfl⟩
abbrev main_v506 : Ref sig .tc := ⟨.hbm, 583, rfl⟩
abbrev main_v507 : Ref sig .tc := ⟨.hbm, 584, rfl⟩
abbrev main_v508 : Ref sig .tc := ⟨.hbm, 585, rfl⟩
abbrev main_v509 : Ref sig .tc := ⟨.hbm, 586, rfl⟩
abbrev main_v510 : Ref sig .tc := ⟨.hbm, 587, rfl⟩
abbrev main_v511 : Ref sig .tc := ⟨.hbm, 588, rfl⟩
abbrev main_v512 : Ref sig .tc := ⟨.hbm, 589, rfl⟩
abbrev main_v513 : Ref sig .tc := ⟨.hbm, 590, rfl⟩
abbrev main_v514 : Ref sig .tc := ⟨.hbm, 591, rfl⟩
abbrev main_v515 : Ref sig .tc := ⟨.hbm, 592, rfl⟩
abbrev main_v516 : Ref sig .tc := ⟨.hbm, 593, rfl⟩
abbrev main_v517 : Ref sig .tc := ⟨.hbm, 594, rfl⟩
abbrev main_v518 : Ref sig .tc := ⟨.hbm, 595, rfl⟩
abbrev main_v519 : Ref sig .tc := ⟨.hbm, 596, rfl⟩
abbrev main_v520 : Ref sig .tc := ⟨.hbm, 597, rfl⟩
abbrev main_v521 : Ref sig .tc := ⟨.hbm, 598, rfl⟩
abbrev main_v522 : Ref sig .tc := ⟨.hbm, 599, rfl⟩
abbrev main_v523 : Ref sig .tc := ⟨.hbm, 600, rfl⟩
abbrev main_v524 : Ref sig .tc := ⟨.hbm, 601, rfl⟩
abbrev main_v525 : Ref sig .tc := ⟨.hbm, 602, rfl⟩
abbrev main_v526 : Ref sig .tc := ⟨.hbm, 603, rfl⟩
abbrev main_v527 : Ref sig .tc := ⟨.hbm, 604, rfl⟩
abbrev main_v528 : Ref sig .tc := ⟨.hbm, 605, rfl⟩
abbrev main_v529 : Ref sig .tc := ⟨.hbm, 606, rfl⟩
abbrev main_v530 : Ref sig .tc := ⟨.hbm, 607, rfl⟩
abbrev main_v531 : Ref sig .tc := ⟨.hbm, 608, rfl⟩
abbrev main_v532 : Ref sig .tc := ⟨.hbm, 609, rfl⟩
abbrev main_v533 : Ref sig .tc := ⟨.hbm, 610, rfl⟩
abbrev main_v534 : Ref sig .tc := ⟨.hbm, 611, rfl⟩
abbrev main_v535 : Ref sig .tc := ⟨.hbm, 612, rfl⟩
abbrev main_v536 : Ref sig .tc := ⟨.hbm, 613, rfl⟩
abbrev main_v537 : Ref sig .tc := ⟨.hbm, 614, rfl⟩
abbrev main_v538 : Ref sig .tc := ⟨.hbm, 615, rfl⟩
abbrev main_v539 : Ref sig .tc := ⟨.hbm, 616, rfl⟩
abbrev main_v540 : Ref sig .tc := ⟨.hbm, 617, rfl⟩
abbrev main_v541 : Ref sig .tc := ⟨.hbm, 618, rfl⟩
abbrev main_v542 : Ref sig .tc := ⟨.hbm, 619, rfl⟩
abbrev main_v543 : Ref sig .tc := ⟨.hbm, 620, rfl⟩
abbrev main_v544 : Ref sig .tc := ⟨.hbm, 621, rfl⟩
abbrev main_cst_55 : Ref sig .tc := ⟨.hbm, 622, rfl⟩
abbrev main_v545 : Ref sig .tc := ⟨.hbm, 623, rfl⟩
abbrev main_v546 : Ref sig .tc := ⟨.hbm, 624, rfl⟩
abbrev main_c_56 : Ref sig .tc := ⟨.hbm, 625, rfl⟩
abbrev main_call7_v0 : Ref sig .tc := ⟨.hbm, 626, rfl⟩
abbrev main_v547 : Ref sig .tc := ⟨.hbm, 627, rfl⟩
abbrev main_v548 : Ref sig .tc := ⟨.hbm, 628, rfl⟩
abbrev main_v549 : Ref sig .tc := ⟨.hbm, 629, rfl⟩
abbrev main_v550 : Ref sig .tc := ⟨.hbm, 630, rfl⟩
abbrev main_v551 : Ref sig .tc := ⟨.hbm, 631, rfl⟩
abbrev main_v552 : Ref sig .tc := ⟨.hbm, 632, rfl⟩
abbrev main_v553 : Ref sig .tc := ⟨.hbm, 633, rfl⟩
abbrev main_v554 : Ref sig .tc := ⟨.hbm, 634, rfl⟩
abbrev main_v555 : Ref sig .tc := ⟨.hbm, 635, rfl⟩
abbrev main_v556 : Ref sig .tc := ⟨.hbm, 636, rfl⟩
abbrev main_v557 : Ref sig .tc := ⟨.hbm, 637, rfl⟩
abbrev main_v558 : Ref sig .tc := ⟨.hbm, 638, rfl⟩
abbrev main_v559 : Ref sig .tc := ⟨.hbm, 639, rfl⟩
abbrev main_v560 : Ref sig .tc := ⟨.hbm, 640, rfl⟩
abbrev main_v561 : Ref sig .tc := ⟨.hbm, 641, rfl⟩
abbrev main_v562 : Ref sig .tc := ⟨.hbm, 642, rfl⟩
abbrev main_v563 : Ref sig .tc := ⟨.hbm, 643, rfl⟩
abbrev main_v564 : Ref sig .tc := ⟨.hbm, 644, rfl⟩
abbrev main_v565 : Ref sig .tc := ⟨.hbm, 645, rfl⟩
abbrev main_v566 : Ref sig .tc := ⟨.hbm, 646, rfl⟩
abbrev main_v567 : Ref sig .tc := ⟨.hbm, 647, rfl⟩
abbrev main_v568 : Ref sig .tc := ⟨.hbm, 648, rfl⟩
abbrev main_v569 : Ref sig .tc := ⟨.hbm, 649, rfl⟩
abbrev main_v570 : Ref sig .tc := ⟨.hbm, 650, rfl⟩
abbrev main_v571 : Ref sig .tc := ⟨.hbm, 651, rfl⟩
abbrev main_v572 : Ref sig .tc := ⟨.hbm, 652, rfl⟩
abbrev main_v573 : Ref sig .tc := ⟨.hbm, 653, rfl⟩
abbrev main_v574 : Ref sig .tc := ⟨.hbm, 654, rfl⟩
abbrev main_v575 : Ref sig .tc := ⟨.hbm, 655, rfl⟩
abbrev main_v576 : Ref sig .tc := ⟨.hbm, 656, rfl⟩
abbrev main_v577 : Ref sig .tc := ⟨.hbm, 657, rfl⟩
abbrev main_v578 : Ref sig .tc := ⟨.hbm, 658, rfl⟩
abbrev main_v579 : Ref sig .tc := ⟨.hbm, 659, rfl⟩
abbrev main_v580 : Ref sig .tc := ⟨.hbm, 660, rfl⟩
abbrev main_v581 : Ref sig .tc := ⟨.hbm, 661, rfl⟩
abbrev main_v582 : Ref sig .tc := ⟨.hbm, 662, rfl⟩
abbrev main_v583 : Ref sig .tc := ⟨.hbm, 663, rfl⟩
abbrev main_v584 : Ref sig .tc := ⟨.hbm, 664, rfl⟩
abbrev main_v585 : Ref sig .tc := ⟨.hbm, 665, rfl⟩
abbrev main_v586 : Ref sig .tc := ⟨.hbm, 666, rfl⟩
abbrev main_v587 : Ref sig .tc := ⟨.hbm, 667, rfl⟩
abbrev main_v588 : Ref sig .tc := ⟨.hbm, 668, rfl⟩
abbrev main_v589 : Ref sig .tc := ⟨.hbm, 669, rfl⟩
abbrev main_v590 : Ref sig .tc := ⟨.hbm, 670, rfl⟩
abbrev main_v591 : Ref sig .tc := ⟨.hbm, 671, rfl⟩
abbrev main_v592 : Ref sig .tc := ⟨.hbm, 672, rfl⟩
abbrev main_v593 : Ref sig .tc := ⟨.hbm, 673, rfl⟩
abbrev main_v594 : Ref sig .tc := ⟨.hbm, 674, rfl⟩
abbrev main_v595 : Ref sig .tc := ⟨.hbm, 675, rfl⟩
abbrev main_v596 : Ref sig .tc := ⟨.hbm, 676, rfl⟩
abbrev main_v597 : Ref sig .tc := ⟨.hbm, 677, rfl⟩
abbrev main_v598 : Ref sig .tc := ⟨.hbm, 678, rfl⟩
abbrev main_v599 : Ref sig .tc := ⟨.hbm, 679, rfl⟩
abbrev main_v600 : Ref sig .tc := ⟨.hbm, 680, rfl⟩
abbrev main_v601 : Ref sig .tc := ⟨.hbm, 681, rfl⟩

abbrev nD : Nat := 1
abbrev τ : Topo := Topo.v7x

variable {F : FTy → Type} [FloatOps F]
-- ==== Proof.Arr.lean ====
/- Arrays of extended reals read by natural-number coordinates, zero outside the array, and what the
   layout operations (reshape, pad, slice, transpose, concatenate) do to such reads. -/
module

public import Idealize.ShloMosaic.Lib.Pipeline.Value
public import Idealize.ShloMosaic.Lib.ValueIdx
public import Idealize.ShloMosaic.Lib.ValueIdxRank6
public import Idealize.ShloMosaic.Lib.KernelVsHost
public import Idealize.ShloMosaic.PureOps.Ideal.Laws
public import Idealize.ShloMosaic.Lib.MatmulPlain

@[expose] public section

noncomputable section

namespace Cert.Arr

open Idealize.ShloMosaic Idealize.ShloMosaic.ValueIdx
open scoped BigOperators

/-- A rank-2 array read at natural-number coordinates, zero outside it. -/
def at2 {n0 n1 : ℕ} (v : (⟨2, ![n0, n1]⟩ : Shape).Idx → EReal) (a0 a1 : ℕ) : EReal :=
  if h : a0 < n0 ∧ a1 < n1 then v (ix2 ⟨a0, h.1⟩ ⟨a1, h.2⟩) else 0

theorem at2_eq {n0 n1 : ℕ} (v : (⟨2, ![n0, n1]⟩ : Shape).Idx → EReal) {a0 a1 : ℕ} (h : a0 < n0 ∧ a1 < n1) :
    at2 v a0 a1 = v (ix2 ⟨a0, h.1⟩ ⟨a1, h.2⟩) := by
  unfold at2; rw [dif_pos h]

theorem at2_out {n0 n1 : ℕ} (v : (⟨2, ![n0, n1]⟩ : Shape).Idx → EReal) {a0 a1 : ℕ} (h : ¬(a0 < n0 ∧ a1 < n1)) :
    at2 v a0 a1 = 0 := by
  unfold at2; rw [dif_neg h]

theorem at2_ix {n0 n1 : ℕ} (v : (⟨2, ![n0, n1]⟩ : Shape).Idx → EReal) (a0 : Fin n0) (a1 : Fin n1) :
    v (ix2 a0 a1) = at2 v a0.val a1.val :=
  (at2_eq v ⟨a0.isLt, a1.isLt⟩).symm

/-- A rank-3 array read at natural-number coordinates, zero outside it. -/
def at3 {n0 n1 n2 : ℕ} (v : (⟨3, ![n0, n1, n2]⟩ : Shape).Idx → EReal) (a0 a1 a2 : ℕ) : EReal :=
  if h : a0 < n0 ∧ a1 < n1 ∧ a2 < n2 then v (ix3 ⟨a0, h.1⟩ ⟨a1, h.2.1⟩ ⟨a2, h.2.2⟩) else 0

theorem at3_eq {n0 n1 n2 : ℕ} (v : (⟨3, ![n0, n1, n2]⟩ : Shape).Idx → EReal) {a0 a1 a2 : ℕ} (h : a0 < n0 ∧ a1 < n1 ∧ a2 < n2) :
    at3 v a0 a1 a2 = v (ix3 ⟨a0, h.1⟩ ⟨a1, h.2.1⟩ ⟨a2, h.2.2⟩) := by
  unfold at3; rw [dif_pos h]

theorem at3_out {n0 n1 n2 : ℕ} (v : (⟨3, ![n0, n1, n2]⟩ : Shape).Idx → EReal) {a0 a1 a2 : ℕ} (h : ¬(a0 < n0 ∧ a1 < n1 ∧ a2 < n2)) :
    at3 v a0 a1 a2 = 0 := by
  unfold at3; rw [dif_neg h]

theorem at3_ix {n0 n1 n2 : ℕ} (v : (⟨3, ![n0, n1, n2]⟩ : Shape).Idx → EReal) (a0 : Fin n0) (a1 : Fin n1) (a2 : Fin n2) :
    v (ix3 a0 a1 a2) = at3 v a0.val a1.val a2.val :=
  (at3_eq v ⟨a0.isLt, a1.isLt, a2.isLt⟩).symm

/-- A rank-4 array read at natural-number coordinates, zero outside it. -/
def at4 {n0 n1 n2 n3 : ℕ} (v : (⟨4, ![n0, n1, n2, n3]⟩ : Shape).Idx → EReal) (a0 a1 a2 a3 : ℕ) : EReal :=
  if h : a0 < n0 ∧ a1 < n1 ∧ a2 < n2 ∧ a3 < n3 then v (ix4 ⟨a0, h.1⟩ ⟨a1, h.2.1⟩ ⟨a2, h.2.2.1⟩ ⟨a3, h.2.2.2⟩) else 0

theorem at4_eq {n0 n1 n2 n3 : ℕ} (v : (⟨4, ![n0, n1, n2, n3]⟩ : Shape).Idx → EReal) {a0 a1 a2 a3 : ℕ} (h : a0 < n0 ∧ a1 < n1 ∧ a2 < n2 ∧ a3 < n3) :
    at4 v a0 a1 a2 a3 = v (ix4 ⟨a0, h.1⟩ ⟨a1, h.2.1⟩ ⟨a2, h.2.2.1⟩ ⟨a3, h.2.2.2⟩) := by
  unfold at4; rw [dif_pos h]

theorem at4_out {n0 n1 n2 n3 : ℕ} (v : (⟨4, ![n0, n1, n2, n3]⟩ : Shape).Idx → EReal) {a0 a1 a2 a3 : ℕ} (h : ¬(a0 < n0 ∧ a1 < n1 ∧ a2 < n2 ∧ a3 < n3)) :
    at4 v a0 a1 a2 a3 = 0 := by
  unfold at4; rw [dif_neg h]

theorem at4_ix {n0 n1 n2 n3 : ℕ} (v : (⟨4, ![n0, n1, n2, n3]⟩ : Shape).Idx → EReal) (a0 : Fin n0) (a1 : Fin n1) (a2 : Fin n2) (a3 : Fin n3) :
    v (ix4 a0 a1 a2 a3) = at4 v a0.val a1.val a2.val a3.val :=
  (at4_eq v ⟨a0.isLt, a1.isLt, a2.isLt, a3.isLt⟩).symm

/-- A rank-5 array read at natural-number coordinates, zero outside it. -/
def at5 {n0 n1 n2 n3 n4 : ℕ} (v : (⟨5, ![n0, n1, n2, n3, n4]⟩ : Shape).Idx → EReal) (a0 a1 a2 a3 a4 : ℕ) : EReal :=
  if h : a0 < n0 ∧ a1 < n1 ∧ a2 < n2 ∧ a3 < n3 ∧ a4 < n4 then v (ix5 ⟨a0, h.1⟩ ⟨a1, h.2.1⟩ ⟨a2, h.2.2.1⟩ ⟨a3, h.2.2.2.1⟩ ⟨a4, h.2.2.2.2⟩) else 0

theorem at5_eq {n0 n1 n2 n3 n4 : ℕ} (v : (⟨5, ![n0, n1, n2, n3, n4]⟩ : Shape).Idx → EReal) {a0 a1 a2 a3 a4 : ℕ} (h : a0 < n0 ∧ a1 < n1 ∧ a2 < n2 ∧ a3 < n3 ∧ a4 < n4) :
    at5 v a0 a1 a2 a3 a4 = v (ix5 ⟨a0, h.1⟩ ⟨a1, h.2.1⟩ ⟨a2, h.2.2.1⟩ ⟨a3, h.2.2.2.1⟩ ⟨a4, h.2.2.2.2⟩) := by
  unfold at5; rw [dif_pos h]

theorem at5_out {n0 n1 n2 n3 n4 : ℕ} (v : (⟨5, ![n0, n1, n2, n3, n4]⟩ : Shape).Idx → EReal) {a0 a1 a2 a3 a4 : ℕ} (h : ¬(a0 < n0 ∧ a1 < n1 ∧ a2 < n2 ∧ a3 < n3 ∧ a4 < n4)) :
    at5 v a0 a1 a2 a3 a4 = 0 := by
  unfold at5; rw [dif_neg h]

theorem at5_ix {n0 n1 n2 n3 n4 : ℕ} (v : (⟨5, ![n0, n1, n2, n3, n4]⟩ : Shape).Idx → EReal) (a0 : Fin n0) (a1 : Fin n1) (a2 : Fin n2) (a3 : Fin n3) (a4 : Fin n4) :
    v (ix5 a0 a1 a2 a3 a4) = at5 v a0.val a1.val a2.val a3.val a4.val :=
  (at5_eq v ⟨a0.isLt, a1.isLt, a2.isLt, a3.isLt, a4.isLt⟩).symm

/-- A reshape read at a coordinate tuple with the same flat position. -/
theorem at_cast43 {n0 n1 n2 n3 m0 m1 m2 : ℕ} (v : (⟨4, ![n0, n1, n2, n3]⟩ : Shape).Idx → EReal)
    (h : (⟨4, ![n0, n1, n2, n3]⟩ : Shape).ShapeCasts ⟨3, ![m0, m1, m2]⟩) {a0 a1 a2 : ℕ} (b0 b1 b2 b3 : ℕ)
    (ht : a0 < m0 ∧ a1 < m1 ∧ a2 < m2) (hs : b0 < n0 ∧ b1 < n1 ∧ b2 < n2 ∧ b3 < n3)
    (he : (((b0 * n1 + b1) * n2 + b2) * n3 + b3) = ((a0 * m1 + a1) * m2 + a2)) :
    at3 (shapeCast ⟨3, ![m0, m1, m2]⟩ v h) a0 a1 a2 = at4 v b0 b1 b2 b3 := by
  rw [at3_eq _ ht, at4_eq _ hs]
  refine shapeCast_apply v h _ _ ?_
  rw [Shape.rowMajor_val_four, Shape.rowMajor_val_three]
  exact he

/-- A reshape read at a coordinate tuple with the same flat position. -/
theorem at_cast34 {n0 n1 n2 m0 m1 m2 m3 : ℕ} (v : (⟨3, ![n0, n1, n2]⟩ : Shape).Idx → EReal)
    (h : (⟨3, ![n0, n1, n2]⟩ : Shape).ShapeCasts ⟨4, ![m0, m1, m2, m3]⟩) {a0 a1 a2 a3 : ℕ} (b0 b1 b2 : ℕ)
    (ht : a0 < m0 ∧ a1 < m1 ∧ a2 < m2 ∧ a3 < m3) (hs : b0 < n0 ∧ b1 < n1 ∧ b2 < n2)
    (he : ((b0 * n1 + b1) * n2 + b2) = (((a0 * m1 + a1) * m2 + a2) * m3 + a3)) :
    at4 (shapeCast ⟨4, ![m0, m1, m2, m3]⟩ v h) a0 a1 a2 a3 = at3 v b0 b1 b2 := by
  rw [at4_eq _ ht, at3_eq _ hs]
  refine shapeCast_apply v h _ _ ?_
  rw [Shape.rowMajor_val_three, Shape.rowMajor_val_four]
  exact he

/-- A reshape read at a coordinate tuple with the same flat position. -/
theorem at_cast33 {n0 n1 n2 m0 m1 m2 : ℕ} (v : (⟨3, ![n0, n1, n2]⟩ : Shape).Idx → EReal)
    (h : (⟨3, ![n0, n1, n2]⟩ : Shape).ShapeCasts ⟨3, ![m0, m1, m2]⟩) {a0 a1 a2 : ℕ} (b0 b1 b2 : ℕ)
    (ht : a0 < m0 ∧ a1 < m1 ∧ a2 < m2) (hs : b0 < n0 ∧ b1 < n1 ∧ b2 < n2)
    (he : ((b0 * n1 + b1) * n2 + b2) = ((a0 * m1 + a1) * m2 + a2)) :
    at3 (shapeCast ⟨3, ![m0, m1, m2]⟩ v h) a0 a1 a2 = at3 v b0 b1 b2 := by
  rw [at3_eq _ ht, at3_eq _ hs]
  refine shapeCast_apply v h _ _ ?_
  rw [Shape.rowMajor_val_three, Shape.rowMajor_val_three]
  exact he

/-- A reshape read at a coordinate tuple with the same flat position. -/
theorem at_cast44 {n0 n1 n2 n3 m0 m1 m2 m3 : ℕ} (v : (⟨4, ![n0, n1, n2, n3]⟩ : Shape).Idx → EReal)
    (h : (⟨4, ![n0, n1, n2, n3]⟩ : Shape).ShapeCasts ⟨4, ![m0, m1, m2, m3]⟩) {a0 a1 a2 a3 : ℕ} (b0 b1 b2 b3 : ℕ)
    (ht : a0 < m0 ∧ a1 < m1 ∧ a2 < m2 ∧ a3 < m3) (hs : b0 < n0 ∧ b1 < n1 ∧ b2 < n2 ∧ b3 < n3)
    (he : (((b0 * n1 + b1) * n2 + b2) * n3 + b3) = (((a0 * m1 + a1) * m2 + a2) * m3 + a3)) :
    at4 (shapeCast ⟨4, ![m0, m1, m2, m3]⟩ v h) a0 a1 a2 a3 = at4 v b0 b1 b2 b3 := by
  rw [at4_eq _ ht, at4_eq _ hs]
  refine shapeCast_apply v h _ _ ?_
  rw [Shape.rowMajor_val_four, Shape.rowMajor_val_four]
  exact he

/-- A reshape read at a coordinate tuple with the same flat position. -/
theorem at_cast23 {n0 n1 m0 m1 m2 : ℕ} (v : (⟨2, ![n0, n1]⟩ : Shape).Idx → EReal)
    (h : (⟨2, ![n0, n1]⟩ : Shape).ShapeCasts ⟨3, ![m0, m1, m2]⟩) {a0 a1 a2 : ℕ} (b0 b1 : ℕ)
    (ht : a0 < m0 ∧ a1 < m1 ∧ a2 < m2) (hs : b0 < n0 ∧ b1 < n1)
    (he : (b0 * n1 + b1) = ((a0 * m1 + a1) * m2 + a2)) :
    at3 (shapeCast ⟨3, ![m0, m1, m2]⟩ v h) a0 a1 a2 = at2 v b0 b1 := by
  rw [at3_eq _ ht, at2_eq _ hs]
  refine shapeCast_apply v h _ _ ?_
  rw [Shape.rowMajor_val_two, Shape.rowMajor_val_three]
  exact he

/-- A reshape read at a coordinate tuple with the same flat position. -/
theorem at_cast32 {n0 n1 n2 m0 m1 : ℕ} (v : (⟨3, ![n0, n1, n2]⟩ : Shape).Idx → EReal)
    (h : (⟨3, ![n0, n1, n2]⟩ : Shape).ShapeCasts ⟨2, ![m0, m1]⟩) {a0 a1 : ℕ} (b0 b1 b2 : ℕ)
    (ht : a0 < m0 ∧ a1 < m1) (hs : b0 < n0 ∧ b1 < n1 ∧ b2 < n2)
    (he : ((b0 * n1 + b1) * n2 + b2) = (a0 * m1 + a1)) :
    at2 (shapeCast ⟨2, ![m0, m1]⟩ v h) a0 a1 = at3 v b0 b1 b2 := by
  rw [at2_eq _ ht, at3_eq _ hs]
  refine shapeCast_apply v h _ _ ?_
  rw [Shape.rowMajor_val_three, Shape.rowMajor_val_two]
  exact he

/-- A reshape read at a coordinate tuple with the same flat position. -/
theorem at_cast42 {n0 n1 n2 n3 m0 m1 : ℕ} (v : (⟨4, ![n0, n1, n2, n3]⟩ : Shape).Idx → EReal)
    (h : (⟨4, ![n0, n1, n2, n3]⟩ : Shape).ShapeCasts ⟨2, ![m0, m1]⟩) {a0 a1 : ℕ} (b0 b1 b2 b3 : ℕ)
    (ht : a0 < m0 ∧ a1 < m1) (hs : b0 < n0 ∧ b1 < n1 ∧ b2 < n2 ∧ b3 < n3)
    (he : (((b0 * n1 + b1) * n2 + b2) * n3 + b3) = (a0 * m1 + a1)) :
    at2 (shapeCast ⟨2, ![m0, m1]⟩ v h) a0 a1 = at4 v b0 b1 b2 b3 := by
  rw [at2_eq _ ht, at4_eq _ hs]
  refine shapeCast_apply v h _ _ ?_
  rw [Shape.rowMajor_val_four, Shape.rowMajor_val_two]
  exact he

/-- A reshape read at a coordinate tuple with the same flat position. -/
theorem at_cast24 {n0 n1 m0 m1 m2 m3 : ℕ} (v : (⟨2, ![n0, n1]⟩ : Shape).Idx → EReal)
    (h : (⟨2, ![n0, n1]⟩ : Shape).ShapeCasts ⟨4, ![m0, m1, m2, m3]⟩) {a0 a1 a2 a3 : ℕ} (b0 b1 : ℕ)
    (ht : a0 < m0 ∧ a1 < m1 ∧ a2 < m2 ∧ a3 < m3) (hs : b0 < n0 ∧ b1 < n1)
    (he : (b0 * n1 + b1) = (((a0 * m1 + a1) * m2 + a2) * m3 + a3)) :
    at4 (shapeCast ⟨4, ![m0, m1, m2, m3]⟩ v h) a0 a1 a2 a3 = at2 v b0 b1 := by
  rw [at4_eq _ ht, at2_eq _ hs]
  refine shapeCast_apply v h _ _ ?_
  rw [Shape.rowMajor_val_two, Shape.rowMajor_val_four]
  exact he

/-- A zero pad, read anywhere. -/
theorem at3_pad {n0 n1 n2 m0 m1 m2 l0 l1 l2 u0 u1 u2 : ℕ} (v : (⟨3, ![n0, n1, n2]⟩ : Shape).Idx → EReal) {u : Shape} (z : u.Idx → EReal)
    (h : (⟨3, ![n0, n1, n2]⟩ : Shape).Pads ![l0, l1, l2] ![u0, u1, u2] ![0, 0, 0] ⟨3, ![m0, m1, m2]⟩) (hu : 0 < u.numel) (hz : ∀ i, z i = 0) (a0 a1 a2 : ℕ) :
    at3 (pad ⟨3, ![m0, m1, m2]⟩ ![l0, l1, l2] ![u0, u1, u2] ![0, 0, 0] v z h hu) a0 a1 a2
      = if l0 ≤ a0 ∧ l1 ≤ a1 ∧ l2 ≤ a2 then at3 v (a0 - l0) (a1 - l1) (a2 - l2) else 0 := by
  have hsz := h.2

  have e0 : m0 = l0 + n0 + 0 * (n0 - 1) + u0 := hsz 0
  have e1 : m1 = l1 + n1 + 0 * (n1 - 1) + u1 := hsz 1
  have e2 : m2 = l2 + n2 + 0 * (n2 - 1) + u2 := hsz 2
  by_cases hr : a0 < m0 ∧ a1 < m1 ∧ a2 < m2
  · rw [at3_eq _ hr]
    by_cases hi : (l0 ≤ a0 ∧ l1 ≤ a1 ∧ l2 ≤ a2) ∧ a0 - l0 < n0 ∧ a1 - l1 < n1 ∧ a2 - l2 < n2
    · rw [if_pos hi.1, at3_eq _ hi.2]
      refine pad_apply_of_inside _ _ _ v z h hu _ _ (fun a => ?_)
      match a with
      | ⟨0, _⟩ => show a0 = l0 + (a0 - l0) * (0 + 1); omega
      | ⟨1, _⟩ => show a1 = l1 + (a1 - l1) * (0 + 1); omega
      | ⟨2, _⟩ => show a2 = l2 + (a2 - l2) * (0 + 1); omega
    · have : (if l0 ≤ a0 ∧ l1 ≤ a1 ∧ l2 ≤ a2 then at3 v (a0 - l0) (a1 - l1) (a2 - l2) else 0) = 0 := by
        split_ifs with hc
        · exact at3_out v fun hx => hi ⟨hc, hx⟩
        · rfl
      rw [this]
      have hax : ¬(l0 ≤ a0 ∧ a0 - l0 < n0) ∨ ¬(l1 ≤ a1 ∧ a1 - l1 < n1) ∨ ¬(l2 ≤ a2 ∧ a2 - l2 < n2) := by omega
      have key : ∀ (a l n : ℕ), ¬(l ≤ a ∧ a - l < n) → ¬(l ≤ a ∧ (a - l) % (0 + 1) = 0 ∧ (a - l) / (0 + 1) < n) := by
        intro a l n hq hp
        refine hq ⟨hp.1, ?_⟩
        have := hp.2.2
        rwa [Nat.zero_add, Nat.div_one] at this
      rcases hax with hq | hq | hq
      · exact (pad_apply_of_not_inside _ _ _ v z h hu (ix3 ⟨a0, hr.1⟩ ⟨a1, hr.2.1⟩ ⟨a2, hr.2.2⟩) (show Fin 3 from 0) (key a0 l0 n0 hq)).trans (hz _)
      · exact (pad_apply_of_not_inside _ _ _ v z h hu (ix3 ⟨a0, hr.1⟩ ⟨a1, hr.2.1⟩ ⟨a2, hr.2.2⟩) (show Fin 3 from 1) (key a1 l1 n1 hq)).trans (hz _)
      · exact (pad_apply_of_not_inside _ _ _ v z h hu (ix3 ⟨a0, hr.1⟩ ⟨a1, hr.2.1⟩ ⟨a2, hr.2.2⟩) (show Fin 3 from 2) (key a2 l2 n2 hq)).trans (hz _)
  · rw [at3_out _ hr]
    split_ifs with hc
    · exact (at3_out v (by omega)).symm
    · rfl

/-- A unit-stride slice, read inside it. -/
theorem at3_slice {n0 n1 n2 m0 m1 m2 o0 o1 o2 : ℕ} (v : (⟨3, ![n0, n1, n2]⟩ : Shape).Idx → EReal)
    (h : (⟨3, ![n0, n1, n2]⟩ : Shape).Slices ![o0, o1, o2] ⟨3, ![m0, m1, m2]⟩) {a0 a1 a2 : ℕ} (ht : a0 < m0 ∧ a1 < m1 ∧ a2 < m2) :
    at3 (extractStridedSlice ⟨3, ![m0, m1, m2]⟩ ![o0, o1, o2] v h) a0 a1 a2 = at3 v (o0 + a0) (o1 + a1) (o2 + a2) := by
  have hsz := h.2
  have e0 : o0 + m0 ≤ n0 := hsz 0
  have e1 : o1 + m1 ≤ n1 := hsz 1
  have e2 : o2 + m2 ≤ n2 := hsz 2
  rw [at3_eq _ ht, at3_eq _ (by omega)]
  refine extractStridedSlice_apply _ v h _ _ (fun a => ?_)
  match a with
  | ⟨0, _⟩ => rfl
  | ⟨1, _⟩ => rfl
  | ⟨2, _⟩ => rfl

/-- A strided slice, read inside it. -/
theorem at3_sliceBy {n0 n1 n2 m0 m1 m2 o0 o1 o2 s0 s1 s2 : ℕ} (v : (⟨3, ![n0, n1, n2]⟩ : Shape).Idx → EReal)
    (h : (⟨3, ![n0, n1, n2]⟩ : Shape).SlicesBy ![o0, o1, o2] ![s0, s1, s2] ⟨3, ![m0, m1, m2]⟩) {a0 a1 a2 : ℕ} (ht : a0 < m0 ∧ a1 < m1 ∧ a2 < m2) :
    at3 (Host.slice ⟨3, ![m0, m1, m2]⟩ ![o0, o1, o2] ![s0, s1, s2] v h) a0 a1 a2 = at3 v (o0 + s0 * a0) (o1 + s1 * a1) (o2 + s2 * a2) := by
  have hsz := h.2
  have key : ∀ o s m n a : ℕ, (m = 0 ∨ o + s * (m - 1) < n) → a < m → o + s * a < n := by
    intro o s m n a h1 h2
    rcases h1 with h1 | h1
    · omega
    · exact Nat.lt_of_le_of_lt (Nat.add_le_add_left (Nat.mul_le_mul_left _ (by omega)) _) h1
  have e0 : o0 + s0 * a0 < n0 := key _ _ m0 _ _ (hsz 0).2 ht.1
  have e1 : o1 + s1 * a1 < n1 := key _ _ m1 _ _ (hsz 1).2 ht.2.1
  have e2 : o2 + s2 * a2 < n2 := key _ _ m2 _ _ (hsz 2).2 ht.2.2
  rw [at3_eq _ ht, at3_eq _ ⟨e0, e1, e2⟩]
  unfold Host.slice
  refine congrArg v (funext fun a => Fin.ext ?_)
  match a with
  | ⟨0, _⟩ => rfl
  | ⟨1, _⟩ => rfl
  | ⟨2, _⟩ => rfl

/-- A zero pad, read anywhere. -/
theorem at4_pad {n0 n1 n2 n3 m0 m1 m2 m3 l0 l1 l2 l3 u0 u1 u2 u3 : ℕ} (v : (⟨4, ![n0, n1, n2, n3]⟩ : Shape).Idx → EReal) {u : Shape} (z : u.Idx → EReal)
    (h : (⟨4, ![n0, n1, n2, n3]⟩ : Shape).Pads ![l0, l1, l2, l3] ![u0, u1, u2, u3] ![0, 0, 0, 0] ⟨4, ![m0, m1, m2, m3]⟩) (hu : 0 < u.numel) (hz : ∀ i, z i = 0) (a0 a1 a2 a3 : ℕ) :
    at4 (pad ⟨4, ![m0, m1, m2, m3]⟩ ![l0, l1, l2, l3] ![u0, u1, u2, u3] ![0, 0, 0, 0] v z h hu) a0 a1 a2 a3
      = if l0 ≤ a0 ∧ l1 ≤ a1 ∧ l2 ≤ a2 ∧ l3 ≤ a3 then at4 v (a0 - l0) (a1 - l1) (a2 - l2) (a3 - l3) else 0 := by
  have hsz := h.2

  have e0 : m0 = l0 + n0 + 0 * (n0 - 1) + u0 := hsz 0
  have e1 : m1 = l1 + n1 + 0 * (n1 - 1) + u1 := hsz 1
  have e2 : m2 = l2 + n2 + 0 * (n2 - 1) + u2 := hsz 2
  have e3 : m3 = l3 + n3 + 0 * (n3 - 1) + u3 := hsz 3
  by_cases hr : a0 < m0 ∧ a1 < m1 ∧ a2 < m2 ∧ a3 < m3
  · rw [at4_eq _ hr]
    by_cases hi : (l0 ≤ a0 ∧ l1 ≤ a1 ∧ l2 ≤ a2 ∧ l3 ≤ a3) ∧ a0 - l0 < n0 ∧ a1 - l1 < n1 ∧ a2 - l2 < n2 ∧ a3 - l3 < n3
    · rw [if_pos hi.1, at4_eq _ hi.2]
      refine pad_apply_of_inside _ _ _ v z h hu _ _ (fun a => ?_)
      match a with
      | ⟨0, _⟩ => show a0 = l0 + (a0 - l0) * (0 + 1); omega
      | ⟨1, _⟩ => show a1 = l1 + (a1 - l1) * (0 + 1); omega
      | ⟨2, _⟩ => show a2 = l2 + (a2 - l2) * (0 + 1); omega
      | ⟨3, _⟩ => show a3 = l3 + (a3 - l3) * (0 + 1); omega
    · have : (if l0 ≤ a0 ∧ l1 ≤ a1 ∧ l2 ≤ a2 ∧ l3 ≤ a3 then at4 v (a0 - l0) (a1 - l1) (a2 - l2) (a3 - l3) else 0) = 0 := by
        split_ifs with hc
        · exact at4_out v fun hx => hi ⟨hc, hx⟩
        · rfl
      rw [this]
      have hax : ¬(l0 ≤ a0 ∧ a0 - l0 < n0) ∨ ¬(l1 ≤ a1 ∧ a1 - l1 < n1) ∨ ¬(l2 ≤ a2 ∧ a2 - l2 < n2) ∨ ¬(l3 ≤ a3 ∧ a3 - l3 < n3) := by omega
      have key : ∀ (a l n : ℕ), ¬(l ≤ a ∧ a - l < n) → ¬(l ≤ a ∧ (a - l) % (0 + 1) = 0 ∧ (a - l) / (0 + 1) < n) := by
        intro a l n hq hp
        refine hq ⟨hp.1, ?_⟩
        have := hp.2.2
        rwa [Nat.zero_add, Nat.div_one] at this
      rcases hax with hq | hq | hq | hq
      · exact (pad_apply_of_not_inside _ _ _ v z h hu (ix4 ⟨a0, hr.1⟩ ⟨a1, hr.2.1⟩ ⟨a2, hr.2.2.1⟩ ⟨a3, hr.2.2.2⟩) (show Fin 4 from 0) (key a0 l0 n0 hq)).trans (hz _)
      · exact (pad_apply_of_not_inside _ _ _ v z h hu (ix4 ⟨a0, hr.1⟩ ⟨a1, hr.2.1⟩ ⟨a2, hr.2.2.1⟩ ⟨a3, hr.2.2.2⟩) (show Fin 4 from 1) (key a1 l1 n1 hq)).trans (hz _)
      · exact (pad_apply_of_not_inside _ _ _ v z h hu (ix4 ⟨a0, hr.1⟩ ⟨a1, hr.2.1⟩ ⟨a2, hr.2.2.1⟩ ⟨a3, hr.2.2.2⟩) (show Fin 4 from 2) (key a2 l2 n2 hq)).trans (hz _)
      · exact (pad_apply_of_not_inside _ _ _ v z h hu (ix4 ⟨a0, hr.1⟩ ⟨a1, hr.2.1⟩ ⟨a2, hr.2.2.1⟩ ⟨a3, hr.2.2.2⟩) (show Fin 4 from 3) (key a3 l3 n3 hq)).trans (hz _)
  · rw [at4_out _ hr]
    split_ifs with hc
    · exact (at4_out v (by omega)).symm
    · rfl

/-- A unit-stride slice, read inside it. -/
theorem at4_slice {n0 n1 n2 n3 m0 m1 m2 m3 o0 o1 o2 o3 : ℕ} (v : (⟨4, ![n0, n1, n2, n3]⟩ : Shape).Idx → EReal)
    (h : (⟨4, ![n0, n1, n2, n3]⟩ : Shape).Slices ![o0, o1, o2, o3] ⟨4, ![m0, m1, m2, m3]⟩) {a0 a1 a2 a3 : ℕ} (ht : a0 < m0 ∧ a1 < m1 ∧ a2 < m2 ∧ a3 < m3) :
    at4 (extractStridedSlice ⟨4, ![m0, m1, m2, m3]⟩ ![o0, o1, o2, o3] v h) a0 a1 a2 a3 = at4 v (o0 + a0) (o1 + a1) (o2 + a2) (o3 + a3) := by
  have hsz := h.2
  have e0 : o0 + m0 ≤ n0 := hsz 0
  have e1 : o1 + m1 ≤ n1 := hsz 1
  have e2 : o2 + m2 ≤ n2 := hsz 2
  have e3 : o3 + m3 ≤ n3 := hsz 3
  rw [at4_eq _ ht, at4_eq _ (by omega)]
  refine extractStridedSlice_apply _ v h _ _ (fun a => ?_)
  match a with
  | ⟨0, _⟩ => rfl
  | ⟨1, _⟩ => rfl
  | ⟨2, _⟩ => rfl
  | ⟨3, _⟩ => rfl

/-- A strided slice, read inside it. -/
theorem at4_sliceBy {n0 n1 n2 n3 m0 m1 m2 m3 o0 o1 o2 o3 s0 s1 s2 s3 : ℕ} (v : (⟨4, ![n0, n1, n2, n3]⟩ : Shape).Idx → EReal)
    (h : (⟨4, ![n0, n1, n2, n3]⟩ : Shape).SlicesBy ![o0, o1, o2, o3] ![s0, s1, s2, s3] ⟨4, ![m0, m1, m2, m3]⟩) {a0 a1 a2 a3 : ℕ} (ht : a0 < m0 ∧ a1 < m1 ∧ a2 < m2 ∧ a3 < m3) :
    at4 (Host.slice ⟨4, ![m0, m1, m2, m3]⟩ ![o0, o1, o2, o3] ![s0, s1, s2, s3] v h) a0 a1 a2 a3 = at4 v (o0 + s0 * a0) (o1 + s1 * a1) (o2 + s2 * a2) (o3 + s3 * a3) := by
  have hsz := h.2
  have key : ∀ o s m n a : ℕ, (m = 0 ∨ o + s * (m - 1) < n) → a < m → o + s * a < n := by
    intro o s m n a h1 h2
    rcases h1 with h1 | h1
    · omega
    · exact Nat.lt_of_le_of_lt (Nat.add_le_add_left (Nat.mul_le_mul_left _ (by omega)) _) h1
  have e0 : o0 + s0 * a0 < n0 := key _ _ m0 _ _ (hsz 0).2 ht.1
  have e1 : o1 + s1 * a1 < n1 := key _ _ m1 _ _ (hsz 1).2 ht.2.1
  have e2 : o2 + s2 * a2 < n2 := key _ _ m2 _ _ (hsz 2).2 ht.2.2.1
  have e3 : o3 + s3 * a3 < n3 := key _ _ m3 _ _ (hsz 3).2 ht.2.2.2
  rw [at4_eq _ ht, at4_eq _ ⟨e0, e1, e2, e3⟩]
  unfold Host.slice
  refine congrArg v (funext fun a => Fin.ext ?_)
  match a with
  | ⟨0, _⟩ => rfl
  | ⟨1, _⟩ => rfl
  | ⟨2, _⟩ => rfl
  | ⟨3, _⟩ => rfl

/-- The weights' transpose: taps first, then input channel, then output channel. -/
theorem at4_transpose2310 {n0 n1 n2 n3 : ℕ} (v : (⟨4, ![n0, n1, n2, n3]⟩ : Shape).Idx → EReal)
    (h : (⟨4, ![n0, n1, n2, n3]⟩ : Shape).Transposes [2, 3, 1, 0] ⟨4, ![n2, n3, n1, n0]⟩) (a b c d : ℕ) :
    at4 (transpose ⟨4, ![n2, n3, n1, n0]⟩ [2, 3, 1, 0] v h) a b c d = at4 v d c a b := by
  by_cases hr : a < n2 ∧ b < n3 ∧ c < n1 ∧ d < n0
  · rw [at4_eq _ hr, at4_eq v (a0 := d) (a1 := c) (a2 := a) (a3 := b) (by omega)]
    refine transpose_apply _ v h _ _ (fun b => ?_)
    match b with
    | ⟨0, _⟩ => rfl
    | ⟨1, _⟩ => rfl
    | ⟨2, _⟩ => rfl
    | ⟨3, _⟩ => rfl
  · rw [at4_out _ hr, at4_out v (by omega)]

/-- The result's transpose: channels brought in front of the image's axes. -/
theorem at4_transpose0312 {n0 n1 n2 n3 : ℕ} (v : (⟨4, ![n0, n1, n2, n3]⟩ : Shape).Idx → EReal)
    (h : (⟨4, ![n0, n1, n2, n3]⟩ : Shape).Transposes [0, 3, 1, 2] ⟨4, ![n0, n3, n1, n2]⟩) (a b c d : ℕ) :
    at4 (transpose ⟨4, ![n0, n3, n1, n2]⟩ [0, 3, 1, 2] v h) a b c d = at4 v a c d b := by
  by_cases hr : a < n0 ∧ b < n3 ∧ c < n1 ∧ d < n2
  · rw [at4_eq _ hr, at4_eq v (a0 := a) (a1 := c) (a2 := d) (a3 := b) (by omega)]
    refine transpose_apply _ v h _ _ (fun b => ?_)
    match b with
    | ⟨0, _⟩ => rfl
    | ⟨1, _⟩ => rfl
    | ⟨2, _⟩ => rfl
    | ⟨3, _⟩ => rfl
  · rw [at4_out _ hr, at4_out v (by omega)]

/-- The exchange of the two leading axes. -/
theorem at4_transpose1023 {n0 n1 n2 n3 : ℕ} (v : (⟨4, ![n0, n1, n2, n3]⟩ : Shape).Idx → EReal)
    (h : (⟨4, ![n0, n1, n2, n3]⟩ : Shape).Transposes [1, 0, 2, 3] ⟨4, ![n1, n0, n2, n3]⟩) (a b c d : ℕ) :
    at4 (transpose ⟨4, ![n1, n0, n2, n3]⟩ [1, 0, 2, 3] v h) a b c d = at4 v b a c d := by
  by_cases hr : a < n1 ∧ b < n0 ∧ c < n2 ∧ d < n3
  · rw [at4_eq _ hr, at4_eq v (a0 := b) (a1 := a) (a2 := c) (a3 := d) (by omega)]
    refine transpose_apply _ v h _ _ (fun b => ?_)
    match b with
    | ⟨0, _⟩ => rfl
    | ⟨1, _⟩ => rfl
    | ⟨2, _⟩ => rfl
    | ⟨3, _⟩ => rfl
  · rw [at4_out _ hr, at4_out v (by omega)]

/-- Two arrays joined along the middle axis. -/
theorem at3_concat1 {n0 n1 n1' n2 m : ℕ} (v : (⟨3, ![n0, n1, n2]⟩ : Shape).Idx → EReal) (w : (⟨3, ![n0, n1', n2]⟩ : Shape).Idx → EReal)
    (h : Shape.Concatenates [⟨3, ![n0, n1, n2]⟩, ⟨3, ![n0, n1', n2]⟩] ⟨3, ![n0, m, n2]⟩ 1) {a b c : ℕ}
    (ht : a < n0 ∧ b < n1 + n1' ∧ c < n2) (hm : m = n1 + n1') :
    at3 (concatenate ⟨3, ![n0, m, n2]⟩ 1 [⟨⟨3, ![n0, n1, n2]⟩, v⟩, ⟨⟨3, ![n0, n1', n2]⟩, w⟩] h) a b c
      = if b < n1 then at3 v a b c else at3 w a (b - n1) c := by
  rw [at3_eq _ (show a < n0 ∧ b < m ∧ c < n2 by omega)]
  by_cases hb : b < n1
  · rw [if_pos hb, at3_eq v ⟨ht.1, hb, ht.2.2⟩]
    refine concatenate_pair_apply_left 1 v w h _ rfl _ (fun q => ?_)
    match q with
    | ⟨0, _⟩ => rfl
    | ⟨1, _⟩ => rfl
    | ⟨2, _⟩ => rfl
  · rw [if_neg hb, at3_eq w (show a < n0 ∧ b - n1 < n1' ∧ c < n2 by omega)]
    refine concatenate_pair_apply_right 1 v w h _ rfl rfl _ (fun q hq => ?_) ?_
    · match q with
      | ⟨0, _⟩ => rfl
      | ⟨1, _⟩ => exact absurd rfl hq
      | ⟨2, _⟩ => rfl
    · show b - n1 + n1 = b; omega

/-- Nearest-neighbour repetition by `f` on both image axes, printed as two broadcasts and a reshape. -/
theorem at4_repeat {n0 n1 n2 n3 f p q : ℕ} (v : (⟨4, ![n0, n1, n2, n3]⟩ : Shape).Idx → EReal)
    (h1 : (⟨4, ![n0, n1, n2, n3]⟩ : Shape).BroadcastsInDim ⟨6, ![n0, n1, 1, n2, 1, n3]⟩ ![0, 1, 3, 5])
    (h2 : (⟨6, ![n0, n1, 1, n2, 1, n3]⟩ : Shape).BroadcastsInDim ⟨6, ![n0, n1, f, n2, f, n3]⟩ ![0, 1, 2, 3, 4, 5])
    (h3 : (⟨6, ![n0, n1, f, n2, f, n3]⟩ : Shape).ShapeCasts ⟨4, ![n0, p, q, n3]⟩)
    (hn : n0 ≠ 1 ∧ n1 ≠ 1 ∧ n2 ≠ 1 ∧ n3 ≠ 1) (hf : 0 < f) (hp : p = n1 * f) (hq : q = n2 * f) {a b c d : ℕ}
    (ht : a < n0 ∧ b < p ∧ c < q ∧ d < n3) :
    at4 (shapeCast ⟨4, ![n0, p, q, n3]⟩ (broadcastInDim ⟨6, ![n0, n1, f, n2, f, n3]⟩ ![0, 1, 2, 3, 4, 5] h2
        (broadcastInDim ⟨6, ![n0, n1, 1, n2, 1, n3]⟩ ![0, 1, 3, 5] h1 v)) h3) a b c d
      = at4 v a (b / f) (c / f) d := by
  subst hp hq
  have hb : b / f < n1 := Nat.div_lt_of_lt_mul (by rw [Nat.mul_comm]; exact ht.2.1)
  have hc : c / f < n2 := Nat.div_lt_of_lt_mul (by rw [Nat.mul_comm]; exact ht.2.2.1)
  have hb' : b % f < f := Nat.mod_lt _ hf
  have hc' : c % f < f := Nat.mod_lt _ hf
  rw [at4_eq _ ht, at4_eq v ⟨ht.1, hb, hc, ht.2.2.2⟩]
  let k : (⟨6, ![n0, n1, f, n2, f, n3]⟩ : Shape).Idx := fun x => match x with
    | ⟨0, _⟩ => ⟨a, ht.1⟩ | ⟨1, _⟩ => ⟨b / f, hb⟩ | ⟨2, _⟩ => ⟨b % f, hb'⟩ | ⟨3, _⟩ => ⟨c / f, hc⟩ | ⟨4, _⟩ => ⟨c % f, hc'⟩
    | ⟨5, _⟩ => ⟨d, ht.2.2.2⟩
  let k' : (⟨6, ![n0, n1, 1, n2, 1, n3]⟩ : Shape).Idx := fun x => match x with
    | ⟨0, _⟩ => ⟨a, ht.1⟩ | ⟨1, _⟩ => ⟨b / f, hb⟩ | ⟨2, _⟩ => ⟨0, Nat.one_pos⟩ | ⟨3, _⟩ => ⟨c / f, hc⟩ | ⟨4, _⟩ => ⟨0, Nat.one_pos⟩
    | ⟨5, _⟩ => ⟨d, ht.2.2.2⟩
  rw [shapeCast_apply _ h3 _ k ?_, broadcastInDim_apply _ h2 _ k k' ?_, broadcastInDim_apply _ h1 v k' (ix4 ⟨a, ht.1⟩ ⟨b / f, hb⟩ ⟨c / f, hc⟩ ⟨d, ht.2.2.2⟩) ?_]
  · intro x
    match x with
    | ⟨0, _⟩ => exact (if_neg hn.1).symm
    | ⟨1, _⟩ => exact (if_neg hn.2.1).symm
    | ⟨2, _⟩ => exact (if_neg hn.2.2.1).symm
    | ⟨3, _⟩ => exact (if_neg hn.2.2.2).symm
  · intro x
    match x with
    | ⟨0, _⟩ => exact (if_neg hn.1).symm
    | ⟨1, _⟩ => exact (if_neg hn.2.1).symm
    | ⟨2, _⟩ => exact (if_pos rfl).symm
    | ⟨3, _⟩ => exact (if_neg hn.2.2.1).symm
    | ⟨4, _⟩ => exact (if_pos rfl).symm
    | ⟨5, _⟩ => exact (if_neg hn.2.2.2).symm
  · rw [Shape.rowMajor_val_six, Shape.rowMajor_val_four]
    show ((((a * n1 + b / f) * f + b % f) * n2 + c / f) * f + c % f) * n3 + d = ((a * (n1 * f) + b) * (n2 * f) + c) * n3 + d
    have e1 : b = b / f * f + b % f := by rw [Nat.mul_comm]; exact (Nat.div_add_mod b f).symm
    have e2 : c = c / f * f + c % f := by rw [Nat.mul_comm]; exact (Nat.div_add_mod c f).symm
    generalize b / f = b1 at *
    generalize b % f = b2 at *
    generalize c / f = c1 at *
    generalize c % f = c2 at *
    subst e1 e2
    ring

end Cert.Arr

end
-- ==== Proof.Args.lean ====
/- The arguments' contents on a device. -/
module

public import proofs.«01_k».proof.Proof.Gen.KernelIdeal.Frame
public import proofs.«01_k».proof.Proof.Arr

@[expose] public section

set_option maxRecDepth 16384

noncomputable section

namespace Cert.Args

open Idealize.ShloMosaic Idealize.ShloMosaic.TcCoe Idealize.ShloMosaic.ValueIdx Idealize.ShloMosaic.Tactic
open Cert.KernelIdeal Cert.KernelIdeal.Gen Cert.Arr
open scoped BigOperators

variable (m : (l : Loc nD τ sig) → Buf (Elt Ideal) l) (ρ : Dev nD → PrngReg) (c : Dev nD)

abbrev a0 : (⟨1, ![128]⟩ : Shape).Idx → BitVec 32 := m ((c : Thread nD τ).loc main_arg0)

abbrev a1 : (⟨1, ![128]⟩ : Shape).Idx → BitVec 32 := m ((c : Thread nD τ).loc main_arg1)

abbrev a2 : (⟨4, ![128, 1, 64, 64]⟩ : Shape).Idx → EReal := m ((c : Thread nD τ).loc main_arg2)

abbrev a3 : (⟨1, ![128]⟩ : Shape).Idx → BitVec 32 := m ((c : Thread nD τ).loc main_arg3)

abbrev a4 : (⟨2, ![128, 3]⟩ : Shape).Idx → BitVec 32 := m ((c : Thread nD τ).loc main_arg4)

abbrev a5 : (⟨4, ![64, 1, 3, 3]⟩ : Shape).Idx → EReal := m ((c : Thread nD τ).loc main_arg5)

abbrev a6 : (⟨4, ![128, 64, 3, 3]⟩ : Shape).Idx → EReal := m ((c : Thread nD τ).loc main_arg6)

abbrev a7 : (⟨4, ![256, 128, 3, 3]⟩ : Shape).Idx → EReal := m ((c : Thread nD τ).loc main_arg7)

abbrev a8 : (⟨4, ![256, 256, 3, 3]⟩ : Shape).Idx → EReal := m ((c : Thread nD τ).loc main_arg8)

abbrev a9 : (⟨4, ![128, 256, 3, 3]⟩ : Shape).Idx → EReal := m ((c : Thread nD τ).loc main_arg9)

abbrev a10 : (⟨4, ![64, 128, 3, 3]⟩ : Shape).Idx → EReal := m ((c : Thread nD τ).loc main_arg10)

abbrev a11 : (⟨4, ![32, 64, 3, 3]⟩ : Shape).Idx → EReal := m ((c : Thread nD τ).loc main_arg11)

abbrev a12 : (⟨4, ![1, 32, 3, 3]⟩ : Shape).Idx → EReal := m ((c : Thread nD τ).loc main_arg12)

end Cert.Args

end
-- ==== Proof.Tap.lean ====
/- One tap of a convolution on flattened rows: the product of a run of rows with one tap's weights, read at a row and an
   output channel as the sum over the input channels. -/
module

public import proofs.«01_k».proof.Proof.Arr
public import Idealize.ShloMosaic.Lib.Pipeline.Value
public import Idealize.ShloMosaic.Lib.Pipeline.FrameBody
public import Idealize.ShloMosaic.Lib.ValueLayout

@[expose] public section

noncomputable section

namespace Cert.Arr

open Idealize.ShloMosaic Idealize.ShloMosaic.ValueIdx
open scoped BigOperators

/-- Tap `t`'s product at row `q` of row block `i`, output channel `co`: the sum over the input channels. -/
def tapSum (K : ℕ) {x0 x1 x2 w0 w1 w2 : ℕ} (X : (⟨3, ![x0, x1, x2]⟩ : Shape).Idx → EReal)
    (W : (⟨3, ![w0, w1, w2]⟩ : Shape).Idx → EReal) (i q co t : ℕ) : EReal :=
  ∑ c : Fin K, at3 X i q c.val * at3 W t c.val co

/-- The zero the kernels accumulate onto and clamp at. -/
theorem ofBits_zero32 : Ideal.ofBits .f32 0x00000000#32 = (0 : EReal) := by
  simp [Ideal.ofBits, Ideal.ieee, -EReal.coe_mul]

theorem ofBits_zero16 : Ideal.ofBits .bf16 0x0000#16 = (0 : EReal) := by
  simp [Ideal.ofBits, Ideal.ieee, -EReal.coe_mul]

/-- A load of `M` rows from row `o`, the first `K` channels, as a matrix. -/
theorem ld_rows {N C M K o : ℕ} (X : Vec Ideal ⟨3, ![1, N, C]⟩ .bf16)
    (inb : ∀ a : Fin 3, (![0, o, 0] : Fin 3 → ℕ) a + (⟨3, ![1, M, K]⟩ : Shape).size a ≤ (⟨3, ![1, N, C]⟩ : Shape).size a)
    (h : (⟨3, ![1, M, K]⟩ : Shape).ShapeCasts ⟨2, ![M, K]⟩) (r : Fin M) (c : Fin K) :
    shapeCast ⟨2, ![M, K]⟩ (View.ld (Val := Elt Ideal) (e' := .bf16) X (Rect.unit (s := ⟨3, ![1, N, C]⟩) ![0, o, 0] (⟨3, ![1, M, K]⟩ : Shape).size inb)) h (ix2 r c)
      = at3 X 0 (o + r.val) c.val := by
  have hb : o + M ≤ N := inb 1
  have hc : 0 + K ≤ C := inb 2
  rw [shapeCast_1ab_ab_apply, at3_eq X ⟨Nat.one_pos, by omega, by omega⟩]
  refine congrArg X (funext fun a => Fin.ext ?_)
  match a with
  | ⟨0, _⟩ => rfl
  | ⟨1, _⟩ => show o + 1 * r.val = o + r.val; omega
  | ⟨2, _⟩ => show 0 + 1 * c.val = c.val; omega

/-- A load of one tap's weights as a matrix. -/
theorem ld_tap {T K N t : ℕ} (W : Vec Ideal ⟨3, ![T, K, N]⟩ .bf16)
    (inb : ∀ a : Fin 3, (![t, 0, 0] : Fin 3 → ℕ) a + (⟨3, ![1, K, N]⟩ : Shape).size a ≤ (⟨3, ![T, K, N]⟩ : Shape).size a)
    (h : (⟨3, ![1, K, N]⟩ : Shape).ShapeCasts ⟨2, ![K, N]⟩) (k : Fin K) (c : Fin N) :
    shapeCast ⟨2, ![K, N]⟩ (View.ld (Val := Elt Ideal) (e' := .bf16) W (Rect.unit (s := ⟨3, ![T, K, N]⟩) ![t, 0, 0] (⟨3, ![1, K, N]⟩ : Shape).size inb)) h (ix2 k c)
      = at3 W t k.val c.val := by
  have hb : t + 1 ≤ T := inb 0
  rw [shapeCast_1ab_ab_apply, at3_eq W ⟨hb, k.isLt, c.isLt⟩]
  refine congrArg W (funext fun a => Fin.ext ?_)
  match a with
  | ⟨0, _⟩ => rfl
  | ⟨1, _⟩ => show 0 + 1 * k.val = k.val; omega
  | ⟨2, _⟩ => show 0 + 1 * c.val = c.val; omega

/-- One printed tap at a row and an output channel. -/
theorem tap_val {N C M K T O o t : ℕ} (X : Vec Ideal ⟨3, ![1, N, C]⟩ .bf16) (W : Vec Ideal ⟨3, ![T, K, O]⟩ .bf16)
    (inb : ∀ a : Fin 3, (![0, o, 0] : Fin 3 → ℕ) a + (⟨3, ![1, M, K]⟩ : Shape).size a ≤ (⟨3, ![1, N, C]⟩ : Shape).size a)
    (h : (⟨3, ![1, M, K]⟩ : Shape).ShapeCasts ⟨2, ![M, K]⟩)
    (inb' : ∀ a : Fin 3, (![t, 0, 0] : Fin 3 → ℕ) a + (⟨3, ![1, K, O]⟩ : Shape).size a ≤ (⟨3, ![T, K, O]⟩ : Shape).size a)
    (h' : (⟨3, ![1, K, O]⟩ : Shape).ShapeCasts ⟨2, ![K, O]⟩) (prec : Option ContractPrecision) (r : Fin M) (c : Fin O) :
    FloatOps.matmul (F := Ideal) (φ₁ := .bf16) (φ₂ := .bf16) (DotDims.plain M K O) prec
        (shapeCast ⟨2, ![M, K]⟩ (View.ld (Val := Elt Ideal) (e' := .bf16) X (Rect.unit (s := ⟨3, ![1, N, C]⟩) ![0, o, 0] (⟨3, ![1, M, K]⟩ : Shape).size inb)) h)
        (shapeCast ⟨2, ![K, O]⟩ (View.ld (Val := Elt Ideal) (e' := .bf16) W (Rect.unit (s := ⟨3, ![T, K, O]⟩) ![t, 0, 0] (⟨3, ![1, K, O]⟩ : Shape).size inb')) h')
        (constant ⟨2, ![M, O]⟩ .f32 0x00000000#32) (ix2 r c)
      = tapSum K X W 0 (o + r.val) c.val t := by
  rw [Ideal.matmul_plain_apply, constant_apply, ofBits_zero32, zero_add]
  unfold tapSum
  refine Finset.sum_congr rfl fun k _ => ?_
  rw [ld_rows, ld_tap]

/-- A property of every index of a rank-3 shape, from its coordinates. -/
theorem forall_ix3 {n0 n1 n2 : ℕ} {P : (⟨3, ![n0, n1, n2]⟩ : Shape).Idx → Prop} (h : ∀ a b c, P (ix3 a b c)) : ∀ x, P x :=
  fun x => by rw [eq_ix3 x]; exact h _ _ _

/-- A tap read through blocks is the tap read in the arrays. -/
theorem tapSum_congr {K x0 x1 x2 w0 w1 w2 y0 y1 y2 v0 v1 v2 : ℕ} {X : (⟨3, ![x0, x1, x2]⟩ : Shape).Idx → EReal}
    {W : (⟨3, ![w0, w1, w2]⟩ : Shape).Idx → EReal} {Y : (⟨3, ![y0, y1, y2]⟩ : Shape).Idx → EReal}
    {U : (⟨3, ![v0, v1, v2]⟩ : Shape).Idx → EReal} {i j : ℕ} (hX : ∀ q k, at3 X i q k = at3 Y j q k)
    (hW : ∀ t k c, at3 W t k c = at3 U t k c) (q co t : ℕ) : tapSum K X W i q co t = tapSum K Y U j q co t := by
  unfold tapSum
  exact Finset.sum_congr rfl fun k _ => by rw [hX, hW]

/-- A block of one leading row, read anywhere, is its array read at that row. -/
theorem at3_block {N n1 n2 i : ℕ} (X : (⟨3, ![1, n1, n2]⟩ : Shape).Idx → EReal) (Y : (⟨3, ![N, n1, n2]⟩ : Shape).Idx → EReal)
    (hi : i < N) (h : ∀ q k, X (ix3 0 q k) = Y (ix3 ⟨i, hi⟩ q k)) (q k : ℕ) : at3 X 0 q k = at3 Y i q k := by
  by_cases hr : q < n1 ∧ k < n2
  · rw [at3_eq X ⟨Nat.one_pos, hr.1, hr.2⟩, at3_eq Y ⟨hi, hr.1, hr.2⟩]; exact h _ _
  · rw [at3_out X (by omega), at3_out Y (by omega)]

/-- The clamp's zero, read anywhere. -/
theorem bcast_zero {s : Shape} (i : s.Idx) : broadcast s (Scalar.ofBits (F := Ideal) .f32 0x00000000#32) i = (0 : EReal) := ofBits_zero32

theorem tanh_apply' {s : Shape} {φ : FTy} (a : FVec Ideal s φ) (i : s.Idx) : tanh a i = Ideal.tanh (a i) := rfl

end Cert.Arr

end
-- ==== Proof.Mem.lean ====
/- The reference's memory: an array of sums by font and component, written by an accumulating scatter and read by a gather. A read is
   the sum of the updates whose font and component are the ones read. -/
module

public import proofs.«01_k».proof.Proof.Tap
public import Idealize.ShloMosaic.Lib.StackMember
public import Idealize.ShloMosaic.Lib.Routing.OpsPair

@[expose] public section

set_option maxRecDepth 16384

noncomputable section

namespace Cert.Mem

open Idealize.ShloMosaic Idealize.ShloMosaic.ValueIdx Cert.Arr
open scoped BigOperators

section rank5

variable {C H W : ℕ}

/-- Where an update lands: at its two words, its other coordinates kept. -/
theorem lands5 (wf : ScatterDims.WF ⟨5, ![8, 68, C, H, W]⟩ ⟨2, ![128, 2]⟩ ⟨4, ![128, C, H, W]⟩ [1, 2, 3] [0, 1] [0, 1] 1)
    (I : IVec ⟨2, ![128, 2]⟩ 32) (b : Fin 128) (c' : Fin C) (y' : Fin H) (x' : Fin W) (f : Fin 8) (g : Fin 68) (c : Fin C) (y : Fin H) (x : Fin W) :
    (⟨[1, 2, 3], [0, 1], [0, 1], 1, wf⟩ : ScatterDims ⟨5, ![8, 68, C, H, W]⟩ ⟨2, ![128, 2]⟩ ⟨4, ![128, C, H, W]⟩).resultIdx? (ix4 b c' y' x') I = some (ix5 f g c y x)
      ↔ ((I (ix2 b 0)).toInt = f.val ∧ (I (ix2 b 1)).toInt = g.val) ∧ c' = c ∧ y' = y ∧ x' = x := by
  rw [Routing.resultIdx?_eq_some]
  have s0 : (⟨[1, 2, 3], [0, 1], [0, 1], 1, wf⟩ : ScatterDims ⟨5, ![8, 68, C, H, W]⟩ ⟨2, ![128, 2]⟩ ⟨4, ![128, C, H, W]⟩).start (ix4 b c' y' x') I 0 = (I (ix2 b 0)).toInt := by
    unfold ScatterDims.start
    rw [dif_pos (by simp)]
    refine congrArg (fun i => (I i).toInt) (funext fun a => Fin.ext ?_)
    match a with
    | ⟨0, _⟩ => rfl
    | ⟨1, _⟩ => rfl
  have s1 : (⟨[1, 2, 3], [0, 1], [0, 1], 1, wf⟩ : ScatterDims ⟨5, ![8, 68, C, H, W]⟩ ⟨2, ![128, 2]⟩ ⟨4, ![128, C, H, W]⟩).start (ix4 b c' y' x') I 1 = (I (ix2 b 1)).toInt := by
    unfold ScatterDims.start
    rw [dif_pos (by simp)]
    refine congrArg (fun i => (I i).toInt) (funext fun a => Fin.ext ?_)
    match a with
    | ⟨0, _⟩ => rfl
    | ⟨1, _⟩ => rfl
  constructor
  · intro h
    have h0 := h 0
    have h1 := h 1
    rw [s0] at h0
    rw [s1] at h1
    have h2 : ((0 : ℤ) + (c'.val : ℤ)) = c.val := h 2
    have h3 : ((0 : ℤ) + (y'.val : ℤ)) = y.val := h 3
    have h4 : ((0 : ℤ) + (x'.val : ℤ)) = x.val := h 4
    have h0' : (I (ix2 b 0)).toInt + 0 = f.val := h0
    have h1' : (I (ix2 b 1)).toInt + 0 = g.val := h1
    exact ⟨⟨by omega, by omega⟩, Fin.ext (by omega), Fin.ext (by omega), Fin.ext (by omega)⟩
  · rintro ⟨⟨h0, h1⟩, rfl, rfl, rfl⟩ a
    match a with
    | ⟨0, _⟩ =>
      refine Eq.trans (congrArg (· + _) s0) ?_
      show (I (ix2 b 0)).toInt + 0 = f.val
      omega
    | ⟨1, _⟩ =>
      refine Eq.trans (congrArg (· + _) s1) ?_
      show (I (ix2 b 1)).toInt + 0 = g.val
      omega
    | ⟨2, _⟩ => exact Int.zero_add _
    | ⟨3, _⟩ => exact Int.zero_add _
    | ⟨4, _⟩ => exact Int.zero_add _

/-- The memory read: the sum of the updates with the read's words. -/
theorem read5 (wf : ScatterDims.WF ⟨5, ![8, 68, C, H, W]⟩ ⟨2, ![128, 2]⟩ ⟨4, ![128, C, H, W]⟩ [1, 2, 3] [0, 1] [0, 1] 1)
    (wg : GatherDims.WF ⟨5, ![8, 68, C, H, W]⟩ ⟨3, ![128, 3, 2]⟩ ⟨5, ![128, 3, C, H, W]⟩ [2, 3, 4] [0, 1] [] [0, 1] [] 2 ![1, 1, C, H, W])
    (Z : FVec Ideal ⟨5, ![8, 68, C, H, W]⟩ .f32) (hZ : ∀ i, Z i = (0 : EReal))
    (I : IVec ⟨2, ![128, 2]⟩ 32) (X : FVec Ideal ⟨4, ![128, C, H, W]⟩ .f32) (J : IVec ⟨3, ![128, 3, 2]⟩ 32)
    (t : Fin 128) (j : Fin 3) (c : Fin C) (y : Fin H) (x : Fin W)
    (h0 : 0 ≤ (J (ix3 t j 0)).toInt ∧ (J (ix3 t j 0)).toInt < 8) (h1 : 0 ≤ (J (ix3 t j 1)).toInt ∧ (J (ix3 t j 1)).toInt < 68) :
    Host.gather (⟨[2, 3, 4], [0, 1], [], [], [0, 1], 2, ![1, 1, C, H, W], wg⟩ : GatherDims ⟨5, ![8, 68, C, H, W]⟩ ⟨3, ![128, 3, 2]⟩ ⟨5, ![128, 3, C, H, W]⟩)
        (Host.scatterAdd (F := Ideal) (⟨[1, 2, 3], [0, 1], [0, 1], 1, wf⟩ : ScatterDims ⟨5, ![8, 68, C, H, W]⟩ ⟨2, ![128, 2]⟩ ⟨4, ![128, C, H, W]⟩) Z I X) J (ix5 t j c y x)
      = ∑ b : Fin 128, if I (ix2 b 0) = J (ix3 t j 0) ∧ I (ix2 b 1) = J (ix3 t j 1) then X (ix4 b c y x) else (0 : EReal) := by
  have s0 : (⟨[2, 3, 4], [0, 1], [], [], [0, 1], 2, ![1, 1, C, H, W], wg⟩ : GatherDims ⟨5, ![8, 68, C, H, W]⟩ ⟨3, ![128, 3, 2]⟩ ⟨5, ![128, 3, C, H, W]⟩).start (ix5 t j c y x) J 0 = (J (ix3 t j 0)).toInt.toNat := by
    have e : (⟨[2, 3, 4], [0, 1], [], [], [0, 1], 2, ![1, 1, C, H, W], wg⟩ : GatherDims ⟨5, ![8, 68, C, H, W]⟩ ⟨3, ![128, 3, 2]⟩ ⟨5, ![128, 3, C, H, W]⟩).start (ix5 t j c y x) J 0
        = min (J (ix3 t j 0)).toInt.toNat (8 - 1) := by
      unfold GatherDims.start
      rw [dif_pos (by simp)]
      refine congrArg (fun i => min (J i).toInt.toNat (8 - 1)) (funext fun a => Fin.ext ?_)
      match a with
      | ⟨0, _⟩ => rfl
      | ⟨1, _⟩ => rfl
      | ⟨2, _⟩ => rfl
    rw [e]; omega
  have s1 : (⟨[2, 3, 4], [0, 1], [], [], [0, 1], 2, ![1, 1, C, H, W], wg⟩ : GatherDims ⟨5, ![8, 68, C, H, W]⟩ ⟨3, ![128, 3, 2]⟩ ⟨5, ![128, 3, C, H, W]⟩).start (ix5 t j c y x) J 1 = (J (ix3 t j 1)).toInt.toNat := by
    have e : (⟨[2, 3, 4], [0, 1], [], [], [0, 1], 2, ![1, 1, C, H, W], wg⟩ : GatherDims ⟨5, ![8, 68, C, H, W]⟩ ⟨3, ![128, 3, 2]⟩ ⟨5, ![128, 3, C, H, W]⟩).start (ix5 t j c y x) J 1
        = min (J (ix3 t j 1)).toInt.toNat (68 - 1) := by
      unfold GatherDims.start
      rw [dif_pos (by simp)]
      refine congrArg (fun i => min (J i).toInt.toNat (68 - 1)) (funext fun a => Fin.ext ?_)
      match a with
      | ⟨0, _⟩ => rfl
      | ⟨1, _⟩ => rfl
      | ⟨2, _⟩ => rfl
    rw [e]; omega
  have hi : (⟨[2, 3, 4], [0, 1], [], [], [0, 1], 2, ![1, 1, C, H, W], wg⟩ : GatherDims ⟨5, ![8, 68, C, H, W]⟩ ⟨3, ![128, 3, 2]⟩ ⟨5, ![128, 3, C, H, W]⟩).operandIdx (ix5 t j c y x) J
      = ix5 ⟨(J (ix3 t j 0)).toInt.toNat, by omega⟩ ⟨(J (ix3 t j 1)).toInt.toNat, by omega⟩ c y x := by
    funext a
    apply Fin.ext
    match a with
    | ⟨0, _⟩ => exact s0
    | ⟨1, _⟩ => exact s1
    | ⟨2, _⟩ => exact Nat.zero_add _
    | ⟨3, _⟩ => exact Nat.zero_add _
    | ⟨4, _⟩ => exact Nat.zero_add _
  unfold Host.gather
  rw [hi]
  refine Eq.trans (show _ = Z _ + ∑ i ∈ Finset.univ.filter (fun i => (⟨[1, 2, 3], [0, 1], [0, 1], 1, wf⟩ : ScatterDims ⟨5, ![8, 68, C, H, W]⟩ ⟨2, ![128, 2]⟩ ⟨4, ![128, C, H, W]⟩).resultIdx? i I
      = some (ix5 ⟨(J (ix3 t j 0)).toInt.toNat, by omega⟩ ⟨(J (ix3 t j 1)).toInt.toNat, by omega⟩ c y x)), X i from rfl) ?_
  rw [hZ, zero_add, ← Finset.sum_filter]
  have hm : ∀ b : Fin 128, (I (ix2 b 0) = J (ix3 t j 0) ∧ I (ix2 b 1) = J (ix3 t j 1))
      ↔ ((I (ix2 b 0)).toInt = ((J (ix3 t j 0)).toInt.toNat : ℤ) ∧ (I (ix2 b 1)).toInt = ((J (ix3 t j 1)).toInt.toNat : ℤ)) := fun b => by
    rw [Int.toNat_of_nonneg h0.1, Int.toNat_of_nonneg h1.1, BitVec.toInt_inj, BitVec.toInt_inj]
  symm
  refine Finset.sum_nbij' (fun b => ix4 b c y x) (fun i => i 0) (fun b hb => ?_) (fun i hi => ?_) (fun b hb => rfl) (fun i hi => ?_) (fun b hb => rfl)
  · exact Finset.mem_filter.2 ⟨Finset.mem_univ _, (lands5 wf I b c y x _ _ c y x).2 ⟨(hm b).1 (Finset.mem_filter.1 hb).2, rfl, rfl, rfl⟩⟩
  · have := (Finset.mem_filter.1 hi).2
    rw [eq_ix4 i] at this
    exact Finset.mem_filter.2 ⟨Finset.mem_univ _, (hm _).2 ((lands5 wf I _ _ _ _ _ _ c y x).1 this).1⟩
  · have := (Finset.mem_filter.1 hi).2
    rw [eq_ix4 i] at this
    obtain ⟨_, e1, e2, e3⟩ := (lands5 wf I _ _ _ _ _ _ c y x).1 this
    refine Eq.trans ?_ (eq_ix4 i).symm
    rw [← e1, ← e2, ← e3]
    rfl

end rank5

/-- Where an update of the counts lands. -/
theorem lands2 (wf : ScatterDims.WF ⟨2, ![8, 68]⟩ ⟨2, ![128, 2]⟩ ⟨1, ![128]⟩ [] [0, 1] [0, 1] 1)
    (I : IVec ⟨2, ![128, 2]⟩ 32) (b : Fin 128) (f : Fin 8) (g : Fin 68) :
    (⟨[], [0, 1], [0, 1], 1, wf⟩ : ScatterDims ⟨2, ![8, 68]⟩ ⟨2, ![128, 2]⟩ ⟨1, ![128]⟩).resultIdx? (ix1 b) I = some (ix2 f g)
      ↔ (I (ix2 b 0)).toInt = f.val ∧ (I (ix2 b 1)).toInt = g.val := by
  rw [Routing.resultIdx?_eq_some]
  have s0 : (⟨[], [0, 1], [0, 1], 1, wf⟩ : ScatterDims ⟨2, ![8, 68]⟩ ⟨2, ![128, 2]⟩ ⟨1, ![128]⟩).start (ix1 b) I 0 = (I (ix2 b 0)).toInt := by
    unfold ScatterDims.start
    rw [dif_pos (by simp)]
    refine congrArg (fun i => (I i).toInt) (funext fun a => Fin.ext ?_)
    match a with
    | ⟨0, _⟩ => rfl
    | ⟨1, _⟩ => rfl
  have s1 : (⟨[], [0, 1], [0, 1], 1, wf⟩ : ScatterDims ⟨2, ![8, 68]⟩ ⟨2, ![128, 2]⟩ ⟨1, ![128]⟩).start (ix1 b) I 1 = (I (ix2 b 1)).toInt := by
    unfold ScatterDims.start
    rw [dif_pos (by simp)]
    refine congrArg (fun i => (I i).toInt) (funext fun a => Fin.ext ?_)
    match a with
    | ⟨0, _⟩ => rfl
    | ⟨1, _⟩ => rfl
  constructor
  · intro h
    have h0 := h 0
    have h1 := h 1
    rw [s0] at h0
    rw [s1] at h1
    have h0' : (I (ix2 b 0)).toInt + 0 = f.val := h0
    have h1' : (I (ix2 b 1)).toInt + 0 = g.val := h1
    exact ⟨by omega, by omega⟩
  · rintro ⟨h0, h1⟩ a
    match a with
    | ⟨0, _⟩ =>
      refine Eq.trans (congrArg (· + _) s0) ?_
      show (I (ix2 b 0)).toInt + 0 = f.val
      omega
    | ⟨1, _⟩ =>
      refine Eq.trans (congrArg (· + _) s1) ?_
      show (I (ix2 b 1)).toInt + 0 = g.val
      omega

/-- A count read: the number of updates with the read's words. -/
theorem read2 (wf : ScatterDims.WF ⟨2, ![8, 68]⟩ ⟨2, ![128, 2]⟩ ⟨1, ![128]⟩ [] [0, 1] [0, 1] 1)
    (wg : GatherDims.WF ⟨2, ![8, 68]⟩ ⟨3, ![128, 3, 2]⟩ ⟨2, ![128, 3]⟩ [] [0, 1] [] [0, 1] [] 2 ![1, 1])
    (Z : FVec Ideal ⟨2, ![8, 68]⟩ .f32) (hZ : ∀ i, Z i = (0 : EReal))
    (I : IVec ⟨2, ![128, 2]⟩ 32) (X : FVec Ideal ⟨1, ![128]⟩ .f32) (J : IVec ⟨3, ![128, 3, 2]⟩ 32)
    (t : Fin 128) (j : Fin 3)
    (h0 : 0 ≤ (J (ix3 t j 0)).toInt ∧ (J (ix3 t j 0)).toInt < 8) (h1 : 0 ≤ (J (ix3 t j 1)).toInt ∧ (J (ix3 t j 1)).toInt < 68) :
    Host.gather (⟨[], [0, 1], [], [], [0, 1], 2, ![1, 1], wg⟩ : GatherDims ⟨2, ![8, 68]⟩ ⟨3, ![128, 3, 2]⟩ ⟨2, ![128, 3]⟩)
        (Host.scatterAdd (F := Ideal) (⟨[], [0, 1], [0, 1], 1, wf⟩ : ScatterDims ⟨2, ![8, 68]⟩ ⟨2, ![128, 2]⟩ ⟨1, ![128]⟩) Z I X) J (ix2 t j)
      = ∑ b : Fin 128, if I (ix2 b 0) = J (ix3 t j 0) ∧ I (ix2 b 1) = J (ix3 t j 1) then X (ix1 b) else (0 : EReal) := by
  have s0 : (⟨[], [0, 1], [], [], [0, 1], 2, ![1, 1], wg⟩ : GatherDims ⟨2, ![8, 68]⟩ ⟨3, ![128, 3, 2]⟩ ⟨2, ![128, 3]⟩).start (ix2 t j) J 0 = (J (ix3 t j 0)).toInt.toNat := by
    have e : (⟨[], [0, 1], [], [], [0, 1], 2, ![1, 1], wg⟩ : GatherDims ⟨2, ![8, 68]⟩ ⟨3, ![128, 3, 2]⟩ ⟨2, ![128, 3]⟩).start (ix2 t j) J 0
        = min (J (ix3 t j 0)).toInt.toNat (8 - 1) := by
      unfold GatherDims.start
      rw [dif_pos (by simp)]
      refine congrArg (fun i => min (J i).toInt.toNat (8 - 1)) (funext fun a => Fin.ext ?_)
      match a with
      | ⟨0, _⟩ => rfl
      | ⟨1, _⟩ => rfl
      | ⟨2, _⟩ => rfl
    rw [e]; omega
  have s1 : (⟨[], [0, 1], [], [], [0, 1], 2, ![1, 1], wg⟩ : GatherDims ⟨2, ![8, 68]⟩ ⟨3, ![128, 3, 2]⟩ ⟨2, ![128, 3]⟩).start (ix2 t j) J 1 = (J (ix3 t j 1)).toInt.toNat := by
    have e : (⟨[], [0, 1], [], [], [0, 1], 2, ![1, 1], wg⟩ : GatherDims ⟨2, ![8, 68]⟩ ⟨3, ![128, 3, 2]⟩ ⟨2, ![128, 3]⟩).start (ix2 t j) J 1
        = min (J (ix3 t j 1)).toInt.toNat (68 - 1) := by
      unfold GatherDims.start
      rw [dif_pos (by simp)]
      refine congrArg (fun i => min (J i).toInt.toNat (68 - 1)) (funext fun a => Fin.ext ?_)
      match a with
      | ⟨0, _⟩ => rfl
      | ⟨1, _⟩ => rfl
      | ⟨2, _⟩ => rfl
    rw [e]; omega
  have hi : (⟨[], [0, 1], [], [], [0, 1], 2, ![1, 1], wg⟩ : GatherDims ⟨2, ![8, 68]⟩ ⟨3, ![128, 3, 2]⟩ ⟨2, ![128, 3]⟩).operandIdx (ix2 t j) J
      = ix2 ⟨(J (ix3 t j 0)).toInt.toNat, by omega⟩ ⟨(J (ix3 t j 1)).toInt.toNat, by omega⟩ := by
    funext a
    apply Fin.ext
    match a with
    | ⟨0, _⟩ => exact s0
    | ⟨1, _⟩ => exact s1
  unfold Host.gather
  rw [hi]
  refine Eq.trans (show _ = Z _ + ∑ i ∈ Finset.univ.filter (fun i => (⟨[], [0, 1], [0, 1], 1, wf⟩ : ScatterDims ⟨2, ![8, 68]⟩ ⟨2, ![128, 2]⟩ ⟨1, ![128]⟩).resultIdx? i I
      = some (ix2 ⟨(J (ix3 t j 0)).toInt.toNat, by omega⟩ ⟨(J (ix3 t j 1)).toInt.toNat, by omega⟩)), X i from rfl) ?_
  rw [hZ, zero_add, ← Finset.sum_filter]
  have hm : ∀ b : Fin 128, (I (ix2 b 0) = J (ix3 t j 0) ∧ I (ix2 b 1) = J (ix3 t j 1))
      ↔ ((I (ix2 b 0)).toInt = ((J (ix3 t j 0)).toInt.toNat : ℤ) ∧ (I (ix2 b 1)).toInt = ((J (ix3 t j 1)).toInt.toNat : ℤ)) := fun b => by
    rw [Int.toNat_of_nonneg h0.1, Int.toNat_of_nonneg h1.1, BitVec.toInt_inj, BitVec.toInt_inj]
  symm
  refine Finset.sum_nbij' (fun b => ix1 b) (fun i => i 0) (fun b hb => ?_) (fun i hi => ?_) (fun b hb => rfl) (fun i hi => ?_) (fun b hb => rfl)
  · exact Finset.mem_filter.2 ⟨Finset.mem_univ _, (lands2 wf I b _ _).2 ((hm b).1 (Finset.mem_filter.1 hb).2)⟩
  · have := (Finset.mem_filter.1 hi).2
    rw [eq_ix1 i] at this
    exact Finset.mem_filter.2 ⟨Finset.mem_univ _, (hm _).2 ((lands2 wf I _ _ _).1 this)⟩
  · exact (eq_ix1 i).symm

/-- An index that is not negative is left as it is by the wrap of negative indices. -/
theorem wrap (x a : BitVec 32) (h : 0 ≤ x.toInt) : Scalar.select (IntOp.cmpi .slt x 0#32) a x = x := by
  refine Routing.wrap_of_lt x a ?_
  rw [BitVec.toInt_eq_toNat_cond] at h
  have := x.isLt
  split at h <;> omega

/-- A mean of three over the third axis of a rank-five array. -/
theorem reduce5 {C H W : ℕ} (X : FVec Ideal ⟨5, ![128, 3, C, H, W]⟩ .f32) (z : FVec Ideal ⟨0, ![]⟩ .f32) (hz : ∀ i, z i = (0 : EReal)) (hu : 0 < (⟨0, ![]⟩ : Shape).numel)
    (h : (⟨5, ![128, 3, C, H, W]⟩ : Shape).ReducesTo [1] ⟨4, ![128, C, H, W]⟩) (h' : (⟨5, ![128, 3, C, H, W]⟩ : Shape).Reduces [1] ⟨4, ![128, C, H, W]⟩)
    (t : Fin 128) (c : Fin C) (y : Fin H) (x : Fin W) :
    Host.reduceAdd (F := Ideal) X z h hu (ix4 t c y x) = ∑ j : Fin 3, X (ix5 t j c y x) := by
  show Ideal.hostReduceAdd h X (z _) (ix4 t c y x) = _
  rw [Ideal.hostReduceAdd_single h h', hz, zero_add]
  refine Finset.sum_congr rfl fun j _ => congrArg X (funext fun a => Fin.ext ?_)
  match a with
  | ⟨0, _⟩ => rfl
  | ⟨1, _⟩ => rfl
  | ⟨2, _⟩ => rfl
  | ⟨3, _⟩ => rfl
  | ⟨4, _⟩ => rfl

theorem col1 {α : Type} (v : (⟨1, ![128]⟩ : Shape).Idx → α) (h) (b : Fin 128) :
    broadcastInDim ⟨2, ![128, 1]⟩ ![0] h v (ix2 b 0) = v (ix1 b) :=
  broadcastInDim_apply _ _ _ _ _ fun a => by
    match a with
    | ⟨0, _⟩ => exact (if_neg (show ¬ (128 = 1) by decide)).symm

theorem row3 {α : Type} (v : (⟨2, ![128, 1]⟩ : Shape).Idx → α) (h) (t : Fin 128) (j : Fin 3) :
    broadcastInDim ⟨2, ![128, 3]⟩ ![0, 1] h v (ix2 t j) = v (ix2 t 0) :=
  broadcastInDim_apply _ _ _ _ _ fun a => by
    match a with
    | ⟨0, _⟩ => exact (if_neg (show ¬ (128 = 1) by decide)).symm
    | ⟨1, _⟩ => exact (if_pos rfl).symm

theorem col3 {α : Type} (v : (⟨2, ![128, 3]⟩ : Shape).Idx → α) (h) (t : Fin 128) (j : Fin 3) :
    broadcastInDim ⟨3, ![128, 3, 1]⟩ ![0, 1] h v (ix3 t j 0) = v (ix2 t j) :=
  broadcastInDim_apply _ _ _ _ _ fun a => by
    match a with
    | ⟨0, _⟩ => exact (if_neg (show ¬ (128 = 1) by decide)).symm
    | ⟨1, _⟩ => exact (if_neg (show ¬ (3 = 1) by decide)).symm

theorem cat2_left {α : Type} (v w : (⟨2, ![128, 1]⟩ : Shape).Idx → α) (h) (b : Fin 128) :
    concatenate ⟨2, ![128, 2]⟩ 1 [⟨⟨2, ![128, 1]⟩, v⟩, ⟨⟨2, ![128, 1]⟩, w⟩] h (ix2 b 0) = v (ix2 b 0) :=
  concatenate_pair_apply_left (t := ⟨2, ![128, 2]⟩) (s₁ := ⟨2, ![128, 1]⟩) (s₂ := ⟨2, ![128, 1]⟩) 1 v w h (ix2 b 0) rfl (ix2 b 0) fun a => by
    match a with
    | ⟨0, _⟩ => rfl
    | ⟨1, _⟩ => rfl

theorem cat2_right {α : Type} (v w : (⟨2, ![128, 1]⟩ : Shape).Idx → α) (h) (b : Fin 128) :
    concatenate ⟨2, ![128, 2]⟩ 1 [⟨⟨2, ![128, 1]⟩, v⟩, ⟨⟨2, ![128, 1]⟩, w⟩] h (ix2 b 1) = w (ix2 b 0) :=
  concatenate_pair_apply_right (t := ⟨2, ![128, 2]⟩) (s₁ := ⟨2, ![128, 1]⟩) (s₂ := ⟨2, ![128, 1]⟩) 1 v w h (ix2 b 1) rfl rfl (ix2 b 0) (fun a ha => by
    match a with
    | ⟨0, _⟩ => rfl
    | ⟨1, _⟩ => exact absurd rfl ha) rfl

theorem cat3_left {α : Type} (v w : (⟨3, ![128, 3, 1]⟩ : Shape).Idx → α) (h) (t : Fin 128) (j : Fin 3) :
    concatenate ⟨3, ![128, 3, 2]⟩ 2 [⟨⟨3, ![128, 3, 1]⟩, v⟩, ⟨⟨3, ![128, 3, 1]⟩, w⟩] h (ix3 t j 0) = v (ix3 t j 0) :=
  concatenate_pair_apply_left (t := ⟨3, ![128, 3, 2]⟩) (s₁ := ⟨3, ![128, 3, 1]⟩) (s₂ := ⟨3, ![128, 3, 1]⟩) 2 v w h (ix3 t j 0) rfl (ix3 t j 0) fun a => by
    match a with
    | ⟨0, _⟩ => rfl
    | ⟨1, _⟩ => rfl
    | ⟨2, _⟩ => rfl

theorem cat3_right {α : Type} (v w : (⟨3, ![128, 3, 1]⟩ : Shape).Idx → α) (h) (t : Fin 128) (j : Fin 3) :
    concatenate ⟨3, ![128, 3, 2]⟩ 2 [⟨⟨3, ![128, 3, 1]⟩, v⟩, ⟨⟨3, ![128, 3, 1]⟩, w⟩] h (ix3 t j 1) = w (ix3 t j 0) :=
  concatenate_pair_apply_right (t := ⟨3, ![128, 3, 2]⟩) (s₁ := ⟨3, ![128, 3, 1]⟩) (s₂ := ⟨3, ![128, 3, 1]⟩) 2 v w h (ix3 t j 1) rfl rfl (ix3 t j 0) (fun a ha => by
    match a with
    | ⟨0, _⟩ => rfl
    | ⟨1, _⟩ => rfl
    | ⟨2, _⟩ => exact absurd rfl ha) rfl

/-- A value of each pair laid over its images. -/
theorem over {α : Type} {C H W : ℕ} (hn : C ≠ 1 ∧ H ≠ 1 ∧ W ≠ 1) (v : (⟨2, ![128, 3]⟩ : Shape).Idx → α) (h1 h2) (t : Fin 128) (j : Fin 3) (c : Fin C) (y : Fin H) (x : Fin W) :
    broadcastInDim ⟨5, ![128, 3, C, H, W]⟩ ![0, 1, 2, 3, 4] h2 (broadcastInDim ⟨5, ![128, 3, 1, 1, 1]⟩ ![0, 1] h1 v) (ix5 t j c y x) = v (ix2 t j) :=
  (broadcastInDim_apply _ _ _ _ (ix5 t j 0 0 0) fun a => by
    match a with
    | ⟨0, _⟩ => exact (if_neg (show ¬ (128 = 1) by decide)).symm
    | ⟨1, _⟩ => exact (if_neg (show ¬ (3 = 1) by decide)).symm
    | ⟨2, _⟩ => exact (if_pos rfl).symm
    | ⟨3, _⟩ => exact (if_pos rfl).symm
    | ⟨4, _⟩ => exact (if_pos rfl).symm).trans
  (broadcastInDim_apply _ _ _ _ (ix2 t j) fun a => by
    match a with
    | ⟨0, _⟩ => exact (if_neg (show ¬ (128 = 1) by decide)).symm
    | ⟨1, _⟩ => exact (if_neg (show ¬ (3 = 1) by decide)).symm)

theorem three_f32 : Ideal.ofBits .f32 0x40400000#32 = (3 : EReal) := by
  simp [Ideal.ofBits, Ideal.ieee, -EReal.coe_mul]
  norm_num
  rfl

/-- The mean of the three reads: each the updates that match, summed, over their number, at least one. -/
def mean (m : Fin 3 → Fin 128 → Prop) [∀ j b, Decidable (m j b)] (X : Fin 128 → EReal) : EReal :=
  Ideal.div (∑ j : Fin 3, Ideal.div (∑ b : Fin 128, if m j b then X b else 0) (max (∑ b : Fin 128, if m j b then (1 : EReal) else 0) 1)) 3

end Cert.Mem

end
-- ==== Proof.Weigh.lean ====
/- The memory read's weights: how much of each reference image a target takes, from the two key arrays. -/
module

public import proofs.«01_k».proof.Proof.Tap

@[expose] public section

set_option maxRecDepth 16384

noncomputable section

namespace Cert.Weigh

open Idealize.ShloMosaic Idealize.ShloMosaic.ValueIdx Cert.Arr

/-- One where the target's `j`-th key is the reference's key, zero elsewhere. -/
def hit (rk : (⟨2, ![1, 128]⟩ : Shape).Idx → BitVec 32) (tk : (⟨2, ![128, 3]⟩ : Shape).Idx → BitVec 32)
    (t : Fin 128) (j : Fin 3) (b : Fin 128) : EReal :=
  if tk (ix2 t j) = rk (ix2 0 b) then 1 else 0

/-- A reference's share in the target's `j`-th component: its hit over the hits' number, at least one. -/
def share (rk : (⟨2, ![1, 128]⟩ : Shape).Idx → BitVec 32) (tk : (⟨2, ![128, 3]⟩ : Shape).Idx → BitVec 32)
    (t : Fin 128) (j : Fin 3) (b : Fin 128) : EReal :=
  Ideal.div (hit rk tk t j b) (max (∑ b' : Fin 128, hit rk tk t j b') 1)

/-- A reference's weight in a target: a third of its three shares. -/
def weight (rk : (⟨2, ![1, 128]⟩ : Shape).Idx → BitVec 32) (tk : (⟨2, ![128, 3]⟩ : Shape).Idx → BitVec 32)
    (t b : Fin 128) : EReal :=
  (share rk tk t 0 b + share rk tk t 1 b + share rk tk t 2 b) * ((1 / 3 : ℝ) : EReal)

/-- The read's row: the references' rows weighed. -/
def readRow {n : ℕ} (rk : (⟨2, ![1, 128]⟩ : Shape).Idx → BitVec 32) (tk : (⟨2, ![128, 3]⟩ : Shape).Idx → BitVec 32)
    (X : (⟨2, ![128, n]⟩ : Shape).Idx → EReal) (t q : ℕ) : EReal :=
  if h : t < 128 then ∑ b : Fin 128, weight rk tk ⟨t, h⟩ b * at2 X b.val q else 0

theorem one_f32 : Ideal.ofBits .f32 0x3F800000#32 = (1 : EReal) := by
  simp [Ideal.ofBits, Ideal.ieee, -EReal.coe_mul]
  norm_num

/-- A word that is a condition, widened and converted, is one or zero. -/
theorem hit_word (x y : BitVec 32) :
    (FloatOps.sitofp .f32 ((IntOp.cmpi .eq x y).setWidth 32) : Ideal .f32) = if x = y then (1 : EReal) else 0 := by
  by_cases h : x = y
  · subst h
    rw [if_pos rfl]
    have : IntOp.cmpi .eq x x = 1#1 := by simp [IntOp.cmpi]
    rw [this]
    show (((((1#1).setWidth 32 : BitVec 32).toInt : ℤ) : ℝ) : EReal) = 1
    norm_num
  · rw [if_neg h]
    have : IntOp.cmpi .eq x y = 0#1 := by
      show BitVec.ofBool (x == y) = 0#1
      rw [beq_eq_false_iff_ne.mpr h]; rfl
    rw [this]
    show (((((0#1).setWidth 32 : BitVec 32).toInt : ℤ) : ℝ) : EReal) = 0
    norm_num

theorem bcol {α : Type} (v : (⟨2, ![128, 1]⟩ : Shape).Idx → α) (h) (t b : Fin 128) :
    broadcastTo (⟨2, ![128, 128]⟩ : Shape) v h (ix2 t b) = v (ix2 t 0) :=
  broadcastTo_apply v h _ _ fun a => by
    match a with
    | ⟨0, _⟩ => rfl
    | ⟨1, _⟩ => rfl

theorem brow {α : Type} (v : (⟨2, ![1, 128]⟩ : Shape).Idx → α) (h) (t b : Fin 128) :
    broadcastTo (⟨2, ![128, 128]⟩ : Shape) v h (ix2 t b) = v (ix2 0 b) :=
  broadcastTo_apply v h _ _ fun a => by
    match a with
    | ⟨0, _⟩ => rfl
    | ⟨1, _⟩ => rfl

/-- The row sum, kept as a column. -/
theorem rowsum (v : FVec Ideal ⟨2, ![128, 128]⟩ .f32) (hr : (⟨2, ![128, 128]⟩ : Shape).Reduces [1] ⟨1, ![128]⟩) (hφ ha hs) (t : Fin 128) :
    shapeCast (⟨2, ![128, 1]⟩ : Shape) (multiReduction (F := Ideal) .add [1] ⟨1, ![128]⟩ v 0x00000000#32 hr hφ ha) hs (ix2 t 0)
      = ∑ b : Fin 128, v (ix2 t b) := by
  refine (shapeCast_apply _ hs (ix2 t (0 : Fin 1)) (ix1 t) ?_).trans ?_
  · rw [Shape.rowMajor_val_one, Shape.rowMajor_val_two]
    show t.val = t.val * 1 + 0
    omega
  · refine (Ideal.multiReduction_add_single v _ hr hφ ha (ix1 t)).trans ?_
    refine Finset.sum_congr rfl fun b _ => congrArg v (funext fun a => Fin.ext ?_)
    match a with
    | ⟨0, _⟩ => rfl
    | ⟨1, _⟩ => rfl

/-- One component's term, as the calls print it. -/
theorem term_apply (v1 : IVec ⟨2, ![1, 128]⟩ 32) (v3 : IVec ⟨2, ![128, 1]⟩ 32) (h3 h1 hlt hr hφ ha hs h3') (t b : Fin 128) :
    divf (F := Ideal) (sitofp .f32 (extui 32 (cmpi .eq (broadcastTo ⟨2, ![128, 128]⟩ v3 h3) (broadcastTo ⟨2, ![128, 128]⟩ v1 h1)) hlt))
      (broadcastTo ⟨2, ![128, 128]⟩ (maximumf (shapeCast ⟨2, ![128, 1]⟩
        (multiReduction .add [1] ⟨1, ![128]⟩ (sitofp .f32 (extui 32 (cmpi .eq (broadcastTo ⟨2, ![128, 128]⟩ v3 h3) (broadcastTo ⟨2, ![128, 128]⟩ v1 h1)) hlt)) 0x00000000#32 hr hφ ha) hs)
        (broadcast ⟨2, ![128, 1]⟩ (Scalar.ofBits .f32 0x3F800000#32))) h3') (ix2 t b)
      = Ideal.div (if v3 (ix2 t 0) = v1 (ix2 0 b) then 1 else 0) (max (∑ b' : Fin 128, if v3 (ix2 t 0) = v1 (ix2 0 b') then (1 : EReal) else 0) 1) := by
  have hm : ∀ t b : Fin 128, (sitofp .f32 (extui 32 (cmpi .eq (broadcastTo ⟨2, ![128, 128]⟩ v3 h3) (broadcastTo ⟨2, ![128, 128]⟩ v1 h1)) hlt) : FVec Ideal ⟨2, ![128, 128]⟩ .f32) (ix2 t b)
      = if v3 (ix2 t 0) = v1 (ix2 0 b) then (1 : EReal) else 0 := fun t b => by
    rw [sitofp_apply, extui_apply]
    show FloatOps.sitofp .f32 ((IntOp.cmpi .eq (broadcastTo ⟨2, ![128, 128]⟩ v3 h3 (ix2 t b)) (broadcastTo ⟨2, ![128, 128]⟩ v1 h1 (ix2 t b))).setWidth 32) = _
    rw [bcol, brow, hit_word]
  rw [divf_apply, hm, bcol, maximumf_apply, rowsum]
  simp only [hm]
  exact congrArg (fun v => Ideal.div _ (max _ v)) one_f32

/-- A column of the target keys, loaded. -/
theorem col_load {e' : EltTy} (Val : EltTy → Type) (x : (⟨2, ![128, 3]⟩ : Shape).Idx → Val e') (j : ℕ) (hj : j < 3)
    (inb : ∀ a : Fin 2, (![0, j] : Fin 2 → ℕ) a + (⟨2, ![128, 1]⟩ : Shape).size a ≤ (⟨2, ![128, 3]⟩ : Shape).size a) (t : Fin 128) :
    View.ld (Val := Val) (e' := e') x (Rect.unit (s := ⟨2, ![128, 3]⟩) ![0, j] (⟨2, ![128, 1]⟩ : Shape).size inb) (ix2 t 0) = x (ix2 t ⟨j, hj⟩) := by
  refine congrArg x (funext fun a => Fin.ext ?_)
  match a with
  | ⟨0, _⟩ => show 0 + 1 * t.val = t.val; omega
  | ⟨1, _⟩ => show j + 1 * 0 = j; omega

/-- The reference keys, loaded whole. -/
theorem row_load {e' : EltTy} (Val : EltTy → Type) (x : (⟨2, ![1, 128]⟩ : Shape).Idx → Val e')
    (inb : ∀ a : Fin 2, (![0, 0] : Fin 2 → ℕ) a + (⟨2, ![1, 128]⟩ : Shape).size a ≤ (⟨2, ![1, 128]⟩ : Shape).size a) (b : Fin 128) :
    View.ld (Val := Val) (e' := e') x (Rect.unit (s := ⟨2, ![1, 128]⟩) ![0, 0] (⟨2, ![1, 128]⟩ : Shape).size inb) (ix2 0 b) = x (ix2 0 b) := by
  refine congrArg x (funext fun a => Fin.ext ?_)
  match a with
  | ⟨0, _⟩ => rfl
  | ⟨1, _⟩ => show 0 + 1 * b.val = b.val; omega

/-- A chunk's product: the weights times the chunk's columns from column `o`. -/
theorem chunk_val {N o : ℕ} (W : FVec Ideal ⟨2, ![128, 128]⟩ .f32) (X : Vec Ideal ⟨2, ![128, N]⟩ .bf16)
    (inb : ∀ a : Fin 2, (![0, o] : Fin 2 → ℕ) a + (⟨2, ![128, 2048]⟩ : Shape).size a ≤ (⟨2, ![128, N]⟩ : Shape).size a) (h)
    (prec : Option ContractPrecision) (t : Fin 128) (q : Fin 2048) :
    FloatOps.matmul (F := Ideal) (φ₁ := .f32) (φ₂ := .f32) (DotDims.plain 128 128 2048) prec W
        (extf (φ := .bf16) .f32 (View.ld (Val := Elt Ideal) (e' := .bf16) X (Rect.unit (s := ⟨2, ![128, N]⟩) ![0, o] (⟨2, ![128, 2048]⟩ : Shape).size inb)) h)
        (constant ⟨2, ![128, 2048]⟩ .f32 0x00000000#32) (ix2 t q)
      = ∑ b : Fin 128, W (ix2 t b) * at2 X b.val (o + q.val) := by
  have hb : o + 2048 ≤ N := inb 1
  rw [Ideal.matmul_plain_apply, constant_apply, ofBits_zero32, zero_add]
  refine Finset.sum_congr rfl fun b _ => congrArg (fun v => W (ix2 t b) * v) ?_
  rw [extf_apply, at2_eq X ⟨b.isLt, by omega⟩]
  refine congrArg X (funext fun a => Fin.ext ?_)
  match a with
  | ⟨0, _⟩ => show 0 + 1 * b.val = b.val; omega
  | ⟨1, _⟩ => show o + 1 * q.val = o + q.val; omega

/-- A statement of every index of a matrix is one of every pair of coordinates. -/
theorem forall_ix2 {n0 n1 : ℕ} {P : (⟨2, ![n0, n1]⟩ : Shape).Idx → Prop} (h : ∀ (a : Fin n0) (b : Fin n1), P (ix2 a b)) (i) : P i := by
  rw [eq_ix2 i]; exact h _ _

end Cert.Weigh

end
-- ==== Proof.Read.lean ====
/- The two memory reads are one function: a target's weighed sum over the references is the mean of the matching references' means. The
   weights are non-negative reals, so the products distribute over the sums whatever the references' values are. -/
module

public import proofs.«01_k».proof.Proof.Mem
public import proofs.«01_k».proof.Proof.Weigh

@[expose] public section

noncomputable section

namespace Cert.Read

open Idealize.ShloMosaic Idealize.ShloMosaic.ValueIdx Cert.Arr Cert.Mem Cert.Weigh
open scoped BigOperators

theorem sum_mul_real {n : ℕ} (f : Fin n → EReal) (r : ℝ) (hr : 0 ≤ r) : (∑ b, f b) * (r : EReal) = ∑ b, f b * (r : EReal) := by
  induction n with
  | zero => simp
  | succ n ih =>
    rw [Fin.sum_univ_succ, Fin.sum_univ_succ, EReal.right_distrib_of_nonneg_of_ne_top (by exact_mod_cast hr) (EReal.coe_ne_top r), ih]

theorem count_real {n : ℕ} (m : Fin n → Prop) [∀ b, Decidable (m b)] :
    ∃ r : ℝ, 1 ≤ r ∧ max (∑ b : Fin n, if m b then (1 : EReal) else 0) 1 = (r : EReal) := by
  have e : (∑ b : Fin n, if m b then (1 : EReal) else 0) = ((∑ b : Fin n, if m b then (1 : ℝ) else 0 : ℝ) : EReal) := by
    induction n with
    | zero => simp
    | succ n ih =>
      rw [Fin.sum_univ_succ, Fin.sum_univ_succ, EReal.coe_add, ih]
      congr 1
      split <;> simp
  refine ⟨max (∑ b : Fin n, if m b then (1 : ℝ) else 0) 1, le_max_right _ _, ?_⟩
  rw [e, EReal.coe_strictMono.monotone.map_max]
  rfl

theorem div_real (a : EReal) (r : ℝ) (hr : 1 ≤ r) : Ideal.div a (r : EReal) = a * ((r⁻¹ : ℝ) : EReal) := by
  unfold Ideal.div
  rw [if_neg (by
    intro h
    have : r = 0 := by exact_mod_cast h
    linarith), EReal.coe_inv]

theorem div_three (a : EReal) : Ideal.div a 3 = a * ((1 / 3 : ℝ) : EReal) := by
  have := div_real a 3 (by norm_num)
  rw [show ((3 : ℝ) : EReal) = 3 from rfl] at this
  rw [this]
  norm_num

/-- The weighed sum is the mean, where the keys match exactly on the matching references. -/
theorem mean_eq (rk : (⟨2, ![1, 128]⟩ : Shape).Idx → BitVec 32) (tk : (⟨2, ![128, 3]⟩ : Shape).Idx → BitVec 32) (t : Fin 128)
    (m : Fin 3 → Fin 128 → Prop) [∀ j b, Decidable (m j b)] (h : ∀ j b, tk (ix2 t j) = rk (ix2 0 b) ↔ m j b) (X : Fin 128 → EReal) :
    mean m X = ∑ b : Fin 128, weight rk tk t b * X b := by
  have hh : ∀ j b, hit rk tk t j b = if m j b then (1 : EReal) else 0 := fun j b => by
    unfold hit
    exact if_congr (h j b) rfl rfl
  have hq : ∀ j, ∃ q : ℝ, 0 ≤ q ∧ ∀ a, Ideal.div a (max (∑ b : Fin 128, if m j b then (1 : EReal) else 0) 1) = a * (q : EReal) := fun j => by
    obtain ⟨r, h1, h2⟩ := count_real (m j)
    exact ⟨r⁻¹, inv_nonneg.2 (by linarith), fun a => by rw [h2, div_real a r h1]⟩
  choose q hq0 hq1 using hq
  have hs : ∀ j b, share rk tk t j b = (if m j b then (1 : EReal) else 0) * (q j : EReal) := fun j b => by
    unfold share
    rw [hh, ← hq1]
    exact congrArg (fun s => Ideal.div _ (max s 1)) (Finset.sum_congr rfl fun b' _ => hh j b')
  have hs0 : ∀ j b, 0 ≤ share rk tk t j b := fun j b => by
    rw [hs]
    refine EReal.mul_nonneg ?_ (by exact_mod_cast hq0 j)
    split <;> simp
  have h3 : (0 : ℝ) ≤ 1 / 3 := by norm_num
  have h3' : (0 : EReal) ≤ ((1 / 3 : ℝ) : EReal) := by exact_mod_cast h3
  have hw : ∀ b, weight rk tk t b * X b = ∑ j : Fin 3, (share rk tk t j b * ((1 / 3 : ℝ) : EReal)) * X b := fun b => by
    unfold weight
    rw [Fin.sum_univ_three, EReal.right_distrib_of_nonneg_of_ne_top h3' (EReal.coe_ne_top _), EReal.right_distrib_of_nonneg_of_ne_top h3' (EReal.coe_ne_top _),
      EReal.right_distrib_of_nonneg (add_nonneg (EReal.mul_nonneg (hs0 0 b) h3') (EReal.mul_nonneg (hs0 1 b) h3')) (EReal.mul_nonneg (hs0 2 b) h3'),
      EReal.right_distrib_of_nonneg (EReal.mul_nonneg (hs0 0 b) h3') (EReal.mul_nonneg (hs0 1 b) h3')]
  rw [Finset.sum_congr rfl fun b _ => hw b, Finset.sum_comm]
  unfold mean
  rw [div_three, sum_mul_real _ _ h3]
  refine Finset.sum_congr rfl fun j _ => ?_
  rw [hq1, sum_mul_real _ _ (hq0 j), sum_mul_real _ _ h3]
  refine Finset.sum_congr rfl fun b _ => ?_
  rw [hs]
  by_cases hm : m j b
  · rw [if_pos hm, if_pos hm, one_mul, mul_assoc, mul_comm]
  · rw [if_neg hm, if_neg hm, zero_mul, zero_mul, zero_mul]

/-- Two keys agree exactly where their fonts and components do. -/
theorem key_iff (f f' d d' : BitVec 32) (hf : 0 ≤ f.toInt ∧ f.toInt < 8) (hf' : 0 ≤ f'.toInt ∧ f'.toInt < 8)
    (hd : 0 ≤ d.toInt ∧ d.toInt < 68) (hd' : 0 ≤ d'.toInt ∧ d'.toInt < 68) :
    f * 68#32 + d = f' * 68#32 + d' ↔ f' = f ∧ d' = d := by
  have key : ∀ v : BitVec 32, ∀ n : ℕ, n < 100 → 0 ≤ v.toInt ∧ v.toInt < n → v.toNat < n := fun v n hn h => by
    rw [BitVec.toInt_eq_toNat_cond] at h
    have := v.isLt
    split at h <;> omega
  have a1 := key f 8 (by norm_num) hf
  have a2 := key f' 8 (by norm_num) hf'
  have a3 := key d 68 (by norm_num) hd
  have a4 := key d' 68 (by norm_num) hd'
  have small : ∀ a d : ℕ, a < 8 → d < 68 → (a * 68 % 2 ^ 32 + d) % 2 ^ 32 = a * 68 + d := fun a d h1 h2 => by
    rw [Nat.mod_eq_of_lt (show a * 68 < 2 ^ 32 by omega), Nat.mod_eq_of_lt (show a * 68 + d < 2 ^ 32 by omega)]
  constructor
  · intro h
    have h := congrArg BitVec.toNat h
    rw [BitVec.toNat_add, BitVec.toNat_add, BitVec.toNat_mul, BitVec.toNat_mul] at h
    simp only [show (68#32 : BitVec 32).toNat = 68 from rfl] at h
    rw [small _ _ a1 a3, small _ _ a2 a4] at h
    exact ⟨BitVec.eq_of_toNat_eq (by omega), BitVec.eq_of_toNat_eq (by omega)⟩
  · rintro ⟨rfl, rfl⟩; rfl

end Cert.Read

end
-- ==== Proof.Reg4.lean ====
/- The memory read of the last features: its custom call's output rows as weighed sums of its input rows. -/
module

public import proofs.«01_k».proof.Proof.Weigh
public import proofs.«01_k».proof.Proof.Gen.KernelIdeal.Frame.Region4

@[expose] public section

set_option maxRecDepth 16384

noncomputable section

namespace Cert.Reg4

open Idealize.ShloMosaic Idealize.ShloMosaic.TcCoe Idealize.ShloMosaic.ValueIdx Idealize.ShloMosaic.Tactic
open Cert.KernelIdeal Cert.KernelIdeal.Gen Cert.Arr Cert.Weigh
open Idealize.ShloMosaic.Pipeline (Dat Cfg Window)

theorem hdot : dot_S128x128_S128x2048_S128x2048_1_0_0_1_n_n = DotDims.plain 128 128 2048 := rfl

/-- The call's weights. -/
theorem weights_apply (x0 : Vec Ideal S1x128 .i32) (x1 : Vec Ideal S128x3 .i32) (x2 : Vec Ideal S128x4096 .bf16) (t b : Fin 128) :
    k4_pay1 (F := Ideal) (k4_pay6 x0 x1 x2) (k4_pay7 x0 x1 x2) (ix2 t b) = weight x0 x1 t b := by
  unfold k4_pay1 k4_pay6 k4_pay7 k4_pay4 k4_pay5
  dsimp only
  refine congrArg₂ (fun u v : EReal => u * v) (congrArg₂ (fun u v : EReal => u + v) (congrArg₂ (fun u v : EReal => u + v) ?_ ?_) ?_)
    (IdealRules.named_const.ideal_named_scalar _ _ _ _ rfl)
  · refine (term_apply _ _ _ _ _ _ _ _ _ _ t b).trans ?_
    simp only [shapeCast_self, col_load (Elt Ideal) x1 0 (by decide), row_load (Elt Ideal) x0]
    rfl
  · refine (term_apply _ _ _ _ _ _ _ _ _ _ t b).trans ?_
    simp only [shapeCast_self, col_load (Elt Ideal) x1 1 (by decide), row_load (Elt Ideal) x0]
    rfl
  · refine (term_apply _ _ _ _ _ _ _ _ _ _ t b).trans ?_
    simp only [shapeCast_self, col_load (Elt Ideal) x1 2 (by decide), row_load (Elt Ideal) x0]
    rfl

/-- What the body leaves in its output's block, index by index. -/
theorem out_eq (x0 : Vec Ideal S1x128 .i32) (x1 : Vec Ideal S128x3 .i32) (x2 : Vec Ideal S128x4096 .bf16) (y : S128x4096.Idx) :
    out4_3 x0 x1 x2 y = readRow x0 x1 x2 (y 0).val (y 1).val := by
  unfold out4_3
  refine View.canon_apply_of_pieces (Val := Elt Ideal) (fun y : S128x4096.Idx => readRow x0 x1 x2 (y 0).val (y 1).val) _ ?_ y (cover4_3 _ _ y)
  intro p hp
  simp only [List.mem_cons, List.mem_nil_iff, or_false] at hp
  rcases hp with rfl | rfl
  · refine forall_ix2 fun t q => ?_
    show _ = readRow x0 x1 x2 (0 + 1 * t.val) (2048 + 1 * q.val)
    simp only [k4_pay2, k4_pay3, shapeCast_self, hdot, chunk_val, weights_apply, readRow, Nat.zero_add, Nat.one_mul, Fin.is_lt, dite_true, Fin.eta]
  · refine forall_ix2 fun t q => ?_
    show _ = readRow x0 x1 x2 (0 + 1 * t.val) (0 + 1 * q.val)
    simp only [k4_pay2, k4_pay3, shapeCast_self, hdot, chunk_val, weights_apply, readRow, Nat.zero_add, Nat.one_mul, Fin.is_lt, dite_true, Fin.eta]

variable (V : (c : Dev nD) → (b : Ref sig .tc) → Buf (Elt Ideal) ((c : Thread nD τ).loc b))

theorem idx0 : ∀ t : Fin cfg4.N, win4_0.index t (0 : Fin 2) = 0 ∧ win4_0.index t (1 : Fin 2) = 0 :=
  (by decide +kernel : ∀ t : Fin grid4.N, _)
theorem idx1 : ∀ t : Fin cfg4.N, win4_1.index t (0 : Fin 2) = 0 ∧ win4_1.index t (1 : Fin 2) = 0 :=
  (by decide +kernel : ∀ t : Fin grid4.N, _)
theorem idx2 : ∀ t : Fin cfg4.N, win4_2.index t (0 : Fin 2) = 0 ∧ win4_2.index t (1 : Fin 2) = t.val :=
  (by decide +kernel : ∀ t : Fin grid4.N, _)
theorem idx3 : ∀ t : Fin cfg4.N, win4_3.index t (0 : Fin 2) = 0 ∧ win4_3.index t (1 : Fin 2) = t.val :=
  (by decide +kernel : ∀ t : Fin grid4.N, _)
theorem hN : cfg4.N = 1 := N_4

theorem iblk0_eq (c : Dev nD) (t : Fin cfg4.N) : (iblk4 V c 0 t : S1x128.Idx → BitVec 32) = V c main_v106 := by
  obtain ⟨e0, e1⟩ := idx0 t
  funext j
  refine congrArg (V c main_v106) (funext fun a => Fin.ext ?_)
  match a with
  | ⟨0, _⟩ => show win4_0.index t (0 : Fin 2) * 1 + 1 * (j 0).val = (j 0).val; omega
  | ⟨1, _⟩ => show win4_0.index t (1 : Fin 2) * 128 + 1 * (j 1).val = (j 1).val; omega

theorem iblk1_eq (c : Dev nD) (t : Fin cfg4.N) : (iblk4 V c 1 t : S128x3.Idx → BitVec 32) = V c main_v111 := by
  obtain ⟨e0, e1⟩ := idx1 t
  funext j
  refine congrArg (V c main_v111) (funext fun a => Fin.ext ?_)
  match a with
  | ⟨0, _⟩ => show win4_1.index t (0 : Fin 2) * 128 + 1 * (j 0).val = (j 0).val; omega
  | ⟨1, _⟩ => show win4_1.index t (1 : Fin 2) * 3 + 1 * (j 1).val = (j 1).val; omega

/-- The input's block at a point: its columns from the point's first. -/
theorem at_iblk2 (c : Dev nD) (t : Fin cfg4.N) (b q : ℕ) (hq : q < 4096) :
    at2 (n0 := 128) (n1 := 4096) (iblk4 V c 2 t) b q = at2 (n0 := 128) (n1 := 4096) (V c main_v112) b (t.val * 4096 + q) := by
  have ht : t.val < 1 := lt_of_lt_of_eq t.isLt hN
  by_cases hb : b < 128
  · rw [at2_eq _ ⟨hb, hq⟩, at2_eq _ ⟨hb, by omega⟩]
    obtain ⟨e0, e1⟩ := idx2 t
    refine congrArg (V c main_v112) (funext fun a => Fin.ext ?_)
    match a with
    | ⟨0, _⟩ => show win4_2.index t (0 : Fin 2) * 128 + 1 * b = b; omega
    | ⟨1, _⟩ => show win4_2.index t (1 : Fin 2) * 4096 + 1 * q = t.val * 4096 + q; omega
  · rw [at2_out _ (fun h => hb h.1), at2_out _ (fun h => hb h.1)]

/-- The array the call leaves. -/
def G (rk : S1x128.Idx → BitVec 32) (tk : S128x3.Idx → BitVec 32) (X : (⟨2, ![128, 4096]⟩ : Shape).Idx → EReal) (y : (⟨2, ![128, 4096]⟩ : Shape).Idx) : EReal :=
  readRow rk tk X (y 0).val (y 1).val

theorem emb_eq (t : Fin cfg4.N) (a : Fin 128) (q : Fin 4096) (h : t.val * 4096 + q.val < 4096) :
    ((cfg4.win 3).blk t).view.emb (ix2 a q) = (ix2 a ⟨t.val * 4096 + q.val, h⟩ : (⟨2, ![128, 4096]⟩ : Shape).Idx) := by
  obtain ⟨e0, e1⟩ := idx3 t
  refine funext fun x => Fin.ext ?_
  match x with
  | ⟨0, _⟩ => show win4_3.index t (0 : Fin 2) * 128 + 1 * a.val = a.val; omega
  | ⟨1, _⟩ => show win4_3.index t (1 : Fin 2) * 4096 + 1 * q.val = t.val * 4096 + q.val; omega

theorem flushed_eq (c : Dev nD) (t : Fin cfg4.N) :
    (dat4 V c).flushed 3 t = ((cfg4.win 3).blk t).view.read (Elt Ideal) (G (V c main_v106) (V c main_v111) (V c main_v112)) := by
  show (cfg4.win 3).cut (grid4.coords t) ((dat4 V c).after 3 t) = _
  rw [after4_3]
  have ht : t.val < 1 := lt_of_lt_of_eq t.isLt hN
  refine funext (forall_ix2 (n0 := 128) (n1 := 4096) fun a q => ?_)
  refine (out_eq _ _ _ _).trans ?_
  show _ = G (V c main_v106) (V c main_v111) (V c main_v112) (((cfg4.win 3).blk t).view.emb (ix2 a q))
  rw [emb_eq t a q (by have := q.isLt; omega)]
  show readRow _ _ _ a.val q.val = readRow _ _ _ a.val (t.val * 4096 + q.val)
  unfold readRow
  simp only [at_iblk2 V c t _ _ q.isLt]
  have e0 := iblk0_eq V c t
  have e1 := iblk1_eq V c t
  refine dite_congr rfl (fun h => Finset.sum_congr rfl fun b _ => congrArg (fun v => v * _) ?_) (fun _ => rfl)
  exact congrArg₂ (fun f g => weight f g ⟨a.val, h⟩ b) e0 e1

theorem cover (i : (⟨2, ![128, 4096]⟩ : Shape).Idx) : ∃ t : Fin cfg4.N, (cfg4.win 3).flush t = true ∧ i ∈ ((cfg4.win 3).blk t).view.set := by
  revert i
  refine forall_ix2 fun a q => ?_
  have ht : q.val / 4096 < cfg4.N := by rw [hN]; have := q.isLt; omega
  have h := ((cfg4.win 3).blk ⟨q.val / 4096, ht⟩).view.emb_mem_set (ix2 a ⟨q.val % 4096, by omega⟩ : S128x4096.Idx)
  rw [emb_eq ⟨q.val / 4096, ht⟩ a ⟨q.val % 4096, by omega⟩ (by have := q.isLt; show q.val / 4096 * 4096 + q.val % 4096 < 4096; omega)] at h
  have e : (⟨q.val / 4096 * 4096 + q.val % 4096, by have := q.isLt; omega⟩ : Fin 4096) = q := Fin.ext (by show q.val / 4096 * 4096 + q.val % 4096 = q.val; omega)
  exact ⟨⟨q.val / 4096, ht⟩, flush4_3 _, Eq.mp (congrArg (fun u : Fin 4096 => ix2 a u ∈ ((cfg4.win 3).blk ⟨q.val / 4096, ht⟩).view.set) e) h⟩

/-- The call's result array. -/
theorem arr_eq (c : Dev nD) : (dat4 V c).arrAt 3 cfg4.N = G (V c main_v106) (V c main_v111) (V c main_v112) :=
  (dat4 V c).arrAt_eq_of_cover 3 _ (fun t _ => flushed_eq V c t) cover

/-- The call's result array, read at natural-number coordinates. -/
theorem arr_at (c : Dev nD) (t q : ℕ) (h : t < 128 ∧ q < 4096) :
    at2 (n0 := 128) (n1 := 4096) ((dat4 V c).arrAt 3 cfg4.N) t q
      = readRow (n := 4096) (V c main_v106) (V c main_v111) (V c main_v112) t q := by
  rw [arr_eq, at2_eq _ h]
  rfl

end Cert.Reg4

end
-- ==== Proof.Reg5.lean ====
/- The memory read of the skip features: its custom call's output rows as weighed sums of its input rows. -/
module

public import proofs.«01_k».proof.Proof.Weigh
public import proofs.«01_k».proof.Proof.Gen.KernelIdeal.Frame.Region5

@[expose] public section

set_option maxRecDepth 16384

noncomputable section

namespace Cert.Reg5

open Idealize.ShloMosaic Idealize.ShloMosaic.TcCoe Idealize.ShloMosaic.ValueIdx Idealize.ShloMosaic.Tactic
open Cert.KernelIdeal Cert.KernelIdeal.Gen Cert.Arr Cert.Weigh
open Idealize.ShloMosaic.Pipeline (Dat Cfg Window)

theorem hdot : dot_S128x128_S128x2048_S128x2048_1_0_0_1_n_n = DotDims.plain 128 128 2048 := rfl

/-- The call's weights. -/
theorem weights_apply (x0 : Vec Ideal S1x128 .i32) (x1 : Vec Ideal S128x3 .i32) (x2 : Vec Ideal S128x8192 .bf16) (t b : Fin 128) :
    k5_pay1 (F := Ideal) (k5_pay8 x0 x1 x2) (k5_pay9 x0 x1 x2) (ix2 t b) = weight x0 x1 t b := by
  unfold k5_pay1 k5_pay8 k5_pay9 k5_pay6 k5_pay7
  dsimp only
  refine congrArg₂ (fun u v : EReal => u * v) (congrArg₂ (fun u v : EReal => u + v) (congrArg₂ (fun u v : EReal => u + v) ?_ ?_) ?_)
    (IdealRules.named_const.ideal_named_scalar _ _ _ _ rfl)
  · refine (term_apply _ _ _ _ _ _ _ _ _ _ t b).trans ?_
    simp only [shapeCast_self, col_load (Elt Ideal) x1 0 (by decide), row_load (Elt Ideal) x0]
    rfl
  · refine (term_apply _ _ _ _ _ _ _ _ _ _ t b).trans ?_
    simp only [shapeCast_self, col_load (Elt Ideal) x1 1 (by decide), row_load (Elt Ideal) x0]
    rfl
  · refine (term_apply _ _ _ _ _ _ _ _ _ _ t b).trans ?_
    simp only [shapeCast_self, col_load (Elt Ideal) x1 2 (by decide), row_load (Elt Ideal) x0]
    rfl

/-- What the body leaves in its output's block, index by index. -/
theorem out_eq (x0 : Vec Ideal S1x128 .i32) (x1 : Vec Ideal S128x3 .i32) (x2 : Vec Ideal S128x8192 .bf16) (y : S128x8192.Idx) :
    out5_3 x0 x1 x2 y = readRow x0 x1 x2 (y 0).val (y 1).val := by
  unfold out5_3
  refine View.canon_apply_of_pieces (Val := Elt Ideal) (fun y : S128x8192.Idx => readRow x0 x1 x2 (y 0).val (y 1).val) _ ?_ y (cover5_3 _ _ _ _ y)
  intro p hp
  simp only [List.mem_cons, List.mem_nil_iff, or_false] at hp
  rcases hp with rfl | rfl | rfl | rfl
  · refine forall_ix2 fun t q => ?_
    show _ = readRow x0 x1 x2 (0 + 1 * t.val) (6144 + 1 * q.val)
    simp only [k5_pay2, k5_pay3, k5_pay4, k5_pay5, shapeCast_self, hdot, chunk_val, weights_apply, readRow, Nat.zero_add, Nat.one_mul, Fin.is_lt, dite_true, Fin.eta]
  · refine forall_ix2 fun t q => ?_
    show _ = readRow x0 x1 x2 (0 + 1 * t.val) (4096 + 1 * q.val)
    simp only [k5_pay2, k5_pay3, k5_pay4, k5_pay5, shapeCast_self, hdot, chunk_val, weights_apply, readRow, Nat.zero_add, Nat.one_mul, Fin.is_lt, dite_true, Fin.eta]
  · refine forall_ix2 fun t q => ?_
    show _ = readRow x0 x1 x2 (0 + 1 * t.val) (2048 + 1 * q.val)
    simp only [k5_pay2, k5_pay3, k5_pay4, k5_pay5, shapeCast_self, hdot, chunk_val, weights_apply, readRow, Nat.zero_add, Nat.one_mul, Fin.is_lt, dite_true, Fin.eta]
  · refine forall_ix2 fun t q => ?_
    show _ = readRow x0 x1 x2 (0 + 1 * t.val) (0 + 1 * q.val)
    simp only [k5_pay2, k5_pay3, k5_pay4, k5_pay5, shapeCast_self, hdot, chunk_val, weights_apply, readRow, Nat.zero_add, Nat.one_mul, Fin.is_lt, dite_true, Fin.eta]

variable (V : (c : Dev nD) → (b : Ref sig .tc) → Buf (Elt Ideal) ((c : Thread nD τ).loc b))

theorem idx0 : ∀ t : Fin cfg5.N, win5_0.index t (0 : Fin 2) = 0 ∧ win5_0.index t (1 : Fin 2) = 0 :=
  (by decide +kernel : ∀ t : Fin grid5.N, _)
theorem idx1 : ∀ t : Fin cfg5.N, win5_1.index t (0 : Fin 2) = 0 ∧ win5_1.index t (1 : Fin 2) = 0 :=
  (by decide +kernel : ∀ t : Fin grid5.N, _)
theorem idx2 : ∀ t : Fin cfg5.N, win5_2.index t (0 : Fin 2) = 0 ∧ win5_2.index t (1 : Fin 2) = t.val :=
  (by decide +kernel : ∀ t : Fin grid5.N, _)
theorem idx3 : ∀ t : Fin cfg5.N, win5_3.index t (0 : Fin 2) = 0 ∧ win5_3.index t (1 : Fin 2) = t.val :=
  (by decide +kernel : ∀ t : Fin grid5.N, _)
theorem hN : cfg5.N = 4 := N_5

theorem iblk0_eq (c : Dev nD) (t : Fin cfg5.N) : (iblk5 V c 0 t : S1x128.Idx → BitVec 32) = V c main_v106 := by
  obtain ⟨e0, e1⟩ := idx0 t
  funext j
  refine congrArg (V c main_v106) (funext fun a => Fin.ext ?_)
  match a with
  | ⟨0, _⟩ => show win5_0.index t (0 : Fin 2) * 1 + 1 * (j 0).val = (j 0).val; omega
  | ⟨1, _⟩ => show win5_0.index t (1 : Fin 2) * 128 + 1 * (j 1).val = (j 1).val; omega

theorem iblk1_eq (c : Dev nD) (t : Fin cfg5.N) : (iblk5 V c 1 t : S128x3.Idx → BitVec 32) = V c main_v111 := by
  obtain ⟨e0, e1⟩ := idx1 t
  funext j
  refine congrArg (V c main_v111) (funext fun a => Fin.ext ?_)
  match a with
  | ⟨0, _⟩ => show win5_1.index t (0 : Fin 2) * 128 + 1 * (j 0).val = (j 0).val; omega
  | ⟨1, _⟩ => show win5_1.index t (1 : Fin 2) * 3 + 1 * (j 1).val = (j 1).val; omega

/-- The input's block at a point: its columns from the point's first. -/
theorem at_iblk2 (c : Dev nD) (t : Fin cfg5.N) (b q : ℕ) (hq : q < 8192) :
    at2 (n0 := 128) (n1 := 8192) (iblk5 V c 2 t) b q = at2 (n0 := 128) (n1 := 32768) (V c main_v114) b (t.val * 8192 + q) := by
  have ht : t.val < 4 := lt_of_lt_of_eq t.isLt hN
  by_cases hb : b < 128
  · rw [at2_eq _ ⟨hb, hq⟩, at2_eq _ ⟨hb, by omega⟩]
    obtain ⟨e0, e1⟩ := idx2 t
    refine congrArg (V c main_v114) (funext fun a => Fin.ext ?_)
    match a with
    | ⟨0, _⟩ => show win5_2.index t (0 : Fin 2) * 128 + 1 * b = b; omega
    | ⟨1, _⟩ => show win5_2.index t (1 : Fin 2) * 8192 + 1 * q = t.val * 8192 + q; omega
  · rw [at2_out _ (fun h => hb h.1), at2_out _ (fun h => hb h.1)]

/-- The array the call leaves. -/
def G (rk : S1x128.Idx → BitVec 32) (tk : S128x3.Idx → BitVec 32) (X : (⟨2, ![128, 32768]⟩ : Shape).Idx → EReal) (y : (⟨2, ![128, 32768]⟩ : Shape).Idx) : EReal :=
  readRow rk tk X (y 0).val (y 1).val

theorem emb_eq (t : Fin cfg5.N) (a : Fin 128) (q : Fin 8192) (h : t.val * 8192 + q.val < 32768) :
    ((cfg5.win 3).blk t).view.emb (ix2 a q) = (ix2 a ⟨t.val * 8192 + q.val, h⟩ : (⟨2, ![128, 32768]⟩ : Shape).Idx) := by
  obtain ⟨e0, e1⟩ := idx3 t
  refine funext fun x => Fin.ext ?_
  match x with
  | ⟨0, _⟩ => show win5_3.index t (0 : Fin 2) * 128 + 1 * a.val = a.val; omega
  | ⟨1, _⟩ => show win5_3.index t (1 : Fin 2) * 8192 + 1 * q.val = t.val * 8192 + q.val; omega

theorem flushed_eq (c : Dev nD) (t : Fin cfg5.N) :
    (dat5 V c).flushed 3 t = ((cfg5.win 3).blk t).view.read (Elt Ideal) (G (V c main_v106) (V c main_v111) (V c main_v114)) := by
  show (cfg5.win 3).cut (grid5.coords t) ((dat5 V c).after 3 t) = _
  rw [after5_3]
  have ht : t.val < 4 := lt_of_lt_of_eq t.isLt hN
  refine funext (forall_ix2 (n0 := 128) (n1 := 8192) fun a q => ?_)
  refine (out_eq _ _ _ _).trans ?_
  show _ = G (V c main_v106) (V c main_v111) (V c main_v114) (((cfg5.win 3).blk t).view.emb (ix2 a q))
  rw [emb_eq t a q (by have := q.isLt; omega)]
  show readRow _ _ _ a.val q.val = readRow _ _ _ a.val (t.val * 8192 + q.val)
  unfold readRow
  simp only [at_iblk2 V c t _ _ q.isLt]
  have e0 := iblk0_eq V c t
  have e1 := iblk1_eq V c t
  refine dite_congr rfl (fun h => Finset.sum_congr rfl fun b _ => congrArg (fun v => v * _) ?_) (fun _ => rfl)
  exact congrArg₂ (fun f g => weight f g ⟨a.val, h⟩ b) e0 e1

theorem cover (i : (⟨2, ![128, 32768]⟩ : Shape).Idx) : ∃ t : Fin cfg5.N, (cfg5.win 3).flush t = true ∧ i ∈ ((cfg5.win 3).blk t).view.set := by
  revert i
  refine forall_ix2 fun a q => ?_
  have ht : q.val / 8192 < cfg5.N := by rw [hN]; have := q.isLt; omega
  have h := ((cfg5.win 3).blk ⟨q.val / 8192, ht⟩).view.emb_mem_set (ix2 a ⟨q.val % 8192, by omega⟩ : S128x8192.Idx)
  rw [emb_eq ⟨q.val / 8192, ht⟩ a ⟨q.val % 8192, by omega⟩ (by have := q.isLt; show q.val / 8192 * 8192 + q.val % 8192 < 32768; omega)] at h
  have e : (⟨q.val / 8192 * 8192 + q.val % 8192, by have := q.isLt; omega⟩ : Fin 32768) = q := Fin.ext (by show q.val / 8192 * 8192 + q.val % 8192 = q.val; omega)
  exact ⟨⟨q.val / 8192, ht⟩, flush5_3 _, Eq.mp (congrArg (fun u : Fin 32768 => ix2 a u ∈ ((cfg5.win 3).blk ⟨q.val / 8192, ht⟩).view.set) e) h⟩

/-- The call's result array. -/
theorem arr_eq (c : Dev nD) : (dat5 V c).arrAt 3 cfg5.N = G (V c main_v106) (V c main_v111) (V c main_v114) :=
  (dat5 V c).arrAt_eq_of_cover 3 _ (fun t _ => flushed_eq V c t) cover

/-- The call's result array, read at natural-number coordinates. -/
theorem arr_at (c : Dev nD) (t q : ℕ) (h : t < 128 ∧ q < 32768) :
    at2 (n0 := 128) (n1 := 32768) ((dat5 V c).arrAt 3 cfg5.N) t q
      = readRow (n := 32768) (V c main_v106) (V c main_v111) (V c main_v114) t q := by
  rw [arr_eq, at2_eq _ h]
  rfl

end Cert.Reg5

end
-- ==== Proof.Conv.lean ====
/- The 3×3 convolution both programs compute, as nine shifted products summed over the input channels, and the passage
   from the products on flattened rows to it. -/
module

public import proofs.«01_k».proof.Proof.Tap

@[expose] public section

noncomputable section

namespace Cert.Arr

open Idealize.ShloMosaic Idealize.ShloMosaic.ValueIdx
open scoped BigOperators

/-- A weight array, read at a tap, an input channel and an output channel. -/
def wk {O I : ℕ} (w : (⟨4, ![O, I, 3, 3]⟩ : Shape).Idx → EReal) (k c o : ℕ) : EReal := at4 w o c (k / 3) (k % 3)

/-- One shifted product of an image with a tap's weights, summed over the input channels. -/
def tap (K : ℕ) (A : ℕ → ℕ → ℕ → EReal) (w : ℕ → ℕ → ℕ → EReal) (y x o dy dx : ℕ) : EReal :=
  ∑ c : Fin K, A (y + dy) (x + dx) c.val * w (3 * dy + dx) c.val o

/-- The convolution at the window that starts at row `y` and column `x`, output channel `o`. -/
def conv9 (K : ℕ) (A : ℕ → ℕ → ℕ → EReal) (w : ℕ → ℕ → ℕ → EReal) (y x o : ℕ) : EReal :=
  tap K A w y x o 0 0 + tap K A w y x o 0 1 + tap K A w y x o 0 2 + tap K A w y x o 1 0 + tap K A w y x o 1 1
    + tap K A w y x o 1 2 + tap K A w y x o 2 0 + tap K A w y x o 2 1 + tap K A w y x o 2 2

/-- An image with a zero border of one pixel in front. -/
def shifted (A : ℕ → ℕ → ℕ → EReal) (y x c : ℕ) : EReal := if 1 ≤ y ∧ 1 ≤ x then A (y - 1) (x - 1) c else 0

theorem shifted_congr {A B : ℕ → ℕ → ℕ → EReal} (h : ∀ y x c, A y x c = B y x c) (y x c : ℕ) : shifted A y x c = shifted B y x c := by
  unfold shifted; rw [h]

theorem tap_congr {K : ℕ} {A B : ℕ → ℕ → ℕ → EReal} {w : ℕ → ℕ → ℕ → EReal} (h : ∀ y x c, A y x c = B y x c)
    (y x o dy dx : ℕ) : tap K A w y x o dy dx = tap K B w y x o dy dx := by
  unfold tap; exact Finset.sum_congr rfl fun c _ => by rw [h]

theorem conv9_congr {K : ℕ} {A B : ℕ → ℕ → ℕ → EReal} {w : ℕ → ℕ → ℕ → EReal} (h : ∀ y x c, A y x c = B y x c)
    (y x o : ℕ) : conv9 K A w y x o = conv9 K B w y x o := by
  unfold conv9; simp only [tap_congr h]

/-- A product on flattened rows is a shifted product, when row and tap hold the image's and the weights' entries. -/
theorem tapSum_tap {K x0 x1 x2 w0 w1 w2 : ℕ} {X : (⟨3, ![x0, x1, x2]⟩ : Shape).Idx → EReal}
    {W : (⟨3, ![w0, w1, w2]⟩ : Shape).Idx → EReal} {i q co t : ℕ} {A w : ℕ → ℕ → ℕ → EReal} {y x dy dx : ℕ}
    (hX : ∀ c, c < K → at3 X i q c = A (y + dy) (x + dx) c) (hW : ∀ c, c < K → at3 W t c co = w (3 * dy + dx) c co) :
    tapSum K X W i q co t = tap K A w y x co dy dx := by
  unfold tapSum tap
  exact Finset.sum_congr rfl fun c _ => by rw [hX _ c.isLt, hW _ c.isLt]

/-- A product on rows that hold two pixels side by side is the sum of the two pixels' products. -/
theorem tapSum_pair {K K2 x0 x1 x2 w0 w1 w2 : ℕ} {X : (⟨3, ![x0, x1, x2]⟩ : Shape).Idx → EReal}
    {W : (⟨3, ![w0, w1, w2]⟩ : Shape).Idx → EReal} {i q co t : ℕ} {A w : ℕ → ℕ → ℕ → EReal} {y x dy dx dx' : ℕ}
    (hK : K2 = K + K)
    (hX : ∀ c, c < K → at3 X i q c = A (y + dy) (x + dx) c) (hX' : ∀ c, c < K → at3 X i q (K + c) = A (y + dy) (x + dx') c)
    (hW : ∀ c, c < K → at3 W t c co = w (3 * dy + dx) c co) (hW' : ∀ c, c < K → at3 W t (K + c) co = w (3 * dy + dx') c co) :
    tapSum K2 X W i q co t = tap K A w y x co dy dx + tap K A w y x co dy dx' := by
  subst hK
  unfold tapSum tap
  rw [Fin.sum_univ_add]
  refine congrArg₂ (· + ·) (Finset.sum_congr rfl fun c _ => ?_) (Finset.sum_congr rfl fun c _ => ?_)
  · show at3 X i q c.val * at3 W t c.val co = _
    rw [hX _ c.isLt, hW _ c.isLt]
  · show at3 X i q (K + c.val) * at3 W t (K + c.val) co = _
    rw [hX' _ c.isLt, hW' _ c.isLt]

/-- The border value of the padded arrays. -/
def border {φ : FTy} : (⟨0, ![]⟩ : Shape).Idx → EReal := (sitofp (F := Ideal) φ (constantI ⟨0, ![]⟩ 32 0#32) : FVec Ideal ⟨0, ![]⟩ φ)

theorem border_zero {φ : FTy} (i : (⟨0, ![]⟩ : Shape).Idx) : border (φ := φ) i = 0 := by
  show (((0#32 : BitVec 32).toInt : ℝ) : EReal) = 0
  simp

/-- A padding with zeros in front of no axis reads the array. -/
theorem at4_padhi {n0 n1 n2 n3 m0 m1 m2 m3 u0 u1 u2 u3 : ℕ} {φ : FTy} (v : (⟨4, ![n0, n1, n2, n3]⟩ : Shape).Idx → EReal)
    (h : (⟨4, ![n0, n1, n2, n3]⟩ : Shape).Pads ![0, 0, 0, 0] ![u0, u1, u2, u3] ![0, 0, 0, 0] ⟨4, ![m0, m1, m2, m3]⟩) (hu : 0 < (⟨0, ![]⟩ : Shape).numel) (a0 a1 a2 a3 : ℕ) :
    at4 (pad ⟨4, ![m0, m1, m2, m3]⟩ ![0, 0, 0, 0] ![u0, u1, u2, u3] ![0, 0, 0, 0] v (border (φ := φ)) h hu) a0 a1 a2 a3 = at4 v a0 a1 a2 a3 := by
  rw [at4_pad v border h hu border_zero, if_pos ⟨Nat.zero_le _, Nat.zero_le _, Nat.zero_le _, Nat.zero_le _⟩]; rfl

theorem at3_padhi {n0 n1 n2 m0 m1 m2 u0 u1 u2 : ℕ} {φ : FTy} (v : (⟨3, ![n0, n1, n2]⟩ : Shape).Idx → EReal)
    (h : (⟨3, ![n0, n1, n2]⟩ : Shape).Pads ![0, 0, 0] ![u0, u1, u2] ![0, 0, 0] ⟨3, ![m0, m1, m2]⟩) (hu : 0 < (⟨0, ![]⟩ : Shape).numel) (a0 a1 a2 : ℕ) :
    at3 (pad ⟨3, ![m0, m1, m2]⟩ ![0, 0, 0] ![u0, u1, u2] ![0, 0, 0] v (border (φ := φ)) h hu) a0 a1 a2 = at3 v a0 a1 a2 := by
  rw [at3_pad v border h hu border_zero, if_pos ⟨Nat.zero_le _, Nat.zero_le _, Nat.zero_le _⟩]; rfl

/-- A padding by one pixel on every side of the image reads the bordered image. -/
theorem at4_padone {n0 n1 n2 n3 m0 m1 m2 m3 u0 u1 u2 u3 : ℕ} {φ : FTy} (v : (⟨4, ![n0, n1, n2, n3]⟩ : Shape).Idx → EReal)
    (h : (⟨4, ![n0, n1, n2, n3]⟩ : Shape).Pads ![0, 1, 1, 0] ![u0, u1, u2, u3] ![0, 0, 0, 0] ⟨4, ![m0, m1, m2, m3]⟩) (hu : 0 < (⟨0, ![]⟩ : Shape).numel) (b y x c : ℕ) :
    at4 (pad ⟨4, ![m0, m1, m2, m3]⟩ ![0, 1, 1, 0] ![u0, u1, u2, u3] ![0, 0, 0, 0] v (border (φ := φ)) h hu) b y x c = shifted (at4 v b) y x c := by
  rw [at4_pad v border h hu border_zero]
  unfold shifted
  refine ite_congr (propext ?_) (fun _ => rfl) (fun _ => rfl)
  simp

/-- The same, channels before the image's axes. -/
theorem at4_padone' {n0 n1 n2 n3 m0 m1 m2 m3 u0 u1 u2 u3 : ℕ} {φ : FTy} (v : (⟨4, ![n0, n1, n2, n3]⟩ : Shape).Idx → EReal)
    (h : (⟨4, ![n0, n1, n2, n3]⟩ : Shape).Pads ![0, 0, 1, 1] ![u0, u1, u2, u3] ![0, 0, 0, 0] ⟨4, ![m0, m1, m2, m3]⟩) (hu : 0 < (⟨0, ![]⟩ : Shape).numel) (b c y x : ℕ) :
    at4 (pad ⟨4, ![m0, m1, m2, m3]⟩ ![0, 0, 1, 1] ![u0, u1, u2, u3] ![0, 0, 0, 0] v (border (φ := φ)) h hu) b c y x
      = shifted (fun y x c => at4 v b c y x) y x c := by
  rw [at4_pad v border h hu border_zero]
  unfold shifted
  refine ite_congr (propext ?_) (fun _ => rfl) (fun _ => rfl)
  simp

/-- The weights rearranged to tap, input channel, output channel. -/
theorem at3_taps {O I : ℕ} (w : (⟨4, ![O, I, 3, 3]⟩ : Shape).Idx → EReal)
    (h : (⟨4, ![O, I, 3, 3]⟩ : Shape).Transposes [2, 3, 1, 0] ⟨4, ![3, 3, I, O]⟩) (h' : (⟨4, ![3, 3, I, O]⟩ : Shape).ShapeCasts ⟨3, ![9, I, O]⟩)
    {k c o : ℕ} (ht : k < 9 ∧ c < I ∧ o < O) :
    at3 (shapeCast ⟨3, ![9, I, O]⟩ (transpose ⟨4, ![3, 3, I, O]⟩ [2, 3, 1, 0] w h) h') k c o = wk w k c o := by
  have hk : k / 3 * 3 + k % 3 = k := by omega
  rw [at_cast43 _ h' (k / 3) (k % 3) c o ht ⟨by omega, by omega, ht.2.1, ht.2.2⟩ (by rw [hk]), at4_transpose2310]
  rfl

/-- Entries of an array that agree inside agree everywhere. -/
theorem at4_swap_ext {n0 n1 n2 n3 : ℕ} {v : (⟨4, ![n0, n2, n3, n1]⟩ : Shape).Idx → EReal} {w : (⟨4, ![n0, n1, n2, n3]⟩ : Shape).Idx → EReal}
    (h : ∀ b y x c, b < n0 ∧ y < n2 ∧ x < n3 ∧ c < n1 → at4 v b y x c = at4 w b c y x) (b y x c : ℕ) : at4 v b y x c = at4 w b c y x := by
  by_cases hr : b < n0 ∧ y < n2 ∧ x < n3 ∧ c < n1
  · exact h b y x c hr
  · rw [at4_out v hr, at4_out w (by omega)]

end Cert.Arr

end
-- ==== Proof.Reg1.lean ====
/- The second encoder layer's custom call: every row of its output as a function of the rows of its inputs. -/
module

public import proofs.«01_k».proof.Proof.Tap
public import proofs.«01_k».proof.Proof.Gen.KernelIdeal.Frame.Region1

@[expose] public section

set_option maxRecDepth 16384

noncomputable section

namespace Cert.Reg1

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 4642, 128]⟩ : Shape).Idx → EReal) {m1 : ℕ} (X1 : (⟨3, ![m1, 4642, 128]⟩ : Shape).Idx → EReal) (X2 : S3x128x128.Idx → EReal) (X3 : S3x64x128.Idx → EReal) (i p co : ℕ) : EReal :=
  max (tapSum 128 X0 X2 i (p + 0) co 0 + tapSum 64 X0 X3 i (p + 1) co 0 + tapSum 128 X1 X2 i (p + 0) co 1 + tapSum 64 X1 X3 i (p + 1) co 1 + tapSum 128 X0 X2 i (p + 17) co 2 + tapSum 64 X0 X3 i (p + 18) co 2) 0

theorem hdot_528_64 : dot_S528x64_S64x128_S528x128_1_0_0_1_n_n = DotDims.plain 528 64 128 := rfl
theorem hdot_528_128 : dot_S528x128_S128x128_S528x128_1_0_0_1_n_n = DotDims.plain 528 128 128 := rfl
theorem hdot_2048_64 : dot_S2048x64_S64x128_S2048x128_1_0_0_1_n_n = DotDims.plain 2048 64 128 := rfl
theorem hdot_2048_128 : dot_S2048x128_S128x128_S2048x128_1_0_0_1_n_n = DotDims.plain 2048 128 128 := rfl

/-- What the body leaves in its output's block, index by index. -/
theorem out_eq (c : Dev nD) (i : grid1.Coords) (arg1 : Memref sig .tc .vmem S1x4642x128 .bf16) (harg1 : arg1.IsWhole) (arg2 : Memref sig .tc .vmem S1x4642x128 .bf16) (harg2 : arg2.IsWhole) (arg3 : Memref sig .tc .vmem S3x128x128 .bf16) (harg3 : arg3.IsWhole) (arg4 : Memref sig .tc .vmem S3x64x128 .bf16) (harg4 : arg4.IsWhole) (arg5 : Memref sig .tc .vmem S1x4624x128 .bf16) (harg5 : arg5.IsWhole)
    (x0 : Vec Ideal S1x4642x128 .bf16) (x1 : Vec Ideal S1x4642x128 .bf16) (x2 : Vec Ideal S3x128x128 .bf16) (x3 : Vec Ideal S3x64x128 .bf16) (y : S1x4624x128.Idx) :
    out1_A_4 c i arg1 harg1 arg2 harg2 arg3 harg3 arg4 harg4 arg5 harg5 x0 x1 x2 x3 y = row x0 x1 x2 x3 0 (y 1).val (y 2).val := by
  unfold out1_A_4
  rw [View.read_writes_junk_apply_eq_canon]
  refine View.canon_apply_of_pieces (Val := Elt Ideal) (fun y : S1x4624x128.Idx => row x0 x1 x2 x3 0 (y 1).val (y 2).val) _ ?_ y (cover1_A_4 c i arg1 harg1 arg2 harg2 arg3 harg3 arg4 harg4 arg5 harg5 x0 x1 x2 x3 y)
  unfold kernelRun1_A
  dsimp only
  sl_unfold_words
  simp only [View.readAt_eq_ld, harg1.read_unread, harg2.read_unread, harg3.read_unread, harg4.read_unread]
  intro p hp
  simp only [List.mem_cons, List.mem_nil_iff, or_false] at hp
  rcases hp with rfl | rfl | rfl
  · refine forall_ix3 fun z r c => ?_
    show _ = row x0 x1 x2 x3 0 (4096 + 1 * r.val) (0 + 1 * c.val)
    simp only [k1_pay1, k1_pay2, k1_pay3, k1_pay4, k1_pay5, k1_pay6, k1_pay7, k1_pay8, k1_pay9, row, shapeCast_ab_1ab_apply, addf_apply, truncf_apply, extf_apply, maximumf_apply, tanh_apply', bcast_zero, tap_val, hdot_528_64, hdot_528_128, hdot_2048_64, hdot_2048_128, Nat.one_mul, Nat.zero_add, Nat.add_zero, Nat.add_right_comm _ r.val, Nat.reduceAdd]
  · refine forall_ix3 fun z r c => ?_
    show _ = row x0 x1 x2 x3 0 (2048 + 1 * r.val) (0 + 1 * c.val)
    simp only [k1_pay1, k1_pay2, k1_pay3, k1_pay4, k1_pay5, k1_pay6, k1_pay7, k1_pay8, k1_pay9, row, shapeCast_ab_1ab_apply, addf_apply, truncf_apply, extf_apply, maximumf_apply, tanh_apply', bcast_zero, tap_val, hdot_528_64, hdot_528_128, hdot_2048_64, hdot_2048_128, Nat.one_mul, Nat.zero_add, Nat.add_zero, Nat.add_right_comm _ r.val, Nat.reduceAdd]
  · refine forall_ix3 fun z r c => ?_
    show _ = row x0 x1 x2 x3 0 (0 + 1 * r.val) (0 + 1 * c.val)
    simp only [k1_pay1, k1_pay2, k1_pay3, k1_pay4, k1_pay5, k1_pay6, k1_pay7, k1_pay8, k1_pay9, row, shapeCast_ab_1ab_apply, addf_apply, truncf_apply, extf_apply, maximumf_apply, tanh_apply', bcast_zero, tap_val, hdot_528_64, hdot_528_128, hdot_2048_64, hdot_2048_128, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx2 : ∀ t : Fin cfg1.N, win1_2.index t (0 : Fin 3) = 0 ∧ win1_2.index t (1 : Fin 3) = 0 ∧ win1_2.index t (2 : Fin 3) = 0 :=
  (by decide +kernel : ∀ t : Fin grid1.N, _)
theorem idx3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx4 : ∀ t : Fin cfg1.N, win1_4.index t (0 : Fin 3) = t.val ∧ win1_4.index t (1 : Fin 3) = 0 ∧ win1_4.index t (2 : Fin 3) = 0 :=
  (by decide +kernel : ∀ t : Fin grid1.N, _)
theorem hN : cfg1.N = 8 := N_1

/-- The input's block at a point, read anywhere. -/
theorem at_iblk0 (c : Dev nD) (t : Fin cfg1.N) (q k : ℕ) :
    at3 (n0 := 1) (n1 := 4642) (n2 := 128) (iblk1 V c 0 t) 0 q k = at3 (n0 := 8) (n1 := 4642) (n2 := 128) (V c main_v47) t.val q k := by
  refine at3_block _ _ (lt_of_lt_of_eq t.isLt hN) (fun q k => ?_) q k
  obtain ⟨e0, e1, e2⟩ := idx0 t
  refine congrArg (V c main_v47) (funext fun a => Fin.ext ?_)
  match a with
  | ⟨0, _⟩ => show win1_0.index t (0 : Fin 3) * 1 + 1 * 0 = t.val; omega
  | ⟨1, _⟩ => show win1_0.index t (1 : Fin 3) * 4642 + 1 * q.val = q.val; omega
  | ⟨2, _⟩ => show win1_0.index t (2 : Fin 3) * 128 + 1 * k.val = k.val; omega

/-- The input's block at a point, read anywhere. -/
theorem at_iblk1 (c : Dev nD) (t : Fin cfg1.N) (q k : ℕ) :
    at3 (n0 := 1) (n1 := 4642) (n2 := 128) (iblk1 V c 1 t) 0 q k = at3 (n0 := 8) (n1 := 4642) (n2 := 128) (V c main_v49) t.val q k := by
  refine at3_block _ _ (lt_of_lt_of_eq t.isLt hN) (fun q k => ?_) q k
  obtain ⟨e0, e1, e2⟩ := idx1 t
  refine congrArg (V c main_v49) (funext fun a => Fin.ext ?_)
  match a with
  | ⟨0, _⟩ => show win1_1.index t (0 : Fin 3) * 1 + 1 * 0 = t.val; omega
  | ⟨1, _⟩ => show win1_1.index t (1 : Fin 3) * 4642 + 1 * q.val = q.val; omega
  | ⟨2, _⟩ => show win1_1.index t (2 : Fin 3) * 128 + 1 * k.val = k.val; omega

/-- The weights' block is the weights. -/
theorem iblk2_eq (c : Dev nD) (t : Fin cfg1.N) : (iblk1 V c 2 t : S3x128x128.Idx → EReal) = V c main_v52 := by
  obtain ⟨e0, e1, e2⟩ := idx2 t
  funext j
  refine congrArg (V c main_v52) (funext fun a => Fin.ext ?_)
  match a with
  | ⟨0, _⟩ => show win1_2.index t (0 : Fin 3) * 3 + 1 * (j 0).val = (j 0).val; omega
  | ⟨1, _⟩ => show win1_2.index t (1 : Fin 3) * 128 + 1 * (j 1).val = (j 1).val; omega
  | ⟨2, _⟩ => show win1_2.index t (2 : Fin 3) * 128 + 1 * (j 2).val = (j 2).val; omega

/-- The weights' block is the weights. -/
theorem iblk3_eq (c : Dev nD) (t : Fin cfg1.N) : (iblk1 V c 3 t : S3x64x128.Idx → EReal) = V c main_v53 := by
  obtain ⟨e0, e1, e2⟩ := idx3 t
  funext j
  refine congrArg (V c main_v53) (funext fun a => Fin.ext ?_)
  match a with
  | ⟨0, _⟩ => show win1_3.index t (0 : Fin 3) * 3 + 1 * (j 0).val = (j 0).val; omega
  | ⟨1, _⟩ => show win1_3.index t (1 : Fin 3) * 64 + 1 * (j 1).val = (j 1).val; omega
  | ⟨2, _⟩ => show win1_3.index t (2 : Fin 3) * 128 + 1 * (j 2).val = (j 2).val; omega

/-- The array the call leaves. -/
def G (X0 : S8x4642x128.Idx → EReal) (X1 : S8x4642x128.Idx → EReal) (X2 : S3x128x128.Idx → EReal) (X3 : S3x64x128.Idx → EReal) (y : S8x4624x128.Idx) : EReal := row X0 X1 X2 X3 (y 0).val (y 1).val (y 2).val

/-- The output's block at a point covers that image block's rows. -/
theorem emb_eq (t : Fin cfg1.N) (z : Fin 1) (p : Fin 4624) (co : Fin 128) :
    ((cfg1.win 4).blk t).view.emb (ix3 z p co) = (ix3 ⟨t.val, lt_of_lt_of_eq t.isLt hN⟩ p co : S8x4624x128.Idx) := by
  obtain ⟨e0, e1, e2⟩ := idx4 t
  refine funext fun a => Fin.ext ?_
  match a with
  | ⟨0, _⟩ => show win1_4.index t (0 : Fin 3) * 1 + 1 * z.val = t.val; have := z.isLt; omega
  | ⟨1, _⟩ => show win1_4.index t (1 : Fin 3) * 4624 + 1 * p.val = p.val; omega
  | ⟨2, _⟩ => show win1_4.index t (2 : Fin 3) * 128 + 1 * co.val = co.val; omega

theorem flushed_eq (c : Dev nD) (t : Fin cfg1.N) :
    (dat1 V c).flushed 4 t = ((cfg1.win 4).blk t).view.read (Elt Ideal) (G (V c main_v47) (V c main_v49) (V c main_v52) (V c main_v53)) := by
  show (cfg1.win 4).cut (grid1.coords t) ((dat1 V c).after 4 t) = _
  rw [after1_4]
  unfold outsAt1
  refine funext (forall_ix3 (n0 := 1) (n1 := 4624) (n2 := 128) fun z p co => ?_)
  refine (out_eq c _ _ _ _ _ _ _ _ _ _ _ _ _ _ _ _).trans ?_
  show _ = G (V c main_v47) (V c main_v49) (V c main_v52) (V c main_v53) (((cfg1.win 4).blk t).view.emb (ix3 z p co))
  rw [emb_eq]
  show row _ _ _ _ 0 p.val co.val = row _ _ _ _ t.val p.val co.val
  unfold row
  simp only [tapSum_congr (at_iblk0 V c t) (fun t' k c' => congrArg (fun f => at3 f t' k c') (iblk2_eq V c t)), tapSum_congr (at_iblk0 V c t) (fun t' k c' => congrArg (fun f => at3 f t' k c') (iblk3_eq V c t)), tapSum_congr (at_iblk1 V c t) (fun t' k c' => congrArg (fun f => at3 f t' k c') (iblk2_eq V c t)), tapSum_congr (at_iblk1 V c t) (fun t' k c' => congrArg (fun f => at3 f t' k c') (iblk3_eq V c t))]

theorem cover (i : S8x4624x128.Idx) : ∃ t : Fin cfg1.N, (cfg1.win 4).flush t = true ∧ i ∈ ((cfg1.win 4).blk t).view.set := by
  revert i
  refine forall_ix3 fun b p co => ?_
  have ht : b.val < cfg1.N := lt_of_lt_of_eq b.isLt hN.symm
  have h := ((cfg1.win 4).blk ⟨b.val, ht⟩).view.emb_mem_set (ix3 (0 : Fin 1) p co : S1x4624x128.Idx)
  rw [emb_eq] at h
  exact ⟨⟨b.val, ht⟩, flush1_4 _, h⟩

/-- The call's result array. -/
theorem arr_eq (c : Dev nD) : (dat1 V c).arrAt 4 cfg1.N = G (V c main_v47) (V c main_v49) (V c main_v52) (V c main_v53) :=
  (dat1 V c).arrAt_eq_of_cover 4 _ (fun t _ => flushed_eq V c t) cover

/-- The call's result array, read at natural-number coordinates. -/
theorem arr_at (c : Dev nD) (i p co : ℕ) (h : i < 8 ∧ p < 4624 ∧ co < 128) :
    at3 (n0 := 8) (n1 := 4624) (n2 := 128) ((dat1 V c).arrAt 4 cfg1.N) i p co = row (show S8x4642x128.Idx → EReal from V c main_v47) (show S8x4642x128.Idx → EReal from V c main_v49) (show S3x128x128.Idx → EReal from V c main_v52) (show S3x64x128.Idx → EReal from V c main_v53) i p co := by
  rw [arr_eq, at3_eq _ h]
  rfl

end Cert.Reg1

end
-- ==== Proof.Enc1.lean ====
/- The second encoder layer: from the images its host operations are given to the images cut out of its call's result. -/
module

public import proofs.«01_k».proof.Proof.Conv
public import proofs.«01_k».proof.Proof.Reg1

@[expose] public section

set_option maxRecDepth 16384

noncomputable section

namespace Cert.Enc1

open Idealize.ShloMosaic Idealize.ShloMosaic.TcCoe Idealize.ShloMosaic.ValueIdx Idealize.ShloMosaic.Tactic
open Cert.KernelIdeal Cert.KernelIdeal.Gen Cert.Arr

variable (A : (⟨4, ![128, 32, 32, 64]⟩ : Shape).Idx → EReal) (w : (⟨4, ![128, 64, 3, 3]⟩ : Shape).Idx → EReal)

/-- The padded images, two neighbouring pixels side by side in the channels. -/
def pix : (⟨4, ![128, 34, 17, 128]⟩ : Shape).Idx → EReal :=
  shapeCast ⟨4, ![128, 34, 17, 128]⟩ (pad ⟨4, ![128, 34, 34, 64]⟩ ![0, 0, 0, 0] ![0, 2, 2, 0] ![0, 0, 0, 0] A (border (φ := .bf16)) (by decide) (by decide)) (by decide)

/-- The rows of even image lines, flattened, grouped by block of images. -/
def even : (⟨3, ![8, 4642, 128]⟩ : Shape).Idx → EReal :=
  pad ⟨3, ![8, 4642, 128]⟩ ![0, 0, 0] ![0, 18, 0] ![0, 0, 0]
    (shapeCast ⟨3, ![8, 4624, 128]⟩ (shapeCast ⟨3, ![128, 289, 128]⟩ (Host.slice ⟨4, ![128, 17, 17, 128]⟩ ![0, 0, 0, 0] ![1, 2, 1, 1] (pix A) (by decide)) (by decide)) (by decide))
    (border (φ := .bf16)) (by decide) (by decide)

/-- The rows of odd image lines, flattened, grouped by block of images. -/
def odd : (⟨3, ![8, 4642, 128]⟩ : Shape).Idx → EReal :=
  pad ⟨3, ![8, 4642, 128]⟩ ![0, 0, 0] ![0, 18, 0] ![0, 0, 0]
    (shapeCast ⟨3, ![8, 4624, 128]⟩ (shapeCast ⟨3, ![128, 289, 128]⟩ (Host.slice ⟨4, ![128, 17, 17, 128]⟩ ![0, 1, 0, 0] ![1, 2, 1, 1] (pix A) (by decide)) (by decide)) (by decide))
    (border (φ := .bf16)) (by decide) (by decide)

/-- The weights by tap. -/
def taps : (⟨3, ![9, 64, 128]⟩ : Shape).Idx → EReal := shapeCast ⟨3, ![9, 64, 128]⟩ (transpose ⟨4, ![3, 3, 64, 128]⟩ [2, 3, 1, 0] w (by decide)) (by decide)

/-- The weights of the first two taps of a line, one under the other. -/
def pairs : (⟨3, ![3, 128, 128]⟩ : Shape).Idx → EReal :=
  concatenate ⟨3, ![3, 128, 128]⟩ 1 [⟨⟨3, ![3, 64, 128]⟩, Host.slice ⟨3, ![3, 64, 128]⟩ ![0, 0, 0] ![3, 1, 1] (taps w) (by decide)⟩,
    ⟨⟨3, ![3, 64, 128]⟩, Host.slice ⟨3, ![3, 64, 128]⟩ ![1, 0, 0] ![3, 1, 1] (taps w) (by decide)⟩]
    (by exact (by decide : Shape.Concatenates [⟨3, ![3, 64, 128]⟩, ⟨3, ![3, 64, 128]⟩] ⟨3, ![3, 128, 128]⟩ 1))

/-- The weights of the third tap of a line. -/
def rest : (⟨3, ![3, 64, 128]⟩ : Shape).Idx → EReal := Host.slice ⟨3, ![3, 64, 128]⟩ ![2, 0, 0] ![3, 1, 1] (taps w) (by decide)

/-- The images cut out of the rows the call leaves. -/
def image (Z : (⟨3, ![8, 4624, 128]⟩ : Shape).Idx → EReal) : (⟨4, ![128, 16, 16, 128]⟩ : Shape).Idx → EReal :=
  extractStridedSlice ⟨4, ![128, 16, 16, 128]⟩ ![0, 0, 0, 0] (shapeCast ⟨4, ![128, 16, 17, 128]⟩
    (extractStridedSlice ⟨3, ![128, 272, 128]⟩ ![0, 0, 0] (shapeCast ⟨3, ![128, 289, 128]⟩ Z (by decide)) (by decide)) (by decide)) (by decide)

theorem pix_at {b y j e c c' X : ℕ} (h : b < 128 ∧ y < 34 ∧ j < 17 ∧ e < 2 ∧ c < 64) (hc : c' = e * 64 + c) (hX : X = 2 * j + e) :
    at4 (pix A) b y j c' = at4 A b y X c := by
  obtain ⟨h0, h1, h2, h3, h4⟩ := h
  subst hc hX
  unfold pix
  rw [at_cast44 _ _ b y (2 * j + e) c ⟨h0, h1, h2, by omega⟩ ⟨h0, h1, by omega, h4⟩ (by omega), at4_padhi]

theorem even_at {g r i j e c q c' Y X : ℕ} (h : g < 8 ∧ r < 16 ∧ i < 17 ∧ j < 17 ∧ e < 2 ∧ c < 64)
    (hq : q = r * 289 + (i * 17 + j)) (hc : c' = e * 64 + c) (hY : Y = 2 * i + 0) (hX : X = 2 * j + e) :
    at3 (even A) g q c' = at4 A (g * 16 + r) Y X c := by
  obtain ⟨h0, h1, h2, h3, h4, h5⟩ := h
  have hb : g * 16 + r < 128 := by omega
  have hc' : c' < 128 := by omega
  have hs : i * 17 + j < 289 := by omega
  unfold even
  rw [at3_padhi, at_cast33 _ _ (g * 16 + r) (i * 17 + j) c' ⟨h0, by omega, hc'⟩ ⟨hb, hs, hc'⟩ (by subst hq; omega),
    at_cast43 _ _ (g * 16 + r) i j c' ⟨hb, hs, hc'⟩ ⟨hb, h2, h3, hc'⟩ (by omega), at4_sliceBy _ _ ⟨hb, h2, h3, hc'⟩,
    pix_at A (b := 0 + 1 * (g * 16 + r)) (y := 0 + 2 * i) (j := 0 + 1 * j) (e := e) (c := c) (c' := 0 + 1 * c') (X := X) ⟨by omega, by omega, by omega, h4, h5⟩ (by omega) (by omega)]
  congr 1 <;> omega

theorem odd_at {g r i j e c q c' Y X : ℕ} (h : g < 8 ∧ r < 16 ∧ i < 17 ∧ j < 17 ∧ e < 2 ∧ c < 64)
    (hq : q = r * 289 + (i * 17 + j)) (hc : c' = e * 64 + c) (hY : Y = 2 * i + 1) (hX : X = 2 * j + e) :
    at3 (odd A) g q c' = at4 A (g * 16 + r) Y X c := by
  obtain ⟨h0, h1, h2, h3, h4, h5⟩ := h
  have hb : g * 16 + r < 128 := by omega
  have hc' : c' < 128 := by omega
  have hs : i * 17 + j < 289 := by omega
  unfold odd
  rw [at3_padhi, at_cast33 _ _ (g * 16 + r) (i * 17 + j) c' ⟨h0, by omega, hc'⟩ ⟨hb, hs, hc'⟩ (by subst hq; omega),
    at_cast43 _ _ (g * 16 + r) i j c' ⟨hb, hs, hc'⟩ ⟨hb, h2, h3, hc'⟩ (by omega), at4_sliceBy _ _ ⟨hb, h2, h3, hc'⟩,
    pix_at A (b := 0 + 1 * (g * 16 + r)) (y := 1 + 2 * i) (j := 0 + 1 * j) (e := e) (c := c) (c' := 0 + 1 * c') (X := X) ⟨by omega, by omega, by omega, h4, h5⟩ (by omega) (by omega)]
  congr 1 <;> omega

theorem taps_at {k c o : ℕ} (h : k < 9 ∧ c < 64 ∧ o < 128) : at3 (taps w) k c o = wk w k c o := at3_taps w _ _ h

theorem rest_at {t c o : ℕ} (h : t < 3 ∧ c < 64 ∧ o < 128) : at3 (rest w) t c o = wk w (3 * t + 2) c o := by
  obtain ⟨h0, h1, h2⟩ := h
  unfold rest
  rw [at3_sliceBy _ _ ⟨h0, h1, h2⟩, taps_at w (k := 2 + 3 * t) (c := 0 + 1 * c) (o := 0 + 1 * o) (by omega)]
  congr 1 <;> omega

theorem pairs_at0 {t c o : ℕ} (h : t < 3 ∧ c < 64 ∧ o < 128) : at3 (pairs w) t c o = wk w (3 * t + 0) c o := by
  obtain ⟨h0, h1, h2⟩ := h
  unfold pairs
  rw [at3_concat1 _ _ _ ⟨h0, show c < 64 + 64 by omega, h2⟩ rfl, if_pos h1, at3_sliceBy _ _ ⟨h0, h1, h2⟩, taps_at w (k := 0 + 3 * t) (c := 0 + 1 * c) (o := 0 + 1 * o) (by omega)]
  congr 1 <;> omega

theorem pairs_at1 {t c o : ℕ} (h : t < 3 ∧ c < 64 ∧ o < 128) : at3 (pairs w) t (64 + c) o = wk w (3 * t + 1) c o := by
  obtain ⟨h0, h1, h2⟩ := h
  unfold pairs
  rw [at3_concat1 _ _ _ ⟨h0, show 64 + c < 64 + 64 by omega, h2⟩ rfl, if_neg (by omega), at3_sliceBy _ _ ⟨h0, by omega, h2⟩,
    taps_at w (k := 1 + 3 * t) (c := 0 + 1 * (64 + c - 64)) (o := 0 + 1 * o) (by omega)]
  congr 1 <;> omega

theorem image_at (Z : (⟨3, ![8, 4624, 128]⟩ : Shape).Idx → EReal) {g r y x o : ℕ} (h : g < 8 ∧ r < 16 ∧ y < 16 ∧ x < 16 ∧ o < 128) :
    at4 (image Z) (g * 16 + r) y x o = at3 Z g (r * 289 + (y * 17 + x)) o := by
  obtain ⟨h0, h1, h2, h3, h4⟩ := h
  have hb : g * 16 + r < 128 := by omega
  unfold image
  rw [at4_slice _ _ ⟨hb, h2, h3, h4⟩]
  simp only [Nat.zero_add]
  rw [at_cast34 _ _ (g * 16 + r) (y * 17 + x) o ⟨hb, h2, by omega, h4⟩ ⟨hb, by omega, h4⟩ (by omega), at3_slice _ _ ⟨hb, by omega, h4⟩]
  simp only [Nat.zero_add]
  rw [at_cast33 _ _ g (r * 289 + (y * 17 + x)) o ⟨hb, by omega, h4⟩ ⟨h0, by omega, h4⟩ (by omega)]

/-- The call's row function on these inputs is the stride-two convolution, clamped at zero. -/
theorem row_eq {g r y x o : ℕ} (h : g < 8 ∧ r < 16 ∧ y < 16 ∧ x < 16 ∧ o < 128) :
    Reg1.row (even A) (odd A) (pairs w) (rest w) g (r * 289 + (y * 17 + x)) o
      = max (conv9 64 (at4 A (g * 16 + r)) (wk w) (2 * y) (2 * x) o) 0 := by
  obtain ⟨h0, h1, h2, h3, h4⟩ := h
  unfold Reg1.row conv9
  rw [tapSum_pair (K := 64) (A := at4 A (g * 16 + r)) (w := wk w) (y := 2 * y) (x := 2 * x) (dy := 0) (dx := 0) (dx' := 1) (X := even A) (W := pairs w) (q := r * 289 + (y * 17 + x) + 0) (t := 0) rfl
    (fun c hc => even_at A (i := y) (j := x) (e := 0) (by omega) (by omega) (by omega) (by omega) (by omega))
    (fun c hc => even_at A (i := y) (j := x) (e := 1) (by omega) (by omega) (by omega) (by omega) (by omega))
    (fun c hc => pairs_at0 w (t := 0) (by omega)) (fun c hc => pairs_at1 w (t := 0) (by omega))]
  rw [tapSum_tap (A := at4 A (g * 16 + r)) (w := wk w) (y := 2 * y) (x := 2 * x) (dy := 0) (dx := 2) (X := even A) (W := rest w) (q := r * 289 + (y * 17 + x) + 1) (t := 0)
    (fun c hc => even_at A (i := y) (j := x + 1) (e := 0) (by omega) (by omega) (by omega) (by omega) (by omega))
    (fun c hc => rest_at w (t := 0) (by omega))]
  rw [tapSum_pair (K := 64) (A := at4 A (g * 16 + r)) (w := wk w) (y := 2 * y) (x := 2 * x) (dy := 1) (dx := 0) (dx' := 1) (X := odd A) (W := pairs w) (q := r * 289 + (y * 17 + x) + 0) (t := 1) rfl
    (fun c hc => odd_at A (i := y) (j := x) (e := 0) (by omega) (by omega) (by omega) (by omega) (by omega))
    (fun c hc => odd_at A (i := y) (j := x) (e := 1) (by omega) (by omega) (by omega) (by omega) (by omega))
    (fun c hc => pairs_at0 w (t := 1) (by omega)) (fun c hc => pairs_at1 w (t := 1) (by omega))]
  rw [tapSum_tap (A := at4 A (g * 16 + r)) (w := wk w) (y := 2 * y) (x := 2 * x) (dy := 1) (dx := 2) (X := odd A) (W := rest w) (q := r * 289 + (y * 17 + x) + 1) (t := 1)
    (fun c hc => odd_at A (i := y) (j := x + 1) (e := 0) (by omega) (by omega) (by omega) (by omega) (by omega))
    (fun c hc => rest_at w (t := 1) (by omega))]
  rw [tapSum_pair (K := 64) (A := at4 A (g * 16 + r)) (w := wk w) (y := 2 * y) (x := 2 * x) (dy := 2) (dx := 0) (dx' := 1) (X := even A) (W := pairs w) (q := r * 289 + (y * 17 + x) + 17) (t := 2) rfl
    (fun c hc => even_at A (i := (y + 1)) (j := x) (e := 0) (by omega) (by omega) (by omega) (by omega) (by omega))
    (fun c hc => even_at A (i := (y + 1)) (j := x) (e := 1) (by omega) (by omega) (by omega) (by omega) (by omega))
    (fun c hc => pairs_at0 w (t := 2) (by omega)) (fun c hc => pairs_at1 w (t := 2) (by omega))]
  rw [tapSum_tap (A := at4 A (g * 16 + r)) (w := wk w) (y := 2 * y) (x := 2 * x) (dy := 2) (dx := 2) (X := even A) (W := rest w) (q := r * 289 + (y * 17 + x) + 18) (t := 2)
    (fun c hc => even_at A (i := (y + 1)) (j := x + 1) (e := 0) (by omega) (by omega) (by omega) (by omega) (by omega))
    (fun c hc => rest_at w (t := 2) (by omega))]
  simp only [add_assoc]

/-- The layer: the images cut out of the call's result are the convolved images. -/
theorem layer (V : (c : Dev nD) → (b : Ref sig .tc) → Buf (Elt Ideal) ((c : Thread nD τ).loc b)) (c : Dev nD)
    (h0 : (V c main_v47 : (⟨3, ![8, 4642, 128]⟩ : Shape).Idx → EReal) = even A) (h1 : (V c main_v49 : (⟨3, ![8, 4642, 128]⟩ : Shape).Idx → EReal) = odd A)
    (h2 : (V c main_v52 : (⟨3, ![3, 128, 128]⟩ : Shape).Idx → EReal) = pairs w) (h3 : (V c main_v53 : (⟨3, ![3, 64, 128]⟩ : Shape).Idx → EReal) = rest w)
    {b y x o : ℕ} (h : b < 128 ∧ y < 16 ∧ x < 16 ∧ o < 128) :
    at4 (image ((dat1 V c).arrAt 4 cfg1.N)) b y x o = max (conv9 64 (at4 A b) (wk w) (2 * y) (2 * x) o) 0 := by
  obtain ⟨g, r, hg, hr, rfl⟩ : ∃ g r, g < 8 ∧ r < 16 ∧ b = g * 16 + r := ⟨b / 16, b % 16, by omega, by omega, by omega⟩
  refine (image_at _ (by omega)).trans ((Reg1.arr_at V c _ _ _ (by omega)).trans ?_)
  refine Eq.trans ?_ (row_eq A w (by omega))
  rw [← h0, ← h1, ← h2, ← h3]

variable (U : Valuation τ sig (Elt Ideal))

/-- The contents after the host operations before the call. -/
abbrev S : Valuation τ sig (Elt Ideal) := StableHlo.after hostOps1_6 (StableHlo.after hostOps1_5 (StableHlo.after hostOps1_4 (StableHlo.after hostOps1_3 (StableHlo.after hostOps1_2 (StableHlo.after hostOps1_1 (StableHlo.after hostOps1 U))))))

theorem read_v47 : (S U (Proc.devRef .tc main_v47) : (⟨3, ![8, 4642, 128]⟩ : Shape).Idx → EReal) = even (shapeCast ⟨4, ![128, 32, 32, 64]⟩ (U (Proc.devRef .tc main_v35) : (⟨3, ![8, 16384, 64]⟩ : Shape).Idx → EReal) (by decide)) := by
  after_results
  try simp only [StableHlo.TRef.toBuf, StableHlo.TRef.ofBuf]
  repeat erw [cast_eq]
  rfl

theorem read_v49 : (S U (Proc.devRef .tc main_v49) : (⟨3, ![8, 4642, 128]⟩ : Shape).Idx → EReal) = odd (shapeCast ⟨4, ![128, 32, 32, 64]⟩ (U (Proc.devRef .tc main_v35) : (⟨3, ![8, 16384, 64]⟩ : Shape).Idx → EReal) (by decide)) := by
  after_results
  try simp only [StableHlo.TRef.toBuf, StableHlo.TRef.ofBuf]
  repeat erw [cast_eq]
  rfl

theorem read_v52 : (S U (Proc.devRef .tc main_v52) : (⟨3, ![3, 128, 128]⟩ : Shape).Idx → EReal) = pairs (U (Proc.devRef .tc main_arg6)) := by
  after_results
  try simp only [StableHlo.TRef.toBuf, StableHlo.TRef.ofBuf]
  repeat erw [cast_eq]
  rfl

theorem read_v53 : (S U (Proc.devRef .tc main_v53) : (⟨3, ![3, 64, 128]⟩ : Shape).Idx → EReal) = rest (U (Proc.devRef .tc main_arg6)) := by
  after_results
  try simp only [StableHlo.TRef.toBuf, StableHlo.TRef.ofBuf]
  repeat erw [cast_eq]
  rfl

end Cert.Enc1

end
-- ==== Proof.Reg2.lean ====
/- The third encoder layer's custom call: every row of its output as a function of the rows of its inputs. -/
module

public import proofs.«01_k».proof.Proof.Tap
public import proofs.«01_k».proof.Proof.Gen.KernelIdeal.Frame.Region2

@[expose] public section

set_option maxRecDepth 16384

noncomputable section

namespace Cert.Reg2

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 2602, 256]⟩ : Shape).Idx → EReal) {m1 : ℕ} (X1 : (⟨3, ![m1, 2602, 256]⟩ : Shape).Idx → EReal) (X2 : S3x256x256.Idx → EReal) (X3 : S3x128x256.Idx → EReal) (i p co : ℕ) : EReal :=
  max (tapSum 256 X0 X2 i (p + 0) co 0 + tapSum 128 X0 X3 i (p + 1) co 0 + tapSum 256 X1 X2 i (p + 0) co 1 + tapSum 128 X1 X3 i (p + 1) co 1 + tapSum 256 X0 X2 i (p + 9) co 2 + tapSum 128 X0 X3 i (p + 10) co 2) 0

theorem hdot_544_128 : dot_S544x128_S128x256_S544x256_1_0_0_1_n_n = DotDims.plain 544 128 256 := rfl
theorem hdot_544_256 : dot_S544x256_S256x256_S544x256_1_0_0_1_n_n = DotDims.plain 544 256 256 := rfl
theorem hdot_2048_128 : dot_S2048x128_S128x256_S2048x256_1_0_0_1_n_n = DotDims.plain 2048 128 256 := rfl
theorem hdot_2048_256 : dot_S2048x256_S256x256_S2048x256_1_0_0_1_n_n = DotDims.plain 2048 256 256 := rfl

/-- What the body leaves in its output's block, index by index. -/
theorem out_eq (c : Dev nD) (i : grid2.Coords) (arg1 : Memref sig .tc .vmem S1x2602x256 .bf16) (harg1 : arg1.IsWhole) (arg2 : Memref sig .tc .vmem S1x2602x256 .bf16) (harg2 : arg2.IsWhole) (arg3 : Memref sig .tc .vmem S3x256x256 .bf16) (harg3 : arg3.IsWhole) (arg4 : Memref sig .tc .vmem S3x128x256 .bf16) (harg4 : arg4.IsWhole) (arg5 : Memref sig .tc .vmem S1x2592x256 .bf16) (harg5 : arg5.IsWhole)
    (x0 : Vec Ideal S1x2602x256 .bf16) (x1 : Vec Ideal S1x2602x256 .bf16) (x2 : Vec Ideal S3x256x256 .bf16) (x3 : Vec Ideal S3x128x256 .bf16) (y : S1x2592x256.Idx) :
    out2_A_4 c i arg1 harg1 arg2 harg2 arg3 harg3 arg4 harg4 arg5 harg5 x0 x1 x2 x3 y = row x0 x1 x2 x3 0 (y 1).val (y 2).val := by
  unfold out2_A_4
  rw [View.read_writes_junk_apply_eq_canon]
  refine View.canon_apply_of_pieces (Val := Elt Ideal) (fun y : S1x2592x256.Idx => row x0 x1 x2 x3 0 (y 1).val (y 2).val) _ ?_ y (cover2_A_4 c i arg1 harg1 arg2 harg2 arg3 harg3 arg4 harg4 arg5 harg5 x0 x1 x2 x3 y)
  unfold kernelRun2_A
  dsimp only
  sl_unfold_words
  simp only [View.readAt_eq_ld, harg1.read_unread, harg2.read_unread, harg3.read_unread, harg4.read_unread]
  intro p hp
  simp only [List.mem_cons, List.mem_nil_iff, or_false] at hp
  rcases hp with rfl | rfl
  · refine forall_ix3 fun z r c => ?_
    show _ = row x0 x1 x2 x3 0 (2048 + 1 * r.val) (0 + 1 * c.val)
    simp only [k2_pay1, k2_pay2, k2_pay3, k2_pay4, k2_pay5, k2_pay6, row, shapeCast_ab_1ab_apply, addf_apply, truncf_apply, extf_apply, maximumf_apply, tanh_apply', bcast_zero, tap_val, hdot_544_128, hdot_544_256, hdot_2048_128, hdot_2048_256, Nat.one_mul, Nat.zero_add, Nat.add_zero, Nat.add_right_comm _ r.val, Nat.reduceAdd]
  · refine forall_ix3 fun z r c => ?_
    show _ = row x0 x1 x2 x3 0 (0 + 1 * r.val) (0 + 1 * c.val)
    simp only [k2_pay1, k2_pay2, k2_pay3, k2_pay4, k2_pay5, k2_pay6, row, shapeCast_ab_1ab_apply, addf_apply, truncf_apply, extf_apply, maximumf_apply, tanh_apply', bcast_zero, tap_val, hdot_544_128, hdot_544_256, hdot_2048_128, hdot_2048_256, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg2.N, win2_0.index t (0 : Fin 3) = t.val ∧ win2_0.index t (1 : Fin 3) = 0 ∧ win2_0.index t (2 : Fin 3) = 0 :=
  (by decide +kernel : ∀ t : Fin grid2.N, _)
theorem idx1 : ∀ t : Fin cfg2.N, win2_1.index t (0 : Fin 3) = t.val ∧ win2_1.index t (1 : Fin 3) = 0 ∧ win2_1.index t (2 : Fin 3) = 0 :=
  (by decide +kernel : ∀ t : Fin grid2.N, _)
theorem idx2 : ∀ t : Fin cfg2.N, win2_2.index t (0 : Fin 3) = 0 ∧ win2_2.index t (1 : Fin 3) = 0 ∧ win2_2.index t (2 : Fin 3) = 0 :=
  (by decide +kernel : ∀ t : Fin grid2.N, _)
theorem idx3 : ∀ t : Fin cfg2.N, win2_3.index t (0 : Fin 3) = 0 ∧ win2_3.index t (1 : Fin 3) = 0 ∧ win2_3.index t (2 : Fin 3) = 0 :=
  (by decide +kernel : ∀ t : Fin grid2.N, _)
theorem idx4 : ∀ t : Fin cfg2.N, win2_4.index t (0 : Fin 3) = t.val ∧ win2_4.index t (1 : Fin 3) = 0 ∧ win2_4.index t (2 : Fin 3) = 0 :=
  (by decide +kernel : ∀ t : Fin grid2.N, _)
theorem hN : cfg2.N = 4 := N_2

/-- The input's block at a point, read anywhere. -/
theorem at_iblk0 (c : Dev nD) (t : Fin cfg2.N) (q k : ℕ) :
    at3 (n0 := 1) (n1 := 2602) (n2 := 256) (iblk2 V c 0 t) 0 q k = at3 (n0 := 4) (n1 := 2602) (n2 := 256) (V c main_v69) t.val q k := by
  refine at3_block _ _ (lt_of_lt_of_eq t.isLt hN) (fun q k => ?_) q k
  obtain ⟨e0, e1, e2⟩ := idx0 t
  refine congrArg (V c main_v69) (funext fun a => Fin.ext ?_)
  match a with
  | ⟨0, _⟩ => show win2_0.index t (0 : Fin 3) * 1 + 1 * 0 = t.val; omega
  | ⟨1, _⟩ => show win2_0.index t (1 : Fin 3) * 2602 + 1 * q.val = q.val; omega
  | ⟨2, _⟩ => show win2_0.index t (2 : Fin 3) * 256 + 1 * k.val = k.val; omega

/-- The input's block at a point, read anywhere. -/
theorem at_iblk1 (c : Dev nD) (t : Fin cfg2.N) (q k : ℕ) :
    at3 (n0 := 1) (n1 := 2602) (n2 := 256) (iblk2 V c 1 t) 0 q k = at3 (n0 := 4) (n1 := 2602) (n2 := 256) (V c main_v71) t.val q k := by
  refine at3_block _ _ (lt_of_lt_of_eq t.isLt hN) (fun q k => ?_) q k
  obtain ⟨e0, e1, e2⟩ := idx1 t
  refine congrArg (V c main_v71) (funext fun a => Fin.ext ?_)
  match a with
  | ⟨0, _⟩ => show win2_1.index t (0 : Fin 3) * 1 + 1 * 0 = t.val; omega
  | ⟨1, _⟩ => show win2_1.index t (1 : Fin 3) * 2602 + 1 * q.val = q.val; omega
  | ⟨2, _⟩ => show win2_1.index t (2 : Fin 3) * 256 + 1 * k.val = k.val; omega

/-- The weights' block is the weights. -/
theorem iblk2_eq (c : Dev nD) (t : Fin cfg2.N) : (iblk2 V c 2 t : S3x256x256.Idx → EReal) = V c main_v74 := by
  obtain ⟨e0, e1, e2⟩ := idx2 t
  funext j
  refine congrArg (V c main_v74) (funext fun a => Fin.ext ?_)
  match a with
  | ⟨0, _⟩ => show win2_2.index t (0 : Fin 3) * 3 + 1 * (j 0).val = (j 0).val; omega
  | ⟨1, _⟩ => show win2_2.index t (1 : Fin 3) * 256 + 1 * (j 1).val = (j 1).val; omega
  | ⟨2, _⟩ => show win2_2.index t (2 : Fin 3) * 256 + 1 * (j 2).val = (j 2).val; omega

/-- The weights' block is the weights. -/
theorem iblk3_eq (c : Dev nD) (t : Fin cfg2.N) : (iblk2 V c 3 t : S3x128x256.Idx → EReal) = V c main_v75 := by
  obtain ⟨e0, e1, e2⟩ := idx3 t
  funext j
  refine congrArg (V c main_v75) (funext fun a => Fin.ext ?_)
  match a with
  | ⟨0, _⟩ => show win2_3.index t (0 : Fin 3) * 3 + 1 * (j 0).val = (j 0).val; omega
  | ⟨1, _⟩ => show win2_3.index t (1 : Fin 3) * 128 + 1 * (j 1).val = (j 1).val; omega
  | ⟨2, _⟩ => show win2_3.index t (2 : Fin 3) * 256 + 1 * (j 2).val = (j 2).val; omega

/-- The array the call leaves. -/
def G (X0 : S4x2602x256.Idx → EReal) (X1 : S4x2602x256.Idx → EReal) (X2 : S3x256x256.Idx → EReal) (X3 : S3x128x256.Idx → EReal) (y : S4x2592x256.Idx) : EReal := row X0 X1 X2 X3 (y 0).val (y 1).val (y 2).val

/-- The output's block at a point covers that image block's rows. -/
theorem emb_eq (t : Fin cfg2.N) (z : Fin 1) (p : Fin 2592) (co : Fin 256) :
    ((cfg2.win 4).blk t).view.emb (ix3 z p co) = (ix3 ⟨t.val, lt_of_lt_of_eq t.isLt hN⟩ p co : S4x2592x256.Idx) := by
  obtain ⟨e0, e1, e2⟩ := idx4 t
  refine funext fun a => Fin.ext ?_
  match a with
  | ⟨0, _⟩ => show win2_4.index t (0 : Fin 3) * 1 + 1 * z.val = t.val; have := z.isLt; omega
  | ⟨1, _⟩ => show win2_4.index t (1 : Fin 3) * 2592 + 1 * p.val = p.val; omega
  | ⟨2, _⟩ => show win2_4.index t (2 : Fin 3) * 256 + 1 * co.val = co.val; omega

theorem flushed_eq (c : Dev nD) (t : Fin cfg2.N) :
    (dat2 V c).flushed 4 t = ((cfg2.win 4).blk t).view.read (Elt Ideal) (G (V c main_v69) (V c main_v71) (V c main_v74) (V c main_v75)) := by
  show (cfg2.win 4).cut (grid2.coords t) ((dat2 V c).after 4 t) = _
  rw [after2_4]
  unfold outsAt2
  refine funext (forall_ix3 (n0 := 1) (n1 := 2592) (n2 := 256) fun z p co => ?_)
  refine (out_eq c _ _ _ _ _ _ _ _ _ _ _ _ _ _ _ _).trans ?_
  show _ = G (V c main_v69) (V c main_v71) (V c main_v74) (V c main_v75) (((cfg2.win 4).blk t).view.emb (ix3 z p co))
  rw [emb_eq]
  show row _ _ _ _ 0 p.val co.val = row _ _ _ _ t.val p.val co.val
  unfold row
  simp only [tapSum_congr (at_iblk0 V c t) (fun t' k c' => congrArg (fun f => at3 f t' k c') (iblk2_eq V c t)), tapSum_congr (at_iblk0 V c t) (fun t' k c' => congrArg (fun f => at3 f t' k c') (iblk3_eq V c t)), tapSum_congr (at_iblk1 V c t) (fun t' k c' => congrArg (fun f => at3 f t' k c') (iblk2_eq V c t)), tapSum_congr (at_iblk1 V c t) (fun t' k c' => congrArg (fun f => at3 f t' k c') (iblk3_eq V c t))]

theorem cover (i : S4x2592x256.Idx) : ∃ t : Fin cfg2.N, (cfg2.win 4).flush t = true ∧ i ∈ ((cfg2.win 4).blk t).view.set := by
  revert i
  refine forall_ix3 fun b p co => ?_
  have ht : b.val < cfg2.N := lt_of_lt_of_eq b.isLt hN.symm
  have h := ((cfg2.win 4).blk ⟨b.val, ht⟩).view.emb_mem_set (ix3 (0 : Fin 1) p co : S1x2592x256.Idx)
  rw [emb_eq] at h
  exact ⟨⟨b.val, ht⟩, flush2_4 _, h⟩

/-- The call's result array. -/
theorem arr_eq (c : Dev nD) : (dat2 V c).arrAt 4 cfg2.N = G (V c main_v69) (V c main_v71) (V c main_v74) (V c main_v75) :=
  (dat2 V c).arrAt_eq_of_cover 4 _ (fun t _ => flushed_eq V c t) cover

/-- The call's result array, read at natural-number coordinates. -/
theorem arr_at (c : Dev nD) (i p co : ℕ) (h : i < 4 ∧ p < 2592 ∧ co < 256) :
    at3 (n0 := 4) (n1 := 2592) (n2 := 256) ((dat2 V c).arrAt 4 cfg2.N) i p co = row (show S4x2602x256.Idx → EReal from V c main_v69) (show S4x2602x256.Idx → EReal from V c main_v71) (show S3x256x256.Idx → EReal from V c main_v74) (show S3x128x256.Idx → EReal from V c main_v75) i p co := by
  rw [arr_eq, at3_eq _ h]
  rfl

end Cert.Reg2

end
-- ==== Proof.Enc2.lean ====
/- The third encoder layer: from the images its host operations are given to the images cut out of its call's result. -/
module

public import proofs.«01_k».proof.Proof.Conv
public import proofs.«01_k».proof.Proof.Reg2
public import proofs.«01_k».proof.Proof.Enc1

@[expose] public section

set_option maxRecDepth 16384

noncomputable section

namespace Cert.Enc2

open Idealize.ShloMosaic Idealize.ShloMosaic.TcCoe Idealize.ShloMosaic.ValueIdx Idealize.ShloMosaic.Tactic
open Cert.KernelIdeal Cert.KernelIdeal.Gen Cert.Arr

variable (A : (⟨4, ![128, 16, 16, 128]⟩ : Shape).Idx → EReal) (w : (⟨4, ![256, 128, 3, 3]⟩ : Shape).Idx → EReal)

/-- The padded images, two neighbouring pixels side by side in the channels. -/
def pix : (⟨4, ![128, 18, 9, 256]⟩ : Shape).Idx → EReal :=
  shapeCast ⟨4, ![128, 18, 9, 256]⟩ (pad ⟨4, ![128, 18, 18, 128]⟩ ![0, 0, 0, 0] ![0, 2, 2, 0] ![0, 0, 0, 0] A (border (φ := .bf16)) (by decide) (by decide)) (by decide)

/-- The rows of even image lines, flattened, grouped by block of images. -/
def even : (⟨3, ![4, 2602, 256]⟩ : Shape).Idx → EReal :=
  pad ⟨3, ![4, 2602, 256]⟩ ![0, 0, 0] ![0, 10, 0] ![0, 0, 0]
    (shapeCast ⟨3, ![4, 2592, 256]⟩ (shapeCast ⟨3, ![128, 81, 256]⟩ (Host.slice ⟨4, ![128, 9, 9, 256]⟩ ![0, 0, 0, 0] ![1, 2, 1, 1] (pix A) (by decide)) (by decide)) (by decide))
    (border (φ := .bf16)) (by decide) (by decide)

/-- The rows of odd image lines, flattened, grouped by block of images. -/
def odd : (⟨3, ![4, 2602, 256]⟩ : Shape).Idx → EReal :=
  pad ⟨3, ![4, 2602, 256]⟩ ![0, 0, 0] ![0, 10, 0] ![0, 0, 0]
    (shapeCast ⟨3, ![4, 2592, 256]⟩ (shapeCast ⟨3, ![128, 81, 256]⟩ (Host.slice ⟨4, ![128, 9, 9, 256]⟩ ![0, 1, 0, 0] ![1, 2, 1, 1] (pix A) (by decide)) (by decide)) (by decide))
    (border (φ := .bf16)) (by decide) (by decide)

/-- The weights by tap. -/
def taps : (⟨3, ![9, 128, 256]⟩ : Shape).Idx → EReal := shapeCast ⟨3, ![9, 128, 256]⟩ (transpose ⟨4, ![3, 3, 128, 256]⟩ [2, 3, 1, 0] w (by decide)) (by decide)

/-- The weights of the first two taps of a line, one under the other. -/
def pairs : (⟨3, ![3, 256, 256]⟩ : Shape).Idx → EReal :=
  concatenate ⟨3, ![3, 256, 256]⟩ 1 [⟨⟨3, ![3, 128, 256]⟩, Host.slice ⟨3, ![3, 128, 256]⟩ ![0, 0, 0] ![3, 1, 1] (taps w) (by decide)⟩,
    ⟨⟨3, ![3, 128, 256]⟩, Host.slice ⟨3, ![3, 128, 256]⟩ ![1, 0, 0] ![3, 1, 1] (taps w) (by decide)⟩]
    (by exact (by decide : Shape.Concatenates [⟨3, ![3, 128, 256]⟩, ⟨3, ![3, 128, 256]⟩] ⟨3, ![3, 256, 256]⟩ 1))

/-- The weights of the third tap of a line. -/
def rest : (⟨3, ![3, 128, 256]⟩ : Shape).Idx → EReal := Host.slice ⟨3, ![3, 128, 256]⟩ ![2, 0, 0] ![3, 1, 1] (taps w) (by decide)

/-- The images cut out of the rows the call leaves. -/
def image (Z : (⟨3, ![4, 2592, 256]⟩ : Shape).Idx → EReal) : (⟨4, ![128, 8, 8, 256]⟩ : Shape).Idx → EReal :=
  extractStridedSlice ⟨4, ![128, 8, 8, 256]⟩ ![0, 0, 0, 0] (shapeCast ⟨4, ![128, 8, 9, 256]⟩
    (extractStridedSlice ⟨3, ![128, 72, 256]⟩ ![0, 0, 0] (shapeCast ⟨3, ![128, 81, 256]⟩ Z (by decide)) (by decide)) (by decide)) (by decide)

theorem pix_at {b y j e c c' X : ℕ} (h : b < 128 ∧ y < 18 ∧ j < 9 ∧ e < 2 ∧ c < 128) (hc : c' = e * 128 + c) (hX : X = 2 * j + e) :
    at4 (pix A) b y j c' = at4 A b y X c := by
  obtain ⟨h0, h1, h2, h3, h4⟩ := h
  subst hc hX
  unfold pix
  rw [at_cast44 _ _ b y (2 * j + e) c ⟨h0, h1, h2, by omega⟩ ⟨h0, h1, by omega, h4⟩ (by omega), at4_padhi]

theorem even_at {g r i j e c q c' Y X : ℕ} (h : g < 4 ∧ r < 32 ∧ i < 9 ∧ j < 9 ∧ e < 2 ∧ c < 128)
    (hq : q = r * 81 + (i * 9 + j)) (hc : c' = e * 128 + c) (hY : Y = 2 * i + 0) (hX : X = 2 * j + e) :
    at3 (even A) g q c' = at4 A (g * 32 + r) Y X c := by
  obtain ⟨h0, h1, h2, h3, h4, h5⟩ := h
  have hb : g * 32 + r < 128 := by omega
  have hc' : c' < 256 := by omega
  have hs : i * 9 + j < 81 := by omega
  unfold even
  rw [at3_padhi, at_cast33 _ _ (g * 32 + r) (i * 9 + j) c' ⟨h0, by omega, hc'⟩ ⟨hb, hs, hc'⟩ (by subst hq; omega),
    at_cast43 _ _ (g * 32 + r) i j c' ⟨hb, hs, hc'⟩ ⟨hb, h2, h3, hc'⟩ (by omega), at4_sliceBy _ _ ⟨hb, h2, h3, hc'⟩,
    pix_at A (b := 0 + 1 * (g * 32 + r)) (y := 0 + 2 * i) (j := 0 + 1 * j) (e := e) (c := c) (c' := 0 + 1 * c') (X := X) ⟨by omega, by omega, by omega, h4, h5⟩ (by omega) (by omega)]
  congr 1 <;> omega

theorem odd_at {g r i j e c q c' Y X : ℕ} (h : g < 4 ∧ r < 32 ∧ i < 9 ∧ j < 9 ∧ e < 2 ∧ c < 128)
    (hq : q = r * 81 + (i * 9 + j)) (hc : c' = e * 128 + c) (hY : Y = 2 * i + 1) (hX : X = 2 * j + e) :
    at3 (odd A) g q c' = at4 A (g * 32 + r) Y X c := by
  obtain ⟨h0, h1, h2, h3, h4, h5⟩ := h
  have hb : g * 32 + r < 128 := by omega
  have hc' : c' < 256 := by omega
  have hs : i * 9 + j < 81 := by omega
  unfold odd
  rw [at3_padhi, at_cast33 _ _ (g * 32 + r) (i * 9 + j) c' ⟨h0, by omega, hc'⟩ ⟨hb, hs, hc'⟩ (by subst hq; omega),
    at_cast43 _ _ (g * 32 + r) i j c' ⟨hb, hs, hc'⟩ ⟨hb, h2, h3, hc'⟩ (by omega), at4_sliceBy _ _ ⟨hb, h2, h3, hc'⟩,
    pix_at A (b := 0 + 1 * (g * 32 + r)) (y := 1 + 2 * i) (j := 0 + 1 * j) (e := e) (c := c) (c' := 0 + 1 * c') (X := X) ⟨by omega, by omega, by omega, h4, h5⟩ (by omega) (by omega)]
  congr 1 <;> omega

theorem taps_at {k c o : ℕ} (h : k < 9 ∧ c < 128 ∧ o < 256) : at3 (taps w) k c o = wk w k c o := at3_taps w _ _ h

theorem rest_at {t c o : ℕ} (h : t < 3 ∧ c < 128 ∧ o < 256) : at3 (rest w) t c o = wk w (3 * t + 2) c o := by
  obtain ⟨h0, h1, h2⟩ := h
  unfold rest
  rw [at3_sliceBy _ _ ⟨h0, h1, h2⟩, taps_at w (k := 2 + 3 * t) (c := 0 + 1 * c) (o := 0 + 1 * o) (by omega)]
  congr 1 <;> omega

theorem pairs_at0 {t c o : ℕ} (h : t < 3 ∧ c < 128 ∧ o < 256) : at3 (pairs w) t c o = wk w (3 * t + 0) c o := by
  obtain ⟨h0, h1, h2⟩ := h
  unfold pairs
  rw [at3_concat1 _ _ _ ⟨h0, show c < 128 + 128 by omega, h2⟩ rfl, if_pos h1, at3_sliceBy _ _ ⟨h0, h1, h2⟩, taps_at w (k := 0 + 3 * t) (c := 0 + 1 * c) (o := 0 + 1 * o) (by omega)]
  congr 1 <;> omega

theorem pairs_at1 {t c o : ℕ} (h : t < 3 ∧ c < 128 ∧ o < 256) : at3 (pairs w) t (128 + c) o = wk w (3 * t + 1) c o := by
  obtain ⟨h0, h1, h2⟩ := h
  unfold pairs
  rw [at3_concat1 _ _ _ ⟨h0, show 128 + c < 128 + 128 by omega, h2⟩ rfl, if_neg (by omega), at3_sliceBy _ _ ⟨h0, by omega, h2⟩,
    taps_at w (k := 1 + 3 * t) (c := 0 + 1 * (128 + c - 128)) (o := 0 + 1 * o) (by omega)]
  congr 1 <;> omega

theorem image_at (Z : (⟨3, ![4, 2592, 256]⟩ : Shape).Idx → EReal) {g r y x o : ℕ} (h : g < 4 ∧ r < 32 ∧ y < 8 ∧ x < 8 ∧ o < 256) :
    at4 (image Z) (g * 32 + r) y x o = at3 Z g (r * 81 + (y * 9 + x)) o := by
  obtain ⟨h0, h1, h2, h3, h4⟩ := h
  have hb : g * 32 + r < 128 := by omega
  unfold image
  rw [at4_slice _ _ ⟨hb, h2, h3, h4⟩]
  simp only [Nat.zero_add]
  rw [at_cast34 _ _ (g * 32 + r) (y * 9 + x) o ⟨hb, h2, by omega, h4⟩ ⟨hb, by omega, h4⟩ (by omega), at3_slice _ _ ⟨hb, by omega, h4⟩]
  simp only [Nat.zero_add]
  rw [at_cast33 _ _ g (r * 81 + (y * 9 + x)) o ⟨hb, by omega, h4⟩ ⟨h0, by omega, h4⟩ (by omega)]

/-- The call's row function on these inputs is the stride-two convolution, clamped at zero. -/
theorem row_eq {g r y x o : ℕ} (h : g < 4 ∧ r < 32 ∧ y < 8 ∧ x < 8 ∧ o < 256) :
    Reg2.row (even A) (odd A) (pairs w) (rest w) g (r * 81 + (y * 9 + x)) o
      = max (conv9 128 (at4 A (g * 32 + r)) (wk w) (2 * y) (2 * x) o) 0 := by
  obtain ⟨h0, h1, h2, h3, h4⟩ := h
  unfold Reg2.row conv9
  rw [tapSum_pair (K := 128) (A := at4 A (g * 32 + r)) (w := wk w) (y := 2 * y) (x := 2 * x) (dy := 0) (dx := 0) (dx' := 1) (X := even A) (W := pairs w) (q := r * 81 + (y * 9 + x) + 0) (t := 0) rfl
    (fun c hc => even_at A (i := y) (j := x) (e := 0) (by omega) (by omega) (by omega) (by omega) (by omega))
    (fun c hc => even_at A (i := y) (j := x) (e := 1) (by omega) (by omega) (by omega) (by omega) (by omega))
    (fun c hc => pairs_at0 w (t := 0) (by omega)) (fun c hc => pairs_at1 w (t := 0) (by omega))]
  rw [tapSum_tap (A := at4 A (g * 32 + r)) (w := wk w) (y := 2 * y) (x := 2 * x) (dy := 0) (dx := 2) (X := even A) (W := rest w) (q := r * 81 + (y * 9 + x) + 1) (t := 0)
    (fun c hc => even_at A (i := y) (j := x + 1) (e := 0) (by omega) (by omega) (by omega) (by omega) (by omega))
    (fun c hc => rest_at w (t := 0) (by omega))]
  rw [tapSum_pair (K := 128) (A := at4 A (g * 32 + r)) (w := wk w) (y := 2 * y) (x := 2 * x) (dy := 1) (dx := 0) (dx' := 1) (X := odd A) (W := pairs w) (q := r * 81 + (y * 9 + x) + 0) (t := 1) rfl
    (fun c hc => odd_at A (i := y) (j := x) (e := 0) (by omega) (by omega) (by omega) (by omega) (by omega))
    (fun c hc => odd_at A (i := y) (j := x) (e := 1) (by omega) (by omega) (by omega) (by omega) (by omega))
    (fun c hc => pairs_at0 w (t := 1) (by omega)) (fun c hc => pairs_at1 w (t := 1) (by omega))]
  rw [tapSum_tap (A := at4 A (g * 32 + r)) (w := wk w) (y := 2 * y) (x := 2 * x) (dy := 1) (dx := 2) (X := odd A) (W := rest w) (q := r * 81 + (y * 9 + x) + 1) (t := 1)
    (fun c hc => odd_at A (i := y) (j := x + 1) (e := 0) (by omega) (by omega) (by omega) (by omega) (by omega))
    (fun c hc => rest_at w (t := 1) (by omega))]
  rw [tapSum_pair (K := 128) (A := at4 A (g * 32 + r)) (w := wk w) (y := 2 * y) (x := 2 * x) (dy := 2) (dx := 0) (dx' := 1) (X := even A) (W := pairs w) (q := r * 81 + (y * 9 + x) + 9) (t := 2) rfl
    (fun c hc => even_at A (i := (y + 1)) (j := x) (e := 0) (by omega) (by omega) (by omega) (by omega) (by omega))
    (fun c hc => even_at A (i := (y + 1)) (j := x) (e := 1) (by omega) (by omega) (by omega) (by omega) (by omega))
    (fun c hc => pairs_at0 w (t := 2) (by omega)) (fun c hc => pairs_at1 w (t := 2) (by omega))]
  rw [tapSum_tap (A := at4 A (g * 32 + r)) (w := wk w) (y := 2 * y) (x := 2 * x) (dy := 2) (dx := 2) (X := even A) (W := rest w) (q := r * 81 + (y * 9 + x) + 10) (t := 2)
    (fun c hc => even_at A (i := (y + 1)) (j := x + 1) (e := 0) (by omega) (by omega) (by omega) (by omega) (by omega))
    (fun c hc => rest_at w (t := 2) (by omega))]
  simp only [add_assoc]

/-- The layer: the images cut out of the call's result are the convolved images. -/
theorem layer (V : (c : Dev nD) → (b : Ref sig .tc) → Buf (Elt Ideal) ((c : Thread nD τ).loc b)) (c : Dev nD)
    (h0 : (V c main_v69 : (⟨3, ![4, 2602, 256]⟩ : Shape).Idx → EReal) = even A) (h1 : (V c main_v71 : (⟨3, ![4, 2602, 256]⟩ : Shape).Idx → EReal) = odd A)
    (h2 : (V c main_v74 : (⟨3, ![3, 256, 256]⟩ : Shape).Idx → EReal) = pairs w) (h3 : (V c main_v75 : (⟨3, ![3, 128, 256]⟩ : Shape).Idx → EReal) = rest w)
    {b y x o : ℕ} (h : b < 128 ∧ y < 8 ∧ x < 8 ∧ o < 256) :
    at4 (image ((dat2 V c).arrAt 4 cfg2.N)) b y x o = max (conv9 128 (at4 A b) (wk w) (2 * y) (2 * x) o) 0 := by
  obtain ⟨g, r, hg, hr, rfl⟩ : ∃ g r, g < 4 ∧ r < 32 ∧ b = g * 32 + r := ⟨b / 32, b % 32, by omega, by omega, by omega⟩
  refine (image_at _ (by omega)).trans ((Reg2.arr_at V c _ _ _ (by omega)).trans ?_)
  refine Eq.trans ?_ (row_eq A w (by omega))
  rw [← h0, ← h1, ← h2, ← h3]

variable (U : Valuation τ sig (Elt Ideal))

/-- The contents after the host operations before the call. -/
abbrev S : Valuation τ sig (Elt Ideal) := StableHlo.after hostOps2_6 (StableHlo.after hostOps2_5 (StableHlo.after hostOps2_4 (StableHlo.after hostOps2_3 (StableHlo.after hostOps2_2 (StableHlo.after hostOps2_1 (StableHlo.after hostOps2 U))))))

theorem read_v69 : (S U (Proc.devRef .tc main_v69) : (⟨3, ![4, 2602, 256]⟩ : Shape).Idx → EReal) = even (Enc1.image (U (Proc.devRef .tc main_v54))) := by
  after_results
  try simp only [StableHlo.TRef.toBuf, StableHlo.TRef.ofBuf]
  repeat erw [cast_eq]
  rfl

theorem read_v71 : (S U (Proc.devRef .tc main_v71) : (⟨3, ![4, 2602, 256]⟩ : Shape).Idx → EReal) = odd (Enc1.image (U (Proc.devRef .tc main_v54))) := by
  after_results
  try simp only [StableHlo.TRef.toBuf, StableHlo.TRef.ofBuf]
  repeat erw [cast_eq]
  rfl

theorem read_v74 : (S U (Proc.devRef .tc main_v74) : (⟨3, ![3, 256, 256]⟩ : Shape).Idx → EReal) = pairs (U (Proc.devRef .tc main_arg7)) := by
  after_results
  try simp only [StableHlo.TRef.toBuf, StableHlo.TRef.ofBuf]
  repeat erw [cast_eq]
  rfl

theorem read_v75 : (S U (Proc.devRef .tc main_v75) : (⟨3, ![3, 128, 256]⟩ : Shape).Idx → EReal) = rest (U (Proc.devRef .tc main_arg7)) := by
  after_results
  try simp only [StableHlo.TRef.toBuf, StableHlo.TRef.ofBuf]
  repeat erw [cast_eq]
  rfl

end Cert.Enc2

end
-- ==== Proof.Reg3.lean ====
/- The fourth encoder layer's custom call: every row of its output as a function of the rows of its inputs. -/
module

public import proofs.«01_k».proof.Proof.Tap
public import proofs.«01_k».proof.Proof.Gen.KernelIdeal.Frame.Region3

@[expose] public section

set_option maxRecDepth 16384

noncomputable section

namespace Cert.Reg3

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 806, 512]⟩ : Shape).Idx → EReal) {m1 : ℕ} (X1 : (⟨3, ![m1, 806, 512]⟩ : Shape).Idx → EReal) (X2 : S3x512x256.Idx → EReal) (X3 : S3x256x256.Idx → EReal) (i p co : ℕ) : EReal :=
  max (tapSum 512 X0 X2 i (p + 0) co 0 + tapSum 256 X0 X3 i (p + 1) co 0 + tapSum 512 X1 X2 i (p + 0) co 1 + tapSum 256 X1 X3 i (p + 1) co 1 + tapSum 512 X0 X2 i (p + 5) co 2 + tapSum 256 X0 X3 i (p + 6) co 2) 0

theorem hdot_800_256 : dot_S800x256_S256x256_S800x256_1_0_0_1_n_n = DotDims.plain 800 256 256 := rfl
theorem hdot_800_512 : dot_S800x512_S512x256_S800x256_1_0_0_1_n_n = DotDims.plain 800 512 256 := rfl

/-- What the body leaves in its output's block, index by index. -/
theorem out_eq (x0 : Vec Ideal S1x806x512 .bf16) (x1 : Vec Ideal S1x806x512 .bf16) (x2 : Vec Ideal S3x512x256 .bf16) (x3 : Vec Ideal S3x256x256 .bf16) (y : S1x800x256.Idx) :
    out3_4 x0 x1 x2 x3 y = row x0 x1 x2 x3 0 (y 1).val (y 2).val := by
  unfold out3_4
  refine View.canon_apply_of_pieces (Val := Elt Ideal) (fun y : S1x800x256.Idx => row x0 x1 x2 x3 0 (y 1).val (y 2).val) _ ?_ y (cover3_4 _ y)
  intro p hp
  simp only [List.mem_cons, List.mem_nil_iff, or_false] at hp
  rcases hp with rfl
  · refine forall_ix3 fun z r c => ?_
    show _ = row x0 x1 x2 x3 0 (0 + 1 * r.val) (0 + 1 * c.val)
    simp only [k3_pay1, k3_pay2, k3_pay3, row, shapeCast_ab_1ab_apply, addf_apply, truncf_apply, extf_apply, maximumf_apply, tanh_apply', bcast_zero, tap_val, hdot_800_256, hdot_800_512, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg3.N, win3_0.index t (0 : Fin 3) = t.val ∧ win3_0.index t (1 : Fin 3) = 0 ∧ win3_0.index t (2 : Fin 3) = 0 :=
  (by decide +kernel : ∀ t : Fin grid3.N, _)
theorem idx1 : ∀ t : Fin cfg3.N, win3_1.index t (0 : Fin 3) = t.val ∧ win3_1.index t (1 : Fin 3) = 0 ∧ win3_1.index t (2 : Fin 3) = 0 :=
  (by decide +kernel : ∀ t : Fin grid3.N, _)
theorem idx2 : ∀ t : Fin cfg3.N, win3_2.index t (0 : Fin 3) = 0 ∧ win3_2.index t (1 : Fin 3) = 0 ∧ win3_2.index t (2 : Fin 3) = 0 :=
  (by decide +kernel : ∀ t : Fin grid3.N, _)
theorem idx3 : ∀ t : Fin cfg3.N, win3_3.index t (0 : Fin 3) = 0 ∧ win3_3.index t (1 : Fin 3) = 0 ∧ win3_3.index t (2 : Fin 3) = 0 :=
  (by decide +kernel : ∀ t : Fin grid3.N, _)
theorem idx4 : ∀ t : Fin cfg3.N, win3_4.index t (0 : Fin 3) = t.val ∧ win3_4.index t (1 : Fin 3) = 0 ∧ win3_4.index t (2 : Fin 3) = 0 :=
  (by decide +kernel : ∀ t : Fin grid3.N, _)
theorem hN : cfg3.N = 4 := N_3

/-- The input's block at a point, read anywhere. -/
theorem at_iblk0 (c : Dev nD) (t : Fin cfg3.N) (q k : ℕ) :
    at3 (n0 := 1) (n1 := 806) (n2 := 512) (iblk3 V c 0 t) 0 q k = at3 (n0 := 4) (n1 := 806) (n2 := 512) (V c main_v91) t.val q k := by
  refine at3_block _ _ (lt_of_lt_of_eq t.isLt hN) (fun q k => ?_) q k
  obtain ⟨e0, e1, e2⟩ := idx0 t
  refine congrArg (V c main_v91) (funext fun a => Fin.ext ?_)
  match a with
  | ⟨0, _⟩ => show win3_0.index t (0 : Fin 3) * 1 + 1 * 0 = t.val; omega
  | ⟨1, _⟩ => show win3_0.index t (1 : Fin 3) * 806 + 1 * q.val = q.val; omega
  | ⟨2, _⟩ => show win3_0.index t (2 : Fin 3) * 512 + 1 * k.val = k.val; omega

/-- The input's block at a point, read anywhere. -/
theorem at_iblk1 (c : Dev nD) (t : Fin cfg3.N) (q k : ℕ) :
    at3 (n0 := 1) (n1 := 806) (n2 := 512) (iblk3 V c 1 t) 0 q k = at3 (n0 := 4) (n1 := 806) (n2 := 512) (V c main_v93) t.val q k := by
  refine at3_block _ _ (lt_of_lt_of_eq t.isLt hN) (fun q k => ?_) q k
  obtain ⟨e0, e1, e2⟩ := idx1 t
  refine congrArg (V c main_v93) (funext fun a => Fin.ext ?_)
  match a with
  | ⟨0, _⟩ => show win3_1.index t (0 : Fin 3) * 1 + 1 * 0 = t.val; omega
  | ⟨1, _⟩ => show win3_1.index t (1 : Fin 3) * 806 + 1 * q.val = q.val; omega
  | ⟨2, _⟩ => show win3_1.index t (2 : Fin 3) * 512 + 1 * k.val = k.val; omega

/-- The weights' block is the weights. -/
theorem iblk2_eq (c : Dev nD) (t : Fin cfg3.N) : (iblk3 V c 2 t : S3x512x256.Idx → EReal) = V c main_v96 := by
  obtain ⟨e0, e1, e2⟩ := idx2 t
  funext j
  refine congrArg (V c main_v96) (funext fun a => Fin.ext ?_)
  match a with
  | ⟨0, _⟩ => show win3_2.index t (0 : Fin 3) * 3 + 1 * (j 0).val = (j 0).val; omega
  | ⟨1, _⟩ => show win3_2.index t (1 : Fin 3) * 512 + 1 * (j 1).val = (j 1).val; omega
  | ⟨2, _⟩ => show win3_2.index t (2 : Fin 3) * 256 + 1 * (j 2).val = (j 2).val; omega

/-- The weights' block is the weights. -/
theorem iblk3_eq (c : Dev nD) (t : Fin cfg3.N) : (iblk3 V c 3 t : S3x256x256.Idx → EReal) = V c main_v97 := by
  obtain ⟨e0, e1, e2⟩ := idx3 t
  funext j
  refine congrArg (V c main_v97) (funext fun a => Fin.ext ?_)
  match a with
  | ⟨0, _⟩ => show win3_3.index t (0 : Fin 3) * 3 + 1 * (j 0).val = (j 0).val; omega
  | ⟨1, _⟩ => show win3_3.index t (1 : Fin 3) * 256 + 1 * (j 1).val = (j 1).val; omega
  | ⟨2, _⟩ => show win3_3.index t (2 : Fin 3) * 256 + 1 * (j 2).val = (j 2).val; omega

/-- The array the call leaves. -/
def G (X0 : S4x806x512.Idx → EReal) (X1 : S4x806x512.Idx → EReal) (X2 : S3x512x256.Idx → EReal) (X3 : S3x256x256.Idx → EReal) (y : S4x800x256.Idx) : EReal := row X0 X1 X2 X3 (y 0).val (y 1).val (y 2).val

/-- The output's block at a point covers that image block's rows. -/
theorem emb_eq (t : Fin cfg3.N) (z : Fin 1) (p : Fin 800) (co : Fin 256) :
    ((cfg3.win 4).blk t).view.emb (ix3 z p co) = (ix3 ⟨t.val, lt_of_lt_of_eq t.isLt hN⟩ p co : S4x800x256.Idx) := by
  obtain ⟨e0, e1, e2⟩ := idx4 t
  refine funext fun a => Fin.ext ?_
  match a with
  | ⟨0, _⟩ => show win3_4.index t (0 : Fin 3) * 1 + 1 * z.val = t.val; have := z.isLt; omega
  | ⟨1, _⟩ => show win3_4.index t (1 : Fin 3) * 800 + 1 * p.val = p.val; omega
  | ⟨2, _⟩ => show win3_4.index t (2 : Fin 3) * 256 + 1 * co.val = co.val; omega

theorem flushed_eq (c : Dev nD) (t : Fin cfg3.N) :
    (dat3 V c).flushed 4 t = ((cfg3.win 4).blk t).view.read (Elt Ideal) (G (V c main_v91) (V c main_v93) (V c main_v96) (V c main_v97)) := by
  show (cfg3.win 4).cut (grid3.coords t) ((dat3 V c).after 4 t) = _
  rw [after3_4]
  refine funext (forall_ix3 (n0 := 1) (n1 := 800) (n2 := 256) fun z p co => ?_)
  refine (out_eq _ _ _ _ _).trans ?_
  show _ = G (V c main_v91) (V c main_v93) (V c main_v96) (V c main_v97) (((cfg3.win 4).blk t).view.emb (ix3 z p co))
  rw [emb_eq]
  show row _ _ _ _ 0 p.val co.val = row _ _ _ _ t.val p.val co.val
  unfold row
  simp only [tapSum_congr (at_iblk0 V c t) (fun t' k c' => congrArg (fun f => at3 f t' k c') (iblk2_eq V c t)), tapSum_congr (at_iblk0 V c t) (fun t' k c' => congrArg (fun f => at3 f t' k c') (iblk3_eq V c t)), tapSum_congr (at_iblk1 V c t) (fun t' k c' => congrArg (fun f => at3 f t' k c') (iblk2_eq V c t)), tapSum_congr (at_iblk1 V c t) (fun t' k c' => congrArg (fun f => at3 f t' k c') (iblk3_eq V c t))]

theorem cover (i : S4x800x256.Idx) : ∃ t : Fin cfg3.N, (cfg3.win 4).flush t = true ∧ i ∈ ((cfg3.win 4).blk t).view.set := by
  revert i
  refine forall_ix3 fun b p co => ?_
  have ht : b.val < cfg3.N := lt_of_lt_of_eq b.isLt hN.symm
  have h := ((cfg3.win 4).blk ⟨b.val, ht⟩).view.emb_mem_set (ix3 (0 : Fin 1) p co : S1x800x256.Idx)
  rw [emb_eq] at h
  exact ⟨⟨b.val, ht⟩, flush3_4 _, h⟩

/-- The call's result array. -/
theorem arr_eq (c : Dev nD) : (dat3 V c).arrAt 4 cfg3.N = G (V c main_v91) (V c main_v93) (V c main_v96) (V c main_v97) :=
  (dat3 V c).arrAt_eq_of_cover 4 _ (fun t _ => flushed_eq V c t) cover

/-- The call's result array, read at natural-number coordinates. -/
theorem arr_at (c : Dev nD) (i p co : ℕ) (h : i < 4 ∧ p < 800 ∧ co < 256) :
    at3 (n0 := 4) (n1 := 800) (n2 := 256) ((dat3 V c).arrAt 4 cfg3.N) i p co = row (show S4x806x512.Idx → EReal from V c main_v91) (show S4x806x512.Idx → EReal from V c main_v93) (show S3x512x256.Idx → EReal from V c main_v96) (show S3x256x256.Idx → EReal from V c main_v97) i p co := by
  rw [arr_eq, at3_eq _ h]
  rfl

end Cert.Reg3

end
-- ==== Proof.Enc3.lean ====
/- The fourth encoder layer: from the images its host operations are given to the images cut out of its call's result. -/
module

public import proofs.«01_k».proof.Proof.Conv
public import proofs.«01_k».proof.Proof.Reg3
public import proofs.«01_k».proof.Proof.Enc2

@[expose] public section

set_option maxRecDepth 16384

noncomputable section

namespace Cert.Enc3

open Idealize.ShloMosaic Idealize.ShloMosaic.TcCoe Idealize.ShloMosaic.ValueIdx Idealize.ShloMosaic.Tactic
open Cert.KernelIdeal Cert.KernelIdeal.Gen Cert.Arr

variable (A : (⟨4, ![128, 8, 8, 256]⟩ : Shape).Idx → EReal) (w : (⟨4, ![256, 256, 3, 3]⟩ : Shape).Idx → EReal)

/-- The padded images, two neighbouring pixels side by side in the channels. -/
def pix : (⟨4, ![128, 10, 5, 512]⟩ : Shape).Idx → EReal :=
  shapeCast ⟨4, ![128, 10, 5, 512]⟩ (pad ⟨4, ![128, 10, 10, 256]⟩ ![0, 0, 0, 0] ![0, 2, 2, 0] ![0, 0, 0, 0] A (border (φ := .bf16)) (by decide) (by decide)) (by decide)

/-- The rows of even image lines, flattened, grouped by block of images. -/
def even : (⟨3, ![4, 806, 512]⟩ : Shape).Idx → EReal :=
  pad ⟨3, ![4, 806, 512]⟩ ![0, 0, 0] ![0, 6, 0] ![0, 0, 0]
    (shapeCast ⟨3, ![4, 800, 512]⟩ (shapeCast ⟨3, ![128, 25, 512]⟩ (Host.slice ⟨4, ![128, 5, 5, 512]⟩ ![0, 0, 0, 0] ![1, 2, 1, 1] (pix A) (by decide)) (by decide)) (by decide))
    (border (φ := .bf16)) (by decide) (by decide)

/-- The rows of odd image lines, flattened, grouped by block of images. -/
def odd : (⟨3, ![4, 806, 512]⟩ : Shape).Idx → EReal :=
  pad ⟨3, ![4, 806, 512]⟩ ![0, 0, 0] ![0, 6, 0] ![0, 0, 0]
    (shapeCast ⟨3, ![4, 800, 512]⟩ (shapeCast ⟨3, ![128, 25, 512]⟩ (Host.slice ⟨4, ![128, 5, 5, 512]⟩ ![0, 1, 0, 0] ![1, 2, 1, 1] (pix A) (by decide)) (by decide)) (by decide))
    (border (φ := .bf16)) (by decide) (by decide)

/-- The weights by tap. -/
def taps : (⟨3, ![9, 256, 256]⟩ : Shape).Idx → EReal := shapeCast ⟨3, ![9, 256, 256]⟩ (transpose ⟨4, ![3, 3, 256, 256]⟩ [2, 3, 1, 0] w (by decide)) (by decide)

/-- The weights of the first two taps of a line, one under the other. -/
def pairs : (⟨3, ![3, 512, 256]⟩ : Shape).Idx → EReal :=
  concatenate ⟨3, ![3, 512, 256]⟩ 1 [⟨⟨3, ![3, 256, 256]⟩, Host.slice ⟨3, ![3, 256, 256]⟩ ![0, 0, 0] ![3, 1, 1] (taps w) (by decide)⟩,
    ⟨⟨3, ![3, 256, 256]⟩, Host.slice ⟨3, ![3, 256, 256]⟩ ![1, 0, 0] ![3, 1, 1] (taps w) (by decide)⟩]
    (by exact (by decide : Shape.Concatenates [⟨3, ![3, 256, 256]⟩, ⟨3, ![3, 256, 256]⟩] ⟨3, ![3, 512, 256]⟩ 1))

/-- The weights of the third tap of a line. -/
def rest : (⟨3, ![3, 256, 256]⟩ : Shape).Idx → EReal := Host.slice ⟨3, ![3, 256, 256]⟩ ![2, 0, 0] ![3, 1, 1] (taps w) (by decide)

/-- The images cut out of the rows the call leaves. -/
def image (Z : (⟨3, ![4, 800, 256]⟩ : Shape).Idx → EReal) : (⟨4, ![128, 4, 4, 256]⟩ : Shape).Idx → EReal :=
  extractStridedSlice ⟨4, ![128, 4, 4, 256]⟩ ![0, 0, 0, 0] (shapeCast ⟨4, ![128, 4, 5, 256]⟩
    (extractStridedSlice ⟨3, ![128, 20, 256]⟩ ![0, 0, 0] (shapeCast ⟨3, ![128, 25, 256]⟩ Z (by decide)) (by decide)) (by decide)) (by decide)

theorem pix_at {b y j e c c' X : ℕ} (h : b < 128 ∧ y < 10 ∧ j < 5 ∧ e < 2 ∧ c < 256) (hc : c' = e * 256 + c) (hX : X = 2 * j + e) :
    at4 (pix A) b y j c' = at4 A b y X c := by
  obtain ⟨h0, h1, h2, h3, h4⟩ := h
  subst hc hX
  unfold pix
  rw [at_cast44 _ _ b y (2 * j + e) c ⟨h0, h1, h2, by omega⟩ ⟨h0, h1, by omega, h4⟩ (by omega), at4_padhi]

theorem even_at {g r i j e c q c' Y X : ℕ} (h : g < 4 ∧ r < 32 ∧ i < 5 ∧ j < 5 ∧ e < 2 ∧ c < 256)
    (hq : q = r * 25 + (i * 5 + j)) (hc : c' = e * 256 + c) (hY : Y = 2 * i + 0) (hX : X = 2 * j + e) :
    at3 (even A) g q c' = at4 A (g * 32 + r) Y X c := by
  obtain ⟨h0, h1, h2, h3, h4, h5⟩ := h
  have hb : g * 32 + r < 128 := by omega
  have hc' : c' < 512 := by omega
  have hs : i * 5 + j < 25 := by omega
  unfold even
  rw [at3_padhi, at_cast33 _ _ (g * 32 + r) (i * 5 + j) c' ⟨h0, by omega, hc'⟩ ⟨hb, hs, hc'⟩ (by subst hq; omega),
    at_cast43 _ _ (g * 32 + r) i j c' ⟨hb, hs, hc'⟩ ⟨hb, h2, h3, hc'⟩ (by omega), at4_sliceBy _ _ ⟨hb, h2, h3, hc'⟩,
    pix_at A (b := 0 + 1 * (g * 32 + r)) (y := 0 + 2 * i) (j := 0 + 1 * j) (e := e) (c := c) (c' := 0 + 1 * c') (X := X) ⟨by omega, by omega, by omega, h4, h5⟩ (by omega) (by omega)]
  congr 1 <;> omega

theorem odd_at {g r i j e c q c' Y X : ℕ} (h : g < 4 ∧ r < 32 ∧ i < 5 ∧ j < 5 ∧ e < 2 ∧ c < 256)
    (hq : q = r * 25 + (i * 5 + j)) (hc : c' = e * 256 + c) (hY : Y = 2 * i + 1) (hX : X = 2 * j + e) :
    at3 (odd A) g q c' = at4 A (g * 32 + r) Y X c := by
  obtain ⟨h0, h1, h2, h3, h4, h5⟩ := h
  have hb : g * 32 + r < 128 := by omega
  have hc' : c' < 512 := by omega
  have hs : i * 5 + j < 25 := by omega
  unfold odd
  rw [at3_padhi, at_cast33 _ _ (g * 32 + r) (i * 5 + j) c' ⟨h0, by omega, hc'⟩ ⟨hb, hs, hc'⟩ (by subst hq; omega),
    at_cast43 _ _ (g * 32 + r) i j c' ⟨hb, hs, hc'⟩ ⟨hb, h2, h3, hc'⟩ (by omega), at4_sliceBy _ _ ⟨hb, h2, h3, hc'⟩,
    pix_at A (b := 0 + 1 * (g * 32 + r)) (y := 1 + 2 * i) (j := 0 + 1 * j) (e := e) (c := c) (c' := 0 + 1 * c') (X := X) ⟨by omega, by omega, by omega, h4, h5⟩ (by omega) (by omega)]
  congr 1 <;> omega

theorem taps_at {k c o : ℕ} (h : k < 9 ∧ c < 256 ∧ o < 256) : at3 (taps w) k c o = wk w k c o := at3_taps w _ _ h

theorem rest_at {t c o : ℕ} (h : t < 3 ∧ c < 256 ∧ o < 256) : at3 (rest w) t c o = wk w (3 * t + 2) c o := by
  obtain ⟨h0, h1, h2⟩ := h
  unfold rest
  rw [at3_sliceBy _ _ ⟨h0, h1, h2⟩, taps_at w (k := 2 + 3 * t) (c := 0 + 1 * c) (o := 0 + 1 * o) (by omega)]
  congr 1 <;> omega

theorem pairs_at0 {t c o : ℕ} (h : t < 3 ∧ c < 256 ∧ o < 256) : at3 (pairs w) t c o = wk w (3 * t + 0) c o := by
  obtain ⟨h0, h1, h2⟩ := h
  unfold pairs
  rw [at3_concat1 _ _ _ ⟨h0, show c < 256 + 256 by omega, h2⟩ rfl, if_pos h1, at3_sliceBy _ _ ⟨h0, h1, h2⟩, taps_at w (k := 0 + 3 * t) (c := 0 + 1 * c) (o := 0 + 1 * o) (by omega)]
  congr 1 <;> omega

theorem pairs_at1 {t c o : ℕ} (h : t < 3 ∧ c < 256 ∧ o < 256) : at3 (pairs w) t (256 + c) o = wk w (3 * t + 1) c o := by
  obtain ⟨h0, h1, h2⟩ := h
  unfold pairs
  rw [at3_concat1 _ _ _ ⟨h0, show 256 + c < 256 + 256 by omega, h2⟩ rfl, if_neg (by omega), at3_sliceBy _ _ ⟨h0, by omega, h2⟩,
    taps_at w (k := 1 + 3 * t) (c := 0 + 1 * (256 + c - 256)) (o := 0 + 1 * o) (by omega)]
  congr 1 <;> omega

theorem image_at (Z : (⟨3, ![4, 800, 256]⟩ : Shape).Idx → EReal) {g r y x o : ℕ} (h : g < 4 ∧ r < 32 ∧ y < 4 ∧ x < 4 ∧ o < 256) :
    at4 (image Z) (g * 32 + r) y x o = at3 Z g (r * 25 + (y * 5 + x)) o := by
  obtain ⟨h0, h1, h2, h3, h4⟩ := h
  have hb : g * 32 + r < 128 := by omega
  unfold image
  rw [at4_slice _ _ ⟨hb, h2, h3, h4⟩]
  simp only [Nat.zero_add]
  rw [at_cast34 _ _ (g * 32 + r) (y * 5 + x) o ⟨hb, h2, by omega, h4⟩ ⟨hb, by omega, h4⟩ (by omega), at3_slice _ _ ⟨hb, by omega, h4⟩]
  simp only [Nat.zero_add]
  rw [at_cast33 _ _ g (r * 25 + (y * 5 + x)) o ⟨hb, by omega, h4⟩ ⟨h0, by omega, h4⟩ (by omega)]

/-- The call's row function on these inputs is the stride-two convolution, clamped at zero. -/
theorem row_eq {g r y x o : ℕ} (h : g < 4 ∧ r < 32 ∧ y < 4 ∧ x < 4 ∧ o < 256) :
    Reg3.row (even A) (odd A) (pairs w) (rest w) g (r * 25 + (y * 5 + x)) o
      = max (conv9 256 (at4 A (g * 32 + r)) (wk w) (2 * y) (2 * x) o) 0 := by
  obtain ⟨h0, h1, h2, h3, h4⟩ := h
  unfold Reg3.row conv9
  rw [tapSum_pair (K := 256) (A := at4 A (g * 32 + r)) (w := wk w) (y := 2 * y) (x := 2 * x) (dy := 0) (dx := 0) (dx' := 1) (X := even A) (W := pairs w) (q := r * 25 + (y * 5 + x) + 0) (t := 0) rfl
    (fun c hc => even_at A (i := y) (j := x) (e := 0) (by omega) (by omega) (by omega) (by omega) (by omega))
    (fun c hc => even_at A (i := y) (j := x) (e := 1) (by omega) (by omega) (by omega) (by omega) (by omega))
    (fun c hc => pairs_at0 w (t := 0) (by omega)) (fun c hc => pairs_at1 w (t := 0) (by omega))]
  rw [tapSum_tap (A := at4 A (g * 32 + r)) (w := wk w) (y := 2 * y) (x := 2 * x) (dy := 0) (dx := 2) (X := even A) (W := rest w) (q := r * 25 + (y * 5 + x) + 1) (t := 0)
    (fun c hc => even_at A (i := y) (j := x + 1) (e := 0) (by omega) (by omega) (by omega) (by omega) (by omega))
    (fun c hc => rest_at w (t := 0) (by omega))]
  rw [tapSum_pair (K := 256) (A := at4 A (g * 32 + r)) (w := wk w) (y := 2 * y) (x := 2 * x) (dy := 1) (dx := 0) (dx' := 1) (X := odd A) (W := pairs w) (q := r * 25 + (y * 5 + x) + 0) (t := 1) rfl
    (fun c hc => odd_at A (i := y) (j := x) (e := 0) (by omega) (by omega) (by omega) (by omega) (by omega))
    (fun c hc => odd_at A (i := y) (j := x) (e := 1) (by omega) (by omega) (by omega) (by omega) (by omega))
    (fun c hc => pairs_at0 w (t := 1) (by omega)) (fun c hc => pairs_at1 w (t := 1) (by omega))]
  rw [tapSum_tap (A := at4 A (g * 32 + r)) (w := wk w) (y := 2 * y) (x := 2 * x) (dy := 1) (dx := 2) (X := odd A) (W := rest w) (q := r * 25 + (y * 5 + x) + 1) (t := 1)
    (fun c hc => odd_at A (i := y) (j := x + 1) (e := 0) (by omega) (by omega) (by omega) (by omega) (by omega))
    (fun c hc => rest_at w (t := 1) (by omega))]
  rw [tapSum_pair (K := 256) (A := at4 A (g * 32 + r)) (w := wk w) (y := 2 * y) (x := 2 * x) (dy := 2) (dx := 0) (dx' := 1) (X := even A) (W := pairs w) (q := r * 25 + (y * 5 + x) + 5) (t := 2) rfl
    (fun c hc => even_at A (i := (y + 1)) (j := x) (e := 0) (by omega) (by omega) (by omega) (by omega) (by omega))
    (fun c hc => even_at A (i := (y + 1)) (j := x) (e := 1) (by omega) (by omega) (by omega) (by omega) (by omega))
    (fun c hc => pairs_at0 w (t := 2) (by omega)) (fun c hc => pairs_at1 w (t := 2) (by omega))]
  rw [tapSum_tap (A := at4 A (g * 32 + r)) (w := wk w) (y := 2 * y) (x := 2 * x) (dy := 2) (dx := 2) (X := even A) (W := rest w) (q := r * 25 + (y * 5 + x) + 6) (t := 2)
    (fun c hc => even_at A (i := (y + 1)) (j := x + 1) (e := 0) (by omega) (by omega) (by omega) (by omega) (by omega))
    (fun c hc => rest_at w (t := 2) (by omega))]
  simp only [add_assoc]

/-- The layer: the images cut out of the call's result are the convolved images. -/
theorem layer (V : (c : Dev nD) → (b : Ref sig .tc) → Buf (Elt Ideal) ((c : Thread nD τ).loc b)) (c : Dev nD)
    (h0 : (V c main_v91 : (⟨3, ![4, 806, 512]⟩ : Shape).Idx → EReal) = even A) (h1 : (V c main_v93 : (⟨3, ![4, 806, 512]⟩ : Shape).Idx → EReal) = odd A)
    (h2 : (V c main_v96 : (⟨3, ![3, 512, 256]⟩ : Shape).Idx → EReal) = pairs w) (h3 : (V c main_v97 : (⟨3, ![3, 256, 256]⟩ : Shape).Idx → EReal) = rest w)
    {b y x o : ℕ} (h : b < 128 ∧ y < 4 ∧ x < 4 ∧ o < 256) :
    at4 (image ((dat3 V c).arrAt 4 cfg3.N)) b y x o = max (conv9 256 (at4 A b) (wk w) (2 * y) (2 * x) o) 0 := by
  obtain ⟨g, r, hg, hr, rfl⟩ : ∃ g r, g < 4 ∧ r < 32 ∧ b = g * 32 + r := ⟨b / 32, b % 32, by omega, by omega, by omega⟩
  refine (image_at _ (by omega)).trans ((Reg3.arr_at V c _ _ _ (by omega)).trans ?_)
  refine Eq.trans ?_ (row_eq A w (by omega))
  rw [← h0, ← h1, ← h2, ← h3]

variable (U : Valuation τ sig (Elt Ideal))

/-- The contents after the host operations before the call. -/
abbrev S : Valuation τ sig (Elt Ideal) := StableHlo.after hostOps3_6 (StableHlo.after hostOps3_5 (StableHlo.after hostOps3_4 (StableHlo.after hostOps3_3 (StableHlo.after hostOps3_2 (StableHlo.after hostOps3_1 (StableHlo.after hostOps3 U))))))

theorem read_v91 : (S U (Proc.devRef .tc main_v91) : (⟨3, ![4, 806, 512]⟩ : Shape).Idx → EReal) = even (Enc2.image (U (Proc.devRef .tc main_v76))) := by
  after_results
  try simp only [StableHlo.TRef.toBuf, StableHlo.TRef.ofBuf]
  repeat erw [cast_eq]
  rfl

theorem read_v93 : (S U (Proc.devRef .tc main_v93) : (⟨3, ![4, 806, 512]⟩ : Shape).Idx → EReal) = odd (Enc2.image (U (Proc.devRef .tc main_v76))) := by
  after_results
  try simp only [StableHlo.TRef.toBuf, StableHlo.TRef.ofBuf]
  repeat erw [cast_eq]
  rfl

theorem read_v96 : (S U (Proc.devRef .tc main_v96) : (⟨3, ![3, 512, 256]⟩ : Shape).Idx → EReal) = pairs (U (Proc.devRef .tc main_arg8)) := by
  after_results
  try simp only [StableHlo.TRef.toBuf, StableHlo.TRef.ofBuf]
  repeat erw [cast_eq]
  rfl

theorem read_v97 : (S U (Proc.devRef .tc main_v97) : (⟨3, ![3, 256, 256]⟩ : Shape).Idx → EReal) = rest (U (Proc.devRef .tc main_arg8)) := by
  after_results
  try simp only [StableHlo.TRef.toBuf, StableHlo.TRef.ofBuf]
  repeat erw [cast_eq]
  rfl

end Cert.Enc3

end
-- ==== Proof.Keys.lean ====
/- The memory calls' inputs: the keys, one word for a font and a component, and the images as rows; and what the calls' results hold. -/
module

public import proofs.«01_k».proof.Proof.Mem
public import proofs.«01_k».proof.Proof.Read
public import proofs.«01_k».proof.Proof.Reg4
public import proofs.«01_k».proof.Proof.Reg5
public import proofs.«01_k».proof.Proof.Enc1
public import proofs.«01_k».proof.Proof.Enc2
public import proofs.«01_k».proof.Proof.Enc3

@[expose] public section

set_option maxRecDepth 16384

noncomputable section

namespace Cert.Keys

open Idealize.ShloMosaic Idealize.ShloMosaic.TcCoe Idealize.ShloMosaic.ValueIdx Idealize.ShloMosaic.Tactic
open Cert.KernelIdeal Cert.KernelIdeal.Gen Cert.Arr Cert.Mem Cert.Weigh
open scoped BigOperators

/-- The references' keys. -/
def refKeys (f d : (⟨1, ![128]⟩ : Shape).Idx → BitVec 32) : (⟨2, ![1, 128]⟩ : Shape).Idx → BitVec 32 :=
  shapeCast ⟨2, ![1, 128]⟩ (addi (muli f (broadcastInDim ⟨1, ![128]⟩ ![] bcast_S_S128 (constantI ⟨0, ![]⟩ 32 68#32))) d) (by decide)

/-- The targets' keys. -/
def trgKeys (f : (⟨1, ![128]⟩ : Shape).Idx → BitVec 32) (d : (⟨2, ![128, 3]⟩ : Shape).Idx → BitVec 32) : (⟨2, ![128, 3]⟩ : Shape).Idx → BitVec 32 :=
  addi (broadcastInDim ⟨2, ![128, 3]⟩ ![0, 1] bcast_S128x1_S128x3_0_1 (muli (broadcastInDim ⟨2, ![128, 1]⟩ ![0] bcast_S128_S128x1_0 f)
    (broadcastInDim ⟨2, ![128, 1]⟩ ![] bcast_S_S128x1 (constantI ⟨0, ![]⟩ 32 68#32)))) d

theorem refKeys_at (f d : (⟨1, ![128]⟩ : Shape).Idx → BitVec 32) (b : Fin 128) : refKeys f d (ix2 0 b) = f (ix1 b) * 68#32 + d (ix1 b) := by
  unfold refKeys
  refine (shapeCast_apply _ _ (ix2 0 b) (ix1 b) ?_).trans rfl
  rw [Shape.rowMajor_val_one, Shape.rowMajor_val_two]
  show b.val = 0 * 128 + b.val
  omega

theorem trgKeys_at (f : (⟨1, ![128]⟩ : Shape).Idx → BitVec 32) (d : (⟨2, ![128, 3]⟩ : Shape).Idx → BitVec 32) (t : Fin 128) (j : Fin 3) :
    trgKeys f d (ix2 t j) = f (ix1 t) * 68#32 + d (ix2 t j) :=
  congrArg (· + d (ix2 t j)) ((row3 _ _ t j).trans (congrArg (· * 68#32) (col1 f _ t)))

/-- The last layer's images as rows, and the skip images as rows. -/
def lowRows (A : (⟨4, ![128, 4, 4, 256]⟩ : Shape).Idx → EReal) : (⟨2, ![128, 4096]⟩ : Shape).Idx → EReal := shapeCast ⟨2, ![128, 4096]⟩ A (by decide)

def skipRows (A : (⟨4, ![128, 16, 16, 128]⟩ : Shape).Idx → EReal) : (⟨2, ![128, 32768]⟩ : Shape).Idx → EReal := shapeCast ⟨2, ![128, 32768]⟩ A (by decide)

/-- The rows read, as images. -/
def lowImage (Z : (⟨2, ![128, 4096]⟩ : Shape).Idx → EReal) : (⟨4, ![128, 4, 4, 256]⟩ : Shape).Idx → EReal := shapeCast ⟨4, ![128, 4, 4, 256]⟩ Z (by decide)

def skipImage (Z : (⟨2, ![128, 32768]⟩ : Shape).Idx → EReal) : (⟨4, ![128, 16, 16, 128]⟩ : Shape).Idx → EReal := shapeCast ⟨4, ![128, 16, 16, 128]⟩ Z (by decide)

variable (V : (c : Dev nD) → (b : Ref sig .tc) → Buf (Elt Ideal) ((c : Thread nD τ).loc b)) (c : Dev nD)
  (rk : (⟨2, ![1, 128]⟩ : Shape).Idx → BitVec 32) (tk : (⟨2, ![128, 3]⟩ : Shape).Idx → BitVec 32)

theorem low (A : (⟨4, ![128, 4, 4, 256]⟩ : Shape).Idx → EReal)
    (h0 : (V c main_v106 : (⟨2, ![1, 128]⟩ : Shape).Idx → BitVec 32) = rk) (h1 : (V c main_v111 : (⟨2, ![128, 3]⟩ : Shape).Idx → BitVec 32) = tk)
    (h2 : (V c main_v112 : (⟨2, ![128, 4096]⟩ : Shape).Idx → EReal) = lowRows A) {y x o : ℕ} (t : Fin 128) (h : y < 4 ∧ x < 4 ∧ o < 256) :
    at4 (lowImage ((dat4 V c).arrAt 3 cfg4.N)) t.val y x o = ∑ b : Fin 128, weight rk tk t b * at4 A b.val y x o := by
  obtain ⟨hy, hx, ho⟩ := h
  have hq : (y * 4 + x) * 256 + o < 4096 := by omega
  unfold lowImage
  refine (at_cast24 _ _ t.val ((y * 4 + x) * 256 + o) ⟨t.isLt, hy, hx, ho⟩ ⟨t.isLt, hq⟩ (by omega)).trans ?_
  refine (Reg4.arr_at V c t.val _ ⟨t.isLt, hq⟩).trans ?_
  rw [h0, h1, h2]
  unfold readRow
  rw [dif_pos t.isLt]
  refine Finset.sum_congr rfl fun b _ => congrArg (weight rk tk t b * ·) ?_
  unfold lowRows
  exact at_cast42 _ _ b.val y x o ⟨b.isLt, hq⟩ ⟨b.isLt, hy, hx, ho⟩ (by omega)

theorem skip (A : (⟨4, ![128, 16, 16, 128]⟩ : Shape).Idx → EReal)
    (h0 : (V c main_v106 : (⟨2, ![1, 128]⟩ : Shape).Idx → BitVec 32) = rk) (h1 : (V c main_v111 : (⟨2, ![128, 3]⟩ : Shape).Idx → BitVec 32) = tk)
    (h2 : (V c main_v114 : (⟨2, ![128, 32768]⟩ : Shape).Idx → EReal) = skipRows A) {y x o : ℕ} (t : Fin 128) (h : y < 16 ∧ x < 16 ∧ o < 128) :
    at4 (skipImage ((dat5 V c).arrAt 3 cfg5.N)) t.val y x o = ∑ b : Fin 128, weight rk tk t b * at4 A b.val y x o := by
  obtain ⟨hy, hx, ho⟩ := h
  have hq : (y * 16 + x) * 128 + o < 32768 := by omega
  unfold skipImage
  refine (at_cast24 _ _ t.val ((y * 16 + x) * 128 + o) ⟨t.isLt, hy, hx, ho⟩ ⟨t.isLt, hq⟩ (by omega)).trans ?_
  refine (Reg5.arr_at V c t.val _ ⟨t.isLt, hq⟩).trans ?_
  rw [h0, h1, h2]
  unfold readRow
  rw [dif_pos t.isLt]
  refine Finset.sum_congr rfl fun b _ => congrArg (weight rk tk t b * ·) ?_
  unfold skipRows
  exact at_cast42 _ _ b.val y x o ⟨b.isLt, hq⟩ ⟨b.isLt, hy, hx, ho⟩ (by omega)

variable (U : Valuation τ sig (Elt Ideal))

theorem read_v106 : (StableHlo.after hostOps4 U (Proc.devRef .tc main_v106) : (⟨2, ![1, 128]⟩ : Shape).Idx → BitVec 32)
    = refKeys (U (Proc.devRef .tc main_arg0)) (U (Proc.devRef .tc main_arg1)) := by
  after_results
  try simp only [StableHlo.TRef.toBuf, StableHlo.TRef.ofBuf]
  repeat erw [cast_eq]
  rfl

theorem read_v111 : (StableHlo.after hostOps4 U (Proc.devRef .tc main_v111) : (⟨2, ![128, 3]⟩ : Shape).Idx → BitVec 32)
    = trgKeys (U (Proc.devRef .tc main_arg3)) (U (Proc.devRef .tc main_arg4)) := by
  after_results
  try simp only [StableHlo.TRef.toBuf, StableHlo.TRef.ofBuf]
  repeat erw [cast_eq]
  rfl

theorem read_v112 : (StableHlo.after hostOps4 U (Proc.devRef .tc main_v112) : (⟨2, ![128, 4096]⟩ : Shape).Idx → EReal)
    = lowRows (Enc3.image (U (Proc.devRef .tc main_v98))) := by
  after_results
  try simp only [StableHlo.TRef.toBuf, StableHlo.TRef.ofBuf]
  repeat erw [cast_eq]
  rfl

theorem read_v114 : (StableHlo.after hostOps5 U (Proc.devRef .tc main_v114) : (⟨2, ![128, 32768]⟩ : Shape).Idx → EReal)
    = skipRows (U (Proc.devRef .tc main_v58)) := by
  after_results
  try simp only [StableHlo.TRef.toBuf, StableHlo.TRef.ofBuf]
  repeat erw [cast_eq]
  rfl

/-- The skip images, cut out of the second call's result. -/
theorem read_v58 : (Enc2.S U (Proc.devRef .tc main_v58) : (⟨4, ![128, 16, 16, 128]⟩ : Shape).Idx → EReal)
    = Enc1.image (U (Proc.devRef .tc main_v54)) := by
  after_results
  try simp only [StableHlo.TRef.toBuf, StableHlo.TRef.ofBuf]
  repeat erw [cast_eq]
  rfl

end Cert.Keys

end
-- ==== Proof.Reg0.lean ====
/- The first encoder layer's custom call: every row of its output as a function of the rows of its inputs. -/
module

public import proofs.«01_k».proof.Proof.Tap
public import proofs.«01_k».proof.Proof.Gen.KernelIdeal.Frame.Region0

@[expose] public section

set_option maxRecDepth 16384

noncomputable section

namespace Cert.Reg0

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 16384, 9]⟩ : Shape).Idx → EReal) (X1 : S1x9x64.Idx → EReal) (i p co : ℕ) : EReal :=
  max (tapSum 9 X0 X1 i (p + 0) co 0) 0

theorem hdot_2048_9 : dot_S2048x9_S9x64_S2048x64_1_0_0_1_n_n = DotDims.plain 2048 9 64 := rfl

/-- What the body leaves in its output's block, index by index. -/
theorem out_eq (x0 : Vec Ideal S1x16384x9 .bf16) (x1 : Vec Ideal S1x9x64 .bf16) (y : S1x16384x64.Idx) :
    out0_2 x0 x1 y = row x0 x1 0 (y 1).val (y 2).val := by
  unfold out0_2
  refine View.canon_apply_of_pieces (Val := Elt Ideal) (fun y : S1x16384x64.Idx => row x0 x1 0 (y 1).val (y 2).val) _ ?_ y (cover0_2 _ _ _ _ _ _ _ _ y)
  intro p hp
  simp only [List.mem_cons, List.mem_nil_iff, or_false] at hp
  rcases hp with rfl | rfl | rfl | rfl | rfl | rfl | rfl | rfl
  · refine forall_ix3 fun z r c => ?_
    show _ = row x0 x1 0 (14336 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (12288 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (10240 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (8192 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (6144 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (4096 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (2048 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]
  · refine forall_ix3 fun z r c => ?_
    show _ = row x0 x1 0 (0 + 1 * r.val) (0 + 1 * c.val)
    simp only [k0_pay1, k0_pay2, k0_pay3, k0_pay4, k0_pay5, k0_pay6, k0_pay7, k0_pay8, k0_pay9, k0_pay10, row, shapeCast_ab_1ab_apply, addf_apply, truncf_apply, extf_apply, maximumf_apply, tanh_apply', bcast_zero, tap_val, hdot_2048_9, Nat.one_mul, Nat.zero_add, Nat.add_zero, Nat.add_right_comm _ r.val, Nat.reduceAdd]

variable (V : (c : Dev nD) → (b : Ref sig .tc) → Buf (Elt Ideal) ((c : Thread nD τ).loc b))

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem hN : cfg0.N = 8 := N_0

/-- The input's block at a point, read anywhere. -/
theorem at_iblk0 (c : Dev nD) (t : Fin cfg0.N) (q k : ℕ) :
    at3 (n0 := 1) (n1 := 16384) (n2 := 9) (iblk0 V c 0 t) 0 q k = at3 (n0 := 8) (n1 := 16384) (n2 := 9) (V c main_v34) t.val q k := by
  refine at3_block _ _ (lt_of_lt_of_eq t.isLt hN) (fun q k => ?_) q k
  obtain ⟨e0, e1, e2⟩ := idx0 t
  refine congrArg (V c main_v34) (funext fun a => Fin.ext ?_)
  match a with
  | ⟨0, _⟩ => show win0_0.index t (0 : Fin 3) * 1 + 1 * 0 = t.val; omega
  | ⟨1, _⟩ => show win0_0.index t (1 : Fin 3) * 16384 + 1 * q.val = q.val; omega
  | ⟨2, _⟩ => show win0_0.index t (2 : Fin 3) * 9 + 1 * k.val = k.val; omega

/-- The weights' block is the weights. -/
theorem iblk1_eq (c : Dev nD) (t : Fin cfg0.N) : (iblk0 V c 1 t : S1x9x64.Idx → EReal) = V c main_v33 := by
  obtain ⟨e0, e1, e2⟩ := idx1 t
  funext j
  refine congrArg (V c main_v33) (funext fun a => Fin.ext ?_)
  match a with
  | ⟨0, _⟩ => show win0_1.index t (0 : Fin 3) * 1 + 1 * (j 0).val = (j 0).val; omega
  | ⟨1, _⟩ => show win0_1.index t (1 : Fin 3) * 9 + 1 * (j 1).val = (j 1).val; omega
  | ⟨2, _⟩ => show win0_1.index t (2 : Fin 3) * 64 + 1 * (j 2).val = (j 2).val; omega

/-- The array the call leaves. -/
def G (X0 : S8x16384x9.Idx → EReal) (X1 : S1x9x64.Idx → EReal) (y : S8x16384x64.Idx) : EReal := row X0 X1 (y 0).val (y 1).val (y 2).val

/-- The output's block at a point covers that image block's rows. -/
theorem emb_eq (t : Fin cfg0.N) (z : Fin 1) (p : Fin 16384) (co : Fin 64) :
    ((cfg0.win 2).blk t).view.emb (ix3 z p co) = (ix3 ⟨t.val, lt_of_lt_of_eq t.isLt hN⟩ p co : S8x16384x64.Idx) := by
  obtain ⟨e0, e1, e2⟩ := idx2 t
  refine funext fun a => Fin.ext ?_
  match a with
  | ⟨0, _⟩ => show win0_2.index t (0 : Fin 3) * 1 + 1 * z.val = t.val; have := z.isLt; omega
  | ⟨1, _⟩ => show win0_2.index t (1 : Fin 3) * 16384 + 1 * p.val = p.val; omega
  | ⟨2, _⟩ => show win0_2.index t (2 : Fin 3) * 64 + 1 * co.val = co.val; omega

theorem flushed_eq (c : Dev nD) (t : Fin cfg0.N) :
    (dat0 V c).flushed 2 t = ((cfg0.win 2).blk t).view.read (Elt Ideal) (G (V c main_v34) (V c main_v33)) := by
  show (cfg0.win 2).cut (grid0.coords t) ((dat0 V c).after 2 t) = _
  rw [after0_2]
  refine funext (forall_ix3 (n0 := 1) (n1 := 16384) (n2 := 64) fun z p co => ?_)
  refine (out_eq _ _ _).trans ?_
  show _ = G (V c main_v34) (V c main_v33) (((cfg0.win 2).blk t).view.emb (ix3 z p co))
  rw [emb_eq]
  show row _ _ 0 p.val co.val = row _ _ t.val p.val co.val
  unfold row
  simp only [tapSum_congr (at_iblk0 V c t) (fun t' k c' => congrArg (fun f => at3 f t' k c') (iblk1_eq V c t))]

theorem cover (i : S8x16384x64.Idx) : ∃ t : Fin cfg0.N, (cfg0.win 2).flush t = true ∧ i ∈ ((cfg0.win 2).blk t).view.set := by
  revert i
  refine forall_ix3 fun b p co => ?_
  have ht : b.val < cfg0.N := lt_of_lt_of_eq b.isLt hN.symm
  have h := ((cfg0.win 2).blk ⟨b.val, ht⟩).view.emb_mem_set (ix3 (0 : Fin 1) p co : S1x16384x64.Idx)
  rw [emb_eq] at h
  exact ⟨⟨b.val, ht⟩, flush0_2 _, h⟩

/-- The call's result array. -/
theorem arr_eq (c : Dev nD) : (dat0 V c).arrAt 2 cfg0.N = G (V c main_v34) (V c main_v33) :=
  (dat0 V c).arrAt_eq_of_cover 2 _ (fun t _ => flushed_eq V c t) cover

/-- The call's result array, read at natural-number coordinates. -/
theorem arr_at (c : Dev nD) (i p co : ℕ) (h : i < 8 ∧ p < 16384 ∧ co < 64) :
    at3 (n0 := 8) (n1 := 16384) (n2 := 64) ((dat0 V c).arrAt 2 cfg0.N) i p co = row (show S8x16384x9.Idx → EReal from V c main_v34) (show S1x9x64.Idx → EReal from V c main_v33) i p co := by
  rw [arr_eq, at3_eq _ h]
  rfl

end Cert.Reg0

end
-- ==== Proof.Enc0.lean ====
/- The first encoder layer: from the input images to the images its call's result holds. -/
module

public import proofs.«01_k».proof.Proof.Conv
public import proofs.«01_k».proof.Proof.Reg0

@[expose] public section

set_option maxRecDepth 16384

noncomputable section

namespace Cert.Enc0

open Idealize.ShloMosaic Idealize.ShloMosaic.TcCoe Idealize.ShloMosaic.ValueIdx Idealize.ShloMosaic.Tactic
open Cert.KernelIdeal Cert.KernelIdeal.Gen Cert.Arr

variable (A : (⟨4, ![128, 1, 64, 64]⟩ : Shape).Idx → EReal) (w : (⟨4, ![64, 1, 3, 3]⟩ : Shape).Idx → EReal)

/-- The padded images. -/
def pix : (⟨3, ![128, 65, 65]⟩ : Shape).Idx → EReal :=
  pad ⟨3, ![128, 65, 65]⟩ ![0, 0, 0] ![0, 1, 1] ![0, 0, 0] (shapeCast ⟨3, ![128, 64, 64]⟩ A (by decide)) (border (φ := .bf16)) (by decide) (by decide)

/-- Every second pixel of the images shifted by one tap, as a column. -/
def piece (dy dx : ℕ) (h : (⟨3, ![128, 65, 65]⟩ : Shape).SlicesBy ![0, dy, dx] ![1, 2, 2] ⟨3, ![128, 32, 32]⟩) : (⟨3, ![128, 1024, 1]⟩ : Shape).Idx → EReal :=
  broadcastInDim ⟨3, ![128, 1024, 1]⟩ ![0, 1] (by decide) (shapeCast ⟨2, ![128, 1024]⟩ (Host.slice ⟨3, ![128, 32, 32]⟩ ![0, dy, dx] ![1, 2, 2] (pix A) h) (by decide))

/-- The nine columns side by side. -/
def cols : (⟨3, ![128, 1024, 9]⟩ : Shape).Idx → EReal :=
  concatenate ⟨3, ![128, 1024, 9]⟩ 2 [⟨⟨3, ![128, 1024, 1]⟩, piece A 0 0 (by decide)⟩, ⟨⟨3, ![128, 1024, 1]⟩, piece A 0 1 (by decide)⟩, ⟨⟨3, ![128, 1024, 1]⟩, piece A 0 2 (by decide)⟩, ⟨⟨3, ![128, 1024, 1]⟩, piece A 1 0 (by decide)⟩, ⟨⟨3, ![128, 1024, 1]⟩, piece A 1 1 (by decide)⟩, ⟨⟨3, ![128, 1024, 1]⟩, piece A 1 2 (by decide)⟩, ⟨⟨3, ![128, 1024, 1]⟩, piece A 2 0 (by decide)⟩, ⟨⟨3, ![128, 1024, 1]⟩, piece A 2 1 (by decide)⟩, ⟨⟨3, ![128, 1024, 1]⟩, piece A 2 2 (by decide)⟩]
    (by exact (by decide : Shape.Concatenates [⟨3, ![128, 1024, 1]⟩, ⟨3, ![128, 1024, 1]⟩, ⟨3, ![128, 1024, 1]⟩, ⟨3, ![128, 1024, 1]⟩, ⟨3, ![128, 1024, 1]⟩, ⟨3, ![128, 1024, 1]⟩, ⟨3, ![128, 1024, 1]⟩, ⟨3, ![128, 1024, 1]⟩, ⟨3, ![128, 1024, 1]⟩] ⟨3, ![128, 1024, 9]⟩ 2))

/-- The rows the call reads, grouped by block of images. -/
def rows : (⟨3, ![8, 16384, 9]⟩ : Shape).Idx → EReal := shapeCast ⟨3, ![8, 16384, 9]⟩ (cols A) (by decide)

/-- The weights by tap. -/
def taps : (⟨3, ![1, 9, 64]⟩ : Shape).Idx → EReal := shapeCast ⟨3, ![1, 9, 64]⟩ (transpose ⟨4, ![3, 3, 1, 64]⟩ [2, 3, 1, 0] w (by decide)) (by decide)

/-- The images the call's result holds. -/
def image (Z : (⟨3, ![8, 16384, 64]⟩ : Shape).Idx → EReal) : (⟨4, ![128, 32, 32, 64]⟩ : Shape).Idx → EReal := shapeCast ⟨4, ![128, 32, 32, 64]⟩ Z (by decide)

theorem pix_at (b y x : ℕ) : at3 (pix A) b y x = at4 A b 0 y x := by
  unfold pix
  rw [at3_padhi]
  by_cases h : b < 128 ∧ y < 64 ∧ x < 64
  · exact at_cast43 _ _ b 0 y x h ⟨h.1, Nat.one_pos, h.2⟩ (by omega)
  · rw [at3_out _ h, at4_out _ (by omega)]

theorem piece_at {dy dx : ℕ} (h : (⟨3, ![128, 65, 65]⟩ : Shape).SlicesBy ![0, dy, dx] ![1, 2, 2] ⟨3, ![128, 32, 32]⟩) {b y x : ℕ}
    (hr : b < 128 ∧ y < 32 ∧ x < 32) : at3 (piece A dy dx h) b (y * 32 + x) 0 = at4 A b 0 (2 * y + dy) (2 * x + dx) := by
  obtain ⟨h0, h1, h2⟩ := hr
  have hq : y * 32 + x < 1024 := by omega
  rw [at3_eq _ ⟨h0, hq, Nat.one_pos⟩]
  unfold piece
  rw [broadcastInDim_apply _ _ _ _ (ix2 ⟨b, h0⟩ ⟨y * 32 + x, hq⟩) (fun i => by
    match i with
    | ⟨0, _⟩ => exact (if_neg (show ¬ (128 = 1) by decide)).symm
    | ⟨1, _⟩ => exact (if_neg (show ¬ (1024 = 1) by decide)).symm)]
  refine (at2_ix _ _ _).trans ?_
  rw [at_cast32 _ _ b y x ⟨h0, hq⟩ ⟨h0, h1, h2⟩ (by omega), at3_sliceBy _ _ ⟨h0, h1, h2⟩, pix_at]
  congr 1 <;> omega

theorem cols_at0 {b y x : ℕ} (hr : b < 128 ∧ y < 32 ∧ x < 32) :
    at3 (cols A) b (y * 32 + x) 0 = at4 A b 0 (2 * y + 0) (2 * x + 0) := by
  have hq : b < 128 ∧ y * 32 + x < 1024 ∧ 0 < 1 := ⟨hr.1, by omega, Nat.one_pos⟩
  rw [← piece_at A (dy := 0) (dx := 0) (by decide) hr, at3_eq _ (a2 := 0) ⟨hr.1, hq.2.1, by decide⟩, at3_eq _ hq]
  unfold cols
  refine concatenate_apply_piece (t := ⟨3, ![128, 1024, 9]⟩) _ _ _ _ 0 ?hk ⟨3, ![128, 1024, 1]⟩ _ ?hx rfl 0 ?hp _ ?hi ?ha
  case hk => exact (by decide : 0 < 9)
  case hx => rfl
  case hp => rfl
  case ha => rfl
  intro b hb
  match b with
  | ⟨0, _⟩ => rfl
  | ⟨1, _⟩ => rfl
  | ⟨2, _⟩ => exact absurd rfl hb

theorem cols_at1 {b y x : ℕ} (hr : b < 128 ∧ y < 32 ∧ x < 32) :
    at3 (cols A) b (y * 32 + x) 1 = at4 A b 0 (2 * y + 0) (2 * x + 1) := by
  have hq : b < 128 ∧ y * 32 + x < 1024 ∧ 0 < 1 := ⟨hr.1, by omega, Nat.one_pos⟩
  rw [← piece_at A (dy := 0) (dx := 1) (by decide) hr, at3_eq _ (a2 := 1) ⟨hr.1, hq.2.1, by decide⟩, at3_eq _ hq]
  unfold cols
  refine concatenate_apply_piece (t := ⟨3, ![128, 1024, 9]⟩) _ _ _ _ 1 ?hk ⟨3, ![128, 1024, 1]⟩ _ ?hx rfl 1 ?hp _ ?hi ?ha
  case hk => exact (by decide : 1 < 9)
  case hx => rfl
  case hp => rfl
  case ha => rfl
  intro b hb
  match b with
  | ⟨0, _⟩ => rfl
  | ⟨1, _⟩ => rfl
  | ⟨2, _⟩ => exact absurd rfl hb

theorem cols_at2 {b y x : ℕ} (hr : b < 128 ∧ y < 32 ∧ x < 32) :
    at3 (cols A) b (y * 32 + x) 2 = at4 A b 0 (2 * y + 0) (2 * x + 2) := by
  have hq : b < 128 ∧ y * 32 + x < 1024 ∧ 0 < 1 := ⟨hr.1, by omega, Nat.one_pos⟩
  rw [← piece_at A (dy := 0) (dx := 2) (by decide) hr, at3_eq _ (a2 := 2) ⟨hr.1, hq.2.1, by decide⟩, at3_eq _ hq]
  unfold cols
  refine concatenate_apply_piece (t := ⟨3, ![128, 1024, 9]⟩) _ _ _ _ 2 ?hk ⟨3, ![128, 1024, 1]⟩ _ ?hx rfl 2 ?hp _ ?hi ?ha
  case hk => exact (by decide : 2 < 9)
  case hx => rfl
  case hp => rfl
  case ha => rfl
  intro b hb
  match b with
  | ⟨0, _⟩ => rfl
  | ⟨1, _⟩ => rfl
  | ⟨2, _⟩ => exact absurd rfl hb

theorem cols_at3 {b y x : ℕ} (hr : b < 128 ∧ y < 32 ∧ x < 32) :
    at3 (cols A) b (y * 32 + x) 3 = at4 A b 0 (2 * y + 1) (2 * x + 0) := by
  have hq : b < 128 ∧ y * 32 + x < 1024 ∧ 0 < 1 := ⟨hr.1, by omega, Nat.one_pos⟩
  rw [← piece_at A (dy := 1) (dx := 0) (by decide) hr, at3_eq _ (a2 := 3) ⟨hr.1, hq.2.1, by decide⟩, at3_eq _ hq]
  unfold cols
  refine concatenate_apply_piece (t := ⟨3, ![128, 1024, 9]⟩) _ _ _ _ 3 ?hk ⟨3, ![128, 1024, 1]⟩ _ ?hx rfl 3 ?hp _ ?hi ?ha
  case hk => exact (by decide : 3 < 9)
  case hx => rfl
  case hp => rfl
  case ha => rfl
  intro b hb
  match b with
  | ⟨0, _⟩ => rfl
  | ⟨1, _⟩ => rfl
  | ⟨2, _⟩ => exact absurd rfl hb

theorem cols_at4 {b y x : ℕ} (hr : b < 128 ∧ y < 32 ∧ x < 32) :
    at3 (cols A) b (y * 32 + x) 4 = at4 A b 0 (2 * y + 1) (2 * x + 1) := by
  have hq : b < 128 ∧ y * 32 + x < 1024 ∧ 0 < 1 := ⟨hr.1, by omega, Nat.one_pos⟩
  rw [← piece_at A (dy := 1) (dx := 1) (by decide) hr, at3_eq _ (a2 := 4) ⟨hr.1, hq.2.1, by decide⟩, at3_eq _ hq]
  unfold cols
  refine concatenate_apply_piece (t := ⟨3, ![128, 1024, 9]⟩) _ _ _ _ 4 ?hk ⟨3, ![128, 1024, 1]⟩ _ ?hx rfl 4 ?hp _ ?hi ?ha
  case hk => exact (by decide : 4 < 9)
  case hx => rfl
  case hp => rfl
  case ha => rfl
  intro b hb
  match b with
  | ⟨0, _⟩ => rfl
  | ⟨1, _⟩ => rfl
  | ⟨2, _⟩ => exact absurd rfl hb

theorem cols_at5 {b y x : ℕ} (hr : b < 128 ∧ y < 32 ∧ x < 32) :
    at3 (cols A) b (y * 32 + x) 5 = at4 A b 0 (2 * y + 1) (2 * x + 2) := by
  have hq : b < 128 ∧ y * 32 + x < 1024 ∧ 0 < 1 := ⟨hr.1, by omega, Nat.one_pos⟩
  rw [← piece_at A (dy := 1) (dx := 2) (by decide) hr, at3_eq _ (a2 := 5) ⟨hr.1, hq.2.1, by decide⟩, at3_eq _ hq]
  unfold cols
  refine concatenate_apply_piece (t := ⟨3, ![128, 1024, 9]⟩) _ _ _ _ 5 ?hk ⟨3, ![128, 1024, 1]⟩ _ ?hx rfl 5 ?hp _ ?hi ?ha
  case hk => exact (by decide : 5 < 9)
  case hx => rfl
  case hp => rfl
  case ha => rfl
  intro b hb
  match b with
  | ⟨0, _⟩ => rfl
  | ⟨1, _⟩ => rfl
  | ⟨2, _⟩ => exact absurd rfl hb

theorem cols_at6 {b y x : ℕ} (hr : b < 128 ∧ y < 32 ∧ x < 32) :
    at3 (cols A) b (y * 32 + x) 6 = at4 A b 0 (2 * y + 2) (2 * x + 0) := by
  have hq : b < 128 ∧ y * 32 + x < 1024 ∧ 0 < 1 := ⟨hr.1, by omega, Nat.one_pos⟩
  rw [← piece_at A (dy := 2) (dx := 0) (by decide) hr, at3_eq _ (a2 := 6) ⟨hr.1, hq.2.1, by decide⟩, at3_eq _ hq]
  unfold cols
  refine concatenate_apply_piece (t := ⟨3, ![128, 1024, 9]⟩) _ _ _ _ 6 ?hk ⟨3, ![128, 1024, 1]⟩ _ ?hx rfl 6 ?hp _ ?hi ?ha
  case hk => exact (by decide : 6 < 9)
  case hx => rfl
  case hp => rfl
  case ha => rfl
  intro b hb
  match b with
  | ⟨0, _⟩ => rfl
  | ⟨1, _⟩ => rfl
  | ⟨2, _⟩ => exact absurd rfl hb

theorem cols_at7 {b y x : ℕ} (hr : b < 128 ∧ y < 32 ∧ x < 32) :
    at3 (cols A) b (y * 32 + x) 7 = at4 A b 0 (2 * y + 2) (2 * x + 1) := by
  have hq : b < 128 ∧ y * 32 + x < 1024 ∧ 0 < 1 := ⟨hr.1, by omega, Nat.one_pos⟩
  rw [← piece_at A (dy := 2) (dx := 1) (by decide) hr, at3_eq _ (a2 := 7) ⟨hr.1, hq.2.1, by decide⟩, at3_eq _ hq]
  unfold cols
  refine concatenate_apply_piece (t := ⟨3, ![128, 1024, 9]⟩) _ _ _ _ 7 ?hk ⟨3, ![128, 1024, 1]⟩ _ ?hx rfl 7 ?hp _ ?hi ?ha
  case hk => exact (by decide : 7 < 9)
  case hx => rfl
  case hp => rfl
  case ha => rfl
  intro b hb
  match b with
  | ⟨0, _⟩ => rfl
  | ⟨1, _⟩ => rfl
  | ⟨2, _⟩ => exact absurd rfl hb

theorem cols_at8 {b y x : ℕ} (hr : b < 128 ∧ y < 32 ∧ x < 32) :
    at3 (cols A) b (y * 32 + x) 8 = at4 A b 0 (2 * y + 2) (2 * x + 2) := by
  have hq : b < 128 ∧ y * 32 + x < 1024 ∧ 0 < 1 := ⟨hr.1, by omega, Nat.one_pos⟩
  rw [← piece_at A (dy := 2) (dx := 2) (by decide) hr, at3_eq _ (a2 := 8) ⟨hr.1, hq.2.1, by decide⟩, at3_eq _ hq]
  unfold cols
  refine concatenate_apply_piece (t := ⟨3, ![128, 1024, 9]⟩) _ _ _ _ 8 ?hk ⟨3, ![128, 1024, 1]⟩ _ ?hx rfl 8 ?hp _ ?hi ?ha
  case hk => exact (by decide : 8 < 9)
  case hx => rfl
  case hp => rfl
  case ha => rfl
  intro b hb
  match b with
  | ⟨0, _⟩ => rfl
  | ⟨1, _⟩ => rfl
  | ⟨2, _⟩ => exact absurd rfl hb

theorem rows_at {g r q k : ℕ} (h : g < 8 ∧ r < 16 ∧ q < 1024 ∧ k < 9) : at3 (rows A) g (r * 1024 + q) k = at3 (cols A) (g * 16 + r) q k := by
  obtain ⟨h0, h1, h2, h3⟩ := h
  unfold rows
  exact at_cast33 _ _ (g * 16 + r) q k ⟨h0, by omega, h3⟩ ⟨by omega, h2, h3⟩ (by omega)

theorem taps_at {k o : ℕ} (h : k < 9 ∧ o < 64) : at3 (taps w) 0 k o = wk w k 0 o := by
  have hk : k / 3 * 3 + k % 3 = k := by omega
  unfold taps
  rw [at_cast43 _ _ (k / 3) (k % 3) 0 o ⟨Nat.one_pos, h⟩ ⟨by omega, by omega, Nat.one_pos, h.2⟩ (by omega), at4_transpose2310]
  rfl

theorem image_at (Z : (⟨3, ![8, 16384, 64]⟩ : Shape).Idx → EReal) {g r y x o : ℕ} (h : g < 8 ∧ r < 16 ∧ y < 32 ∧ x < 32 ∧ o < 64) :
    at4 (image Z) (g * 16 + r) y x o = at3 Z g (r * 1024 + (y * 32 + x)) o := by
  obtain ⟨h0, h1, h2, h3, h4⟩ := h
  unfold image
  exact at_cast34 _ _ g (r * 1024 + (y * 32 + x)) o ⟨by omega, h2, h3, h4⟩ ⟨h0, by omega, h4⟩ (by omega)

/-- The call's row function on these inputs is the stride-two convolution, clamped at zero. -/
theorem row_eq {g r y x o : ℕ} (h : g < 8 ∧ r < 16 ∧ y < 32 ∧ x < 32 ∧ o < 64) :
    Reg0.row (rows A) (taps w) g (r * 1024 + (y * 32 + x)) o
      = max (conv9 1 (fun y x c => at4 A (g * 16 + r) c y x) (wk w) (2 * y) (2 * x) o) 0 := by
  obtain ⟨h0, h1, h2, h3, h4⟩ := h
  have hb : g * 16 + r < 128 ∧ y < 32 ∧ x < 32 := by omega
  have hq : y * 32 + x < 1024 := by omega
  unfold Reg0.row tapSum conv9 tap
  have e : ∀ f : Fin 9 → EReal, ∑ k, f k = f 0 + f 1 + f 2 + f 3 + f 4 + f 5 + f 6 + f 7 + f 8 := fun f => by
    rw [Fin.sum_univ_castSucc, Fin.sum_univ_eight]; rfl
  simp only [Nat.add_zero, e, Fin.sum_univ_one]
  show max (at3 (rows A) g (r * 1024 + (y * 32 + x)) 0 * at3 (taps w) 0 0 o + at3 (rows A) g (r * 1024 + (y * 32 + x)) 1 * at3 (taps w) 0 1 o + at3 (rows A) g (r * 1024 + (y * 32 + x)) 2 * at3 (taps w) 0 2 o + at3 (rows A) g (r * 1024 + (y * 32 + x)) 3 * at3 (taps w) 0 3 o + at3 (rows A) g (r * 1024 + (y * 32 + x)) 4 * at3 (taps w) 0 4 o + at3 (rows A) g (r * 1024 + (y * 32 + x)) 5 * at3 (taps w) 0 5 o + at3 (rows A) g (r * 1024 + (y * 32 + x)) 6 * at3 (taps w) 0 6 o + at3 (rows A) g (r * 1024 + (y * 32 + x)) 7 * at3 (taps w) 0 7 o + at3 (rows A) g (r * 1024 + (y * 32 + x)) 8 * at3 (taps w) 0 8 o) 0 = _
  rw [rows_at A (k := 0) ⟨h0, h1, hq, by decide⟩, taps_at w (k := 0) ⟨by decide, h4⟩, cols_at0 A hb, rows_at A (k := 1) ⟨h0, h1, hq, by decide⟩, taps_at w (k := 1) ⟨by decide, h4⟩, cols_at1 A hb, rows_at A (k := 2) ⟨h0, h1, hq, by decide⟩, taps_at w (k := 2) ⟨by decide, h4⟩, cols_at2 A hb, rows_at A (k := 3) ⟨h0, h1, hq, by decide⟩, taps_at w (k := 3) ⟨by decide, h4⟩, cols_at3 A hb, rows_at A (k := 4) ⟨h0, h1, hq, by decide⟩, taps_at w (k := 4) ⟨by decide, h4⟩, cols_at4 A hb, rows_at A (k := 5) ⟨h0, h1, hq, by decide⟩, taps_at w (k := 5) ⟨by decide, h4⟩, cols_at5 A hb, rows_at A (k := 6) ⟨h0, h1, hq, by decide⟩, taps_at w (k := 6) ⟨by decide, h4⟩, cols_at6 A hb, rows_at A (k := 7) ⟨h0, h1, hq, by decide⟩, taps_at w (k := 7) ⟨by decide, h4⟩, cols_at7 A hb, rows_at A (k := 8) ⟨h0, h1, hq, by decide⟩, taps_at w (k := 8) ⟨by decide, h4⟩, cols_at8 A hb]
  rfl

/-- The layer: the images the call's result holds are the convolved images. -/
theorem layer (V : (c : Dev nD) → (b : Ref sig .tc) → Buf (Elt Ideal) ((c : Thread nD τ).loc b)) (c : Dev nD)
    (h0 : (V c main_v34 : (⟨3, ![8, 16384, 9]⟩ : Shape).Idx → EReal) = rows A) (h1 : (V c main_v33 : (⟨3, ![1, 9, 64]⟩ : Shape).Idx → EReal) = taps w)
    {b y x o : ℕ} (h : b < 128 ∧ y < 32 ∧ x < 32 ∧ o < 64) :
    at4 (image ((dat0 V c).arrAt 2 cfg0.N)) b y x o = max (conv9 1 (fun y x c => at4 A b c y x) (wk w) (2 * y) (2 * x) o) 0 := by
  obtain ⟨g, r, hg, hr, rfl⟩ : ∃ g r, g < 8 ∧ r < 16 ∧ b = g * 16 + r := ⟨b / 16, b % 16, by omega, by omega, by omega⟩
  refine (image_at _ (by omega)).trans ((Reg0.arr_at V c _ _ _ (by omega)).trans ?_)
  refine Eq.trans ?_ (row_eq A w (by omega))
  rw [← h0, ← h1]

variable (U : Valuation τ sig (Elt Ideal))

/-- The contents after the host operations before the call. -/
abbrev S : Valuation τ sig (Elt Ideal) := StableHlo.after hostOps0_2 (StableHlo.after hostOps0_1 (StableHlo.after hostOps0 U))

theorem read_v33 : (S U (Proc.devRef .tc main_v33) : (⟨3, ![1, 9, 64]⟩ : Shape).Idx → EReal) = taps (U (Proc.devRef .tc main_arg5)) := by
  after_results
  rfl

theorem read_v34 : (S U (Proc.devRef .tc main_v34) : (⟨3, ![8, 16384, 9]⟩ : Shape).Idx → EReal) = rows (U (Proc.devRef .tc main_arg2)) := by
  after_results
  simp only [StableHlo.TRef.toBuf, StableHlo.TRef.ofBuf]
  repeat erw [cast_eq]
  rfl

end Cert.Enc0

end
-- ==== Proof.RefTap.lean ====
/- One tap of the reference's convolution: a contraction over the channels of one shifted window of the image, read at an
   image, an output channel and a pixel. -/
module

public import proofs.«01_k».proof.Proof.Conv
public import Idealize.ShloMosaic.Lib.StackMember

@[expose] public section

noncomputable section

namespace Cert.Arr

open Idealize.ShloMosaic Idealize.ShloMosaic.ValueIdx
open scoped BigOperators

/-- The contraction of a matrix's columns with an array's second axis. -/
theorem dot_apply {O C N H W : ℕ} (wf : DotDims.WF ⟨2, ![O, C]⟩ ⟨4, ![N, C, H, W]⟩ ⟨4, ![O, N, H, W]⟩ [1] [1] [0] [0, 2, 3] [] [])
    (prec : Option ContractPrecision) (L : FVec Ideal ⟨2, ![O, C]⟩ .f32) (R : FVec Ideal ⟨4, ![N, C, H, W]⟩ .f32)
    (o : Fin O) (n : Fin N) (y : Fin H) (x : Fin W) :
    Host.dotGeneral (⟨[1], [1], [0], [0, 2, 3], [], [], wf⟩ : DotDims _ _ _) prec L R (ix4 o n y x)
      = ∑ c : Fin C, L (ix2 o c) * R (ix4 n c y x) := by
  show FloatOps.dotGeneral _ prec _ L R (ix4 o n y x) = _
  rw [Ideal.dotGeneral_apply, ← Equiv.sum_comp (contrEquiv1 (⟨[1], [1], [0], [0, 2, 3], [], [], wf⟩ : DotDims _ _ _) C rfl rfl).symm]
  refine Finset.sum_congr rfl fun c _ => ?_
  have c2 := contrEquiv1_symm_val (⟨[1], [1], [0], [0, 2, 3], [], [], wf⟩ : DotDims ⟨2, ![O, C]⟩ ⟨4, ![N, C, H, W]⟩ ⟨4, ![O, N, H, W]⟩) C rfl rfl c
  have l2 : (⟨[1], [1], [0], [0, 2, 3], [], [], wf⟩ : DotDims ⟨2, ![O, C]⟩ ⟨4, ![N, C, H, W]⟩ ⟨4, ![O, N, H, W]⟩).lhsIdx (ix4 o n y x) ((contrEquiv1 _ C rfl rfl).symm c) = ix2 o c := by
    funext ax; apply Fin.ext
    match ax with
    | ⟨0, _⟩ => simp [DotDims.lhsIdx]; rfl
    | ⟨1, _⟩ => simp [DotDims.lhsIdx]; exact c2
  have r2 : (⟨[1], [1], [0], [0, 2, 3], [], [], wf⟩ : DotDims ⟨2, ![O, C]⟩ ⟨4, ![N, C, H, W]⟩ ⟨4, ![O, N, H, W]⟩).rhsIdx (ix4 o n y x) ((contrEquiv1 _ C rfl rfl).symm c) = ix4 n c y x := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
    | ⟨3, _⟩ => simp [DotDims.rhsIdx]; rfl
  rw [l2, r2]

/-- One tap's weights as a matrix. -/
theorem tap_weights {O C dy dx : ℕ} (w : (⟨4, ![O, C, 3, 3]⟩ : Shape).Idx → EReal)
    (hs : (⟨4, ![O, C, 3, 3]⟩ : Shape).Slices ![0, 0, dy, dx] ⟨4, ![O, C, 1, 1]⟩) (hc : (⟨4, ![O, C, 1, 1]⟩ : Shape).ShapeCasts ⟨2, ![O, C]⟩)
    {o c : ℕ} (h : o < O ∧ c < C) :
    at2 (shapeCast ⟨2, ![O, C]⟩ (extractStridedSlice ⟨4, ![O, C, 1, 1]⟩ ![0, 0, dy, dx] w hs) hc) o c = wk w (3 * dy + dx) c o := by
  have hd : dx + 1 ≤ 3 := hs.2 3
  have e1 : (3 * dy + dx) / 3 = dy := by omega
  have e2 : (3 * dy + dx) % 3 = dx := by omega
  rw [at_cast42 _ hc o c 0 0 h ⟨h.1, h.2, Nat.one_pos, Nat.one_pos⟩ (by simp), at4_slice _ _ ⟨h.1, h.2, Nat.one_pos, Nat.one_pos⟩]
  unfold wk
  rw [e1, e2]
  simp

/-- One tap: the contraction of a window's channels with one tap's weights. -/
theorem window_tap {O C N H W dy dx : ℕ} (w : (⟨4, ![O, C, 3, 3]⟩ : Shape).Idx → EReal) (X : (⟨4, ![N, C, H, W]⟩ : Shape).Idx → EReal)
    (hs : (⟨4, ![O, C, 3, 3]⟩ : Shape).Slices ![0, 0, dy, dx] ⟨4, ![O, C, 1, 1]⟩) (hc : (⟨4, ![O, C, 1, 1]⟩ : Shape).ShapeCasts ⟨2, ![O, C]⟩)
    (wf : DotDims.WF ⟨2, ![O, C]⟩ ⟨4, ![N, C, H, W]⟩ ⟨4, ![O, N, H, W]⟩ [1] [1] [0] [0, 2, 3] [] [])
    (ht : (⟨4, ![O, N, H, W]⟩ : Shape).Transposes [1, 0, 2, 3] ⟨4, ![N, O, H, W]⟩)
    {b o y x : ℕ} (h : b < N ∧ o < O ∧ y < H ∧ x < W) :
    at4 (transpose ⟨4, ![N, O, H, W]⟩ [1, 0, 2, 3] (Host.dotGeneral (F := Ideal) (φ₁ := .f32) (φ₂ := .f32) (⟨[1], [1], [0], [0, 2, 3], [], [], wf⟩ : DotDims _ _ _) none
        (shapeCast ⟨2, ![O, C]⟩ (extractStridedSlice ⟨4, ![O, C, 1, 1]⟩ ![0, 0, dy, dx] w hs) hc) X) ht) b o y x
      = ∑ c : Fin C, at4 X b c.val y x * wk w (3 * dy + dx) c.val o := by
  rw [at4_transpose1023, at4_eq _ (a0 := o) (a1 := b) (a2 := y) (a3 := x) (by omega), dot_apply]
  refine Finset.sum_congr rfl fun c _ => ?_
  rw [mul_comm]
  exact congrArg₂ (· * ·) (at4_ix X _ _ _ _) ((at2_ix _ _ _).trans (tap_weights w hs hc ⟨h.2.1, c.isLt⟩))

/-- One tap of a stride-two convolution. -/
theorem tap_stride2 {O C N H W H' W' dy dx : ℕ} (w : (⟨4, ![O, C, 3, 3]⟩ : Shape).Idx → EReal) (P : (⟨4, ![N, C, H', W']⟩ : Shape).Idx → EReal)
    (hp : (⟨4, ![N, C, H', W']⟩ : Shape).SlicesBy ![0, 0, dy, dx] ![1, 1, 2, 2] ⟨4, ![N, C, H, W]⟩)
    (hs : (⟨4, ![O, C, 3, 3]⟩ : Shape).Slices ![0, 0, dy, dx] ⟨4, ![O, C, 1, 1]⟩) (hc : (⟨4, ![O, C, 1, 1]⟩ : Shape).ShapeCasts ⟨2, ![O, C]⟩)
    (wf : DotDims.WF ⟨2, ![O, C]⟩ ⟨4, ![N, C, H, W]⟩ ⟨4, ![O, N, H, W]⟩ [1] [1] [0] [0, 2, 3] [] [])
    (ht : (⟨4, ![O, N, H, W]⟩ : Shape).Transposes [1, 0, 2, 3] ⟨4, ![N, O, H, W]⟩)
    {b o y x : ℕ} (h : b < N ∧ o < O ∧ y < H ∧ x < W) :
    at4 (transpose ⟨4, ![N, O, H, W]⟩ [1, 0, 2, 3] (Host.dotGeneral (F := Ideal) (φ₁ := .f32) (φ₂ := .f32) (⟨[1], [1], [0], [0, 2, 3], [], [], wf⟩ : DotDims _ _ _) none
        (shapeCast ⟨2, ![O, C]⟩ (extractStridedSlice ⟨4, ![O, C, 1, 1]⟩ ![0, 0, dy, dx] w hs) hc)
        (Host.slice ⟨4, ![N, C, H, W]⟩ ![0, 0, dy, dx] ![1, 1, 2, 2] P hp)) ht) b o y x
      = tap C (fun y x c => at4 P b c y x) (wk w) (2 * y) (2 * x) o dy dx := by
  rw [window_tap w _ hs hc wf ht h]
  unfold tap
  refine Finset.sum_congr rfl fun c _ => ?_
  rw [at4_sliceBy _ _ ⟨h.1, c.isLt, h.2.2⟩]
  simp only [Nat.zero_add, Nat.one_mul, Nat.add_comm dy, Nat.add_comm dx]

/-- One tap of a stride-one convolution. -/
theorem tap_stride1 {O C N H W H' W' dy dx : ℕ} (w : (⟨4, ![O, C, 3, 3]⟩ : Shape).Idx → EReal) (P : (⟨4, ![N, C, H', W']⟩ : Shape).Idx → EReal)
    (hp : (⟨4, ![N, C, H', W']⟩ : Shape).Slices ![0, 0, dy, dx] ⟨4, ![N, C, H, W]⟩)
    (hs : (⟨4, ![O, C, 3, 3]⟩ : Shape).Slices ![0, 0, dy, dx] ⟨4, ![O, C, 1, 1]⟩) (hc : (⟨4, ![O, C, 1, 1]⟩ : Shape).ShapeCasts ⟨2, ![O, C]⟩)
    (wf : DotDims.WF ⟨2, ![O, C]⟩ ⟨4, ![N, C, H, W]⟩ ⟨4, ![O, N, H, W]⟩ [1] [1] [0] [0, 2, 3] [] [])
    (ht : (⟨4, ![O, N, H, W]⟩ : Shape).Transposes [1, 0, 2, 3] ⟨4, ![N, O, H, W]⟩)
    {b o y x : ℕ} (h : b < N ∧ o < O ∧ y < H ∧ x < W) :
    at4 (transpose ⟨4, ![N, O, H, W]⟩ [1, 0, 2, 3] (Host.dotGeneral (F := Ideal) (φ₁ := .f32) (φ₂ := .f32) (⟨[1], [1], [0], [0, 2, 3], [], [], wf⟩ : DotDims _ _ _) none
        (shapeCast ⟨2, ![O, C]⟩ (extractStridedSlice ⟨4, ![O, C, 1, 1]⟩ ![0, 0, dy, dx] w hs) hc)
        (extractStridedSlice ⟨4, ![N, C, H, W]⟩ ![0, 0, dy, dx] P hp)) ht) b o y x
      = tap C (fun y x c => at4 P b c y x) (wk w) y x o dy dx := by
  rw [window_tap w _ hs hc wf ht h]
  unfold tap
  refine Finset.sum_congr rfl fun c _ => ?_
  rw [at4_slice _ _ ⟨h.1, c.isLt, h.2.2⟩]
  simp only [Nat.zero_add, Nat.add_comm dy, Nat.add_comm dx]

/-- An enlargement of images with channels before the image's axes: every pixel repeated. -/
theorem at4_repeat' {n0 n1 n2 n3 f p q : ℕ} (v : (⟨4, ![n0, n1, n2, n3]⟩ : Shape).Idx → EReal)
    (h1 : (⟨4, ![n0, n1, n2, n3]⟩ : Shape).BroadcastsInDim ⟨5, ![n0, n1, n2, f, n3]⟩ ![0, 1, 2, 4])
    (h2 : (⟨5, ![n0, n1, n2, f, n3]⟩ : Shape).ShapeCasts ⟨4, ![n0, n1, p, n3]⟩)
    (h3 : (⟨4, ![n0, n1, p, n3]⟩ : Shape).BroadcastsInDim ⟨5, ![n0, n1, p, n3, f]⟩ ![0, 1, 2, 3])
    (h4 : (⟨5, ![n0, n1, p, n3, f]⟩ : Shape).ShapeCasts ⟨4, ![n0, n1, p, q]⟩)
    (hn : n0 ≠ 1 ∧ n1 ≠ 1 ∧ n2 ≠ 1 ∧ n3 ≠ 1 ∧ p ≠ 1) (hf : 0 < f) (hp : p = n2 * f) (hq : q = n3 * f) {a b c d : ℕ}
    (ht : a < n0 ∧ b < n1 ∧ c < p ∧ d < q) :
    at4 (shapeCast ⟨4, ![n0, n1, p, q]⟩ (broadcastInDim ⟨5, ![n0, n1, p, n3, f]⟩ ![0, 1, 2, 3] h3
        (shapeCast ⟨4, ![n0, n1, p, n3]⟩ (broadcastInDim ⟨5, ![n0, n1, n2, f, n3]⟩ ![0, 1, 2, 4] h1 v) h2)) h4) a b c d
      = at4 v a b (c / f) (d / f) := by
  obtain ⟨hn0, hn1, hn2, hn3, hnp⟩ := hn
  obtain ⟨ha, hb, hc, hd⟩ := ht
  have hc' : c / f < n2 := Nat.div_lt_of_lt_mul (by rw [Nat.mul_comm, ← hp]; exact hc)
  have hd' : d / f < n3 := Nat.div_lt_of_lt_mul (by rw [Nat.mul_comm, ← hq]; exact hd)
  have mc : c / f * f + c % f = c := by rw [Nat.mul_comm]; exact Nat.div_add_mod c f
  have md : d / f * f + d % f = d := by rw [Nat.mul_comm]; exact Nat.div_add_mod d f
  rw [at4_eq _ ⟨ha, hb, hc, hd⟩, at4_eq v ⟨ha, hb, hc', hd'⟩]
  rw [shapeCast_apply _ h4 _ (ix5 ⟨a, ha⟩ ⟨b, hb⟩ ⟨c, hc⟩ ⟨d / f, hd'⟩ ⟨d % f, Nat.mod_lt _ hf⟩) (by
    rw [Shape.rowMajor_val_five, Shape.rowMajor_val_four]
    show (((a * n1 + b) * p + c) * n3 + d / f) * f + d % f = ((a * n1 + b) * p + c) * q + d
    rw [hq, Nat.add_mul, Nat.add_assoc, md, Nat.mul_assoc])]
  rw [broadcastInDim_apply _ h3 _ _ (ix4 ⟨a, ha⟩ ⟨b, hb⟩ ⟨c, hc⟩ ⟨d / f, hd'⟩) (fun i => by
    match i with
    | ⟨0, _⟩ => exact (if_neg hn0).symm
    | ⟨1, _⟩ => exact (if_neg hn1).symm
    | ⟨2, _⟩ => exact (if_neg hnp).symm
    | ⟨3, _⟩ => exact (if_neg hn3).symm)]
  rw [shapeCast_apply _ h2 _ (ix5 ⟨a, ha⟩ ⟨b, hb⟩ ⟨c / f, hc'⟩ ⟨c % f, Nat.mod_lt _ hf⟩ ⟨d / f, hd'⟩) (by
    rw [Shape.rowMajor_val_five, Shape.rowMajor_val_four]
    show (((a * n1 + b) * n2 + c / f) * f + c % f) * n3 + d / f = ((a * n1 + b) * p + c) * n3 + d / f
    rw [hp, Nat.add_mul (( a * n1 + b) * n2), Nat.add_assoc, mc, Nat.mul_assoc])]
  rw [broadcastInDim_apply _ h1 _ _ (ix4 ⟨a, ha⟩ ⟨b, hb⟩ ⟨c / f, hc'⟩ ⟨d / f, hd'⟩) (fun i => by
    match i with
    | ⟨0, _⟩ => exact (if_neg hn0).symm
    | ⟨1, _⟩ => exact (if_neg hn1).symm
    | ⟨2, _⟩ => exact (if_neg hn2).symm
    | ⟨3, _⟩ => exact (if_neg hn3).symm)]

end Cert.Arr

end
-- ==== Proof.RefEnc0.lean ====
/- The reference's first encoder layer, read at an image, a channel and a pixel. -/
module

public import proofs.«01_k».proof.Proof.RefTap
public import proofs.«01_k».proof.Proof.Gen.ReferenceIdeal.Read

@[expose] public section

set_option maxRecDepth 16384

noncomputable section

namespace Cert.RefEnc0

open Idealize.ShloMosaic Idealize.ShloMosaic.TcCoe Idealize.ShloMosaic.ValueIdx Idealize.ShloMosaic.Tactic
open Cert.ReferenceIdeal Cert.ReferenceIdeal.Read Cert.Arr

variable (x2 : (⟨S128x1x64x64, .f32⟩ : BufTy).Contents (Elt Ideal)) (x5 : (⟨S64x1x3x3, .f32⟩ : BufTy).Contents (Elt Ideal))

theorem tap0 {b o y x : ℕ} (h : b < 128 ∧ o < 64 ∧ y < 32 ∧ x < 32) :
    at4 (n0 := 128) (n1 := 64) (n2 := 32) (n3 := 32) (val_main_v5 (F := Ideal) x2 x5) b o y x = tap 1 (fun y x c => at4 (n0 := 128) (n1 := 1) (n2 := 65) (n3 := 65) (val_main_v0 (F := Ideal) x2) b c y x) (wk (O := 64) (I := 1) x5) (2 * y) (2 * x) o 0 0 :=
  tap_stride2 x5 (val_main_v0 (F := Ideal) x2) _ _ _ _ _ h

theorem tap1 {b o y x : ℕ} (h : b < 128 ∧ o < 64 ∧ y < 32 ∧ x < 32) :
    at4 (n0 := 128) (n1 := 64) (n2 := 32) (n3 := 32) (val_main_v10 (F := Ideal) x2 x5) b o y x = tap 1 (fun y x c => at4 (n0 := 128) (n1 := 1) (n2 := 65) (n3 := 65) (val_main_v0 (F := Ideal) x2) b c y x) (wk (O := 64) (I := 1) x5) (2 * y) (2 * x) o 0 1 :=
  tap_stride2 x5 (val_main_v0 (F := Ideal) x2) _ _ _ _ _ h

theorem tap2 {b o y x : ℕ} (h : b < 128 ∧ o < 64 ∧ y < 32 ∧ x < 32) :
    at4 (n0 := 128) (n1 := 64) (n2 := 32) (n3 := 32) (val_main_v16 (F := Ideal) x2 x5) b o y x = tap 1 (fun y x c => at4 (n0 := 128) (n1 := 1) (n2 := 65) (n3 := 65) (val_main_v0 (F := Ideal) x2) b c y x) (wk (O := 64) (I := 1) x5) (2 * y) (2 * x) o 0 2 :=
  tap_stride2 x5 (val_main_v0 (F := Ideal) x2) _ _ _ _ _ h

theorem tap3 {b o y x : ℕ} (h : b < 128 ∧ o < 64 ∧ y < 32 ∧ x < 32) :
    at4 (n0 := 128) (n1 := 64) (n2 := 32) (n3 := 32) (val_main_v22 (F := Ideal) x2 x5) b o y x = tap 1 (fun y x c => at4 (n0 := 128) (n1 := 1) (n2 := 65) (n3 := 65) (val_main_v0 (F := Ideal) x2) b c y x) (wk (O := 64) (I := 1) x5) (2 * y) (2 * x) o 1 0 :=
  tap_stride2 x5 (val_main_v0 (F := Ideal) x2) _ _ _ _ _ h

theorem tap4 {b o y x : ℕ} (h : b < 128 ∧ o < 64 ∧ y < 32 ∧ x < 32) :
    at4 (n0 := 128) (n1 := 64) (n2 := 32) (n3 := 32) (val_main_v28 (F := Ideal) x2 x5) b o y x = tap 1 (fun y x c => at4 (n0 := 128) (n1 := 1) (n2 := 65) (n3 := 65) (val_main_v0 (F := Ideal) x2) b c y x) (wk (O := 64) (I := 1) x5) (2 * y) (2 * x) o 1 1 :=
  tap_stride2 x5 (val_main_v0 (F := Ideal) x2) _ _ _ _ _ h

theorem tap5 {b o y x : ℕ} (h : b < 128 ∧ o < 64 ∧ y < 32 ∧ x < 32) :
    at4 (n0 := 128) (n1 := 64) (n2 := 32) (n3 := 32) (val_main_v34 (F := Ideal) x2 x5) b o y x = tap 1 (fun y x c => at4 (n0 := 128) (n1 := 1) (n2 := 65) (n3 := 65) (val_main_v0 (F := Ideal) x2) b c y x) (wk (O := 64) (I := 1) x5) (2 * y) (2 * x) o 1 2 :=
  tap_stride2 x5 (val_main_v0 (F := Ideal) x2) _ _ _ _ _ h

theorem tap6 {b o y x : ℕ} (h : b < 128 ∧ o < 64 ∧ y < 32 ∧ x < 32) :
    at4 (n0 := 128) (n1 := 64) (n2 := 32) (n3 := 32) (val_main_v40 (F := Ideal) x2 x5) b o y x = tap 1 (fun y x c => at4 (n0 := 128) (n1 := 1) (n2 := 65) (n3 := 65) (val_main_v0 (F := Ideal) x2) b c y x) (wk (O := 64) (I := 1) x5) (2 * y) (2 * x) o 2 0 :=
  tap_stride2 x5 (val_main_v0 (F := Ideal) x2) _ _ _ _ _ h

theorem tap7 {b o y x : ℕ} (h : b < 128 ∧ o < 64 ∧ y < 32 ∧ x < 32) :
    at4 (n0 := 128) (n1 := 64) (n2 := 32) (n3 := 32) (val_main_v46 (F := Ideal) x2 x5) b o y x = tap 1 (fun y x c => at4 (n0 := 128) (n1 := 1) (n2 := 65) (n3 := 65) (val_main_v0 (F := Ideal) x2) b c y x) (wk (O := 64) (I := 1) x5) (2 * y) (2 * x) o 2 1 :=
  tap_stride2 x5 (val_main_v0 (F := Ideal) x2) _ _ _ _ _ h

theorem tap8 {b o y x : ℕ} (h : b < 128 ∧ o < 64 ∧ y < 32 ∧ x < 32) :
    at4 (n0 := 128) (n1 := 64) (n2 := 32) (n3 := 32) (val_main_v52 (F := Ideal) x2 x5) b o y x = tap 1 (fun y x c => at4 (n0 := 128) (n1 := 1) (n2 := 65) (n3 := 65) (val_main_v0 (F := Ideal) x2) b c y x) (wk (O := 64) (I := 1) x5) (2 * y) (2 * x) o 2 2 :=
  tap_stride2 x5 (val_main_v0 (F := Ideal) x2) _ _ _ _ _ h

/-- The padded images. -/
theorem padded (b y x c : ℕ) : (fun y x c => at4 (n0 := 128) (n1 := 1) (n2 := 65) (n3 := 65) (val_main_v0 (F := Ideal) x2) b c y x) y x c = (fun y x c => at4 (n0 := 128) (n1 := 1) (n2 := 64) (n3 := 64) (x2) b c y x) y x c :=
  at4_padhi (φ := .f32) (x2) _ _ b c y x

theorem sum_eq {b o y x : ℕ} (h : b < 128 ∧ o < 64 ∧ y < 32 ∧ x < 32) :
    at4 (n0 := 128) (n1 := 64) (n2 := 32) (n3 := 32) (val_main_v53 (F := Ideal) x2 x5) b o y x = conv9 1 (fun y x c => at4 (n0 := 128) (n1 := 1) (n2 := 64) (n3 := 64) (x2) b c y x) (wk (O := 64) (I := 1) x5) (2 * y) (2 * x) o := by
  rw [← conv9_congr (padded x2 b)]
  unfold conv9
  rw [← tap0 x2 x5 h, ← tap1 x2 x5 h, ← tap2 x2 x5 h, ← tap3 x2 x5 h, ← tap4 x2 x5 h, ← tap5 x2 x5 h, ← tap6 x2 x5 h, ← tap7 x2 x5 h, ← tap8 x2 x5 h]
  simp only [at4_eq _ h]
  rfl

/-- The layer's images are the convolved images, clamped at zero. -/
theorem layer {b o y x : ℕ} (h : b < 128 ∧ o < 64 ∧ y < 32 ∧ x < 32) :
    at4 (n0 := 128) (n1 := 64) (n2 := 32) (n3 := 32) (val_main_v55 (F := Ideal) x2 x5) b o y x = max (conv9 1 (fun y x c => at4 (n0 := 128) (n1 := 1) (n2 := 64) (n3 := 64) (x2) b c y x) (wk (O := 64) (I := 1) x5) (2 * y) (2 * x) o) 0 := by
  rw [← sum_eq x2 x5 h, at4_eq _ h, at4_eq _ h]
  show max _ (Ideal.ofBits .f32 0x00000000#32) = _
  rw [ofBits_zero32]

end Cert.RefEnc0

end
-- ==== Proof.RefEnc1.lean ====
/- The reference's second encoder layer, read at an image, a channel and a pixel. -/
module

public import proofs.«01_k».proof.Proof.RefTap
public import proofs.«01_k».proof.Proof.Gen.ReferenceIdeal.Read

@[expose] public section

set_option maxRecDepth 16384

noncomputable section

namespace Cert.RefEnc1

open Idealize.ShloMosaic Idealize.ShloMosaic.TcCoe Idealize.ShloMosaic.ValueIdx Idealize.ShloMosaic.Tactic
open Cert.ReferenceIdeal Cert.ReferenceIdeal.Read Cert.Arr

variable (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal))

theorem tap0 {b o y x : ℕ} (h : b < 128 ∧ o < 128 ∧ y < 16 ∧ x < 16) :
    at4 (n0 := 128) (n1 := 128) (n2 := 16) (n3 := 16) (val_main_v61 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 0 0 :=
  tap_stride2 x6 (val_main_v56 (F := Ideal) x2 x5) _ _ _ _ _ h

theorem tap1 {b o y x : ℕ} (h : b < 128 ∧ o < 128 ∧ y < 16 ∧ x < 16) :
    at4 (n0 := 128) (n1 := 128) (n2 := 16) (n3 := 16) (val_main_v66 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 0 1 :=
  tap_stride2 x6 (val_main_v56 (F := Ideal) x2 x5) _ _ _ _ _ h

theorem tap2 {b o y x : ℕ} (h : b < 128 ∧ o < 128 ∧ y < 16 ∧ x < 16) :
    at4 (n0 := 128) (n1 := 128) (n2 := 16) (n3 := 16) (val_main_v72 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 0 2 :=
  tap_stride2 x6 (val_main_v56 (F := Ideal) x2 x5) _ _ _ _ _ h

theorem tap3 {b o y x : ℕ} (h : b < 128 ∧ o < 128 ∧ y < 16 ∧ x < 16) :
    at4 (n0 := 128) (n1 := 128) (n2 := 16) (n3 := 16) (val_main_v78 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 1 0 :=
  tap_stride2 x6 (val_main_v56 (F := Ideal) x2 x5) _ _ _ _ _ h

theorem tap4 {b o y x : ℕ} (h : b < 128 ∧ o < 128 ∧ y < 16 ∧ x < 16) :
    at4 (n0 := 128) (n1 := 128) (n2 := 16) (n3 := 16) (val_main_v84 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 1 1 :=
  tap_stride2 x6 (val_main_v56 (F := Ideal) x2 x5) _ _ _ _ _ h

theorem tap5 {b o y x : ℕ} (h : b < 128 ∧ o < 128 ∧ y < 16 ∧ x < 16) :
    at4 (n0 := 128) (n1 := 128) (n2 := 16) (n3 := 16) (val_main_v90 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 1 2 :=
  tap_stride2 x6 (val_main_v56 (F := Ideal) x2 x5) _ _ _ _ _ h

theorem tap6 {b o y x : ℕ} (h : b < 128 ∧ o < 128 ∧ y < 16 ∧ x < 16) :
    at4 (n0 := 128) (n1 := 128) (n2 := 16) (n3 := 16) (val_main_v96 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 2 0 :=
  tap_stride2 x6 (val_main_v56 (F := Ideal) x2 x5) _ _ _ _ _ h

theorem tap7 {b o y x : ℕ} (h : b < 128 ∧ o < 128 ∧ y < 16 ∧ x < 16) :
    at4 (n0 := 128) (n1 := 128) (n2 := 16) (n3 := 16) (val_main_v102 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 2 1 :=
  tap_stride2 x6 (val_main_v56 (F := Ideal) x2 x5) _ _ _ _ _ h

theorem tap8 {b o y x : ℕ} (h : b < 128 ∧ o < 128 ∧ y < 16 ∧ x < 16) :
    at4 (n0 := 128) (n1 := 128) (n2 := 16) (n3 := 16) (val_main_v108 (F := Ideal) x2 x5 x6) b o y x = tap 64 (fun y x c => at4 (n0 := 128) (n1 := 64) (n2 := 33) (n3 := 33) (val_main_v56 (F := Ideal) x2 x5) b c y x) (wk (O := 128) (I := 64) x6) (2 * y) (2 * x) o 2 2 :=
  tap_stride2 x6 (val_main_v56 (F := Ideal) x2 x5) _ _ _ _ _ h

/-- The padded images. -/
theorem padded (b y x c : ℕ) : (fun y x c => at4 (n0 := 128) (n1 := 64) (n2 := 33) (n3 := 33) (val_main_v56 (F := Ideal) x2 x5) b c y x) y x c = (fun y x c => at4 (n0 := 128) (n1 := 64) (n2 := 32) (n3 := 32) (val_main_v55 (F := Ideal) x2 x5) b c y x) y x c :=
  at4_padhi (φ := .f32) (val_main_v55 (F := Ideal) x2 x5) _ _ b c y x

theorem sum_eq {b o y x : ℕ} (h : b < 128 ∧ o < 128 ∧ y < 16 ∧ x < 16) :
    at4 (n0 := 128) (n1 := 128) (n2 := 16) (n3 := 16) (val_main_v109 (F := Ideal) x2 x5 x6) b o y x = conv9 64 (fun y x c => at4 (n0 := 128) (n1 := 64) (n2 := 32) (n3 := 32) (val_main_v55 (F := Ideal) x2 x5) b c y x) (wk (O := 128) (I := 64) x6) (2 * y) (2 * x) o := by
  rw [← conv9_congr (padded x2 x5 b)]
  unfold conv9
  rw [← tap0 x2 x5 x6 h, ← tap1 x2 x5 x6 h, ← tap2 x2 x5 x6 h, ← tap3 x2 x5 x6 h, ← tap4 x2 x5 x6 h, ← tap5 x2 x5 x6 h, ← tap6 x2 x5 x6 h, ← tap7 x2 x5 x6 h, ← tap8 x2 x5 x6 h]
  simp only [at4_eq _ h]
  rfl

/-- The layer's images are the convolved images, clamped at zero. -/
theorem layer {b o y x : ℕ} (h : b < 128 ∧ o < 128 ∧ y < 16 ∧ x < 16) :
    at4 (n0 := 128) (n1 := 128) (n2 := 16) (n3 := 16) (val_main_v111 (F := Ideal) x2 x5 x6) b o y x = max (conv9 64 (fun y x c => at4 (n0 := 128) (n1 := 64) (n2 := 32) (n3 := 32) (val_main_v55 (F := Ideal) x2 x5) b c y x) (wk (O := 128) (I := 64) x6) (2 * y) (2 * x) o) 0 := by
  rw [← sum_eq x2 x5 x6 h, at4_eq _ h, at4_eq _ h]
  show max _ (Ideal.ofBits .f32 0x00000000#32) = _
  rw [ofBits_zero32]

end Cert.RefEnc1

end
-- ==== Proof.RefEnc2.lean ====
/- The reference's third encoder layer, read at an image, a channel and a pixel. -/
module

public import proofs.«01_k».proof.Proof.RefTap
public import proofs.«01_k».proof.Proof.Gen.ReferenceIdeal.Read

@[expose] public section

set_option maxRecDepth 16384

noncomputable section

namespace Cert.RefEnc2

open Idealize.ShloMosaic Idealize.ShloMosaic.TcCoe Idealize.ShloMosaic.ValueIdx Idealize.ShloMosaic.Tactic
open Cert.ReferenceIdeal Cert.ReferenceIdeal.Read Cert.Arr

variable (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal))

theorem tap0 {b o y x : ℕ} (h : b < 128 ∧ o < 256 ∧ y < 8 ∧ x < 8) :
    at4 (n0 := 128) (n1 := 256) (n2 := 8) (n3 := 8) (val_main_v117 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 0 0 :=
  tap_stride2 x7 (val_main_v112 (F := Ideal) x2 x5 x6) _ _ _ _ _ h

theorem tap1 {b o y x : ℕ} (h : b < 128 ∧ o < 256 ∧ y < 8 ∧ x < 8) :
    at4 (n0 := 128) (n1 := 256) (n2 := 8) (n3 := 8) (val_main_v122 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 0 1 :=
  tap_stride2 x7 (val_main_v112 (F := Ideal) x2 x5 x6) _ _ _ _ _ h

theorem tap2 {b o y x : ℕ} (h : b < 128 ∧ o < 256 ∧ y < 8 ∧ x < 8) :
    at4 (n0 := 128) (n1 := 256) (n2 := 8) (n3 := 8) (val_main_v128 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 0 2 :=
  tap_stride2 x7 (val_main_v112 (F := Ideal) x2 x5 x6) _ _ _ _ _ h

theorem tap3 {b o y x : ℕ} (h : b < 128 ∧ o < 256 ∧ y < 8 ∧ x < 8) :
    at4 (n0 := 128) (n1 := 256) (n2 := 8) (n3 := 8) (val_main_v134 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 1 0 :=
  tap_stride2 x7 (val_main_v112 (F := Ideal) x2 x5 x6) _ _ _ _ _ h

theorem tap4 {b o y x : ℕ} (h : b < 128 ∧ o < 256 ∧ y < 8 ∧ x < 8) :
    at4 (n0 := 128) (n1 := 256) (n2 := 8) (n3 := 8) (val_main_v140 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 1 1 :=
  tap_stride2 x7 (val_main_v112 (F := Ideal) x2 x5 x6) _ _ _ _ _ h

theorem tap5 {b o y x : ℕ} (h : b < 128 ∧ o < 256 ∧ y < 8 ∧ x < 8) :
    at4 (n0 := 128) (n1 := 256) (n2 := 8) (n3 := 8) (val_main_v146 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 1 2 :=
  tap_stride2 x7 (val_main_v112 (F := Ideal) x2 x5 x6) _ _ _ _ _ h

theorem tap6 {b o y x : ℕ} (h : b < 128 ∧ o < 256 ∧ y < 8 ∧ x < 8) :
    at4 (n0 := 128) (n1 := 256) (n2 := 8) (n3 := 8) (val_main_v152 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 2 0 :=
  tap_stride2 x7 (val_main_v112 (F := Ideal) x2 x5 x6) _ _ _ _ _ h

theorem tap7 {b o y x : ℕ} (h : b < 128 ∧ o < 256 ∧ y < 8 ∧ x < 8) :
    at4 (n0 := 128) (n1 := 256) (n2 := 8) (n3 := 8) (val_main_v158 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 2 1 :=
  tap_stride2 x7 (val_main_v112 (F := Ideal) x2 x5 x6) _ _ _ _ _ h

theorem tap8 {b o y x : ℕ} (h : b < 128 ∧ o < 256 ∧ y < 8 ∧ x < 8) :
    at4 (n0 := 128) (n1 := 256) (n2 := 8) (n3 := 8) (val_main_v164 (F := Ideal) x2 x5 x6 x7) b o y x = tap 128 (fun y x c => at4 (n0 := 128) (n1 := 128) (n2 := 17) (n3 := 17) (val_main_v112 (F := Ideal) x2 x5 x6) b c y x) (wk (O := 256) (I := 128) x7) (2 * y) (2 * x) o 2 2 :=
  tap_stride2 x7 (val_main_v112 (F := Ideal) x2 x5 x6) _ _ _ _ _ h

/-- The padded images. -/
theorem padded (b y x c : ℕ) : (fun y x c => at4 (n0 := 128) (n1 := 128) (n2 := 17) (n3 := 17) (val_main_v112 (F := Ideal) x2 x5 x6) b c y x) y x c = (fun y x c => at4 (n0 := 128) (n1 := 128) (n2 := 16) (n3 := 16) (val_main_v111 (F := Ideal) x2 x5 x6) b c y x) y x c :=
  at4_padhi (φ := .f32) (val_main_v111 (F := Ideal) x2 x5 x6) _ _ b c y x

theorem sum_eq {b o y x : ℕ} (h : b < 128 ∧ o < 256 ∧ y < 8 ∧ x < 8) :
    at4 (n0 := 128) (n1 := 256) (n2 := 8) (n3 := 8) (val_main_v165 (F := Ideal) x2 x5 x6 x7) b o y x = conv9 128 (fun y x c => at4 (n0 := 128) (n1 := 128) (n2 := 16) (n3 := 16) (val_main_v111 (F := Ideal) x2 x5 x6) b c y x) (wk (O := 256) (I := 128) x7) (2 * y) (2 * x) o := by
  rw [← conv9_congr (padded x2 x5 x6 b)]
  unfold conv9
  rw [← tap0 x2 x5 x6 x7 h, ← tap1 x2 x5 x6 x7 h, ← tap2 x2 x5 x6 x7 h, ← tap3 x2 x5 x6 x7 h, ← tap4 x2 x5 x6 x7 h, ← tap5 x2 x5 x6 x7 h, ← tap6 x2 x5 x6 x7 h, ← tap7 x2 x5 x6 x7 h, ← tap8 x2 x5 x6 x7 h]
  simp only [at4_eq _ h]
  rfl

/-- The layer's images are the convolved images, clamped at zero. -/
theorem layer {b o y x : ℕ} (h : b < 128 ∧ o < 256 ∧ y < 8 ∧ x < 8) :
    at4 (n0 := 128) (n1 := 256) (n2 := 8) (n3 := 8) (val_main_v167 (F := Ideal) x2 x5 x6 x7) b o y x = max (conv9 128 (fun y x c => at4 (n0 := 128) (n1 := 128) (n2 := 16) (n3 := 16) (val_main_v111 (F := Ideal) x2 x5 x6) b c y x) (wk (O := 256) (I := 128) x7) (2 * y) (2 * x) o) 0 := by
  rw [← sum_eq x2 x5 x6 x7 h, at4_eq _ h, at4_eq _ h]
  show max _ (Ideal.ofBits .f32 0x00000000#32) = _
  rw [ofBits_zero32]

end Cert.RefEnc2

end
-- ==== Proof.RefEnc3.lean ====
/- The reference's fourth encoder layer, read at an image, a channel and a pixel. -/
module

public import proofs.«01_k».proof.Proof.RefTap
public import proofs.«01_k».proof.Proof.Gen.ReferenceIdeal.Read

@[expose] public section

set_option maxRecDepth 16384

noncomputable section

namespace Cert.RefEnc3

open Idealize.ShloMosaic Idealize.ShloMosaic.TcCoe Idealize.ShloMosaic.ValueIdx Idealize.ShloMosaic.Tactic
open Cert.ReferenceIdeal Cert.ReferenceIdeal.Read Cert.Arr

variable (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal))

theorem tap0 {b o y x : ℕ} (h : b < 128 ∧ o < 256 ∧ y < 4 ∧ x < 4) :
    at4 (n0 := 128) (n1 := 256) (n2 := 4) (n3 := 4) (val_main_v173 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 0 0 :=
  tap_stride2 x8 (val_main_v168 (F := Ideal) x2 x5 x6 x7) _ _ _ _ _ h

theorem tap1 {b o y x : ℕ} (h : b < 128 ∧ o < 256 ∧ y < 4 ∧ x < 4) :
    at4 (n0 := 128) (n1 := 256) (n2 := 4) (n3 := 4) (val_main_v178 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 0 1 :=
  tap_stride2 x8 (val_main_v168 (F := Ideal) x2 x5 x6 x7) _ _ _ _ _ h

theorem tap2 {b o y x : ℕ} (h : b < 128 ∧ o < 256 ∧ y < 4 ∧ x < 4) :
    at4 (n0 := 128) (n1 := 256) (n2 := 4) (n3 := 4) (val_main_v184 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 0 2 :=
  tap_stride2 x8 (val_main_v168 (F := Ideal) x2 x5 x6 x7) _ _ _ _ _ h

theorem tap3 {b o y x : ℕ} (h : b < 128 ∧ o < 256 ∧ y < 4 ∧ x < 4) :
    at4 (n0 := 128) (n1 := 256) (n2 := 4) (n3 := 4) (val_main_v190 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 1 0 :=
  tap_stride2 x8 (val_main_v168 (F := Ideal) x2 x5 x6 x7) _ _ _ _ _ h

theorem tap4 {b o y x : ℕ} (h : b < 128 ∧ o < 256 ∧ y < 4 ∧ x < 4) :
    at4 (n0 := 128) (n1 := 256) (n2 := 4) (n3 := 4) (val_main_v196 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 1 1 :=
  tap_stride2 x8 (val_main_v168 (F := Ideal) x2 x5 x6 x7) _ _ _ _ _ h

theorem tap5 {b o y x : ℕ} (h : b < 128 ∧ o < 256 ∧ y < 4 ∧ x < 4) :
    at4 (n0 := 128) (n1 := 256) (n2 := 4) (n3 := 4) (val_main_v202 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 1 2 :=
  tap_stride2 x8 (val_main_v168 (F := Ideal) x2 x5 x6 x7) _ _ _ _ _ h

theorem tap6 {b o y x : ℕ} (h : b < 128 ∧ o < 256 ∧ y < 4 ∧ x < 4) :
    at4 (n0 := 128) (n1 := 256) (n2 := 4) (n3 := 4) (val_main_v208 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 2 0 :=
  tap_stride2 x8 (val_main_v168 (F := Ideal) x2 x5 x6 x7) _ _ _ _ _ h

theorem tap7 {b o y x : ℕ} (h : b < 128 ∧ o < 256 ∧ y < 4 ∧ x < 4) :
    at4 (n0 := 128) (n1 := 256) (n2 := 4) (n3 := 4) (val_main_v214 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 2 1 :=
  tap_stride2 x8 (val_main_v168 (F := Ideal) x2 x5 x6 x7) _ _ _ _ _ h

theorem tap8 {b o y x : ℕ} (h : b < 128 ∧ o < 256 ∧ y < 4 ∧ x < 4) :
    at4 (n0 := 128) (n1 := 256) (n2 := 4) (n3 := 4) (val_main_v220 (F := Ideal) x2 x5 x6 x7 x8) b o y x = tap 256 (fun y x c => at4 (n0 := 128) (n1 := 256) (n2 := 9) (n3 := 9) (val_main_v168 (F := Ideal) x2 x5 x6 x7) b c y x) (wk (O := 256) (I := 256) x8) (2 * y) (2 * x) o 2 2 :=
  tap_stride2 x8 (val_main_v168 (F := Ideal) x2 x5 x6 x7) _ _ _ _ _ h

/-- The padded images. -/
theorem padded (b y x c : ℕ) : (fun y x c => at4 (n0 := 128) (n1 := 256) (n2 := 9) (n3 := 9) (val_main_v168 (F := Ideal) x2 x5 x6 x7) b c y x) y x c = (fun y x c => at4 (n0 := 128) (n1 := 256) (n2 := 8) (n3 := 8) (val_main_v167 (F := Ideal) x2 x5 x6 x7) b c y x) y x c :=
  at4_padhi (φ := .f32) (val_main_v167 (F := Ideal) x2 x5 x6 x7) _ _ b c y x

theorem sum_eq {b o y x : ℕ} (h : b < 128 ∧ o < 256 ∧ y < 4 ∧ x < 4) :
    at4 (n0 := 128) (n1 := 256) (n2 := 4) (n3 := 4) (val_main_v221 (F := Ideal) x2 x5 x6 x7 x8) b o y x = conv9 256 (fun y x c => at4 (n0 := 128) (n1 := 256) (n2 := 8) (n3 := 8) (val_main_v167 (F := Ideal) x2 x5 x6 x7) b c y x) (wk (O := 256) (I := 256) x8) (2 * y) (2 * x) o := by
  rw [← conv9_congr (padded x2 x5 x6 x7 b)]
  unfold conv9
  rw [← tap0 x2 x5 x6 x7 x8 h, ← tap1 x2 x5 x6 x7 x8 h, ← tap2 x2 x5 x6 x7 x8 h, ← tap3 x2 x5 x6 x7 x8 h, ← tap4 x2 x5 x6 x7 x8 h, ← tap5 x2 x5 x6 x7 x8 h, ← tap6 x2 x5 x6 x7 x8 h, ← tap7 x2 x5 x6 x7 x8 h, ← tap8 x2 x5 x6 x7 x8 h]
  simp only [at4_eq _ h]
  rfl

/-- The layer's images are the convolved images, clamped at zero. -/
theorem layer {b o y x : ℕ} (h : b < 128 ∧ o < 256 ∧ y < 4 ∧ x < 4) :
    at4 (n0 := 128) (n1 := 256) (n2 := 4) (n3 := 4) (val_main_v223 (F := Ideal) x2 x5 x6 x7 x8) b o y x = max (conv9 256 (fun y x c => at4 (n0 := 128) (n1 := 256) (n2 := 8) (n3 := 8) (val_main_v167 (F := Ideal) x2 x5 x6 x7) b c y x) (wk (O := 256) (I := 256) x8) (2 * y) (2 * x) o) 0 := by
  rw [← sum_eq x2 x5 x6 x7 x8 h, at4_eq _ h, at4_eq _ h]
  show max _ (Ideal.ofBits .f32 0x00000000#32) = _
  rw [ofBits_zero32]

end Cert.RefEnc3

end
-- ==== Proof.ChainEnc.lean ====
/- The encoder's layers: after each of the first four calls the images its result holds are the reference's. -/
module

public import proofs.«01_k».proof.Proof.Args
public import proofs.«01_k».proof.Proof.Enc0
public import proofs.«01_k».proof.Proof.Enc1
public import proofs.«01_k».proof.Proof.Enc2
public import proofs.«01_k».proof.Proof.Enc3
public import proofs.«01_k».proof.Proof.RefEnc0
public import proofs.«01_k».proof.Proof.RefEnc1
public import proofs.«01_k».proof.Proof.RefEnc2
public import proofs.«01_k».proof.Proof.RefEnc3

@[expose] public section

set_option maxRecDepth 16384

noncomputable section

namespace Cert.ChainEnc

open Idealize.ShloMosaic Idealize.ShloMosaic.TcCoe Idealize.ShloMosaic.ValueIdx Idealize.ShloMosaic.Tactic
open Cert.KernelIdeal Cert.KernelIdeal.Gen Cert.Arr
open scoped BigOperators

variable (m : (l : Loc nD τ sig) → Buf (Elt Ideal) l) (ρ : Dev nD → PrngReg) (c : Dev nD)

theorem enc0 : ∀ b y x o, at4 (Enc0.image (W4 m ρ c (Proc.devRef .tc main_v35))) b y x o = at4 (n0 := 128) (n1 := 64) (n2 := 32) (n3 := 32) (Cert.ReferenceIdeal.Read.val_main_v55 (F := Ideal) (Args.a2 m c) (Args.a5 m c)) b o y x :=
  at4_swap_ext fun b y x o h => by
    have hw : (W4 m ρ c (Proc.devRef .tc main_v35) : (⟨3, ![8, 16384, 64]⟩ : Shape).Idx → EReal) = (dat0 (V3 m ρ) c).arrAt 2 cfg0.N := W4_arr m ρ c 2
    rw [hw]
    refine (Enc0.layer (Args.a2 m c) (Args.a5 m c) (V3 m ρ) c (Enc0.read_v34 (W0 m ρ c)) (Enc0.read_v33 (W0 m ρ c)) h).trans ?_
    exact (RefEnc0.layer (Args.a2 m c) (Args.a5 m c) ⟨h.1, h.2.2.2, h.2.1, h.2.2.1⟩).symm

theorem enc1 : ∀ b y x o, at4 (Enc1.image (W12 m ρ c (Proc.devRef .tc main_v54))) b y x o = at4 (n0 := 128) (n1 := 128) (n2 := 16) (n3 := 16) (Cert.ReferenceIdeal.Read.val_main_v111 (F := Ideal) (Args.a2 m c) (Args.a5 m c) (Args.a6 m c)) b o y x :=
  at4_swap_ext fun b y x o h => by
    have hw : W12 m ρ c (Proc.devRef .tc main_v54) = (dat1 (V11 m ρ) c).arrAt 4 cfg1.N := W12_arr m ρ c 4
    rw [hw]
    have ha : W4 m ρ c (Proc.devRef .tc main_arg6) = (Args.a6 m c) := W4_args m ρ c main_arg6 (by decide)
    refine (Enc1.layer (Enc0.image (W4 m ρ c (Proc.devRef .tc main_v35))) (Args.a6 m c) (V11 m ρ) c (Enc1.read_v47 (W4 m ρ c)) (Enc1.read_v49 (W4 m ρ c))
      ((Enc1.read_v52 (W4 m ρ c)).trans (congrArg Enc1.pairs ha)) ((Enc1.read_v53 (W4 m ρ c)).trans (congrArg Enc1.rest ha)) h).trans ?_
    refine Eq.trans ?_ (RefEnc1.layer (Args.a2 m c) (Args.a5 m c) (Args.a6 m c) ⟨h.1, h.2.2.2, h.2.1, h.2.2.1⟩).symm
    exact congrArg (max · 0) (conv9_congr (fun y x o => enc0 m ρ c b y x o) _ _ _)

theorem enc2 : ∀ b y x o, at4 (Enc2.image (W20 m ρ c (Proc.devRef .tc main_v76))) b y x o = at4 (n0 := 128) (n1 := 256) (n2 := 8) (n3 := 8) (Cert.ReferenceIdeal.Read.val_main_v167 (F := Ideal) (Args.a2 m c) (Args.a5 m c) (Args.a6 m c) (Args.a7 m c)) b o y x :=
  at4_swap_ext fun b y x o h => by
    have hw : W20 m ρ c (Proc.devRef .tc main_v76) = (dat2 (V19 m ρ) c).arrAt 4 cfg2.N := W20_arr m ρ c 4
    rw [hw]
    have ha : W12 m ρ c (Proc.devRef .tc main_arg7) = (Args.a7 m c) := W12_args m ρ c main_arg7 (by decide)
    refine (Enc2.layer (Enc1.image (W12 m ρ c (Proc.devRef .tc main_v54))) (Args.a7 m c) (V19 m ρ) c (Enc2.read_v69 (W12 m ρ c)) (Enc2.read_v71 (W12 m ρ c))
      ((Enc2.read_v74 (W12 m ρ c)).trans (congrArg Enc2.pairs ha)) ((Enc2.read_v75 (W12 m ρ c)).trans (congrArg Enc2.rest ha)) h).trans ?_
    refine Eq.trans ?_ (RefEnc2.layer (Args.a2 m c) (Args.a5 m c) (Args.a6 m c) (Args.a7 m c) ⟨h.1, h.2.2.2, h.2.1, h.2.2.1⟩).symm
    exact congrArg (max · 0) (conv9_congr (fun y x o => enc1 m ρ c b y x o) _ _ _)

theorem enc3 : ∀ b y x o, at4 (Enc3.image (W28 m ρ c (Proc.devRef .tc main_v98))) b y x o = at4 (n0 := 128) (n1 := 256) (n2 := 4) (n3 := 4) (Cert.ReferenceIdeal.Read.val_main_v223 (F := Ideal) (Args.a2 m c) (Args.a5 m c) (Args.a6 m c) (Args.a7 m c) (Args.a8 m c)) b o y x :=
  at4_swap_ext fun b y x o h => by
    have hw : W28 m ρ c (Proc.devRef .tc main_v98) = (dat3 (V27 m ρ) c).arrAt 4 cfg3.N := W28_arr m ρ c 4
    rw [hw]
    have ha : W20 m ρ c (Proc.devRef .tc main_arg8) = (Args.a8 m c) := W20_args m ρ c main_arg8 (by decide)
    refine (Enc3.layer (Enc2.image (W20 m ρ c (Proc.devRef .tc main_v76))) (Args.a8 m c) (V27 m ρ) c (Enc3.read_v91 (W20 m ρ c)) (Enc3.read_v93 (W20 m ρ c))
      ((Enc3.read_v96 (W20 m ρ c)).trans (congrArg Enc3.pairs ha)) ((Enc3.read_v97 (W20 m ρ c)).trans (congrArg Enc3.rest ha)) h).trans ?_
    refine Eq.trans ?_ (RefEnc3.layer (Args.a2 m c) (Args.a5 m c) (Args.a6 m c) (Args.a7 m c) (Args.a8 m c) ⟨h.1, h.2.2.2, h.2.1, h.2.2.1⟩).symm
    exact congrArg (max · 0) (conv9_congr (fun y x o => enc2 m ρ c b y x o) _ _ _)

end Cert.ChainEnc

end
-- ==== Proof.RefMem.lean ====
/- The reference's two memory reads, at a target, a channel and a pixel: the mean over the target's three components of the
   matching updates' means. The four index arrays are within the memory's sizes. -/
module

public import proofs.«01_k».proof.Proof.Mem
public import proofs.«01_k».proof.Proof.Weigh
public import proofs.«01_k».proof.Proof.Gen.ReferenceIdeal.Read

@[expose] public section

set_option maxRecDepth 16384

noncomputable section

namespace Cert.RefMem

open Idealize.ShloMosaic Idealize.ShloMosaic.TcCoe Idealize.ShloMosaic.ValueIdx Idealize.ShloMosaic.Tactic
open Cert.ReferenceIdeal Cert.ReferenceIdeal.Read Cert.Arr Cert.Mem
open scoped BigOperators

variable (x0 x1 x3 : (⟨S128, .i32⟩ : BufTy).Contents (Elt Ideal)) (x4 : (⟨S128x3, .i32⟩ : BufTy).Contents (Elt Ideal))

/-- A reference and a target's component that name the same font and component. -/
abbrev same (t : Fin 128) (j : Fin 3) (b : Fin 128) : Prop := x0 (ix1 b) = x3 (ix1 t) ∧ x1 (ix1 b) = x4 (ix2 t j)

/-- The index arrays are within the memory's sizes. -/
structure InRange : Prop where
  r0 : ∀ b, 0 ≤ (x0 (ix1 b)).toInt ∧ (x0 (ix1 b)).toInt < 8
  r1 : ∀ b, 0 ≤ (x1 (ix1 b)).toInt ∧ (x1 (ix1 b)).toInt < 68
  r3 : ∀ t, 0 ≤ (x3 (ix1 t)).toInt ∧ (x3 (ix1 t)).toInt < 8
  r4 : ∀ t j, 0 ≤ (x4 (ix2 t j)).toInt ∧ (x4 (ix2 t j)).toInt < 68

variable {x0 x1 x3 x4} (hr : InRange x0 x1 x3 x4)
include hr

theorem words237_0 (b : Fin 128) : val_main_v237 (F := Ideal) x0 x1 (ix2 b 0) = x0 (ix1 b) :=
  (cat2_left _ _ _ b).trans ((col1 _ _ b).trans (wrap _ _ (hr.r0 b).1))

theorem words237_1 (b : Fin 128) : val_main_v237 (F := Ideal) x0 x1 (ix2 b 1) = x1 (ix1 b) :=
  (cat2_right _ _ _ b).trans ((col1 _ _ b).trans (wrap _ _ (hr.r1 b).1))

theorem words252_0 (b : Fin 128) : val_main_v252 (F := Ideal) x0 x1 (ix2 b 0) = x0 (ix1 b) :=
  (cat2_left _ _ _ b).trans ((col1 _ _ b).trans (wrap _ _ (hr.r0 b).1))

theorem words252_1 (b : Fin 128) : val_main_v252 (F := Ideal) x0 x1 (ix2 b 1) = x1 (ix1 b) :=
  (cat2_right _ _ _ b).trans ((col1 _ _ b).trans (wrap _ _ (hr.r1 b).1))

theorem words268_0 (b : Fin 128) : val_main_v268 (F := Ideal) x0 x1 (ix2 b 0) = x0 (ix1 b) :=
  (cat2_left _ _ _ b).trans ((col1 _ _ b).trans (wrap _ _ (hr.r0 b).1))

theorem words268_1 (b : Fin 128) : val_main_v268 (F := Ideal) x0 x1 (ix2 b 1) = x1 (ix1 b) :=
  (cat2_right _ _ _ b).trans ((col1 _ _ b).trans (wrap _ _ (hr.r1 b).1))

theorem words283_0 (b : Fin 128) : val_main_v283 (F := Ideal) x0 x1 (ix2 b 0) = x0 (ix1 b) :=
  (cat2_left _ _ _ b).trans ((col1 _ _ b).trans (wrap _ _ (hr.r0 b).1))

theorem words283_1 (b : Fin 128) : val_main_v283 (F := Ideal) x0 x1 (ix2 b 1) = x1 (ix1 b) :=
  (cat2_right _ _ _ b).trans ((col1 _ _ b).trans (wrap _ _ (hr.r1 b).1))

theorem words300_0 (t : Fin 128) (j : Fin 3) : val_main_v300 (F := Ideal) x3 x4 (ix3 t j 0) = x3 (ix1 t) := by
  refine (cat3_left _ _ _ t j).trans ((col3 _ _ t j).trans ((row3 _ _ t j).trans ?_))
  have e : val_main_v286 (F := Ideal) x3 (ix2 t 0) = x3 (ix1 t) := col1 _ _ t
  refine (wrap (val_main_v286 (F := Ideal) x3 (ix2 t 0)) _ ?_).trans e
  rw [e]
  exact (hr.r3 t).1

theorem words300_1 (t : Fin 128) (j : Fin 3) : val_main_v300 (F := Ideal) x3 x4 (ix3 t j 1) = x4 (ix2 t j) :=
  (cat3_right _ _ _ t j).trans ((col3 _ _ t j).trans (wrap _ _ (hr.r4 t j).1))

theorem words316_0 (t : Fin 128) (j : Fin 3) : val_main_v316 (F := Ideal) x3 x4 (ix3 t j 0) = x3 (ix1 t) := by
  refine (cat3_left _ _ _ t j).trans ((col3 _ _ t j).trans ((row3 _ _ t j).trans ?_))
  have e : val_main_v302 (F := Ideal) x3 (ix2 t 0) = x3 (ix1 t) := col1 _ _ t
  refine (wrap (val_main_v302 (F := Ideal) x3 (ix2 t 0)) _ ?_).trans e
  rw [e]
  exact (hr.r3 t).1

theorem words316_1 (t : Fin 128) (j : Fin 3) : val_main_v316 (F := Ideal) x3 x4 (ix3 t j 1) = x4 (ix2 t j) :=
  (cat3_right _ _ _ t j).trans ((col3 _ _ t j).trans (wrap _ _ (hr.r4 t j).1))

theorem words340_0 (t : Fin 128) (j : Fin 3) : val_main_v340 (F := Ideal) x3 x4 (ix3 t j 0) = x3 (ix1 t) := by
  refine (cat3_left _ _ _ t j).trans ((col3 _ _ t j).trans ((row3 _ _ t j).trans ?_))
  have e : val_main_v326 (F := Ideal) x3 (ix2 t 0) = x3 (ix1 t) := col1 _ _ t
  refine (wrap (val_main_v326 (F := Ideal) x3 (ix2 t 0)) _ ?_).trans e
  rw [e]
  exact (hr.r3 t).1

theorem words340_1 (t : Fin 128) (j : Fin 3) : val_main_v340 (F := Ideal) x3 x4 (ix3 t j 1) = x4 (ix2 t j) :=
  (cat3_right _ _ _ t j).trans ((col3 _ _ t j).trans (wrap _ _ (hr.r4 t j).1))

theorem words356_0 (t : Fin 128) (j : Fin 3) : val_main_v356 (F := Ideal) x3 x4 (ix3 t j 0) = x3 (ix1 t) := by
  refine (cat3_left _ _ _ t j).trans ((col3 _ _ t j).trans ((row3 _ _ t j).trans ?_))
  have e : val_main_v342 (F := Ideal) x3 (ix2 t 0) = x3 (ix1 t) := col1 _ _ t
  refine (wrap (val_main_v342 (F := Ideal) x3 (ix2 t 0)) _ ?_).trans e
  rw [e]
  exact (hr.r3 t).1

theorem words356_1 (t : Fin 128) (j : Fin 3) : val_main_v356 (F := Ideal) x3 x4 (ix3 t j 1) = x4 (ix2 t j) :=
  (cat3_right _ _ _ t j).trans ((col3 _ _ t j).trans (wrap _ _ (hr.r4 t j).1))

theorem low_sum (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (t : Fin 128) (j : Fin 3) (c : Fin 256) (y x : Fin 4) :
    val_main_v301 (F := Ideal) x0 x1 x2 x3 x4 x5 x6 x7 x8 (ix5 t j c y x)
      = ∑ b : Fin 128, if same x0 x1 x3 x4 t j b then val_main_v223 (F := Ideal) x2 x5 x6 x7 x8 (ix4 b c y x) else (0 : EReal) := by
  have hJ0 := words300_0 hr t j
  have hJ1 := words300_1 hr t j
  refine (read5 (C := 256) (H := 4) (W := 4) _ _ (val_main_v224 (F := Ideal)) (fun i => ofBits_zero32) (val_main_v237 (F := Ideal) x0 x1)
    (val_main_v223 (F := Ideal) x2 x5 x6 x7 x8) (val_main_v300 (F := Ideal) x3 x4) t j c y x
    (by rw [hJ0]; exact hr.r3 t) (by rw [hJ1]; exact hr.r4 t j)).trans ?_
  refine Finset.sum_congr rfl fun b _ => ?_
  rw [words237_0 hr b, words237_1 hr b, hJ0, hJ1]

theorem low_count (t : Fin 128) (j : Fin 3) :
    val_main_v317 (F := Ideal) x0 x1 x3 x4 (ix2 t j) = ∑ b : Fin 128, if same x0 x1 x3 x4 t j b then (1 : EReal) else 0 := by
  have hJ0 := words316_0 hr t j
  have hJ1 := words316_1 hr t j
  refine (read2 _ _ (val_main_v239 (F := Ideal)) (fun i => ofBits_zero32) (val_main_v252 (F := Ideal) x0 x1)
    (val_main_v253 (F := Ideal)) (val_main_v316 (F := Ideal) x3 x4) t j
    (by rw [hJ0]; exact hr.r3 t) (by rw [hJ1]; exact hr.r4 t j)).trans ?_
  refine Finset.sum_congr rfl fun b _ => ?_
  rw [words252_0 hr b, words252_1 hr b, hJ0, hJ1]
  exact if_congr Iff.rfl Weigh.one_f32 rfl

/-- The read's value: the mean of the matching updates' means. -/
theorem low (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (t : Fin 128) (c : Fin 256) (y x : Fin 4) :
    val_main_v325 (F := Ideal) x0 x1 x2 x3 x4 x5 x6 x7 x8 (ix4 t c y x)
      = mean (same x0 x1 x3 x4 t) fun b => val_main_v223 (F := Ideal) x2 x5 x6 x7 x8 (ix4 b c y x) := by
  have e3 : val_main_v324 (F := Ideal) (ix4 t c y x) = (3 : EReal) := three_f32
  refine (congrArg₂ Ideal.div ((reduce5 (C := 256) (H := 4) (W := 4) (val_main_v322 (F := Ideal) x0 x1 x2 x3 x4 x5 x6 x7 x8) _ (fun i => ofBits_zero32) _ _ (by decide) t c y x).trans ?_) e3)
  refine Finset.sum_congr rfl fun j _ => congrArg₂ Ideal.div (low_sum hr x2 x5 x6 x7 x8 t j c y x) ?_
  refine (over (C := 256) (H := 4) (W := 4) (by decide) (val_main_v319 (F := Ideal) x0 x1 x3 x4) _ _ t j c y x).trans ?_
  exact congrArg₂ max (low_count hr t j) Weigh.one_f32

theorem skip_sum (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (t : Fin 128) (j : Fin 3) (c : Fin 128) (y x : Fin 16) :
    val_main_v341 (F := Ideal) x0 x1 x2 x3 x4 x5 x6 (ix5 t j c y x)
      = ∑ b : Fin 128, if same x0 x1 x3 x4 t j b then val_main_v111 (F := Ideal) x2 x5 x6 (ix4 b c y x) else (0 : EReal) := by
  have hJ0 := words340_0 hr t j
  have hJ1 := words340_1 hr t j
  refine (read5 (C := 128) (H := 16) (W := 16) _ _ (val_main_v255 (F := Ideal)) (fun i => ofBits_zero32) (val_main_v268 (F := Ideal) x0 x1)
    (val_main_v111 (F := Ideal) x2 x5 x6) (val_main_v340 (F := Ideal) x3 x4) t j c y x
    (by rw [hJ0]; exact hr.r3 t) (by rw [hJ1]; exact hr.r4 t j)).trans ?_
  refine Finset.sum_congr rfl fun b _ => ?_
  rw [words268_0 hr b, words268_1 hr b, hJ0, hJ1]

theorem skip_count (t : Fin 128) (j : Fin 3) :
    val_main_v357 (F := Ideal) x0 x1 x3 x4 (ix2 t j) = ∑ b : Fin 128, if same x0 x1 x3 x4 t j b then (1 : EReal) else 0 := by
  have hJ0 := words356_0 hr t j
  have hJ1 := words356_1 hr t j
  refine (read2 _ _ (val_main_v270 (F := Ideal)) (fun i => ofBits_zero32) (val_main_v283 (F := Ideal) x0 x1)
    (val_main_v284 (F := Ideal)) (val_main_v356 (F := Ideal) x3 x4) t j
    (by rw [hJ0]; exact hr.r3 t) (by rw [hJ1]; exact hr.r4 t j)).trans ?_
  refine Finset.sum_congr rfl fun b _ => ?_
  rw [words283_0 hr b, words283_1 hr b, hJ0, hJ1]
  exact if_congr Iff.rfl Weigh.one_f32 rfl

/-- The read's value: the mean of the matching updates' means. -/
theorem skip (x2 : (⟨S128x1x64x64, .f32⟩ : BufTy).Contents (Elt Ideal)) (x5 : (⟨S64x1x3x3, .f32⟩ : BufTy).Contents (Elt Ideal)) (x6 : (⟨S128x64x3x3, .f32⟩ : BufTy).Contents (Elt Ideal)) (t : Fin 128) (c : Fin 128) (y x : Fin 16) :
    val_main_v365 (F := Ideal) x0 x1 x2 x3 x4 x5 x6 (ix4 t c y x)
      = mean (same x0 x1 x3 x4 t) fun b => val_main_v111 (F := Ideal) x2 x5 x6 (ix4 b c y x) := by
  have e3 : val_main_v364 (F := Ideal) (ix4 t c y x) = (3 : EReal) := three_f32
  refine (congrArg₂ Ideal.div ((reduce5 (C := 128) (H := 16) (W := 16) (val_main_v362 (F := Ideal) x0 x1 x2 x3 x4 x5 x6) _ (fun i => ofBits_zero32) _ _ (by decide) t c y x).trans ?_) e3)
  refine Finset.sum_congr rfl fun j _ => congrArg₂ Ideal.div (skip_sum hr x2 x5 x6 t j c y x) ?_
  refine (over (C := 128) (H := 16) (W := 16) (by decide) (val_main_v359 (F := Ideal) x0 x1 x3 x4) _ _ t j c y x).trans ?_
  exact congrArg₂ max (skip_count hr t j) Weigh.one_f32

end Cert.RefMem

end
-- ==== Proof.ChainMem.lean ====
/- The memory reads: after the two memory calls the rows their results hold are the reference's reads, where the index arrays are
   within the memory's sizes. -/
module

public import proofs.«01_k».proof.Proof.Args
public import proofs.«01_k».proof.Proof.Keys
public import proofs.«01_k».proof.Proof.ChainEnc
public import proofs.«01_k».proof.Proof.RefMem

@[expose] public section

set_option maxRecDepth 16384

noncomputable section

namespace Cert.ChainMem

open Idealize.ShloMosaic Idealize.ShloMosaic.TcCoe Idealize.ShloMosaic.ValueIdx Idealize.ShloMosaic.Tactic
open Cert.KernelIdeal Cert.KernelIdeal.Gen Cert.Arr
open scoped BigOperators

variable (m : (l : Loc nD τ sig) → Buf (Elt Ideal) l) (ρ : Dev nD → PrngReg) (c : Dev nD)

/-- The index arguments are within the memory's sizes. -/
abbrev InRange : Prop := RefMem.InRange (Args.a0 m c) (Args.a1 m c) (Args.a3 m c) (Args.a4 m c)

abbrev rk := Keys.refKeys (Args.a0 m c) (Args.a1 m c)

abbrev tk := Keys.trgKeys (Args.a3 m c) (Args.a4 m c)

variable {m c} in
theorem match_iff (hr : InRange m c) (t : Fin 128) (j : Fin 3) (b : Fin 128) :
    tk m c (ix2 t j) = rk m c (ix2 0 b) ↔ RefMem.same (Args.a0 m c) (Args.a1 m c) (Args.a3 m c) (Args.a4 m c) t j b := by
  have e1 : tk m c (ix2 t j) = _ := Keys.trgKeys_at _ _ t j
  have e2 : rk m c (ix2 0 b) = _ := Keys.refKeys_at _ _ b
  rw [e1, e2]
  exact Read.key_iff _ _ _ _ (hr.r3 t) (hr.r0 b) (hr.r4 t j) (hr.r1 b)

theorem keys29 : (W29 m ρ c (Proc.devRef .tc main_v106) : (⟨2, ![1, 128]⟩ : Shape).Idx → BitVec 32) = rk m c := by
  refine (Keys.read_v106 (W28 m ρ c)).trans ?_
  exact congrArg₂ Keys.refKeys (W28_args m ρ c main_arg0 (by decide)) (W28_args m ρ c main_arg1 (by decide))

theorem keys29' : (W29 m ρ c (Proc.devRef .tc main_v111) : (⟨2, ![128, 3]⟩ : Shape).Idx → BitVec 32) = tk m c := by
  refine (Keys.read_v111 (W28 m ρ c)).trans ?_
  exact congrArg₂ Keys.trgKeys (W28_args m ρ c main_arg3 (by decide)) (W28_args m ρ c main_arg4 (by decide))

theorem keys31 : (W31 m ρ c (Proc.devRef .tc main_v106) : (⟨2, ![1, 128]⟩ : Shape).Idx → BitVec 32) = rk m c :=
  (W31_of m ρ c main_v106 (by decide)).trans ((W30_of m ρ c main_v106 (by decide)).trans (keys29 m ρ c))

theorem keys31' : (W31 m ρ c (Proc.devRef .tc main_v111) : (⟨2, ![128, 3]⟩ : Shape).Idx → BitVec 32) = tk m c :=
  (W31_of m ρ c main_v111 (by decide)).trans ((W30_of m ρ c main_v111 (by decide)).trans (keys29' m ρ c))

/-- The skip images are still there when the second memory call's inputs are made. -/
theorem skip30 : (W30 m ρ c (Proc.devRef .tc main_v58) : (⟨4, ![128, 16, 16, 128]⟩ : Shape).Idx → EReal) = Enc1.image (W12 m ρ c (Proc.devRef .tc main_v54)) := by
  refine Eq.trans ?_ (Keys.read_v58 (W12 m ρ c))
  refine (W30_of m ρ c main_v58 (by decide)).trans ((W29_of m ρ c main_v58 (by decide)).trans ((W28_of m ρ c main_v58 (by decide)).trans ?_))
  refine (W27_of m ρ c main_v58 (by decide)).trans ((W26_of m ρ c main_v58 (by decide)).trans ((W25_of m ρ c main_v58 (by decide)).trans ((W24_of m ρ c main_v58 (by decide)).trans ((W23_of m ρ c main_v58 (by decide)).trans ((W22_of m ρ c main_v58 (by decide)).trans ((W21_of m ρ c main_v58 (by decide)).trans (W20_of m ρ c main_v58 (by decide))))))))

theorem low (hr : InRange m c) : ∀ t y x o, at4 (Keys.lowImage (W30 m ρ c (Proc.devRef .tc main_v113))) t y x o = at4 (n0 := 128) (n1 := 256) (n2 := 4) (n3 := 4) (Cert.ReferenceIdeal.Read.val_main_v325 (F := Ideal) (Args.a0 m c) (Args.a1 m c) (Args.a2 m c) (Args.a3 m c) (Args.a4 m c) (Args.a5 m c) (Args.a6 m c) (Args.a7 m c) (Args.a8 m c)) t o y x :=
  at4_swap_ext fun t y x o h => by
    obtain ⟨ht, hy, hx, ho⟩ := h
    have hw : W30 m ρ c (Proc.devRef .tc main_v113) = (dat4 (V29 m ρ) c).arrAt 3 cfg4.N := W30_arr m ρ c 3
    rw [hw]
    refine (Keys.low (V29 m ρ) c (rk m c) (tk m c) (Enc3.image (W28 m ρ c (Proc.devRef .tc main_v98))) (keys29 m ρ c) (keys29' m ρ c)
      (Keys.read_v112 (W28 m ρ c)) ⟨t, ht⟩ ⟨hy, hx, ho⟩).trans ?_
    rw [at4_eq _ ⟨ht, ho, hy, hx⟩]
    refine Eq.trans ?_ (RefMem.low hr (Args.a2 m c) (Args.a5 m c) (Args.a6 m c) (Args.a7 m c) (Args.a8 m c) ⟨t, ht⟩ ⟨o, ho⟩ ⟨y, hy⟩ ⟨x, hx⟩).symm
    rw [Read.mean_eq (rk m c) (tk m c) ⟨t, ht⟩ _ (match_iff hr ⟨t, ht⟩)]
    exact Finset.sum_congr rfl fun b _ => congrArg _ ((ChainEnc.enc3 m ρ c b.val y x o).trans (at4_eq _ ⟨b.isLt, ho, hy, hx⟩))

theorem skip (hr : InRange m c) : ∀ t y x o, at4 (Keys.skipImage (W32 m ρ c (Proc.devRef .tc main_v115))) t y x o = at4 (n0 := 128) (n1 := 128) (n2 := 16) (n3 := 16) (Cert.ReferenceIdeal.Read.val_main_v365 (F := Ideal) (Args.a0 m c) (Args.a1 m c) (Args.a2 m c) (Args.a3 m c) (Args.a4 m c) (Args.a5 m c) (Args.a6 m c)) t o y x :=
  at4_swap_ext fun t y x o h => by
    obtain ⟨ht, hy, hx, ho⟩ := h
    have hw : W32 m ρ c (Proc.devRef .tc main_v115) = (dat5 (V31 m ρ) c).arrAt 3 cfg5.N := W32_arr m ρ c 3
    rw [hw]
    refine (Keys.skip (V31 m ρ) c (rk m c) (tk m c) (Enc1.image (W12 m ρ c (Proc.devRef .tc main_v54))) (keys31 m ρ c) (keys31' m ρ c)
      ((Keys.read_v114 (W30 m ρ c)).trans (congrArg Keys.skipRows (skip30 m ρ c))) ⟨t, ht⟩ ⟨hy, hx, ho⟩).trans ?_
    rw [at4_eq _ ⟨ht, ho, hy, hx⟩]
    refine Eq.trans ?_ (RefMem.skip hr (Args.a2 m c) (Args.a5 m c) (Args.a6 m c) ⟨t, ht⟩ ⟨o, ho⟩ ⟨y, hy⟩ ⟨x, hx⟩).symm
    rw [Read.mean_eq (rk m c) (tk m c) ⟨t, ht⟩ _ (match_iff hr ⟨t, ht⟩)]
    exact Finset.sum_congr rfl fun b _ => congrArg _ ((ChainEnc.enc1 m ρ c b.val y x o).trans (at4_eq _ ⟨b.isLt, ho, hy, hx⟩))

/-- The first read's rows are still there at the decoder's first call. -/
theorem low32 : W32 m ρ c (Proc.devRef .tc main_v113) = W30 m ρ c (Proc.devRef .tc main_v113) :=
  (W32_of m ρ c main_v113 (by decide)).trans (W31_of m ρ c main_v113 (by decide))

end Cert.ChainMem

end
-- ==== Proof.Reg6.lean ====
/- The first decoder layer's custom call: every row of its output as a function of the rows of its inputs. -/
module

public import proofs.«01_k».proof.Proof.Tap
public import proofs.«01_k».proof.Proof.Gen.KernelIdeal.Frame.Region6

@[expose] public section

set_option maxRecDepth 16384

noncomputable section

namespace Cert.Reg6

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 5254, 256]⟩ : Shape).Idx → EReal) (X1 : S9x256x128.Idx → EReal) {m2 : ℕ} (X2 : (⟨3, ![m2, 5216, 128]⟩ : Shape).Idx → EReal) (i p co : ℕ) : EReal :=
  max (tapSum 256 X0 X1 i (p + 0) co 0 + tapSum 256 X0 X1 i (p + 1) co 1 + tapSum 256 X0 X1 i (p + 2) co 2 + tapSum 256 X0 X1 i (p + 18) co 3 + tapSum 256 X0 X1 i (p + 19) co 4 + tapSum 256 X0 X1 i (p + 20) co 5 + tapSum 256 X0 X1 i (p + 36) co 6 + tapSum 256 X0 X1 i (p + 37) co 7 + tapSum 256 X0 X1 i (p + 38) co 8) 0 + at3 X2 i p co

theorem hdot_1120_256 : dot_S1120x256_S256x128_S1120x128_1_0_0_1_n_n = DotDims.plain 1120 256 128 := rfl
theorem hdot_2048_256 : dot_S2048x256_S256x128_S2048x128_1_0_0_1_n_n = DotDims.plain 2048 256 128 := rfl

/-- What the body leaves in its output's block, index by index. -/
theorem out_eq (c : Dev nD) (i : grid6.Coords) (arg1 : Memref sig .tc .vmem S1x5254x256 .bf16) (harg1 : arg1.IsWhole) (arg2 : Memref sig .tc .vmem S9x256x128 .bf16) (harg2 : arg2.IsWhole) (arg3 : Memref sig .tc .vmem S1x5216x128 .bf16) (harg3 : arg3.IsWhole) (arg4 : Memref sig .tc .vmem S1x5216x128 .bf16) (harg4 : arg4.IsWhole)
    (x0 : Vec Ideal S1x5254x256 .bf16) (x1 : Vec Ideal S9x256x128 .bf16) (x2 : Vec Ideal S1x5216x128 .bf16) (y : S1x5216x128.Idx) :
    out6_A_3 c i arg1 harg1 arg2 harg2 arg3 harg3 arg4 harg4 x0 x1 x2 y = row x0 x1 x2 0 (y 1).val (y 2).val := by
  unfold out6_A_3
  rw [View.read_writes_junk_apply_eq_canon]
  refine View.canon_apply_of_pieces (Val := Elt Ideal) (fun y : S1x5216x128.Idx => row x0 x1 x2 0 (y 1).val (y 2).val) _ ?_ y (cover6_A_3 c i arg1 harg1 arg2 harg2 arg3 harg3 arg4 harg4 x0 x1 x2 y)
  unfold kernelRun6_A
  dsimp only
  sl_unfold_words
  simp only [View.readAt_eq_ld, harg1.read_unread, harg2.read_unread, harg3.read_unread]
  intro p hp
  simp only [List.mem_cons, List.mem_nil_iff, or_false] at hp
  rcases hp with rfl | rfl | rfl
  · refine forall_ix3 fun z r c => ?_
    show _ = row x0 x1 x2 0 (4096 + 1 * r.val) (0 + 1 * c.val)
    simp only [k6_pay1, k6_pay2, k6_pay3, k6_pay4, k6_pay5, k6_pay6, k6_pay7, k6_pay8, k6_pay9, k6_pay10, k6_pay11, k6_pay12, row, shapeCast_ab_1ab_apply, addf_apply, truncf_apply, extf_apply, maximumf_apply, tanh_apply', bcast_zero, tap_val, hdot_1120_256, hdot_2048_256, Nat.one_mul, Nat.zero_add, Nat.add_zero, Nat.add_right_comm _ r.val, Nat.reduceAdd]
    exact congrArg (fun v : EReal => max _ 0 + v) ((ld_rows x2 _ _ r c).trans (by rw []))
  · refine forall_ix3 fun z r c => ?_
    show _ = row x0 x1 x2 0 (2048 + 1 * r.val) (0 + 1 * c.val)
    simp only [k6_pay1, k6_pay2, k6_pay3, k6_pay4, k6_pay5, k6_pay6, k6_pay7, k6_pay8, k6_pay9, k6_pay10, k6_pay11, k6_pay12, row, shapeCast_ab_1ab_apply, addf_apply, truncf_apply, extf_apply, maximumf_apply, tanh_apply', bcast_zero, tap_val, hdot_1120_256, hdot_2048_256, Nat.one_mul, Nat.zero_add, Nat.add_zero, Nat.add_right_comm _ r.val, Nat.reduceAdd]
    exact congrArg (fun v : EReal => max _ 0 + v) ((ld_rows x2 _ _ r c).trans (by rw []))
  · refine forall_ix3 fun z r c => ?_
    show _ = row x0 x1 x2 0 (0 + 1 * r.val) (0 + 1 * c.val)
    simp only [k6_pay1, k6_pay2, k6_pay3, k6_pay4, k6_pay5, k6_pay6, k6_pay7, k6_pay8, k6_pay9, k6_pay10, k6_pay11, k6_pay12, row, shapeCast_ab_1ab_apply, addf_apply, truncf_apply, extf_apply, maximumf_apply, tanh_apply', bcast_zero, tap_val, hdot_1120_256, hdot_2048_256, Nat.one_mul, Nat.zero_add, Nat.add_zero, Nat.add_right_comm _ r.val, Nat.reduceAdd]
    simp only [Nat.add_comm _ r.val]
    exact congrArg (fun v : EReal => max _ 0 + v) ((ld_rows x2 _ _ r c).trans (by rw [Nat.zero_add]))

variable (V : (c : Dev nD) → (b : Ref sig .tc) → Buf (Elt Ideal) ((c : Thread nD τ).loc b))

theorem idx0 : ∀ t : Fin cfg6.N, win6_0.index t (0 : Fin 3) = t.val ∧ win6_0.index t (1 : Fin 3) = 0 ∧ win6_0.index t (2 : Fin 3) = 0 :=
  (by decide +kernel : ∀ t : Fin grid6.N, _)
theorem idx1 : ∀ t : Fin cfg6.N, win6_1.index t (0 : Fin 3) = 0 ∧ win6_1.index t (1 : Fin 3) = 0 ∧ win6_1.index t (2 : Fin 3) = 0 :=
  (by decide +kernel : ∀ t : Fin grid6.N, _)
theorem idx2 : ∀ t : Fin cfg6.N, win6_2.index t (0 : Fin 3) = t.val ∧ win6_2.index t (1 : Fin 3) = 0 ∧ win6_2.index t (2 : Fin 3) = 0 :=
  (by decide +kernel : ∀ t : Fin grid6.N, _)
theorem idx3 : ∀ t : Fin cfg6.N, win6_3.index t (0 : Fin 3) = t.val ∧ win6_3.index t (1 : Fin 3) = 0 ∧ win6_3.index t (2 : Fin 3) = 0 :=
  (by decide +kernel : ∀ t : Fin grid6.N, _)
theorem hN : cfg6.N = 8 := N_6

/-- The input's block at a point, read anywhere. -/
theorem at_iblk0 (c : Dev nD) (t : Fin cfg6.N) (q k : ℕ) :
    at3 (n0 := 1) (n1 := 5254) (n2 := 256) (iblk6 V c 0 t) 0 q k = at3 (n0 := 8) (n1 := 5254) (n2 := 256) (V c main_v129) t.val q k := by
  refine at3_block _ _ (lt_of_lt_of_eq t.isLt hN) (fun q k => ?_) q k
  obtain ⟨e0, e1, e2⟩ := idx0 t
  refine congrArg (V c main_v129) (funext fun a => Fin.ext ?_)
  match a with
  | ⟨0, _⟩ => show win6_0.index t (0 : Fin 3) * 1 + 1 * 0 = t.val; omega
  | ⟨1, _⟩ => show win6_0.index t (1 : Fin 3) * 5254 + 1 * q.val = q.val; omega
  | ⟨2, _⟩ => show win6_0.index t (2 : Fin 3) * 256 + 1 * k.val = k.val; omega

/-- The weights' block is the weights. -/
theorem iblk1_eq (c : Dev nD) (t : Fin cfg6.N) : (iblk6 V c 1 t : S9x256x128.Idx → EReal) = V c main_v124 := by
  obtain ⟨e0, e1, e2⟩ := idx1 t
  funext j
  refine congrArg (V c main_v124) (funext fun a => Fin.ext ?_)
  match a with
  | ⟨0, _⟩ => show win6_1.index t (0 : Fin 3) * 9 + 1 * (j 0).val = (j 0).val; omega
  | ⟨1, _⟩ => show win6_1.index t (1 : Fin 3) * 256 + 1 * (j 1).val = (j 1).val; omega
  | ⟨2, _⟩ => show win6_1.index t (2 : Fin 3) * 128 + 1 * (j 2).val = (j 2).val; omega

/-- The input's block at a point, read anywhere. -/
theorem at_iblk2 (c : Dev nD) (t : Fin cfg6.N) (q k : ℕ) :
    at3 (n0 := 1) (n1 := 5216) (n2 := 128) (iblk6 V c 2 t) 0 q k = at3 (n0 := 8) (n1 := 5216) (n2 := 128) (V c main_v134) t.val q k := by
  refine at3_block _ _ (lt_of_lt_of_eq t.isLt hN) (fun q k => ?_) q k
  obtain ⟨e0, e1, e2⟩ := idx2 t
  refine congrArg (V c main_v134) (funext fun a => Fin.ext ?_)
  match a with
  | ⟨0, _⟩ => show win6_2.index t (0 : Fin 3) * 1 + 1 * 0 = t.val; omega
  | ⟨1, _⟩ => show win6_2.index t (1 : Fin 3) * 5216 + 1 * q.val = q.val; omega
  | ⟨2, _⟩ => show win6_2.index t (2 : Fin 3) * 128 + 1 * k.val = k.val; omega

/-- The array the call leaves. -/
def G (X0 : S8x5254x256.Idx → EReal) (X1 : S9x256x128.Idx → EReal) (X2 : S8x5216x128.Idx → EReal) (y : S8x5216x128.Idx) : EReal := row X0 X1 X2 (y 0).val (y 1).val (y 2).val

/-- The output's block at a point covers that image block's rows. -/
theorem emb_eq (t : Fin cfg6.N) (z : Fin 1) (p : Fin 5216) (co : Fin 128) :
    ((cfg6.win 3).blk t).view.emb (ix3 z p co) = (ix3 ⟨t.val, lt_of_lt_of_eq t.isLt hN⟩ p co : S8x5216x128.Idx) := by
  obtain ⟨e0, e1, e2⟩ := idx3 t
  refine funext fun a => Fin.ext ?_
  match a with
  | ⟨0, _⟩ => show win6_3.index t (0 : Fin 3) * 1 + 1 * z.val = t.val; have := z.isLt; omega
  | ⟨1, _⟩ => show win6_3.index t (1 : Fin 3) * 5216 + 1 * p.val = p.val; omega
  | ⟨2, _⟩ => show win6_3.index t (2 : Fin 3) * 128 + 1 * co.val = co.val; omega

theorem flushed_eq (c : Dev nD) (t : Fin cfg6.N) :
    (dat6 V c).flushed 3 t = ((cfg6.win 3).blk t).view.read (Elt Ideal) (G (V c main_v129) (V c main_v124) (V c main_v134)) := by
  show (cfg6.win 3).cut (grid6.coords t) ((dat6 V c).after 3 t) = _
  rw [after6_3]
  unfold outsAt6
  refine funext (forall_ix3 (n0 := 1) (n1 := 5216) (n2 := 128) fun z p co => ?_)
  refine (out_eq c _ _ _ _ _ _ _ _ _ _ _ _ _).trans ?_
  show _ = G (V c main_v129) (V c main_v124) (V c main_v134) (((cfg6.win 3).blk t).view.emb (ix3 z p co))
  rw [emb_eq]
  show row _ _ _ 0 p.val co.val = row _ _ _ t.val p.val co.val
  unfold row
  simp only [tapSum_congr (at_iblk0 V c t) (fun t' k c' => congrArg (fun f => at3 f t' k c') (iblk1_eq V c t)), at_iblk2 V c t]

theorem cover (i : S8x5216x128.Idx) : ∃ t : Fin cfg6.N, (cfg6.win 3).flush t = true ∧ i ∈ ((cfg6.win 3).blk t).view.set := by
  revert i
  refine forall_ix3 fun b p co => ?_
  have ht : b.val < cfg6.N := lt_of_lt_of_eq b.isLt hN.symm
  have h := ((cfg6.win 3).blk ⟨b.val, ht⟩).view.emb_mem_set (ix3 (0 : Fin 1) p co : S1x5216x128.Idx)
  rw [emb_eq] at h
  exact ⟨⟨b.val, ht⟩, flush6_3 _, h⟩

/-- The call's result array. -/
theorem arr_eq (c : Dev nD) : (dat6 V c).arrAt 3 cfg6.N = G (V c main_v129) (V c main_v124) (V c main_v134) :=
  (dat6 V c).arrAt_eq_of_cover 3 _ (fun t _ => flushed_eq V c t) cover

/-- The call's result array, read at natural-number coordinates. -/
theorem arr_at (c : Dev nD) (i p co : ℕ) (h : i < 8 ∧ p < 5216 ∧ co < 128) :
    at3 (n0 := 8) (n1 := 5216) (n2 := 128) ((dat6 V c).arrAt 3 cfg6.N) i p co = row (show S8x5254x256.Idx → EReal from V c main_v129) (show S9x256x128.Idx → EReal from V c main_v124) (show S8x5216x128.Idx → EReal from V c main_v134) i p co := by
  rw [arr_eq, at3_eq _ h]
  rfl

end Cert.Reg6

end
-- ==== Proof.Dec1.lean ====
/- The first decoder layer: from the images its host operations are given to the images cut out of its call's result. -/
module

public import proofs.«01_k».proof.Proof.Conv
public import proofs.«01_k».proof.Proof.Reg6

@[expose] public section

set_option maxRecDepth 16384

noncomputable section

namespace Cert.Dec1

open Idealize.ShloMosaic Idealize.ShloMosaic.TcCoe Idealize.ShloMosaic.ValueIdx Idealize.ShloMosaic.Tactic
open Cert.KernelIdeal Cert.KernelIdeal.Gen Cert.Arr

variable (A : (⟨4, ![128, 16, 16, 256]⟩ : Shape).Idx → EReal) (w : (⟨4, ![128, 256, 3, 3]⟩ : Shape).Idx → EReal)

/-- The rows of the bordered images, flattened, grouped by block of images. -/
def flat : (⟨3, ![8, 5254, 256]⟩ : Shape).Idx → EReal :=
  pad ⟨3, ![8, 5254, 256]⟩ ![0, 0, 0] ![0, 38, 0] ![0, 0, 0]
    (shapeCast ⟨3, ![8, 5216, 256]⟩ (pad ⟨3, ![128, 326, 256]⟩ ![0, 0, 0] ![0, 2, 0] ![0, 0, 0]
      (shapeCast ⟨3, ![128, 324, 256]⟩ (pad ⟨4, ![128, 18, 18, 256]⟩ ![0, 1, 1, 0] ![0, 1, 1, 0] ![0, 0, 0, 0] A (border (φ := .bf16)) (by decide) (by decide)) (by decide))
      (border (φ := .bf16)) (by decide) (by decide)) (by decide))
    (border (φ := .bf16)) (by decide) (by decide)

/-- The weights by tap. -/
def taps : (⟨3, ![9, 256, 128]⟩ : Shape).Idx → EReal := shapeCast ⟨3, ![9, 256, 128]⟩ (transpose ⟨4, ![3, 3, 256, 128]⟩ [2, 3, 1, 0] w (by decide)) (by decide)

/-- The images cut out of the rows the call leaves. -/
def image (Z : (⟨3, ![8, 5216, 128]⟩ : Shape).Idx → EReal) : (⟨4, ![128, 16, 16, 128]⟩ : Shape).Idx → EReal :=
  extractStridedSlice ⟨4, ![128, 16, 16, 128]⟩ ![0, 0, 0, 0] (shapeCast ⟨4, ![128, 16, 18, 128]⟩
    (extractStridedSlice ⟨3, ![128, 288, 128]⟩ ![0, 0, 0] (shapeCast ⟨3, ![128, 326, 128]⟩ Z (by decide)) (by decide)) (by decide)) (by decide)

/-- The images enlarged 4-fold, every pixel repeated. -/
def up (Y : (⟨4, ![128, 4, 4, 256]⟩ : Shape).Idx → EReal) : (⟨4, ![128, 16, 16, 256]⟩ : Shape).Idx → EReal :=
  shapeCast ⟨4, ![128, 16, 16, 256]⟩ (broadcastInDim ⟨6, ![128, 4, 4, 4, 4, 256]⟩ ![0, 1, 2, 3, 4, 5] (by decide)
    (broadcastInDim ⟨6, ![128, 4, 1, 4, 1, 256]⟩ ![0, 1, 3, 5] (by decide) Y)) (by decide)

theorem up_at (Y : (⟨4, ![128, 4, 4, 256]⟩ : Shape).Idx → EReal) {b y x c : ℕ} (h : b < 128 ∧ y < 16 ∧ x < 16 ∧ c < 256) :
    at4 (up Y) b y x c = at4 Y b (y / 4) (x / 4) c :=
  at4_repeat Y _ _ _ (by decide) (by decide) (by decide) (by decide) h

theorem flat_at {g r y x q c : ℕ} (h : g < 8 ∧ r < 16 ∧ y < 18 ∧ x < 18 ∧ c < 256) (hq : q = r * 326 + (y * 18 + x)) :
    at3 (flat A) g q c = shifted (at4 A (g * 16 + r)) y x c := by
  obtain ⟨h0, h1, h2, h3, h4⟩ := h
  have hb : g * 16 + r < 128 := by omega
  have hs : y * 18 + x < 324 := by omega
  unfold flat
  rw [at3_padhi, at_cast33 _ _ (g * 16 + r) (y * 18 + x) c ⟨h0, by omega, h4⟩ ⟨hb, by omega, h4⟩ (by subst hq; omega), at3_padhi,
    at_cast43 _ _ (g * 16 + r) y x c ⟨hb, hs, h4⟩ ⟨hb, h2, h3, h4⟩ (by omega), at4_padone]

theorem taps_at {k c o : ℕ} (h : k < 9 ∧ c < 256 ∧ o < 128) : at3 (taps w) k c o = wk w k c o := at3_taps w _ _ h

theorem image_at (Z : (⟨3, ![8, 5216, 128]⟩ : Shape).Idx → EReal) {g r y x o : ℕ} (h : g < 8 ∧ r < 16 ∧ y < 16 ∧ x < 16 ∧ o < 128) :
    at4 (image Z) (g * 16 + r) y x o = at3 Z g (r * 326 + (y * 18 + x)) o := by
  obtain ⟨h0, h1, h2, h3, h4⟩ := h
  have hb : g * 16 + r < 128 := by omega
  unfold image
  rw [at4_slice _ _ ⟨hb, h2, h3, h4⟩]
  simp only [Nat.zero_add]
  rw [at_cast34 _ _ (g * 16 + r) (y * 18 + x) o ⟨hb, h2, by omega, h4⟩ ⟨hb, by omega, h4⟩ (by omega), at3_slice _ _ ⟨hb, by omega, h4⟩]
  simp only [Nat.zero_add]
  rw [at_cast33 _ _ g (r * 326 + (y * 18 + x)) o ⟨hb, by omega, h4⟩ ⟨h0, by omega, h4⟩ (by omega)]

variable (K : (⟨4, ![128, 16, 16, 128]⟩ : Shape).Idx → EReal)

/-- The rows of the remembered images the call adds. -/
def skips : (⟨3, ![8, 5216, 128]⟩ : Shape).Idx → EReal :=
  shapeCast ⟨3, ![8, 5216, 128]⟩ (pad ⟨3, ![128, 326, 128]⟩ ![0, 0, 0] ![0, 38, 0] ![0, 0, 0]
    (shapeCast ⟨3, ![128, 288, 128]⟩ (pad ⟨4, ![128, 16, 18, 128]⟩ ![0, 0, 0, 0] ![0, 0, 2, 0] ![0, 0, 0, 0] K (border (φ := .f32)) (by decide) (by decide)) (by decide))
    (border (φ := .f32)) (by decide) (by decide)) (by decide)

theorem skips_at {g r y x o : ℕ} (h : g < 8 ∧ r < 16 ∧ y < 16 ∧ x < 16 ∧ o < 128) :
    at3 (skips K) g (r * 326 + (y * 18 + x)) o = at4 K (g * 16 + r) y x o := by
  obtain ⟨h0, h1, h2, h3, h4⟩ := h
  have hb : g * 16 + r < 128 := by omega
  unfold skips
  rw [at_cast33 _ _ (g * 16 + r) (y * 18 + x) o ⟨h0, by omega, h4⟩ ⟨hb, by omega, h4⟩ (by omega), at3_padhi,
    at_cast43 _ _ (g * 16 + r) y x o ⟨hb, by omega, h4⟩ ⟨hb, h2, by omega, h4⟩ (by omega), at4_padhi]

/-- The call's row function on these inputs is the convolution of the bordered images. -/
theorem row_eq {g r y x o : ℕ} (h : g < 8 ∧ r < 16 ∧ y < 16 ∧ x < 16 ∧ o < 128) :
    Reg6.row (flat A) (taps w) (skips K) g (r * 326 + (y * 18 + x)) o
      = max (conv9 256 (shifted (at4 A (g * 16 + r))) (wk w) y x o) 0 + at4 K (g * 16 + r) y x o := by
  obtain ⟨h0, h1, h2, h3, h4⟩ := h
  unfold Reg6.row conv9
  rw [tapSum_tap (A := shifted (at4 A (g * 16 + r))) (w := wk w) (y := y) (x := x) (dy := 0) (dx := 0) (X := flat A) (W := taps w) (q := r * 326 + (y * 18 + x) + 0) (t := 0)
    (fun c hc => flat_at A (y := y + 0) (x := x + 0) (by omega) (by omega)) (fun c hc => taps_at w (k := 0) (by omega))]
  rw [tapSum_tap (A := shifted (at4 A (g * 16 + r))) (w := wk w) (y := y) (x := x) (dy := 0) (dx := 1) (X := flat A) (W := taps w) (q := r * 326 + (y * 18 + x) + 1) (t := 1)
    (fun c hc => flat_at A (y := y + 0) (x := x + 1) (by omega) (by omega)) (fun c hc => taps_at w (k := 1) (by omega))]
  rw [tapSum_tap (A := shifted (at4 A (g * 16 + r))) (w := wk w) (y := y) (x := x) (dy := 0) (dx := 2) (X := flat A) (W := taps w) (q := r * 326 + (y * 18 + x) + 2) (t := 2)
    (fun c hc => flat_at A (y := y + 0) (x := x + 2) (by omega) (by omega)) (fun c hc => taps_at w (k := 2) (by omega))]
  rw [tapSum_tap (A := shifted (at4 A (g * 16 + r))) (w := wk w) (y := y) (x := x) (dy := 1) (dx := 0) (X := flat A) (W := taps w) (q := r * 326 + (y * 18 + x) + 18) (t := 3)
    (fun c hc => flat_at A (y := y + 1) (x := x + 0) (by omega) (by omega)) (fun c hc => taps_at w (k := 3) (by omega))]
  rw [tapSum_tap (A := shifted (at4 A (g * 16 + r))) (w := wk w) (y := y) (x := x) (dy := 1) (dx := 1) (X := flat A) (W := taps w) (q := r * 326 + (y * 18 + x) + 19) (t := 4)
    (fun c hc => flat_at A (y := y + 1) (x := x + 1) (by omega) (by omega)) (fun c hc => taps_at w (k := 4) (by omega))]
  rw [tapSum_tap (A := shifted (at4 A (g * 16 + r))) (w := wk w) (y := y) (x := x) (dy := 1) (dx := 2) (X := flat A) (W := taps w) (q := r * 326 + (y * 18 + x) + 20) (t := 5)
    (fun c hc => flat_at A (y := y + 1) (x := x + 2) (by omega) (by omega)) (fun c hc => taps_at w (k := 5) (by omega))]
  rw [tapSum_tap (A := shifted (at4 A (g * 16 + r))) (w := wk w) (y := y) (x := x) (dy := 2) (dx := 0) (X := flat A) (W := taps w) (q := r * 326 + (y * 18 + x) + 36) (t := 6)
    (fun c hc => flat_at A (y := y + 2) (x := x + 0) (by omega) (by omega)) (fun c hc => taps_at w (k := 6) (by omega))]
  rw [tapSum_tap (A := shifted (at4 A (g * 16 + r))) (w := wk w) (y := y) (x := x) (dy := 2) (dx := 1) (X := flat A) (W := taps w) (q := r * 326 + (y * 18 + x) + 37) (t := 7)
    (fun c hc => flat_at A (y := y + 2) (x := x + 1) (by omega) (by omega)) (fun c hc => taps_at w (k := 7) (by omega))]
  rw [tapSum_tap (A := shifted (at4 A (g * 16 + r))) (w := wk w) (y := y) (x := x) (dy := 2) (dx := 2) (X := flat A) (W := taps w) (q := r * 326 + (y * 18 + x) + 38) (t := 8)
    (fun c hc => flat_at A (y := y + 2) (x := x + 2) (by omega) (by omega)) (fun c hc => taps_at w (k := 8) (by omega))]
  rw [skips_at K ⟨h0, h1, h2, h3, h4⟩]

/-- The layer: the images cut out of the call's result are the convolved images. -/
theorem layer (V : (c : Dev nD) → (b : Ref sig .tc) → Buf (Elt Ideal) ((c : Thread nD τ).loc b)) (c : Dev nD)
    (h0 : (V c main_v129 : (⟨3, ![8, 5254, 256]⟩ : Shape).Idx → EReal) = flat A) (h1 : (V c main_v124 : (⟨3, ![9, 256, 128]⟩ : Shape).Idx → EReal) = taps w) (h2 : (V c main_v134 : (⟨3, ![8, 5216, 128]⟩ : Shape).Idx → EReal) = skips K)
    {b y x o : ℕ} (h : b < 128 ∧ y < 16 ∧ x < 16 ∧ o < 128) :
    at4 (image ((dat6 V c).arrAt 3 cfg6.N)) b y x o = max (conv9 256 (shifted (at4 A b)) (wk w) y x o) 0 + at4 K b y x o := by
  obtain ⟨g, r, hg, hr, rfl⟩ : ∃ g r, g < 8 ∧ r < 16 ∧ b = g * 16 + r := ⟨b / 16, b % 16, by omega, by omega, by omega⟩
  refine (image_at _ (by omega)).trans ((Reg6.arr_at V c _ _ _ (by omega)).trans ?_)
  refine Eq.trans ?_ (row_eq A w K (by omega))
  rw [← h0, ← h1, ← h2]

end Cert.Dec1

end
-- ==== Proof.Dec1Reads.lean ====
/- The first decoder layer: what its host operations compute. -/
module

public import proofs.«01_k».proof.Proof.Dec1

@[expose] public section

set_option maxRecDepth 16384

noncomputable section

namespace Cert.Dec1Reads

open Idealize.ShloMosaic Idealize.ShloMosaic.TcCoe Idealize.ShloMosaic.ValueIdx Idealize.ShloMosaic.Tactic
open Cert.KernelIdeal Cert.KernelIdeal.Gen Cert.Arr

variable (U : Valuation τ sig (Elt Ideal))

/-- The contents after the host operations before the call. -/
abbrev S : Valuation τ sig (Elt Ideal) := StableHlo.after hostOps6_10 (StableHlo.after hostOps6_9 (StableHlo.after hostOps6_8 (StableHlo.after hostOps6_7 (StableHlo.after hostOps6_6 (StableHlo.after hostOps6_5 (StableHlo.after hostOps6_4 (StableHlo.after hostOps6_3 (StableHlo.after hostOps6_2 (StableHlo.after hostOps6_1 (StableHlo.after hostOps6 U))))))))))

theorem read_v129 : (S U (Proc.devRef .tc main_v129) : (⟨3, ![8, 5254, 256]⟩ : Shape).Idx → EReal) = Dec1.flat (Dec1.up (shapeCast ⟨4, ![128, 4, 4, 256]⟩ (U (Proc.devRef .tc main_v113) : (⟨2, ![128, 4096]⟩ : Shape).Idx → EReal) (by decide))) := by
  after_results
  try simp only [StableHlo.TRef.toBuf, StableHlo.TRef.ofBuf]
  repeat erw [cast_eq]
  rfl

theorem read_v124 : (S U (Proc.devRef .tc main_v124) : (⟨3, ![9, 256, 128]⟩ : Shape).Idx → EReal) = Dec1.taps (U (Proc.devRef .tc main_arg9)) := by
  after_results
  try simp only [StableHlo.TRef.toBuf, StableHlo.TRef.ofBuf]
  repeat erw [cast_eq]
  rfl

theorem read_v134 : (S U (Proc.devRef .tc main_v134) : (⟨3, ![8, 5216, 128]⟩ : Shape).Idx → EReal) = Dec1.skips (shapeCast ⟨4, ![128, 16, 16, 128]⟩ (U (Proc.devRef .tc main_v115) : (⟨2, ![128, 32768]⟩ : Shape).Idx → EReal) (by decide)) := by
  after_results
  try simp only [StableHlo.TRef.toBuf, StableHlo.TRef.ofBuf]
  repeat erw [cast_eq]
  rfl

end Cert.Dec1Reads

end
-- ==== Proof.Reg7.lean ====
/- The second decoder layer's custom call: every row of its output as a function of the rows of its inputs. -/
module

public import proofs.«01_k».proof.Proof.Tap
public import proofs.«01_k».proof.Proof.Gen.KernelIdeal.Frame.Region7

@[expose] public section

set_option maxRecDepth 16384

noncomputable section

namespace Cert.Reg7

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 18598, 128]⟩ : Shape).Idx → EReal) (X1 : S9x128x64.Idx → EReal) (i p co : ℕ) : EReal :=
  max (tapSum 128 X0 X1 i (p + 0) co 0 + tapSum 128 X0 X1 i (p + 1) co 1 + tapSum 128 X0 X1 i (p + 2) co 2 + tapSum 128 X0 X1 i (p + 34) co 3 + tapSum 128 X0 X1 i (p + 35) co 4 + tapSum 128 X0 X1 i (p + 36) co 5 + tapSum 128 X0 X1 i (p + 68) co 6 + tapSum 128 X0 X1 i (p + 69) co 7 + tapSum 128 X0 X1 i (p + 70) co 8) 0

theorem hdot_96_128 : dot_S96x128_S128x64_S96x64_1_0_0_1_n_n = DotDims.plain 96 128 64 := rfl
theorem hdot_2048_128 : dot_S2048x128_S128x64_S2048x64_1_0_0_1_n_n = DotDims.plain 2048 128 64 := rfl

/-- What the body leaves in its output's block, index by index. -/
theorem out_eq (c : Dev nD) (i : grid7.Coords) (arg1 : Memref sig .tc .vmem S1x18598x128 .bf16) (harg1 : arg1.IsWhole) (arg2 : Memref sig .tc .vmem S9x128x64 .bf16) (harg2 : arg2.IsWhole) (arg3 : Memref sig .tc .vmem S1x18528x64 .bf16) (harg3 : arg3.IsWhole)
    (x0 : Vec Ideal S1x18598x128 .bf16) (x1 : Vec Ideal S9x128x64 .bf16) (y : S1x18528x64.Idx) :
    out7_A_2 c i arg1 harg1 arg2 harg2 arg3 harg3 x0 x1 y = row x0 x1 0 (y 1).val (y 2).val := by
  unfold out7_A_2
  rw [View.read_writes_junk_apply_eq_canon]
  refine View.canon_apply_of_pieces (Val := Elt Ideal) (fun y : S1x18528x64.Idx => row x0 x1 0 (y 1).val (y 2).val) _ ?_ y (cover7_A_2 c i arg1 harg1 arg2 harg2 arg3 harg3 x0 x1 y)
  unfold kernelRun7_A
  dsimp only
  sl_unfold_words
  simp only [View.readAt_eq_ld, harg1.read_unread, harg2.read_unread]
  intro p hp
  simp only [List.mem_cons, List.mem_nil_iff, or_false] at hp
  rcases hp with rfl | rfl | rfl | rfl | rfl | rfl | rfl | rfl | rfl | rfl
  · refine forall_ix3 fun z r c => ?_
    show _ = row x0 x1 0 (18432 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (16384 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (14336 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (12288 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (10240 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (8192 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (6144 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (4096 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (2048 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
  · refine forall_ix3 fun z r c => ?_
    show _ = row x0 x1 0 (0 + 1 * r.val) (0 + 1 * c.val)
    simp only [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27, k7_pay28, k7_pay29, k7_pay30, k7_pay31, k7_pay32, k7_pay33, k7_pay34, k7_pay35, k7_pay36, k7_pay37, k7_pay38, k7_pay39, k7_pay40, k7_pay41, k7_pay42, row, shapeCast_ab_1ab_apply, addf_apply, truncf_apply, extf_apply, maximumf_apply, tanh_apply', bcast_zero, tap_val, hdot_96_128, hdot_2048_128, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg7.N, win7_0.index t (0 : Fin 3) = t.val ∧ win7_0.index t (1 : Fin 3) = 0 ∧ win7_0.index t (2 : Fin 3) = 0 :=
  (by decide +kernel : ∀ t : Fin grid7.N, _)
theorem idx1 : ∀ t : Fin cfg7.N, win7_1.index t (0 : Fin 3) = 0 ∧ win7_1.index t (1 : Fin 3) = 0 ∧ win7_1.index t (2 : Fin 3) = 0 :=
  (by decide +kernel : ∀ t : Fin grid7.N, _)
theorem idx2 : ∀ t : Fin cfg7.N, win7_2.index t (0 : Fin 3) = t.val ∧ win7_2.index t (1 : Fin 3) = 0 ∧ win7_2.index t (2 : Fin 3) = 0 :=
  (by decide +kernel : ∀ t : Fin grid7.N, _)
theorem hN : cfg7.N = 8 := N_7

/-- The input's block at a point, read anywhere. -/
theorem at_iblk0 (c : Dev nD) (t : Fin cfg7.N) (q k : ℕ) :
    at3 (n0 := 1) (n1 := 18598) (n2 := 128) (iblk7 V c 0 t) 0 q k = at3 (n0 := 8) (n1 := 18598) (n2 := 128) (V c main_v150) t.val q k := by
  refine at3_block _ _ (lt_of_lt_of_eq t.isLt hN) (fun q k => ?_) q k
  obtain ⟨e0, e1, e2⟩ := idx0 t
  refine congrArg (V c main_v150) (funext fun a => Fin.ext ?_)
  match a with
  | ⟨0, _⟩ => show win7_0.index t (0 : Fin 3) * 1 + 1 * 0 = t.val; omega
  | ⟨1, _⟩ => show win7_0.index t (1 : Fin 3) * 18598 + 1 * q.val = q.val; omega
  | ⟨2, _⟩ => show win7_0.index t (2 : Fin 3) * 128 + 1 * k.val = k.val; omega

/-- The weights' block is the weights. -/
theorem iblk1_eq (c : Dev nD) (t : Fin cfg7.N) : (iblk7 V c 1 t : S9x128x64.Idx → EReal) = V c main_v145 := by
  obtain ⟨e0, e1, e2⟩ := idx1 t
  funext j
  refine congrArg (V c main_v145) (funext fun a => Fin.ext ?_)
  match a with
  | ⟨0, _⟩ => show win7_1.index t (0 : Fin 3) * 9 + 1 * (j 0).val = (j 0).val; omega
  | ⟨1, _⟩ => show win7_1.index t (1 : Fin 3) * 128 + 1 * (j 1).val = (j 1).val; omega
  | ⟨2, _⟩ => show win7_1.index t (2 : Fin 3) * 64 + 1 * (j 2).val = (j 2).val; omega

/-- The array the call leaves. -/
def G (X0 : S8x18598x128.Idx → EReal) (X1 : S9x128x64.Idx → EReal) (y : S8x18528x64.Idx) : EReal := row X0 X1 (y 0).val (y 1).val (y 2).val

/-- The output's block at a point covers that image block's rows. -/
theorem emb_eq (t : Fin cfg7.N) (z : Fin 1) (p : Fin 18528) (co : Fin 64) :
    ((cfg7.win 2).blk t).view.emb (ix3 z p co) = (ix3 ⟨t.val, lt_of_lt_of_eq t.isLt hN⟩ p co : S8x18528x64.Idx) := by
  obtain ⟨e0, e1, e2⟩ := idx2 t
  refine funext fun a => Fin.ext ?_
  match a with
  | ⟨0, _⟩ => show win7_2.index t (0 : Fin 3) * 1 + 1 * z.val = t.val; have := z.isLt; omega
  | ⟨1, _⟩ => show win7_2.index t (1 : Fin 3) * 18528 + 1 * p.val = p.val; omega
  | ⟨2, _⟩ => show win7_2.index t (2 : Fin 3) * 64 + 1 * co.val = co.val; omega

theorem flushed_eq (c : Dev nD) (t : Fin cfg7.N) :
    (dat7 V c).flushed 2 t = ((cfg7.win 2).blk t).view.read (Elt Ideal) (G (V c main_v150) (V c main_v145)) := by
  show (cfg7.win 2).cut (grid7.coords t) ((dat7 V c).after 2 t) = _
  rw [after7_2]
  unfold outsAt7
  refine funext (forall_ix3 (n0 := 1) (n1 := 18528) (n2 := 64) fun z p co => ?_)
  refine (out_eq c _ _ _ _ _ _ _ _ _ _).trans ?_
  show _ = G (V c main_v150) (V c main_v145) (((cfg7.win 2).blk t).view.emb (ix3 z p co))
  rw [emb_eq]
  show row _ _ 0 p.val co.val = row _ _ t.val p.val co.val
  unfold row
  simp only [tapSum_congr (at_iblk0 V c t) (fun t' k c' => congrArg (fun f => at3 f t' k c') (iblk1_eq V c t))]

theorem cover (i : S8x18528x64.Idx) : ∃ t : Fin cfg7.N, (cfg7.win 2).flush t = true ∧ i ∈ ((cfg7.win 2).blk t).view.set := by
  revert i
  refine forall_ix3 fun b p co => ?_
  have ht : b.val < cfg7.N := lt_of_lt_of_eq b.isLt hN.symm
  have h := ((cfg7.win 2).blk ⟨b.val, ht⟩).view.emb_mem_set (ix3 (0 : Fin 1) p co : S1x18528x64.Idx)
  rw [emb_eq] at h
  exact ⟨⟨b.val, ht⟩, flush7_2 _, h⟩

/-- The call's result array. -/
theorem arr_eq (c : Dev nD) : (dat7 V c).arrAt 2 cfg7.N = G (V c main_v150) (V c main_v145) :=
  (dat7 V c).arrAt_eq_of_cover 2 _ (fun t _ => flushed_eq V c t) cover

/-- The call's result array, read at natural-number coordinates. -/
theorem arr_at (c : Dev nD) (i p co : ℕ) (h : i < 8 ∧ p < 18528 ∧ co < 64) :
    at3 (n0 := 8) (n1 := 18528) (n2 := 64) ((dat7 V c).arrAt 2 cfg7.N) i p co = row (show S8x18598x128.Idx → EReal from V c main_v150) (show S9x128x64.Idx → EReal from V c main_v145) i p co := by
  rw [arr_eq, at3_eq _ h]
  rfl

end Cert.Reg7

end
-- ==== Proof.Dec2.lean ====
/- The second decoder layer: from the images its host operations are given to the images cut out of its call's result. -/
module

public import proofs.«01_k».proof.Proof.Conv
public import proofs.«01_k».proof.Proof.Reg7

@[expose] public section

set_option maxRecDepth 16384

noncomputable section

namespace Cert.Dec2

open Idealize.ShloMosaic Idealize.ShloMosaic.TcCoe Idealize.ShloMosaic.ValueIdx Idealize.ShloMosaic.Tactic
open Cert.KernelIdeal Cert.KernelIdeal.Gen Cert.Arr

variable (A : (⟨4, ![128, 32, 32, 128]⟩ : Shape).Idx → EReal) (w : (⟨4, ![64, 128, 3, 3]⟩ : Shape).Idx → EReal)

/-- The rows of the bordered images, flattened, grouped by block of images. -/
def flat : (⟨3, ![8, 18598, 128]⟩ : Shape).Idx → EReal :=
  pad ⟨3, ![8, 18598, 128]⟩ ![0, 0, 0] ![0, 70, 0] ![0, 0, 0]
    (shapeCast ⟨3, ![8, 18528, 128]⟩ (pad ⟨3, ![128, 1158, 128]⟩ ![0, 0, 0] ![0, 2, 0] ![0, 0, 0]
      (shapeCast ⟨3, ![128, 1156, 128]⟩ (pad ⟨4, ![128, 34, 34, 128]⟩ ![0, 1, 1, 0] ![0, 1, 1, 0] ![0, 0, 0, 0] A (border (φ := .bf16)) (by decide) (by decide)) (by decide))
      (border (φ := .bf16)) (by decide) (by decide)) (by decide))
    (border (φ := .bf16)) (by decide) (by decide)

/-- The weights by tap. -/
def taps : (⟨3, ![9, 128, 64]⟩ : Shape).Idx → EReal := shapeCast ⟨3, ![9, 128, 64]⟩ (transpose ⟨4, ![3, 3, 128, 64]⟩ [2, 3, 1, 0] w (by decide)) (by decide)

/-- The images cut out of the rows the call leaves. -/
def image (Z : (⟨3, ![8, 18528, 64]⟩ : Shape).Idx → EReal) : (⟨4, ![128, 32, 32, 64]⟩ : Shape).Idx → EReal :=
  extractStridedSlice ⟨4, ![128, 32, 32, 64]⟩ ![0, 0, 0, 0] (shapeCast ⟨4, ![128, 32, 34, 64]⟩
    (extractStridedSlice ⟨3, ![128, 1088, 64]⟩ ![0, 0, 0] (shapeCast ⟨3, ![128, 1158, 64]⟩ Z (by decide)) (by decide)) (by decide)) (by decide)

/-- The images enlarged 2-fold, every pixel repeated. -/
def up (Y : (⟨4, ![128, 16, 16, 128]⟩ : Shape).Idx → EReal) : (⟨4, ![128, 32, 32, 128]⟩ : Shape).Idx → EReal :=
  shapeCast ⟨4, ![128, 32, 32, 128]⟩ (broadcastInDim ⟨6, ![128, 16, 2, 16, 2, 128]⟩ ![0, 1, 2, 3, 4, 5] (by decide)
    (broadcastInDim ⟨6, ![128, 16, 1, 16, 1, 128]⟩ ![0, 1, 3, 5] (by decide) Y)) (by decide)

theorem up_at (Y : (⟨4, ![128, 16, 16, 128]⟩ : Shape).Idx → EReal) {b y x c : ℕ} (h : b < 128 ∧ y < 32 ∧ x < 32 ∧ c < 128) :
    at4 (up Y) b y x c = at4 Y b (y / 2) (x / 2) c :=
  at4_repeat Y _ _ _ (by decide) (by decide) (by decide) (by decide) h

theorem flat_at {g r y x q c : ℕ} (h : g < 8 ∧ r < 16 ∧ y < 34 ∧ x < 34 ∧ c < 128) (hq : q = r * 1158 + (y * 34 + x)) :
    at3 (flat A) g q c = shifted (at4 A (g * 16 + r)) y x c := by
  obtain ⟨h0, h1, h2, h3, h4⟩ := h
  have hb : g * 16 + r < 128 := by omega
  have hs : y * 34 + x < 1156 := by omega
  unfold flat
  rw [at3_padhi, at_cast33 _ _ (g * 16 + r) (y * 34 + x) c ⟨h0, by omega, h4⟩ ⟨hb, by omega, h4⟩ (by subst hq; omega), at3_padhi,
    at_cast43 _ _ (g * 16 + r) y x c ⟨hb, hs, h4⟩ ⟨hb, h2, h3, h4⟩ (by omega), at4_padone]

theorem taps_at {k c o : ℕ} (h : k < 9 ∧ c < 128 ∧ o < 64) : at3 (taps w) k c o = wk w k c o := at3_taps w _ _ h

theorem image_at (Z : (⟨3, ![8, 18528, 64]⟩ : Shape).Idx → EReal) {g r y x o : ℕ} (h : g < 8 ∧ r < 16 ∧ y < 32 ∧ x < 32 ∧ o < 64) :
    at4 (image Z) (g * 16 + r) y x o = at3 Z g (r * 1158 + (y * 34 + x)) o := by
  obtain ⟨h0, h1, h2, h3, h4⟩ := h
  have hb : g * 16 + r < 128 := by omega
  unfold image
  rw [at4_slice _ _ ⟨hb, h2, h3, h4⟩]
  simp only [Nat.zero_add]
  rw [at_cast34 _ _ (g * 16 + r) (y * 34 + x) o ⟨hb, h2, by omega, h4⟩ ⟨hb, by omega, h4⟩ (by omega), at3_slice _ _ ⟨hb, by omega, h4⟩]
  simp only [Nat.zero_add]
  rw [at_cast33 _ _ g (r * 1158 + (y * 34 + x)) o ⟨hb, by omega, h4⟩ ⟨h0, by omega, h4⟩ (by omega)]

/-- The call's row function on these inputs is the convolution of the bordered images. -/
theorem row_eq {g r y x o : ℕ} (h : g < 8 ∧ r < 16 ∧ y < 32 ∧ x < 32 ∧ o < 64) :
    Reg7.row (flat A) (taps w) g (r * 1158 + (y * 34 + x)) o
      = max (conv9 128 (shifted (at4 A (g * 16 + r))) (wk w) y x o) 0 := by
  obtain ⟨h0, h1, h2, h3, h4⟩ := h
  unfold Reg7.row conv9
  rw [tapSum_tap (A := shifted (at4 A (g * 16 + r))) (w := wk w) (y := y) (x := x) (dy := 0) (dx := 0) (X := flat A) (W := taps w) (q := r * 1158 + (y * 34 + x) + 0) (t := 0)
    (fun c hc => flat_at A (y := y + 0) (x := x + 0) (by omega) (by omega)) (fun c hc => taps_at w (k := 0) (by omega))]
  rw [tapSum_tap (A := shifted (at4 A (g * 16 + r))) (w := wk w) (y := y) (x := x) (dy := 0) (dx := 1) (X := flat A) (W := taps w) (q := r * 1158 + (y * 34 + x) + 1) (t := 1)
    (fun c hc => flat_at A (y := y + 0) (x := x + 1) (by omega) (by omega)) (fun c hc => taps_at w (k := 1) (by omega))]
  rw [tapSum_tap (A := shifted (at4 A (g * 16 + r))) (w := wk w) (y := y) (x := x) (dy := 0) (dx := 2) (X := flat A) (W := taps w) (q := r * 1158 + (y * 34 + x) + 2) (t := 2)
    (fun c hc => flat_at A (y := y + 0) (x := x + 2) (by omega) (by omega)) (fun c hc => taps_at w (k := 2) (by omega))]
  rw [tapSum_tap (A := shifted (at4 A (g * 16 + r))) (w := wk w) (y := y) (x := x) (dy := 1) (dx := 0) (X := flat A) (W := taps w) (q := r * 1158 + (y * 34 + x) + 34) (t := 3)
    (fun c hc => flat_at A (y := y + 1) (x := x + 0) (by omega) (by omega)) (fun c hc => taps_at w (k := 3) (by omega))]
  rw [tapSum_tap (A := shifted (at4 A (g * 16 + r))) (w := wk w) (y := y) (x := x) (dy := 1) (dx := 1) (X := flat A) (W := taps w) (q := r * 1158 + (y * 34 + x) + 35) (t := 4)
    (fun c hc => flat_at A (y := y + 1) (x := x + 1) (by omega) (by omega)) (fun c hc => taps_at w (k := 4) (by omega))]
  rw [tapSum_tap (A := shifted (at4 A (g * 16 + r))) (w := wk w) (y := y) (x := x) (dy := 1) (dx := 2) (X := flat A) (W := taps w) (q := r * 1158 + (y * 34 + x) + 36) (t := 5)
    (fun c hc => flat_at A (y := y + 1) (x := x + 2) (by omega) (by omega)) (fun c hc => taps_at w (k := 5) (by omega))]
  rw [tapSum_tap (A := shifted (at4 A (g * 16 + r))) (w := wk w) (y := y) (x := x) (dy := 2) (dx := 0) (X := flat A) (W := taps w) (q := r * 1158 + (y * 34 + x) + 68) (t := 6)
    (fun c hc => flat_at A (y := y + 2) (x := x + 0) (by omega) (by omega)) (fun c hc => taps_at w (k := 6) (by omega))]
  rw [tapSum_tap (A := shifted (at4 A (g * 16 + r))) (w := wk w) (y := y) (x := x) (dy := 2) (dx := 1) (X := flat A) (W := taps w) (q := r * 1158 + (y * 34 + x) + 69) (t := 7)
    (fun c hc => flat_at A (y := y + 2) (x := x + 1) (by omega) (by omega)) (fun c hc => taps_at w (k := 7) (by omega))]
  rw [tapSum_tap (A := shifted (at4 A (g * 16 + r))) (w := wk w) (y := y) (x := x) (dy := 2) (dx := 2) (X := flat A) (W := taps w) (q := r * 1158 + (y * 34 + x) + 70) (t := 8)
    (fun c hc => flat_at A (y := y + 2) (x := x + 2) (by omega) (by omega)) (fun c hc => taps_at w (k := 8) (by omega))]

/-- The layer: the images cut out of the call's result are the convolved images. -/
theorem layer (V : (c : Dev nD) → (b : Ref sig .tc) → Buf (Elt Ideal) ((c : Thread nD τ).loc b)) (c : Dev nD)
    (h0 : (V c main_v150 : (⟨3, ![8, 18598, 128]⟩ : Shape).Idx → EReal) = flat A) (h1 : (V c main_v145 : (⟨3, ![9, 128, 64]⟩ : Shape).Idx → EReal) = taps w)
    {b y x o : ℕ} (h : b < 128 ∧ y < 32 ∧ x < 32 ∧ o < 64) :
    at4 (image ((dat7 V c).arrAt 2 cfg7.N)) b y x o = max (conv9 128 (shifted (at4 A b)) (wk w) y x o) 0 := by
  obtain ⟨g, r, hg, hr, rfl⟩ : ∃ g r, g < 8 ∧ r < 16 ∧ b = g * 16 + r := ⟨b / 16, b % 16, by omega, by omega, by omega⟩
  refine (image_at _ (by omega)).trans ((Reg7.arr_at V c _ _ _ (by omega)).trans ?_)
  refine Eq.trans ?_ (row_eq A w (by omega))
  rw [← h0, ← h1]

end Cert.Dec2

end
-- ==== Proof.Dec2Reads.lean ====
/- The second decoder layer: what its host operations compute. -/
module

public import proofs.«01_k».proof.Proof.Dec2
public import proofs.«01_k».proof.Proof.Dec1

@[expose] public section

set_option maxRecDepth 16384

noncomputable section

namespace Cert.Dec2Reads

open Idealize.ShloMosaic Idealize.ShloMosaic.TcCoe Idealize.ShloMosaic.ValueIdx Idealize.ShloMosaic.Tactic
open Cert.KernelIdeal Cert.KernelIdeal.Gen Cert.Arr

variable (U : Valuation τ sig (Elt Ideal))

/-- The contents after the host operations before the call. -/
abbrev S : Valuation τ sig (Elt Ideal) := StableHlo.after hostOps7_5 (StableHlo.after hostOps7_4 (StableHlo.after hostOps7_3 (StableHlo.after hostOps7_2 (StableHlo.after hostOps7_1 (StableHlo.after hostOps7 U)))))

theorem read_v150 : (S U (Proc.devRef .tc main_v150) : (⟨3, ![8, 18598, 128]⟩ : Shape).Idx → EReal) = Dec2.flat (Dec2.up (Dec1.image (U (Proc.devRef .tc main_v135)))) := by
  after_results
  try simp only [StableHlo.TRef.toBuf, StableHlo.TRef.ofBuf]
  repeat erw [cast_eq]
  rfl

theorem read_v145 : (S U (Proc.devRef .tc main_v145) : (⟨3, ![9, 128, 64]⟩ : Shape).Idx → EReal) = Dec2.taps (U (Proc.devRef .tc main_arg10)) := by
  after_results
  try simp only [StableHlo.TRef.toBuf, StableHlo.TRef.ofBuf]
  repeat erw [cast_eq]
  rfl

end Cert.Dec2Reads

end
-- ==== Proof.Reg8.lean ====
/- The third decoder layer's custom call: every row of its output as a function of the rows of its inputs. -/
module

public import proofs.«01_k».proof.Proof.Tap
public import proofs.«01_k».proof.Proof.Gen.KernelIdeal.Frame.Region8

@[expose] public section

set_option maxRecDepth 16384

noncomputable section

namespace Cert.Reg8

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 34998, 64]⟩ : Shape).Idx → EReal) (X1 : S9x64x32.Idx → EReal) (i p co : ℕ) : EReal :=
  max (tapSum 64 X0 X1 i (p + 0) co 0 + tapSum 64 X0 X1 i (p + 1) co 1 + tapSum 64 X0 X1 i (p + 2) co 2 + tapSum 64 X0 X1 i (p + 66) co 3 + tapSum 64 X0 X1 i (p + 67) co 4 + tapSum 64 X0 X1 i (p + 68) co 5 + tapSum 64 X0 X1 i (p + 132) co 6 + tapSum 64 X0 X1 i (p + 133) co 7 + tapSum 64 X0 X1 i (p + 134) co 8) 0

theorem hdot_48_64 : dot_S48x64_S64x32_S48x32_1_0_0_1_n_n = DotDims.plain 48 64 32 := rfl
theorem hdot_2048_64 : dot_S2048x64_S64x32_S2048x32_1_0_0_1_n_n = DotDims.plain 2048 64 32 := rfl

/-- What the body leaves in its output's block, index by index. -/
theorem out_eq (c : Dev nD) (i : grid8.Coords) (arg1 : Memref sig .tc .vmem S1x34998x64 .bf16) (harg1 : arg1.IsWhole) (arg2 : Memref sig .tc .vmem S9x64x32 .bf16) (harg2 : arg2.IsWhole) (arg3 : Memref sig .tc .vmem S1x34864x32 .bf16) (harg3 : arg3.IsWhole)
    (x0 : Vec Ideal S1x34998x64 .bf16) (x1 : Vec Ideal S9x64x32 .bf16) (y : S1x34864x32.Idx) :
    out8_A_2 c i arg1 harg1 arg2 harg2 arg3 harg3 x0 x1 y = row x0 x1 0 (y 1).val (y 2).val := by
  unfold out8_A_2
  rw [View.read_writes_junk_apply_eq_canon]
  refine View.canon_apply_of_pieces (Val := Elt Ideal) (fun y : S1x34864x32.Idx => row x0 x1 0 (y 1).val (y 2).val) _ ?_ y (cover8_A_2 c i arg1 harg1 arg2 harg2 arg3 harg3 x0 x1 y)
  unfold kernelRun8_A
  dsimp only
  sl_unfold_words
  simp only [View.readAt_eq_ld, harg1.read_unread, harg2.read_unread]
  intro p hp
  simp only [List.mem_cons, List.mem_nil_iff, or_false] at hp
  rcases hp with rfl | rfl | rfl | rfl | rfl | rfl | rfl | rfl | rfl | rfl | rfl | rfl | rfl | rfl | rfl | rfl | rfl | rfl
  · refine forall_ix3 fun z r c => ?_
    show _ = row x0 x1 0 (34816 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (32768 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (30720 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (28672 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (26624 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (24576 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (22528 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (20480 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (18432 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (16384 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (14336 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (12288 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (10240 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (8192 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (6144 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (4096 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (2048 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
  · refine forall_ix3 fun z r c => ?_
    show _ = row x0 x1 0 (0 + 1 * r.val) (0 + 1 * c.val)
    simp only [k8_pay1, k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22, k8_pay23, k8_pay24, k8_pay25, k8_pay26, k8_pay27, k8_pay28, k8_pay29, k8_pay30, k8_pay31, k8_pay32, k8_pay33, k8_pay34, k8_pay35, k8_pay36, k8_pay37, k8_pay38, k8_pay39, k8_pay40, k8_pay41, k8_pay42, k8_pay43, k8_pay44, k8_pay45, k8_pay46, k8_pay47, k8_pay48, k8_pay49, k8_pay50, k8_pay51, k8_pay52, k8_pay53, k8_pay54, k8_pay55, k8_pay56, k8_pay57, k8_pay58, k8_pay59, k8_pay60, k8_pay61, k8_pay62, k8_pay63, k8_pay64, k8_pay65, k8_pay66, k8_pay67, k8_pay68, k8_pay69, k8_pay70, k8_pay71, k8_pay72, k8_pay73, k8_pay74, k8_pay75, k8_pay76, k8_pay77, k8_pay78, k8_pay79, row, shapeCast_ab_1ab_apply, addf_apply, truncf_apply, extf_apply, maximumf_apply, tanh_apply', bcast_zero, tap_val, hdot_48_64, hdot_2048_64, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg8.N, win8_0.index t (0 : Fin 3) = t.val ∧ win8_0.index t (1 : Fin 3) = 0 ∧ win8_0.index t (2 : Fin 3) = 0 :=
  (by decide +kernel : ∀ t : Fin grid8.N, _)
theorem idx1 : ∀ t : Fin cfg8.N, win8_1.index t (0 : Fin 3) = 0 ∧ win8_1.index t (1 : Fin 3) = 0 ∧ win8_1.index t (2 : Fin 3) = 0 :=
  (by decide +kernel : ∀ t : Fin grid8.N, _)
theorem idx2 : ∀ t : Fin cfg8.N, win8_2.index t (0 : Fin 3) = t.val ∧ win8_2.index t (1 : Fin 3) = 0 ∧ win8_2.index t (2 : Fin 3) = 0 :=
  (by decide +kernel : ∀ t : Fin grid8.N, _)
theorem hN : cfg8.N = 16 := N_8

/-- The input's block at a point, read anywhere. -/
theorem at_iblk0 (c : Dev nD) (t : Fin cfg8.N) (q k : ℕ) :
    at3 (n0 := 1) (n1 := 34998) (n2 := 64) (iblk8 V c 0 t) 0 q k = at3 (n0 := 16) (n1 := 34998) (n2 := 64) (V c main_v166) t.val q k := by
  refine at3_block _ _ (lt_of_lt_of_eq t.isLt hN) (fun q k => ?_) q k
  obtain ⟨e0, e1, e2⟩ := idx0 t
  refine congrArg (V c main_v166) (funext fun a => Fin.ext ?_)
  match a with
  | ⟨0, _⟩ => show win8_0.index t (0 : Fin 3) * 1 + 1 * 0 = t.val; omega
  | ⟨1, _⟩ => show win8_0.index t (1 : Fin 3) * 34998 + 1 * q.val = q.val; omega
  | ⟨2, _⟩ => show win8_0.index t (2 : Fin 3) * 64 + 1 * k.val = k.val; omega

/-- The weights' block is the weights. -/
theorem iblk1_eq (c : Dev nD) (t : Fin cfg8.N) : (iblk8 V c 1 t : S9x64x32.Idx → EReal) = V c main_v161 := by
  obtain ⟨e0, e1, e2⟩ := idx1 t
  funext j
  refine congrArg (V c main_v161) (funext fun a => Fin.ext ?_)
  match a with
  | ⟨0, _⟩ => show win8_1.index t (0 : Fin 3) * 9 + 1 * (j 0).val = (j 0).val; omega
  | ⟨1, _⟩ => show win8_1.index t (1 : Fin 3) * 64 + 1 * (j 1).val = (j 1).val; omega
  | ⟨2, _⟩ => show win8_1.index t (2 : Fin 3) * 32 + 1 * (j 2).val = (j 2).val; omega

/-- The array the call leaves. -/
def G (X0 : S16x34998x64.Idx → EReal) (X1 : S9x64x32.Idx → EReal) (y : S16x34864x32.Idx) : EReal := row X0 X1 (y 0).val (y 1).val (y 2).val

/-- The output's block at a point covers that image block's rows. -/
theorem emb_eq (t : Fin cfg8.N) (z : Fin 1) (p : Fin 34864) (co : Fin 32) :
    ((cfg8.win 2).blk t).view.emb (ix3 z p co) = (ix3 ⟨t.val, lt_of_lt_of_eq t.isLt hN⟩ p co : S16x34864x32.Idx) := by
  obtain ⟨e0, e1, e2⟩ := idx2 t
  refine funext fun a => Fin.ext ?_
  match a with
  | ⟨0, _⟩ => show win8_2.index t (0 : Fin 3) * 1 + 1 * z.val = t.val; have := z.isLt; omega
  | ⟨1, _⟩ => show win8_2.index t (1 : Fin 3) * 34864 + 1 * p.val = p.val; omega
  | ⟨2, _⟩ => show win8_2.index t (2 : Fin 3) * 32 + 1 * co.val = co.val; omega

theorem flushed_eq (c : Dev nD) (t : Fin cfg8.N) :
    (dat8 V c).flushed 2 t = ((cfg8.win 2).blk t).view.read (Elt Ideal) (G (V c main_v166) (V c main_v161)) := by
  show (cfg8.win 2).cut (grid8.coords t) ((dat8 V c).after 2 t) = _
  rw [after8_2]
  unfold outsAt8
  refine funext (forall_ix3 (n0 := 1) (n1 := 34864) (n2 := 32) fun z p co => ?_)
  refine (out_eq c _ _ _ _ _ _ _ _ _ _).trans ?_
  show _ = G (V c main_v166) (V c main_v161) (((cfg8.win 2).blk t).view.emb (ix3 z p co))
  rw [emb_eq]
  show row _ _ 0 p.val co.val = row _ _ t.val p.val co.val
  unfold row
  simp only [tapSum_congr (at_iblk0 V c t) (fun t' k c' => congrArg (fun f => at3 f t' k c') (iblk1_eq V c t))]

theorem cover (i : S16x34864x32.Idx) : ∃ t : Fin cfg8.N, (cfg8.win 2).flush t = true ∧ i ∈ ((cfg8.win 2).blk t).view.set := by
  revert i
  refine forall_ix3 fun b p co => ?_
  have ht : b.val < cfg8.N := lt_of_lt_of_eq b.isLt hN.symm
  have h := ((cfg8.win 2).blk ⟨b.val, ht⟩).view.emb_mem_set (ix3 (0 : Fin 1) p co : S1x34864x32.Idx)
  rw [emb_eq] at h
  exact ⟨⟨b.val, ht⟩, flush8_2 _, h⟩

/-- The call's result array. -/
theorem arr_eq (c : Dev nD) : (dat8 V c).arrAt 2 cfg8.N = G (V c main_v166) (V c main_v161) :=
  (dat8 V c).arrAt_eq_of_cover 2 _ (fun t _ => flushed_eq V c t) cover

/-- The call's result array, read at natural-number coordinates. -/
theorem arr_at (c : Dev nD) (i p co : ℕ) (h : i < 16 ∧ p < 34864 ∧ co < 32) :
    at3 (n0 := 16) (n1 := 34864) (n2 := 32) ((dat8 V c).arrAt 2 cfg8.N) i p co = row (show S16x34998x64.Idx → EReal from V c main_v166) (show S9x64x32.Idx → EReal from V c main_v161) i p co := by
  rw [arr_eq, at3_eq _ h]
  rfl

end Cert.Reg8

end
-- ==== Proof.Dec3.lean ====
/- The third decoder layer: from the images its host operations are given to the images cut out of its call's result. -/
module

public import proofs.«01_k».proof.Proof.Conv
public import proofs.«01_k».proof.Proof.Reg8

@[expose] public section

set_option maxRecDepth 16384

noncomputable section

namespace Cert.Dec3

open Idealize.ShloMosaic Idealize.ShloMosaic.TcCoe Idealize.ShloMosaic.ValueIdx Idealize.ShloMosaic.Tactic
open Cert.KernelIdeal Cert.KernelIdeal.Gen Cert.Arr

variable (A : (⟨4, ![128, 64, 64, 64]⟩ : Shape).Idx → EReal) (w : (⟨4, ![32, 64, 3, 3]⟩ : Shape).Idx → EReal)

/-- The rows of the bordered images, flattened, grouped by block of images. -/
def flat : (⟨3, ![16, 34998, 64]⟩ : Shape).Idx → EReal :=
  pad ⟨3, ![16, 34998, 64]⟩ ![0, 0, 0] ![0, 134, 0] ![0, 0, 0]
    (shapeCast ⟨3, ![16, 34864, 64]⟩ (pad ⟨3, ![128, 4358, 64]⟩ ![0, 0, 0] ![0, 2, 0] ![0, 0, 0]
      (shapeCast ⟨3, ![128, 4356, 64]⟩ (pad ⟨4, ![128, 66, 66, 64]⟩ ![0, 1, 1, 0] ![0, 1, 1, 0] ![0, 0, 0, 0] A (border (φ := .bf16)) (by decide) (by decide)) (by decide))
      (border (φ := .bf16)) (by decide) (by decide)) (by decide))
    (border (φ := .bf16)) (by decide) (by decide)

/-- The weights by tap. -/
def taps : (⟨3, ![9, 64, 32]⟩ : Shape).Idx → EReal := shapeCast ⟨3, ![9, 64, 32]⟩ (transpose ⟨4, ![3, 3, 64, 32]⟩ [2, 3, 1, 0] w (by decide)) (by decide)

/-- The images cut out of the rows the call leaves. -/
def image (Z : (⟨3, ![16, 34864, 32]⟩ : Shape).Idx → EReal) : (⟨4, ![128, 64, 64, 32]⟩ : Shape).Idx → EReal :=
  extractStridedSlice ⟨4, ![128, 64, 64, 32]⟩ ![0, 0, 0, 0] (shapeCast ⟨4, ![128, 64, 66, 32]⟩
    (extractStridedSlice ⟨3, ![128, 4224, 32]⟩ ![0, 0, 0] (shapeCast ⟨3, ![128, 4358, 32]⟩ Z (by decide)) (by decide)) (by decide)) (by decide)

/-- The images enlarged 2-fold, every pixel repeated. -/
def up (Y : (⟨4, ![128, 32, 32, 64]⟩ : Shape).Idx → EReal) : (⟨4, ![128, 64, 64, 64]⟩ : Shape).Idx → EReal :=
  shapeCast ⟨4, ![128, 64, 64, 64]⟩ (broadcastInDim ⟨6, ![128, 32, 2, 32, 2, 64]⟩ ![0, 1, 2, 3, 4, 5] (by decide)
    (broadcastInDim ⟨6, ![128, 32, 1, 32, 1, 64]⟩ ![0, 1, 3, 5] (by decide) Y)) (by decide)

theorem up_at (Y : (⟨4, ![128, 32, 32, 64]⟩ : Shape).Idx → EReal) {b y x c : ℕ} (h : b < 128 ∧ y < 64 ∧ x < 64 ∧ c < 64) :
    at4 (up Y) b y x c = at4 Y b (y / 2) (x / 2) c :=
  at4_repeat Y _ _ _ (by decide) (by decide) (by decide) (by decide) h

theorem flat_at {g r y x q c : ℕ} (h : g < 16 ∧ r < 8 ∧ y < 66 ∧ x < 66 ∧ c < 64) (hq : q = r * 4358 + (y * 66 + x)) :
    at3 (flat A) g q c = shifted (at4 A (g * 8 + r)) y x c := by
  obtain ⟨h0, h1, h2, h3, h4⟩ := h
  have hb : g * 8 + r < 128 := by omega
  have hs : y * 66 + x < 4356 := by omega
  unfold flat
  rw [at3_padhi, at_cast33 _ _ (g * 8 + r) (y * 66 + x) c ⟨h0, by omega, h4⟩ ⟨hb, by omega, h4⟩ (by subst hq; omega), at3_padhi,
    at_cast43 _ _ (g * 8 + r) y x c ⟨hb, hs, h4⟩ ⟨hb, h2, h3, h4⟩ (by omega), at4_padone]

theorem taps_at {k c o : ℕ} (h : k < 9 ∧ c < 64 ∧ o < 32) : at3 (taps w) k c o = wk w k c o := at3_taps w _ _ h

theorem image_at (Z : (⟨3, ![16, 34864, 32]⟩ : Shape).Idx → EReal) {g r y x o : ℕ} (h : g < 16 ∧ r < 8 ∧ y < 64 ∧ x < 64 ∧ o < 32) :
    at4 (image Z) (g * 8 + r) y x o = at3 Z g (r * 4358 + (y * 66 + x)) o := by
  obtain ⟨h0, h1, h2, h3, h4⟩ := h
  have hb : g * 8 + r < 128 := by omega
  unfold image
  rw [at4_slice _ _ ⟨hb, h2, h3, h4⟩]
  simp only [Nat.zero_add]
  rw [at_cast34 _ _ (g * 8 + r) (y * 66 + x) o ⟨hb, h2, by omega, h4⟩ ⟨hb, by omega, h4⟩ (by omega), at3_slice _ _ ⟨hb, by omega, h4⟩]
  simp only [Nat.zero_add]
  rw [at_cast33 _ _ g (r * 4358 + (y * 66 + x)) o ⟨hb, by omega, h4⟩ ⟨h0, by omega, h4⟩ (by omega)]

/-- The call's row function on these inputs is the convolution of the bordered images. -/
theorem row_eq {g r y x o : ℕ} (h : g < 16 ∧ r < 8 ∧ y < 64 ∧ x < 64 ∧ o < 32) :
    Reg8.row (flat A) (taps w) g (r * 4358 + (y * 66 + x)) o
      = max (conv9 64 (shifted (at4 A (g * 8 + r))) (wk w) y x o) 0 := by
  obtain ⟨h0, h1, h2, h3, h4⟩ := h
  unfold Reg8.row conv9
  rw [tapSum_tap (A := shifted (at4 A (g * 8 + r))) (w := wk w) (y := y) (x := x) (dy := 0) (dx := 0) (X := flat A) (W := taps w) (q := r * 4358 + (y * 66 + x) + 0) (t := 0)
    (fun c hc => flat_at A (y := y + 0) (x := x + 0) (by omega) (by omega)) (fun c hc => taps_at w (k := 0) (by omega))]
  rw [tapSum_tap (A := shifted (at4 A (g * 8 + r))) (w := wk w) (y := y) (x := x) (dy := 0) (dx := 1) (X := flat A) (W := taps w) (q := r * 4358 + (y * 66 + x) + 1) (t := 1)
    (fun c hc => flat_at A (y := y + 0) (x := x + 1) (by omega) (by omega)) (fun c hc => taps_at w (k := 1) (by omega))]
  rw [tapSum_tap (A := shifted (at4 A (g * 8 + r))) (w := wk w) (y := y) (x := x) (dy := 0) (dx := 2) (X := flat A) (W := taps w) (q := r * 4358 + (y * 66 + x) + 2) (t := 2)
    (fun c hc => flat_at A (y := y + 0) (x := x + 2) (by omega) (by omega)) (fun c hc => taps_at w (k := 2) (by omega))]
  rw [tapSum_tap (A := shifted (at4 A (g * 8 + r))) (w := wk w) (y := y) (x := x) (dy := 1) (dx := 0) (X := flat A) (W := taps w) (q := r * 4358 + (y * 66 + x) + 66) (t := 3)
    (fun c hc => flat_at A (y := y + 1) (x := x + 0) (by omega) (by omega)) (fun c hc => taps_at w (k := 3) (by omega))]
  rw [tapSum_tap (A := shifted (at4 A (g * 8 + r))) (w := wk w) (y := y) (x := x) (dy := 1) (dx := 1) (X := flat A) (W := taps w) (q := r * 4358 + (y * 66 + x) + 67) (t := 4)
    (fun c hc => flat_at A (y := y + 1) (x := x + 1) (by omega) (by omega)) (fun c hc => taps_at w (k := 4) (by omega))]
  rw [tapSum_tap (A := shifted (at4 A (g * 8 + r))) (w := wk w) (y := y) (x := x) (dy := 1) (dx := 2) (X := flat A) (W := taps w) (q := r * 4358 + (y * 66 + x) + 68) (t := 5)
    (fun c hc => flat_at A (y := y + 1) (x := x + 2) (by omega) (by omega)) (fun c hc => taps_at w (k := 5) (by omega))]
  rw [tapSum_tap (A := shifted (at4 A (g * 8 + r))) (w := wk w) (y := y) (x := x) (dy := 2) (dx := 0) (X := flat A) (W := taps w) (q := r * 4358 + (y * 66 + x) + 132) (t := 6)
    (fun c hc => flat_at A (y := y + 2) (x := x + 0) (by omega) (by omega)) (fun c hc => taps_at w (k := 6) (by omega))]
  rw [tapSum_tap (A := shifted (at4 A (g * 8 + r))) (w := wk w) (y := y) (x := x) (dy := 2) (dx := 1) (X := flat A) (W := taps w) (q := r * 4358 + (y * 66 + x) + 133) (t := 7)
    (fun c hc => flat_at A (y := y + 2) (x := x + 1) (by omega) (by omega)) (fun c hc => taps_at w (k := 7) (by omega))]
  rw [tapSum_tap (A := shifted (at4 A (g * 8 + r))) (w := wk w) (y := y) (x := x) (dy := 2) (dx := 2) (X := flat A) (W := taps w) (q := r * 4358 + (y * 66 + x) + 134) (t := 8)
    (fun c hc => flat_at A (y := y + 2) (x := x + 2) (by omega) (by omega)) (fun c hc => taps_at w (k := 8) (by omega))]

/-- The layer: the images cut out of the call's result are the convolved images. -/
theorem layer (V : (c : Dev nD) → (b : Ref sig .tc) → Buf (Elt Ideal) ((c : Thread nD τ).loc b)) (c : Dev nD)
    (h0 : (V c main_v166 : (⟨3, ![16, 34998, 64]⟩ : Shape).Idx → EReal) = flat A) (h1 : (V c main_v161 : (⟨3, ![9, 64, 32]⟩ : Shape).Idx → EReal) = taps w)
    {b y x o : ℕ} (h : b < 128 ∧ y < 64 ∧ x < 64 ∧ o < 32) :
    at4 (image ((dat8 V c).arrAt 2 cfg8.N)) b y x o = max (conv9 64 (shifted (at4 A b)) (wk w) y x o) 0 := by
  obtain ⟨g, r, hg, hr, rfl⟩ : ∃ g r, g < 16 ∧ r < 8 ∧ b = g * 8 + r := ⟨b / 8, b % 8, by omega, by omega, by omega⟩
  refine (image_at _ (by omega)).trans ((Reg8.arr_at V c _ _ _ (by omega)).trans ?_)
  refine Eq.trans ?_ (row_eq A w (by omega))
  rw [← h0, ← h1]

end Cert.Dec3

end
-- ==== Proof.Dec3Reads.lean ====
/- The third decoder layer: what its host operations compute. -/
module

public import proofs.«01_k».proof.Proof.Dec3
public import proofs.«01_k».proof.Proof.Dec2

@[expose] public section

set_option maxRecDepth 16384

noncomputable section

namespace Cert.Dec3Reads

open Idealize.ShloMosaic Idealize.ShloMosaic.TcCoe Idealize.ShloMosaic.ValueIdx Idealize.ShloMosaic.Tactic
open Cert.KernelIdeal Cert.KernelIdeal.Gen Cert.Arr

variable (U : Valuation τ sig (Elt Ideal))

/-- The contents after the host operations before the call. -/
abbrev S : Valuation τ sig (Elt Ideal) := StableHlo.after hostOps8_5 (StableHlo.after hostOps8_4 (StableHlo.after hostOps8_3 (StableHlo.after hostOps8_2 (StableHlo.after hostOps8_1 (StableHlo.after hostOps8 U)))))

theorem read_v166 : (S U (Proc.devRef .tc main_v166) : (⟨3, ![16, 34998, 64]⟩ : Shape).Idx → EReal) = Dec3.flat (Dec3.up (Dec2.image (U (Proc.devRef .tc main_v151)))) := by
  after_results
  try simp only [StableHlo.TRef.toBuf, StableHlo.TRef.ofBuf]
  repeat erw [cast_eq]
  rfl

theorem read_v161 : (S U (Proc.devRef .tc main_v161) : (⟨3, ![9, 64, 32]⟩ : Shape).Idx → EReal) = Dec3.taps (U (Proc.devRef .tc main_arg11)) := by
  after_results
  try simp only [StableHlo.TRef.toBuf, StableHlo.TRef.ofBuf]
  repeat erw [cast_eq]
  rfl

end Cert.Dec3Reads

end
-- ==== Proof.Reg9.lean ====
/- The last decoder layer's custom call: every row of its output as a function of the rows of its inputs. -/
module

public import proofs.«01_k».proof.Proof.Tap
public import proofs.«01_k».proof.Proof.Gen.KernelIdeal.Frame.Region9

@[expose] public section

set_option maxRecDepth 16384

noncomputable section

namespace Cert.Reg9

open Idealize.ShloMosaic Idealize.ShloMosaic.TcCoe Idealize.ShloMosaic.ValueIdx Idealize.ShloMosaic.Tactic
open Cert.KernelIdeal Cert.KernelIdeal.Gen Cert.Arr
open Idealize.ShloMosaic.Pipeline (Dat Cfg Window)

/-- The row function of the call. -/
def row {m0 : ℕ} (X0 : (⟨3, ![m0, 8850, 32]⟩ : Shape).Idx → EReal) (X1 : S9x32x1.Idx → EReal) (i p co : ℕ) : EReal :=
  Ideal.tanh (tapSum 32 X0 X1 i (p + 0) co 0 + tapSum 32 X0 X1 i (p + 1) co 1 + tapSum 32 X0 X1 i (p + 2) co 2 + tapSum 32 X0 X1 i (p + 66) co 3 + tapSum 32 X0 X1 i (p + 67) co 4 + tapSum 32 X0 X1 i (p + 68) co 5 + tapSum 32 X0 X1 i (p + 132) co 6 + tapSum 32 X0 X1 i (p + 133) co 7 + tapSum 32 X0 X1 i (p + 134) co 8)

theorem hdot_524_32 : dot_S524x32_S32x1_S524x1_1_0_0_1_n_n = DotDims.plain 524 32 1 := rfl
theorem hdot_2048_32 : dot_S2048x32_S32x1_S2048x1_1_0_0_1_n_n = DotDims.plain 2048 32 1 := rfl

/-- What the body leaves in its output's block, index by index. -/
theorem out_eq (c : Dev nD) (i : grid9.Coords) (arg1 : Memref sig .tc .vmem S1x8850x32 .bf16) (harg1 : arg1.IsWhole) (arg2 : Memref sig .tc .vmem S9x32x1 .bf16) (harg2 : arg2.IsWhole) (arg3 : Memref sig .tc .vmem S1x8716x1 .f32) (harg3 : arg3.IsWhole)
    (x0 : Vec Ideal S1x8850x32 .bf16) (x1 : Vec Ideal S9x32x1 .bf16) (y : S1x8716x1.Idx) :
    out9_A_2 c i arg1 harg1 arg2 harg2 arg3 harg3 x0 x1 y = row x0 x1 0 (y 1).val (y 2).val := by
  unfold out9_A_2
  rw [View.read_writes_junk_apply_eq_canon]
  refine View.canon_apply_of_pieces (Val := Elt Ideal) (fun y : S1x8716x1.Idx => row x0 x1 0 (y 1).val (y 2).val) _ ?_ y (cover9_A_2 c i arg1 harg1 arg2 harg2 arg3 harg3 x0 x1 y)
  unfold kernelRun9_A
  dsimp only
  sl_unfold_words
  simp only [View.readAt_eq_ld, harg1.read_unread, harg2.read_unread]
  intro p hp
  simp only [List.mem_cons, List.mem_nil_iff, or_false] at hp
  rcases hp with rfl | rfl | rfl | rfl | rfl
  · refine forall_ix3 fun z r c => ?_
    show _ = row x0 x1 0 (8192 + 1 * r.val) (0 + 1 * c.val)
    simp only [k9_pay1, k9_pay2, k9_pay3, k9_pay4, k9_pay5, k9_pay6, k9_pay7, k9_pay8, k9_pay9, k9_pay10, k9_pay11, k9_pay12, k9_pay13, k9_pay14, k9_pay15, k9_pay16, k9_pay17, k9_pay18, k9_pay19, k9_pay20, row, shapeCast_ab_1ab_apply, addf_apply, truncf_apply, extf_apply, maximumf_apply, tanh_apply', bcast_zero, tap_val, hdot_524_32, hdot_2048_32, Nat.one_mul, Nat.zero_add, Nat.add_zero, Nat.add_right_comm _ r.val, Nat.reduceAdd]
  · refine forall_ix3 fun z r c => ?_
    show _ = row x0 x1 0 (6144 + 1 * r.val) (0 + 1 * c.val)
    simp only [k9_pay1, k9_pay2, k9_pay3, k9_pay4, k9_pay5, k9_pay6, k9_pay7, k9_pay8, k9_pay9, k9_pay10, k9_pay11, k9_pay12, k9_pay13, k9_pay14, k9_pay15, k9_pay16, k9_pay17, k9_pay18, k9_pay19, k9_pay20, row, shapeCast_ab_1ab_apply, addf_apply, truncf_apply, extf_apply, maximumf_apply, tanh_apply', bcast_zero, tap_val, hdot_524_32, hdot_2048_32, Nat.one_mul, Nat.zero_add, Nat.add_zero, Nat.add_right_comm _ r.val, Nat.reduceAdd]
  · refine forall_ix3 fun z r c => ?_
    show _ = row x0 x1 0 (4096 + 1 * r.val) (0 + 1 * c.val)
    simp only [k9_pay1, k9_pay2, k9_pay3, k9_pay4, k9_pay5, k9_pay6, k9_pay7, k9_pay8, k9_pay9, k9_pay10, k9_pay11, k9_pay12, k9_pay13, k9_pay14, k9_pay15, k9_pay16, k9_pay17, k9_pay18, k9_pay19, k9_pay20, row, shapeCast_ab_1ab_apply, addf_apply, truncf_apply, extf_apply, maximumf_apply, tanh_apply', bcast_zero, tap_val, hdot_524_32, hdot_2048_32, Nat.one_mul, Nat.zero_add, Nat.add_zero, Nat.add_right_comm _ r.val, Nat.reduceAdd]
  · refine forall_ix3 fun z r c => ?_
    show _ = row x0 x1 0 (2048 + 1 * r.val) (0 + 1 * c.val)
    simp only [k9_pay1, k9_pay2, k9_pay3, k9_pay4, k9_pay5, k9_pay6, k9_pay7, k9_pay8, k9_pay9, k9_pay10, k9_pay11, k9_pay12, k9_pay13, k9_pay14, k9_pay15, k9_pay16, k9_pay17, k9_pay18, k9_pay19, k9_pay20, row, shapeCast_ab_1ab_apply, addf_apply, truncf_apply, extf_apply, maximumf_apply, tanh_apply', bcast_zero, tap_val, hdot_524_32, hdot_2048_32, Nat.one_mul, Nat.zero_add, Nat.add_zero, Nat.add_right_comm _ r.val, Nat.reduceAdd]
  · refine forall_ix3 fun z r c => ?_
    show _ = row x0 x1 0 (0 + 1 * r.val) (0 + 1 * c.val)
    simp only [k9_pay1, k9_pay2, k9_pay3, k9_pay4, k9_pay5, k9_pay6, k9_pay7, k9_pay8, k9_pay9, k9_pay10, k9_pay11, k9_pay12, k9_pay13, k9_pay14, k9_pay15, k9_pay16, k9_pay17, k9_pay18, k9_pay19, k9_pay20, row, shapeCast_ab_1ab_apply, addf_apply, truncf_apply, extf_apply, maximumf_apply, tanh_apply', bcast_zero, tap_val, hdot_524_32, hdot_2048_32, Nat.one_mul, Nat.zero_add, Nat.add_zero, Nat.add_right_comm _ r.val, Nat.reduceAdd]
    simp only [Nat.add_comm _ r.val]

variable (V : (c : Dev nD) → (b : Ref sig .tc) → Buf (Elt Ideal) ((c : Thread nD τ).loc b))

theorem idx0 : ∀ t : Fin cfg9.N, win9_0.index t (0 : Fin 3) = t.val ∧ win9_0.index t (1 : Fin 3) = 0 ∧ win9_0.index t (2 : Fin 3) = 0 :=
  (by decide +kernel : ∀ t : Fin grid9.N, _)
theorem idx1 : ∀ t : Fin cfg9.N, win9_1.index t (0 : Fin 3) = 0 ∧ win9_1.index t (1 : Fin 3) = 0 ∧ win9_1.index t (2 : Fin 3) = 0 :=
  (by decide +kernel : ∀ t : Fin grid9.N, _)
theorem idx2 : ∀ t : Fin cfg9.N, win9_2.index t (0 : Fin 3) = t.val ∧ win9_2.index t (1 : Fin 3) = 0 ∧ win9_2.index t (2 : Fin 3) = 0 :=
  (by decide +kernel : ∀ t : Fin grid9.N, _)
theorem hN : cfg9.N = 64 := N_9

/-- The input's block at a point, read anywhere. -/
theorem at_iblk0 (c : Dev nD) (t : Fin cfg9.N) (q k : ℕ) :
    at3 (n0 := 1) (n1 := 8850) (n2 := 32) (iblk9 V c 0 t) 0 q k = at3 (n0 := 64) (n1 := 8850) (n2 := 32) (V c main_v179) t.val q k := by
  refine at3_block _ _ (lt_of_lt_of_eq t.isLt hN) (fun q k => ?_) q k
  obtain ⟨e0, e1, e2⟩ := idx0 t
  refine congrArg (V c main_v179) (funext fun a => Fin.ext ?_)
  match a with
  | ⟨0, _⟩ => show win9_0.index t (0 : Fin 3) * 1 + 1 * 0 = t.val; omega
  | ⟨1, _⟩ => show win9_0.index t (1 : Fin 3) * 8850 + 1 * q.val = q.val; omega
  | ⟨2, _⟩ => show win9_0.index t (2 : Fin 3) * 32 + 1 * k.val = k.val; omega

/-- The weights' block is the weights. -/
theorem iblk1_eq (c : Dev nD) (t : Fin cfg9.N) : (iblk9 V c 1 t : S9x32x1.Idx → EReal) = V c main_v174 := by
  obtain ⟨e0, e1, e2⟩ := idx1 t
  funext j
  refine congrArg (V c main_v174) (funext fun a => Fin.ext ?_)
  match a with
  | ⟨0, _⟩ => show win9_1.index t (0 : Fin 3) * 9 + 1 * (j 0).val = (j 0).val; omega
  | ⟨1, _⟩ => show win9_1.index t (1 : Fin 3) * 32 + 1 * (j 1).val = (j 1).val; omega
  | ⟨2, _⟩ => show win9_1.index t (2 : Fin 3) * 1 + 1 * (j 2).val = (j 2).val; omega

/-- The array the call leaves. -/
def G (X0 : S64x8850x32.Idx → EReal) (X1 : S9x32x1.Idx → EReal) (y : S64x8716x1.Idx) : EReal := row X0 X1 (y 0).val (y 1).val (y 2).val

/-- The output's block at a point covers that image block's rows. -/
theorem emb_eq (t : Fin cfg9.N) (z : Fin 1) (p : Fin 8716) (co : Fin 1) :
    ((cfg9.win 2).blk t).view.emb (ix3 z p co) = (ix3 ⟨t.val, lt_of_lt_of_eq t.isLt hN⟩ p co : S64x8716x1.Idx) := by
  obtain ⟨e0, e1, e2⟩ := idx2 t
  refine funext fun a => Fin.ext ?_
  match a with
  | ⟨0, _⟩ => show win9_2.index t (0 : Fin 3) * 1 + 1 * z.val = t.val; have := z.isLt; omega
  | ⟨1, _⟩ => show win9_2.index t (1 : Fin 3) * 8716 + 1 * p.val = p.val; omega
  | ⟨2, _⟩ => show win9_2.index t (2 : Fin 3) * 1 + 1 * co.val = co.val; omega

theorem flushed_eq (c : Dev nD) (t : Fin cfg9.N) :
    (dat9 V c).flushed 2 t = ((cfg9.win 2).blk t).view.read (Elt Ideal) (G (V c main_v179) (V c main_v174)) := by
  show (cfg9.win 2).cut (grid9.coords t) ((dat9 V c).after 2 t) = _
  rw [after9_2]
  unfold outsAt9
  refine funext (forall_ix3 (n0 := 1) (n1 := 8716) (n2 := 1) fun z p co => ?_)
  refine (out_eq c _ _ _ _ _ _ _ _ _ _).trans ?_
  show _ = G (V c main_v179) (V c main_v174) (((cfg9.win 2).blk t).view.emb (ix3 z p co))
  rw [emb_eq]
  show row _ _ 0 p.val co.val = row _ _ t.val p.val co.val
  unfold row
  simp only [tapSum_congr (at_iblk0 V c t) (fun t' k c' => congrArg (fun f => at3 f t' k c') (iblk1_eq V c t))]

theorem cover (i : S64x8716x1.Idx) : ∃ t : Fin cfg9.N, (cfg9.win 2).flush t = true ∧ i ∈ ((cfg9.win 2).blk t).view.set := by
  revert i
  refine forall_ix3 fun b p co => ?_
  have ht : b.val < cfg9.N := lt_of_lt_of_eq b.isLt hN.symm
  have h := ((cfg9.win 2).blk ⟨b.val, ht⟩).view.emb_mem_set (ix3 (0 : Fin 1) p co : S1x8716x1.Idx)
  rw [emb_eq] at h
  exact ⟨⟨b.val, ht⟩, flush9_2 _, h⟩

/-- The call's result array. -/
theorem arr_eq (c : Dev nD) : (dat9 V c).arrAt 2 cfg9.N = G (V c main_v179) (V c main_v174) :=
  (dat9 V c).arrAt_eq_of_cover 2 _ (fun t _ => flushed_eq V c t) cover

/-- The call's result array, read at natural-number coordinates. -/
theorem arr_at (c : Dev nD) (i p co : ℕ) (h : i < 64 ∧ p < 8716 ∧ co < 1) :
    at3 (n0 := 64) (n1 := 8716) (n2 := 1) ((dat9 V c).arrAt 2 cfg9.N) i p co = row (show S64x8850x32.Idx → EReal from V c main_v179) (show S9x32x1.Idx → EReal from V c main_v174) i p co := by
  rw [arr_eq, at3_eq _ h]
  rfl

end Cert.Reg9

end
-- ==== Proof.Dec4.lean ====
/- The fourth decoder layer: from the images its host operations are given to the images cut out of its call's result. -/
module

public import proofs.«01_k».proof.Proof.Conv
public import proofs.«01_k».proof.Proof.Reg9

@[expose] public section

set_option maxRecDepth 16384

noncomputable section

namespace Cert.Dec4

open Idealize.ShloMosaic Idealize.ShloMosaic.TcCoe Idealize.ShloMosaic.ValueIdx Idealize.ShloMosaic.Tactic
open Cert.KernelIdeal Cert.KernelIdeal.Gen Cert.Arr

variable (A : (⟨4, ![128, 64, 64, 32]⟩ : Shape).Idx → EReal) (w : (⟨4, ![1, 32, 3, 3]⟩ : Shape).Idx → EReal)

/-- The rows of the bordered images, flattened, grouped by block of images. -/
def flat : (⟨3, ![64, 8850, 32]⟩ : Shape).Idx → EReal :=
  pad ⟨3, ![64, 8850, 32]⟩ ![0, 0, 0] ![0, 134, 0] ![0, 0, 0]
    (shapeCast ⟨3, ![64, 8716, 32]⟩ (pad ⟨3, ![128, 4358, 32]⟩ ![0, 0, 0] ![0, 2, 0] ![0, 0, 0]
      (shapeCast ⟨3, ![128, 4356, 32]⟩ (pad ⟨4, ![128, 66, 66, 32]⟩ ![0, 1, 1, 0] ![0, 1, 1, 0] ![0, 0, 0, 0] A (border (φ := .bf16)) (by decide) (by decide)) (by decide))
      (border (φ := .bf16)) (by decide) (by decide)) (by decide))
    (border (φ := .bf16)) (by decide) (by decide)

/-- The weights by tap. -/
def taps : (⟨3, ![9, 32, 1]⟩ : Shape).Idx → EReal := shapeCast ⟨3, ![9, 32, 1]⟩ (transpose ⟨4, ![3, 3, 32, 1]⟩ [2, 3, 1, 0] w (by decide)) (by decide)

/-- The images cut out of the rows the call leaves. -/
def image (Z : (⟨3, ![64, 8716, 1]⟩ : Shape).Idx → EReal) : (⟨4, ![128, 64, 64, 1]⟩ : Shape).Idx → EReal :=
  extractStridedSlice ⟨4, ![128, 64, 64, 1]⟩ ![0, 0, 0, 0] (shapeCast ⟨4, ![128, 64, 66, 1]⟩
    (extractStridedSlice ⟨3, ![128, 4224, 1]⟩ ![0, 0, 0] (shapeCast ⟨3, ![128, 4358, 1]⟩ Z (by decide)) (by decide)) (by decide)) (by decide)

theorem flat_at {g r y x q c : ℕ} (h : g < 64 ∧ r < 2 ∧ y < 66 ∧ x < 66 ∧ c < 32) (hq : q = r * 4358 + (y * 66 + x)) :
    at3 (flat A) g q c = shifted (at4 A (g * 2 + r)) y x c := by
  obtain ⟨h0, h1, h2, h3, h4⟩ := h
  have hb : g * 2 + r < 128 := by omega
  have hs : y * 66 + x < 4356 := by omega
  unfold flat
  rw [at3_padhi, at_cast33 _ _ (g * 2 + r) (y * 66 + x) c ⟨h0, by omega, h4⟩ ⟨hb, by omega, h4⟩ (by subst hq; omega), at3_padhi,
    at_cast43 _ _ (g * 2 + r) y x c ⟨hb, hs, h4⟩ ⟨hb, h2, h3, h4⟩ (by omega), at4_padone]

theorem taps_at {k c o : ℕ} (h : k < 9 ∧ c < 32 ∧ o < 1) : at3 (taps w) k c o = wk w k c o := at3_taps w _ _ h

theorem image_at (Z : (⟨3, ![64, 8716, 1]⟩ : Shape).Idx → EReal) {g r y x o : ℕ} (h : g < 64 ∧ r < 2 ∧ y < 64 ∧ x < 64 ∧ o < 1) :
    at4 (image Z) (g * 2 + r) y x o = at3 Z g (r * 4358 + (y * 66 + x)) o := by
  obtain ⟨h0, h1, h2, h3, h4⟩ := h
  have hb : g * 2 + r < 128 := by omega
  unfold image
  rw [at4_slice _ _ ⟨hb, h2, h3, h4⟩]
  simp only [Nat.zero_add]
  rw [at_cast34 _ _ (g * 2 + r) (y * 66 + x) o ⟨hb, h2, by omega, h4⟩ ⟨hb, by omega, h4⟩ (by omega), at3_slice _ _ ⟨hb, by omega, h4⟩]
  simp only [Nat.zero_add]
  rw [at_cast33 _ _ g (r * 4358 + (y * 66 + x)) o ⟨hb, by omega, h4⟩ ⟨h0, by omega, h4⟩ (by omega)]

/-- The call's row function on these inputs is the convolution of the bordered images. -/
theorem row_eq {g r y x o : ℕ} (h : g < 64 ∧ r < 2 ∧ y < 64 ∧ x < 64 ∧ o < 1) :
    Reg9.row (flat A) (taps w) g (r * 4358 + (y * 66 + x)) o
      = Ideal.tanh (conv9 32 (shifted (at4 A (g * 2 + r))) (wk w) y x o) := by
  obtain ⟨h0, h1, h2, h3, h4⟩ := h
  unfold Reg9.row conv9
  rw [tapSum_tap (A := shifted (at4 A (g * 2 + r))) (w := wk w) (y := y) (x := x) (dy := 0) (dx := 0) (X := flat A) (W := taps w) (q := r * 4358 + (y * 66 + x) + 0) (t := 0)
    (fun c hc => flat_at A (y := y + 0) (x := x + 0) (by omega) (by omega)) (fun c hc => taps_at w (k := 0) (by omega))]
  rw [tapSum_tap (A := shifted (at4 A (g * 2 + r))) (w := wk w) (y := y) (x := x) (dy := 0) (dx := 1) (X := flat A) (W := taps w) (q := r * 4358 + (y * 66 + x) + 1) (t := 1)
    (fun c hc => flat_at A (y := y + 0) (x := x + 1) (by omega) (by omega)) (fun c hc => taps_at w (k := 1) (by omega))]
  rw [tapSum_tap (A := shifted (at4 A (g * 2 + r))) (w := wk w) (y := y) (x := x) (dy := 0) (dx := 2) (X := flat A) (W := taps w) (q := r * 4358 + (y * 66 + x) + 2) (t := 2)
    (fun c hc => flat_at A (y := y + 0) (x := x + 2) (by omega) (by omega)) (fun c hc => taps_at w (k := 2) (by omega))]
  rw [tapSum_tap (A := shifted (at4 A (g * 2 + r))) (w := wk w) (y := y) (x := x) (dy := 1) (dx := 0) (X := flat A) (W := taps w) (q := r * 4358 + (y * 66 + x) + 66) (t := 3)
    (fun c hc => flat_at A (y := y + 1) (x := x + 0) (by omega) (by omega)) (fun c hc => taps_at w (k := 3) (by omega))]
  rw [tapSum_tap (A := shifted (at4 A (g * 2 + r))) (w := wk w) (y := y) (x := x) (dy := 1) (dx := 1) (X := flat A) (W := taps w) (q := r * 4358 + (y * 66 + x) + 67) (t := 4)
    (fun c hc => flat_at A (y := y + 1) (x := x + 1) (by omega) (by omega)) (fun c hc => taps_at w (k := 4) (by omega))]
  rw [tapSum_tap (A := shifted (at4 A (g * 2 + r))) (w := wk w) (y := y) (x := x) (dy := 1) (dx := 2) (X := flat A) (W := taps w) (q := r * 4358 + (y * 66 + x) + 68) (t := 5)
    (fun c hc => flat_at A (y := y + 1) (x := x + 2) (by omega) (by omega)) (fun c hc => taps_at w (k := 5) (by omega))]
  rw [tapSum_tap (A := shifted (at4 A (g * 2 + r))) (w := wk w) (y := y) (x := x) (dy := 2) (dx := 0) (X := flat A) (W := taps w) (q := r * 4358 + (y * 66 + x) + 132) (t := 6)
    (fun c hc => flat_at A (y := y + 2) (x := x + 0) (by omega) (by omega)) (fun c hc => taps_at w (k := 6) (by omega))]
  rw [tapSum_tap (A := shifted (at4 A (g * 2 + r))) (w := wk w) (y := y) (x := x) (dy := 2) (dx := 1) (X := flat A) (W := taps w) (q := r * 4358 + (y * 66 + x) + 133) (t := 7)
    (fun c hc => flat_at A (y := y + 2) (x := x + 1) (by omega) (by omega)) (fun c hc => taps_at w (k := 7) (by omega))]
  rw [tapSum_tap (A := shifted (at4 A (g * 2 + r))) (w := wk w) (y := y) (x := x) (dy := 2) (dx := 2) (X := flat A) (W := taps w) (q := r * 4358 + (y * 66 + x) + 134) (t := 8)
    (fun c hc => flat_at A (y := y + 2) (x := x + 2) (by omega) (by omega)) (fun c hc => taps_at w (k := 8) (by omega))]

/-- The layer: the images cut out of the call's result are the convolved images. -/
theorem layer (V : (c : Dev nD) → (b : Ref sig .tc) → Buf (Elt Ideal) ((c : Thread nD τ).loc b)) (c : Dev nD)
    (h0 : (V c main_v179 : (⟨3, ![64, 8850, 32]⟩ : Shape).Idx → EReal) = flat A) (h1 : (V c main_v174 : (⟨3, ![9, 32, 1]⟩ : Shape).Idx → EReal) = taps w)
    {b y x o : ℕ} (h : b < 128 ∧ y < 64 ∧ x < 64 ∧ o < 1) :
    at4 (image ((dat9 V c).arrAt 2 cfg9.N)) b y x o = Ideal.tanh (conv9 32 (shifted (at4 A b)) (wk w) y x o) := by
  obtain ⟨g, r, hg, hr, rfl⟩ : ∃ g r, g < 64 ∧ r < 2 ∧ b = g * 2 + r := ⟨b / 2, b % 2, by omega, by omega, by omega⟩
  refine (image_at _ (by omega)).trans ((Reg9.arr_at V c _ _ _ (by omega)).trans ?_)
  refine Eq.trans ?_ (row_eq A w (by omega))
  rw [← h0, ← h1]

end Cert.Dec4

end
-- ==== Proof.Dec4Reads.lean ====
/- The fourth decoder layer: what its host operations compute. -/
module

public import proofs.«01_k».proof.Proof.Dec4
public import proofs.«01_k».proof.Proof.Dec3

@[expose] public section

set_option maxRecDepth 16384

noncomputable section

namespace Cert.Dec4Reads

open Idealize.ShloMosaic Idealize.ShloMosaic.TcCoe Idealize.ShloMosaic.ValueIdx Idealize.ShloMosaic.Tactic
open Cert.KernelIdeal Cert.KernelIdeal.Gen Cert.Arr

variable (U : Valuation τ sig (Elt Ideal))

/-- The contents after the host operations before the call. -/
abbrev S : Valuation τ sig (Elt Ideal) := StableHlo.after hostOps9_5 (StableHlo.after hostOps9_4 (StableHlo.after hostOps9_3 (StableHlo.after hostOps9_2 (StableHlo.after hostOps9_1 (StableHlo.after hostOps9 U)))))

theorem read_v179 : (S U (Proc.devRef .tc main_v179) : (⟨3, ![64, 8850, 32]⟩ : Shape).Idx → EReal) = Dec4.flat (Dec3.image (U (Proc.devRef .tc main_v167))) := by
  after_results
  try simp only [StableHlo.TRef.toBuf, StableHlo.TRef.ofBuf]
  repeat erw [cast_eq]
  rfl

theorem read_v174 : (S U (Proc.devRef .tc main_v174) : (⟨3, ![9, 32, 1]⟩ : Shape).Idx → EReal) = Dec4.taps (U (Proc.devRef .tc main_arg12)) := by
  after_results
  try simp only [StableHlo.TRef.toBuf, StableHlo.TRef.ofBuf]
  repeat erw [cast_eq]
  rfl

end Cert.Dec4Reads

end
-- ==== Proof.RefDec1.lean ====
/- The reference's first decoder layer, read at an image, a channel and a pixel. -/
module

public import proofs.«01_k».proof.Proof.RefTap
public import proofs.«01_k».proof.Proof.Gen.ReferenceIdeal.Read

@[expose] public section

set_option maxRecDepth 16384

noncomputable section

namespace Cert.RefDec1

open Idealize.ShloMosaic Idealize.ShloMosaic.TcCoe Idealize.ShloMosaic.ValueIdx Idealize.ShloMosaic.Tactic
open Cert.ReferenceIdeal Cert.ReferenceIdeal.Read Cert.Arr

variable (x0 : (⟨S128, .i32⟩ : BufTy).Contents (Elt Ideal)) (x1 : (⟨S128, .i32⟩ : BufTy).Contents (Elt Ideal)) (x2 : (⟨S128x1x64x64, .f32⟩ : BufTy).Contents (Elt Ideal)) (x3 : (⟨S128, .i32⟩ : BufTy).Contents (Elt Ideal)) (x4 : (⟨S128x3, .i32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (x9 : (⟨S128x256x3x3, .f32⟩ : BufTy).Contents (Elt Ideal))

theorem tap0 {b o y x : ℕ} (h : b < 128 ∧ o < 128 ∧ y < 16 ∧ x < 16) :
    at4 (n0 := 128) (n1 := 128) (n2 := 16) (n3 := 16) (val_main_v375 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 0 0 :=
  tap_stride1 x9 (val_main_v370 (F := Ideal) x0 x1 x2 x3 x4 x5 x6 x7 x8) _ _ _ _ _ h

theorem tap1 {b o y x : ℕ} (h : b < 128 ∧ o < 128 ∧ y < 16 ∧ x < 16) :
    at4 (n0 := 128) (n1 := 128) (n2 := 16) (n3 := 16) (val_main_v380 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 0 1 :=
  tap_stride1 x9 (val_main_v370 (F := Ideal) x0 x1 x2 x3 x4 x5 x6 x7 x8) _ _ _ _ _ h

theorem tap2 {b o y x : ℕ} (h : b < 128 ∧ o < 128 ∧ y < 16 ∧ x < 16) :
    at4 (n0 := 128) (n1 := 128) (n2 := 16) (n3 := 16) (val_main_v386 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 0 2 :=
  tap_stride1 x9 (val_main_v370 (F := Ideal) x0 x1 x2 x3 x4 x5 x6 x7 x8) _ _ _ _ _ h

theorem tap3 {b o y x : ℕ} (h : b < 128 ∧ o < 128 ∧ y < 16 ∧ x < 16) :
    at4 (n0 := 128) (n1 := 128) (n2 := 16) (n3 := 16) (val_main_v392 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 1 0 :=
  tap_stride1 x9 (val_main_v370 (F := Ideal) x0 x1 x2 x3 x4 x5 x6 x7 x8) _ _ _ _ _ h

theorem tap4 {b o y x : ℕ} (h : b < 128 ∧ o < 128 ∧ y < 16 ∧ x < 16) :
    at4 (n0 := 128) (n1 := 128) (n2 := 16) (n3 := 16) (val_main_v398 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 1 1 :=
  tap_stride1 x9 (val_main_v370 (F := Ideal) x0 x1 x2 x3 x4 x5 x6 x7 x8) _ _ _ _ _ h

theorem tap5 {b o y x : ℕ} (h : b < 128 ∧ o < 128 ∧ y < 16 ∧ x < 16) :
    at4 (n0 := 128) (n1 := 128) (n2 := 16) (n3 := 16) (val_main_v404 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 1 2 :=
  tap_stride1 x9 (val_main_v370 (F := Ideal) x0 x1 x2 x3 x4 x5 x6 x7 x8) _ _ _ _ _ h

theorem tap6 {b o y x : ℕ} (h : b < 128 ∧ o < 128 ∧ y < 16 ∧ x < 16) :
    at4 (n0 := 128) (n1 := 128) (n2 := 16) (n3 := 16) (val_main_v410 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 2 0 :=
  tap_stride1 x9 (val_main_v370 (F := Ideal) x0 x1 x2 x3 x4 x5 x6 x7 x8) _ _ _ _ _ h

theorem tap7 {b o y x : ℕ} (h : b < 128 ∧ o < 128 ∧ y < 16 ∧ x < 16) :
    at4 (n0 := 128) (n1 := 128) (n2 := 16) (n3 := 16) (val_main_v416 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 2 1 :=
  tap_stride1 x9 (val_main_v370 (F := Ideal) x0 x1 x2 x3 x4 x5 x6 x7 x8) _ _ _ _ _ h

theorem tap8 {b o y x : ℕ} (h : b < 128 ∧ o < 128 ∧ y < 16 ∧ x < 16) :
    at4 (n0 := 128) (n1 := 128) (n2 := 16) (n3 := 16) (val_main_v422 (F := Ideal) x0 x1 x2 x3 x4 x5 x6 x7 x8 x9) b o y x = tap 256 (fun y x c => at4 (n0 := 128) (n1 := 256) (n2 := 18) (n3 := 18) (val_main_v370 (F := Ideal) x0 x1 x2 x3 x4 x5 x6 x7 x8) b c y x) (wk (O := 128) (I := 256) x9) y x o 2 2 :=
  tap_stride1 x9 (val_main_v370 (F := Ideal) x0 x1 x2 x3 x4 x5 x6 x7 x8) _ _ _ _ _ h

/-- The padded images. -/
theorem padded (b y x c : ℕ) : (fun y x c => at4 (n0 := 128) (n1 := 256) (n2 := 18) (n3 := 18) (val_main_v370 (F := Ideal) x0 x1 x2 x3 x4 x5 x6 x7 x8) b c y x) y x c = (shifted (fun y x c => at4 (n0 := 128) (n1 := 256) (n2 := 16) (n3 := 16) (val_main_v369 (F := Ideal) x0 x1 x2 x3 x4 x5 x6 x7 x8) b c y x)) y x c :=
  at4_padone' (φ := .f32) (val_main_v369 (F := Ideal) x0 x1 x2 x3 x4 x5 x6 x7 x8) _ _ b c y x

theorem sum_eq {b o y x : ℕ} (h : b < 128 ∧ o < 128 ∧ y < 16 ∧ x < 16) :
    at4 (n0 := 128) (n1 := 128) (n2 := 16) (n3 := 16) (val_main_v423 (F := Ideal) x0 x1 x2 x3 x4 x5 x6 x7 x8 x9) b o y x = conv9 256 (shifted (fun y x c => at4 (n0 := 128) (n1 := 256) (n2 := 16) (n3 := 16) (val_main_v369 (F := Ideal) x0 x1 x2 x3 x4 x5 x6 x7 x8) b c y x)) (wk (O := 128) (I := 256) x9) y x o := by
  rw [← conv9_congr (padded x0 x1 x2 x3 x4 x5 x6 x7 x8 b)]
  unfold conv9
  rw [← tap0 x0 x1 x2 x3 x4 x5 x6 x7 x8 x9 h, ← tap1 x0 x1 x2 x3 x4 x5 x6 x7 x8 x9 h, ← tap2 x0 x1 x2 x3 x4 x5 x6 x7 x8 x9 h, ← tap3 x0 x1 x2 x3 x4 x5 x6 x7 x8 x9 h, ← tap4 x0 x1 x2 x3 x4 x5 x6 x7 x8 x9 h, ← tap5 x0 x1 x2 x3 x4 x5 x6 x7 x8 x9 h, ← tap6 x0 x1 x2 x3 x4 x5 x6 x7 x8 x9 h, ← tap7 x0 x1 x2 x3 x4 x5 x6 x7 x8 x9 h, ← tap8 x0 x1 x2 x3 x4 x5 x6 x7 x8 x9 h]
  simp only [at4_eq _ h]
  rfl

/-- The layer's images are the convolved images, clamped at zero. -/
theorem layer {b o y x : ℕ} (h : b < 128 ∧ o < 128 ∧ y < 16 ∧ x < 16) :
    at4 (n0 := 128) (n1 := 128) (n2 := 16) (n3 := 16) (val_main_v425 (F := Ideal) x0 x1 x2 x3 x4 x5 x6 x7 x8 x9) b o y x = max (conv9 256 (shifted (fun y x c => at4 (n0 := 128) (n1 := 256) (n2 := 16) (n3 := 16) (val_main_v369 (F := Ideal) x0 x1 x2 x3 x4 x5 x6 x7 x8) b c y x)) (wk (O := 128) (I := 256) x9) y x o) 0 := by
  rw [← sum_eq x0 x1 x2 x3 x4 x5 x6 x7 x8 x9 h, at4_eq _ h, at4_eq _ h]
  show max _ (Ideal.ofBits .f32 0x00000000#32) = _
  rw [ofBits_zero32]

end Cert.RefDec1

end
-- ==== Proof.RefDec2.lean ====
/- The reference's second decoder layer, read at an image, a channel and a pixel. -/
module

public import proofs.«01_k».proof.Proof.RefTap
public import proofs.«01_k».proof.Proof.Gen.ReferenceIdeal.Read

@[expose] public section

set_option maxRecDepth 16384

noncomputable section

namespace Cert.RefDec2

open Idealize.ShloMosaic Idealize.ShloMosaic.TcCoe Idealize.ShloMosaic.ValueIdx Idealize.ShloMosaic.Tactic
open Cert.ReferenceIdeal Cert.ReferenceIdeal.Read Cert.Arr

variable (x0 : (⟨S128, .i32⟩ : BufTy).Contents (Elt Ideal)) (x1 : (⟨S128, .i32⟩ : BufTy).Contents (Elt Ideal)) (x2 : (⟨S128x1x64x64, .f32⟩ : BufTy).Contents (Elt Ideal)) (x3 : (⟨S128, .i32⟩ : BufTy).Contents (Elt Ideal)) (x4 : (⟨S128x3, .i32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (x9 : (⟨S128x256x3x3, .f32⟩ : BufTy).Contents (Elt Ideal)) (x10 : (⟨S64x128x3x3, .f32⟩ : BufTy).Contents (Elt Ideal))

theorem tap0 {b o y x : ℕ} (h : b < 128 ∧ o < 64 ∧ y < 32 ∧ x < 32) :
    at4 (n0 := 128) (n1 := 64) (n2 := 32) (n3 := 32) (val_main_v436 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 0 0 :=
  tap_stride1 x10 (val_main_v431 (F := Ideal) x0 x1 x2 x3 x4 x5 x6 x7 x8 x9) _ _ _ _ _ h

theorem tap1 {b o y x : ℕ} (h : b < 128 ∧ o < 64 ∧ y < 32 ∧ x < 32) :
    at4 (n0 := 128) (n1 := 64) (n2 := 32) (n3 := 32) (val_main_v441 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 0 1 :=
  tap_stride1 x10 (val_main_v431 (F := Ideal) x0 x1 x2 x3 x4 x5 x6 x7 x8 x9) _ _ _ _ _ h

theorem tap2 {b o y x : ℕ} (h : b < 128 ∧ o < 64 ∧ y < 32 ∧ x < 32) :
    at4 (n0 := 128) (n1 := 64) (n2 := 32) (n3 := 32) (val_main_v447 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 0 2 :=
  tap_stride1 x10 (val_main_v431 (F := Ideal) x0 x1 x2 x3 x4 x5 x6 x7 x8 x9) _ _ _ _ _ h

theorem tap3 {b o y x : ℕ} (h : b < 128 ∧ o < 64 ∧ y < 32 ∧ x < 32) :
    at4 (n0 := 128) (n1 := 64) (n2 := 32) (n3 := 32) (val_main_v453 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 1 0 :=
  tap_stride1 x10 (val_main_v431 (F := Ideal) x0 x1 x2 x3 x4 x5 x6 x7 x8 x9) _ _ _ _ _ h

theorem tap4 {b o y x : ℕ} (h : b < 128 ∧ o < 64 ∧ y < 32 ∧ x < 32) :
    at4 (n0 := 128) (n1 := 64) (n2 := 32) (n3 := 32) (val_main_v459 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 1 1 :=
  tap_stride1 x10 (val_main_v431 (F := Ideal) x0 x1 x2 x3 x4 x5 x6 x7 x8 x9) _ _ _ _ _ h

theorem tap5 {b o y x : ℕ} (h : b < 128 ∧ o < 64 ∧ y < 32 ∧ x < 32) :
    at4 (n0 := 128) (n1 := 64) (n2 := 32) (n3 := 32) (val_main_v465 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 1 2 :=
  tap_stride1 x10 (val_main_v431 (F := Ideal) x0 x1 x2 x3 x4 x5 x6 x7 x8 x9) _ _ _ _ _ h

theorem tap6 {b o y x : ℕ} (h : b < 128 ∧ o < 64 ∧ y < 32 ∧ x < 32) :
    at4 (n0 := 128) (n1 := 64) (n2 := 32) (n3 := 32) (val_main_v471 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 2 0 :=
  tap_stride1 x10 (val_main_v431 (F := Ideal) x0 x1 x2 x3 x4 x5 x6 x7 x8 x9) _ _ _ _ _ h

theorem tap7 {b o y x : ℕ} (h : b < 128 ∧ o < 64 ∧ y < 32 ∧ x < 32) :
    at4 (n0 := 128) (n1 := 64) (n2 := 32) (n3 := 32) (val_main_v477 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 2 1 :=
  tap_stride1 x10 (val_main_v431 (F := Ideal) x0 x1 x2 x3 x4 x5 x6 x7 x8 x9) _ _ _ _ _ h

theorem tap8 {b o y x : ℕ} (h : b < 128 ∧ o < 64 ∧ y < 32 ∧ x < 32) :
    at4 (n0 := 128) (n1 := 64) (n2 := 32) (n3 := 32) (val_main_v483 (F := Ideal) x0 x1 x2 x3 x4 x5 x6 x7 x8 x9 x10) b o y x = tap 128 (fun y x c => at4 (n0 := 128) (n1 := 128) (n2 := 34) (n3 := 34) (val_main_v431 (F := Ideal) x0 x1 x2 x3 x4 x5 x6 x7 x8 x9) b c y x) (wk (O := 64) (I := 128) x10) y x o 2 2 :=
  tap_stride1 x10 (val_main_v431 (F := Ideal) x0 x1 x2 x3 x4 x5 x6 x7 x8 x9) _ _ _ _ _ h

/-- The padded images. -/
theorem padded (b y x c : ℕ) : (fun y x c => at4 (n0 := 128) (n1 := 128) (n2 := 34) (n3 := 34) (val_main_v431 (F := Ideal) x0 x1 x2 x3 x4 x5 x6 x7 x8 x9) b c y x) y x c = (shifted (fun y x c => at4 (n0 := 128) (n1 := 128) (n2 := 32) (n3 := 32) (val_main_v430 (F := Ideal) x0 x1 x2 x3 x4 x5 x6 x7 x8 x9) b c y x)) y x c :=
  at4_padone' (φ := .f32) (val_main_v430 (F := Ideal) x0 x1 x2 x3 x4 x5 x6 x7 x8 x9) _ _ b c y x

theorem sum_eq {b o y x : ℕ} (h : b < 128 ∧ o < 64 ∧ y < 32 ∧ x < 32) :
    at4 (n0 := 128) (n1 := 64) (n2 := 32) (n3 := 32) (val_main_v484 (F := Ideal) x0 x1 x2 x3 x4 x5 x6 x7 x8 x9 x10) b o y x = conv9 128 (shifted (fun y x c => at4 (n0 := 128) (n1 := 128) (n2 := 32) (n3 := 32) (val_main_v430 (F := Ideal) x0 x1 x2 x3 x4 x5 x6 x7 x8 x9) b c y x)) (wk (O := 64) (I := 128) x10) y x o := by
  rw [← conv9_congr (padded x0 x1 x2 x3 x4 x5 x6 x7 x8 x9 b)]
  unfold conv9
  rw [← tap0 x0 x1 x2 x3 x4 x5 x6 x7 x8 x9 x10 h, ← tap1 x0 x1 x2 x3 x4 x5 x6 x7 x8 x9 x10 h, ← tap2 x0 x1 x2 x3 x4 x5 x6 x7 x8 x9 x10 h, ← tap3 x0 x1 x2 x3 x4 x5 x6 x7 x8 x9 x10 h, ← tap4 x0 x1 x2 x3 x4 x5 x6 x7 x8 x9 x10 h, ← tap5 x0 x1 x2 x3 x4 x5 x6 x7 x8 x9 x10 h, ← tap6 x0 x1 x2 x3 x4 x5 x6 x7 x8 x9 x10 h, ← tap7 x0 x1 x2 x3 x4 x5 x6 x7 x8 x9 x10 h, ← tap8 x0 x1 x2 x3 x4 x5 x6 x7 x8 x9 x10 h]
  simp only [at4_eq _ h]
  rfl

/-- The layer's images are the convolved images, clamped at zero. -/
theorem layer {b o y x : ℕ} (h : b < 128 ∧ o < 64 ∧ y < 32 ∧ x < 32) :
    at4 (n0 := 128) (n1 := 64) (n2 := 32) (n3 := 32) (val_main_v486 (F := Ideal) x0 x1 x2 x3 x4 x5 x6 x7 x8 x9 x10) b o y x = max (conv9 128 (shifted (fun y x c => at4 (n0 := 128) (n1 := 128) (n2 := 32) (n3 := 32) (val_main_v430 (F := Ideal) x0 x1 x2 x3 x4 x5 x6 x7 x8 x9) b c y x)) (wk (O := 64) (I := 128) x10) y x o) 0 := by
  rw [← sum_eq x0 x1 x2 x3 x4 x5 x6 x7 x8 x9 x10 h, at4_eq _ h, at4_eq _ h]
  show max _ (Ideal.ofBits .f32 0x00000000#32) = _
  rw [ofBits_zero32]

end Cert.RefDec2

end
-- ==== Proof.RefDec3.lean ====
/- The reference's third decoder layer, read at an image, a channel and a pixel. -/
module

public import proofs.«01_k».proof.Proof.RefTap
public import proofs.«01_k».proof.Proof.Gen.ReferenceIdeal.Read

@[expose] public section

set_option maxRecDepth 16384

noncomputable section

namespace Cert.RefDec3

open Idealize.ShloMosaic Idealize.ShloMosaic.TcCoe Idealize.ShloMosaic.ValueIdx Idealize.ShloMosaic.Tactic
open Cert.ReferenceIdeal Cert.ReferenceIdeal.Read Cert.Arr

variable (x0 : (⟨S128, .i32⟩ : BufTy).Contents (Elt Ideal)) (x1 : (⟨S128, .i32⟩ : BufTy).Contents (Elt Ideal)) (x2 : (⟨S128x1x64x64, .f32⟩ : BufTy).Contents (Elt Ideal)) (x3 : (⟨S128, .i32⟩ : BufTy).Contents (Elt Ideal)) (x4 : (⟨S128x3, .i32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (x9 : (⟨S128x256x3x3, .f32⟩ : BufTy).Contents (Elt Ideal)) (x10 : (⟨S64x128x3x3, .f32⟩ : BufTy).Contents (Elt Ideal)) (x11 : (⟨S32x64x3x3, .f32⟩ : BufTy).Contents (Elt Ideal))

theorem tap0 {b o y x : ℕ} (h : b < 128 ∧ o < 32 ∧ y < 64 ∧ x < 64) :
    at4 (n0 := 128) (n1 := 32) (n2 := 64) (n3 := 64) (val_main_v496 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 0 0 :=
  tap_stride1 x11 (val_main_v491 (F := Ideal) x0 x1 x2 x3 x4 x5 x6 x7 x8 x9 x10) _ _ _ _ _ h

theorem tap1 {b o y x : ℕ} (h : b < 128 ∧ o < 32 ∧ y < 64 ∧ x < 64) :
    at4 (n0 := 128) (n1 := 32) (n2 := 64) (n3 := 64) (val_main_v501 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 0 1 :=
  tap_stride1 x11 (val_main_v491 (F := Ideal) x0 x1 x2 x3 x4 x5 x6 x7 x8 x9 x10) _ _ _ _ _ h

theorem tap2 {b o y x : ℕ} (h : b < 128 ∧ o < 32 ∧ y < 64 ∧ x < 64) :
    at4 (n0 := 128) (n1 := 32) (n2 := 64) (n3 := 64) (val_main_v507 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 0 2 :=
  tap_stride1 x11 (val_main_v491 (F := Ideal) x0 x1 x2 x3 x4 x5 x6 x7 x8 x9 x10) _ _ _ _ _ h

theorem tap3 {b o y x : ℕ} (h : b < 128 ∧ o < 32 ∧ y < 64 ∧ x < 64) :
    at4 (n0 := 128) (n1 := 32) (n2 := 64) (n3 := 64) (val_main_v513 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 1 0 :=
  tap_stride1 x11 (val_main_v491 (F := Ideal) x0 x1 x2 x3 x4 x5 x6 x7 x8 x9 x10) _ _ _ _ _ h

theorem tap4 {b o y x : ℕ} (h : b < 128 ∧ o < 32 ∧ y < 64 ∧ x < 64) :
    at4 (n0 := 128) (n1 := 32) (n2 := 64) (n3 := 64) (val_main_v519 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 1 1 :=
  tap_stride1 x11 (val_main_v491 (F := Ideal) x0 x1 x2 x3 x4 x5 x6 x7 x8 x9 x10) _ _ _ _ _ h

theorem tap5 {b o y x : ℕ} (h : b < 128 ∧ o < 32 ∧ y < 64 ∧ x < 64) :
    at4 (n0 := 128) (n1 := 32) (n2 := 64) (n3 := 64) (val_main_v525 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 1 2 :=
  tap_stride1 x11 (val_main_v491 (F := Ideal) x0 x1 x2 x3 x4 x5 x6 x7 x8 x9 x10) _ _ _ _ _ h

theorem tap6 {b o y x : ℕ} (h : b < 128 ∧ o < 32 ∧ y < 64 ∧ x < 64) :
    at4 (n0 := 128) (n1 := 32) (n2 := 64) (n3 := 64) (val_main_v531 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 2 0 :=
  tap_stride1 x11 (val_main_v491 (F := Ideal) x0 x1 x2 x3 x4 x5 x6 x7 x8 x9 x10) _ _ _ _ _ h

theorem tap7 {b o y x : ℕ} (h : b < 128 ∧ o < 32 ∧ y < 64 ∧ x < 64) :
    at4 (n0 := 128) (n1 := 32) (n2 := 64) (n3 := 64) (val_main_v537 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 2 1 :=
  tap_stride1 x11 (val_main_v491 (F := Ideal) x0 x1 x2 x3 x4 x5 x6 x7 x8 x9 x10) _ _ _ _ _ h

theorem tap8 {b o y x : ℕ} (h : b < 128 ∧ o < 32 ∧ y < 64 ∧ x < 64) :
    at4 (n0 := 128) (n1 := 32) (n2 := 64) (n3 := 64) (val_main_v543 (F := Ideal) x0 x1 x2 x3 x4 x5 x6 x7 x8 x9 x10 x11) b o y x = tap 64 (fun y x c => at4 (n0 := 128) (n1 := 64) (n2 := 66) (n3 := 66) (val_main_v491 (F := Ideal) x0 x1 x2 x3 x4 x5 x6 x7 x8 x9 x10) b c y x) (wk (O := 32) (I := 64) x11) y x o 2 2 :=
  tap_stride1 x11 (val_main_v491 (F := Ideal) x0 x1 x2 x3 x4 x5 x6 x7 x8 x9 x10) _ _ _ _ _ h

/-- The padded images. -/
theorem padded (b y x c : ℕ) : (fun y x c => at4 (n0 := 128) (n1 := 64) (n2 := 66) (n3 := 66) (val_main_v491 (F := Ideal) x0 x1 x2 x3 x4 x5 x6 x7 x8 x9 x10) b c y x) y x c = (shifted (fun y x c => at4 (n0 := 128) (n1 := 64) (n2 := 64) (n3 := 64) (val_main_v490 (F := Ideal) x0 x1 x2 x3 x4 x5 x6 x7 x8 x9 x10) b c y x)) y x c :=
  at4_padone' (φ := .f32) (val_main_v490 (F := Ideal) x0 x1 x2 x3 x4 x5 x6 x7 x8 x9 x10) _ _ b c y x

theorem sum_eq {b o y x : ℕ} (h : b < 128 ∧ o < 32 ∧ y < 64 ∧ x < 64) :
    at4 (n0 := 128) (n1 := 32) (n2 := 64) (n3 := 64) (val_main_v544 (F := Ideal) x0 x1 x2 x3 x4 x5 x6 x7 x8 x9 x10 x11) b o y x = conv9 64 (shifted (fun y x c => at4 (n0 := 128) (n1 := 64) (n2 := 64) (n3 := 64) (val_main_v490 (F := Ideal) x0 x1 x2 x3 x4 x5 x6 x7 x8 x9 x10) b c y x)) (wk (O := 32) (I := 64) x11) y x o := by
  rw [← conv9_congr (padded x0 x1 x2 x3 x4 x5 x6 x7 x8 x9 x10 b)]
  unfold conv9
  rw [← tap0 x0 x1 x2 x3 x4 x5 x6 x7 x8 x9 x10 x11 h, ← tap1 x0 x1 x2 x3 x4 x5 x6 x7 x8 x9 x10 x11 h, ← tap2 x0 x1 x2 x3 x4 x5 x6 x7 x8 x9 x10 x11 h, ← tap3 x0 x1 x2 x3 x4 x5 x6 x7 x8 x9 x10 x11 h, ← tap4 x0 x1 x2 x3 x4 x5 x6 x7 x8 x9 x10 x11 h, ← tap5 x0 x1 x2 x3 x4 x5 x6 x7 x8 x9 x10 x11 h, ← tap6 x0 x1 x2 x3 x4 x5 x6 x7 x8 x9 x10 x11 h, ← tap7 x0 x1 x2 x3 x4 x5 x6 x7 x8 x9 x10 x11 h, ← tap8 x0 x1 x2 x3 x4 x5 x6 x7 x8 x9 x10 x11 h]
  simp only [at4_eq _ h]
  rfl

/-- The layer's images are the convolved images, clamped at zero. -/
theorem layer {b o y x : ℕ} (h : b < 128 ∧ o < 32 ∧ y < 64 ∧ x < 64) :
    at4 (n0 := 128) (n1 := 32) (n2 := 64) (n3 := 64) (val_main_v546 (F := Ideal) x0 x1 x2 x3 x4 x5 x6 x7 x8 x9 x10 x11) b o y x = max (conv9 64 (shifted (fun y x c => at4 (n0 := 128) (n1 := 64) (n2 := 64) (n3 := 64) (val_main_v490 (F := Ideal) x0 x1 x2 x3 x4 x5 x6 x7 x8 x9 x10) b c y x)) (wk (O := 32) (I := 64) x11) y x o) 0 := by
  rw [← sum_eq x0 x1 x2 x3 x4 x5 x6 x7 x8 x9 x10 x11 h, at4_eq _ h, at4_eq _ h]
  show max _ (Ideal.ofBits .f32 0x00000000#32) = _
  rw [ofBits_zero32]

end Cert.RefDec3

end
-- ==== Proof.RefDec4.lean ====
/- The reference's fourth decoder layer, read at an image, a channel and a pixel. -/
module

public import proofs.«01_k».proof.Proof.RefTap
public import proofs.«01_k».proof.Proof.Gen.ReferenceIdeal.Read

@[expose] public section

set_option maxRecDepth 16384

noncomputable section

namespace Cert.RefDec4

open Idealize.ShloMosaic Idealize.ShloMosaic.TcCoe Idealize.ShloMosaic.ValueIdx Idealize.ShloMosaic.Tactic
open Cert.ReferenceIdeal Cert.ReferenceIdeal.Read Cert.Arr

variable (x0 : (⟨S128, .i32⟩ : BufTy).Contents (Elt Ideal)) (x1 : (⟨S128, .i32⟩ : BufTy).Contents (Elt Ideal)) (x2 : (⟨S128x1x64x64, .f32⟩ : BufTy).Contents (Elt Ideal)) (x3 : (⟨S128, .i32⟩ : BufTy).Contents (Elt Ideal)) (x4 : (⟨S128x3, .i32⟩ : BufTy).Contents (Elt Ideal)) (x5 : (⟨S64x1x3x3, .f32⟩ : BufTy).Contents (Elt Ideal)) (x6 : (⟨S128x64x3x3, .f32⟩ : BufTy).Contents (Elt Ideal)) (x7 : (⟨S256x128x3x3, .f32⟩ : BufTy).Contents (Elt Ideal)) (x8 : (⟨S256x256x3x3, .f32⟩ : BufTy).Contents (Elt Ideal)) (x9 : (⟨S128x256x3x3, .f32⟩ : BufTy).Contents (Elt Ideal)) (x10 : (⟨S64x128x3x3, .f32⟩ : BufTy).Contents (Elt Ideal)) (x11 : (⟨S32x64x3x3, .f32⟩ : BufTy).Contents (Elt Ideal)) (x12 : (⟨S1x32x3x3, .f32⟩ : BufTy).Contents (Elt Ideal))

theorem tap0 {b o y x : ℕ} (h : b < 128 ∧ o < 1 ∧ y < 64 ∧ x < 64) :
    at4 (n0 := 128) (n1 := 1) (n2 := 64) (n3 := 64) (val_main_v552 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 0 0 :=
  tap_stride1 x12 (val_main_v547 (F := Ideal) x0 x1 x2 x3 x4 x5 x6 x7 x8 x9 x10 x11) _ _ _ _ _ h

theorem tap1 {b o y x : ℕ} (h : b < 128 ∧ o < 1 ∧ y < 64 ∧ x < 64) :
    at4 (n0 := 128) (n1 := 1) (n2 := 64) (n3 := 64) (val_main_v557 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 0 1 :=
  tap_stride1 x12 (val_main_v547 (F := Ideal) x0 x1 x2 x3 x4 x5 x6 x7 x8 x9 x10 x11) _ _ _ _ _ h

theorem tap2 {b o y x : ℕ} (h : b < 128 ∧ o < 1 ∧ y < 64 ∧ x < 64) :
    at4 (n0 := 128) (n1 := 1) (n2 := 64) (n3 := 64) (val_main_v563 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 0 2 :=
  tap_stride1 x12 (val_main_v547 (F := Ideal) x0 x1 x2 x3 x4 x5 x6 x7 x8 x9 x10 x11) _ _ _ _ _ h

theorem tap3 {b o y x : ℕ} (h : b < 128 ∧ o < 1 ∧ y < 64 ∧ x < 64) :
    at4 (n0 := 128) (n1 := 1) (n2 := 64) (n3 := 64) (val_main_v569 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 1 0 :=
  tap_stride1 x12 (val_main_v547 (F := Ideal) x0 x1 x2 x3 x4 x5 x6 x7 x8 x9 x10 x11) _ _ _ _ _ h

theorem tap4 {b o y x : ℕ} (h : b < 128 ∧ o < 1 ∧ y < 64 ∧ x < 64) :
    at4 (n0 := 128) (n1 := 1) (n2 := 64) (n3 := 64) (val_main_v575 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 1 1 :=
  tap_stride1 x12 (val_main_v547 (F := Ideal) x0 x1 x2 x3 x4 x5 x6 x7 x8 x9 x10 x11) _ _ _ _ _ h

theorem tap5 {b o y x : ℕ} (h : b < 128 ∧ o < 1 ∧ y < 64 ∧ x < 64) :
    at4 (n0 := 128) (n1 := 1) (n2 := 64) (n3 := 64) (val_main_v581 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 1 2 :=
  tap_stride1 x12 (val_main_v547 (F := Ideal) x0 x1 x2 x3 x4 x5 x6 x7 x8 x9 x10 x11) _ _ _ _ _ h

theorem tap6 {b o y x : ℕ} (h : b < 128 ∧ o < 1 ∧ y < 64 ∧ x < 64) :
    at4 (n0 := 128) (n1 := 1) (n2 := 64) (n3 := 64) (val_main_v587 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 2 0 :=
  tap_stride1 x12 (val_main_v547 (F := Ideal) x0 x1 x2 x3 x4 x5 x6 x7 x8 x9 x10 x11) _ _ _ _ _ h

theorem tap7 {b o y x : ℕ} (h : b < 128 ∧ o < 1 ∧ y < 64 ∧ x < 64) :
    at4 (n0 := 128) (n1 := 1) (n2 := 64) (n3 := 64) (val_main_v593 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 2 1 :=
  tap_stride1 x12 (val_main_v547 (F := Ideal) x0 x1 x2 x3 x4 x5 x6 x7 x8 x9 x10 x11) _ _ _ _ _ h

theorem tap8 {b o y x : ℕ} (h : b < 128 ∧ o < 1 ∧ y < 64 ∧ x < 64) :
    at4 (n0 := 128) (n1 := 1) (n2 := 64) (n3 := 64) (val_main_v599 (F := Ideal) x0 x1 x2 x3 x4 x5 x6 x7 x8 x9 x10 x11 x12) b o y x = tap 32 (fun y x c => at4 (n0 := 128) (n1 := 32) (n2 := 66) (n3 := 66) (val_main_v547 (F := Ideal) x0 x1 x2 x3 x4 x5 x6 x7 x8 x9 x10 x11) b c y x) (wk (O := 1) (I := 32) x12) y x o 2 2 :=
  tap_stride1 x12 (val_main_v547 (F := Ideal) x0 x1 x2 x3 x4 x5 x6 x7 x8 x9 x10 x11) _ _ _ _ _ h

/-- The padded images. -/
theorem padded (b y x c : ℕ) : (fun y x c => at4 (n0 := 128) (n1 := 32) (n2 := 66) (n3 := 66) (val_main_v547 (F := Ideal) x0 x1 x2 x3 x4 x5 x6 x7 x8 x9 x10 x11) b c y x) y x c = (shifted (fun y x c => at4 (n0 := 128) (n1 := 32) (n2 := 64) (n3 := 64) (val_main_v546 (F := Ideal) x0 x1 x2 x3 x4 x5 x6 x7 x8 x9 x10 x11) b c y x)) y x c :=
  at4_padone' (φ := .f32) (val_main_v546 (F := Ideal) x0 x1 x2 x3 x4 x5 x6 x7 x8 x9 x10 x11) _ _ b c y x

theorem sum_eq {b o y x : ℕ} (h : b < 128 ∧ o < 1 ∧ y < 64 ∧ x < 64) :
    at4 (n0 := 128) (n1 := 1) (n2 := 64) (n3 := 64) (val_main_v600 (F := Ideal) x0 x1 x2 x3 x4 x5 x6 x7 x8 x9 x10 x11 x12) b o y x = conv9 32 (shifted (fun y x c => at4 (n0 := 128) (n1 := 32) (n2 := 64) (n3 := 64) (val_main_v546 (F := Ideal) x0 x1 x2 x3 x4 x5 x6 x7 x8 x9 x10 x11) b c y x)) (wk (O := 1) (I := 32) x12) y x o := by
  rw [← conv9_congr (padded x0 x1 x2 x3 x4 x5 x6 x7 x8 x9 x10 x11 b)]
  unfold conv9
  rw [← tap0 x0 x1 x2 x3 x4 x5 x6 x7 x8 x9 x10 x11 x12 h, ← tap1 x0 x1 x2 x3 x4 x5 x6 x7 x8 x9 x10 x11 x12 h, ← tap2 x0 x1 x2 x3 x4 x5 x6 x7 x8 x9 x10 x11 x12 h, ← tap3 x0 x1 x2 x3 x4 x5 x6 x7 x8 x9 x10 x11 x12 h, ← tap4 x0 x1 x2 x3 x4 x5 x6 x7 x8 x9 x10 x11 x12 h, ← tap5 x0 x1 x2 x3 x4 x5 x6 x7 x8 x9 x10 x11 x12 h, ← tap6 x0 x1 x2 x3 x4 x5 x6 x7 x8 x9 x10 x11 x12 h, ← tap7 x0 x1 x2 x3 x4 x5 x6 x7 x8 x9 x10 x11 x12 h, ← tap8 x0 x1 x2 x3 x4 x5 x6 x7 x8 x9 x10 x11 x12 h]
  simp only [at4_eq _ h]
  rfl

/-- The layer's images are the hyperbolic tangents of the convolved images. -/
theorem layer {b o y x : ℕ} (h : b < 128 ∧ o < 1 ∧ y < 64 ∧ x < 64) :
    at4 (n0 := 128) (n1 := 1) (n2 := 64) (n3 := 64) (val_main_v601 (F := Ideal) x0 x1 x2 x3 x4 x5 x6 x7 x8 x9 x10 x11 x12) b o y x = Ideal.tanh (conv9 32 (shifted (fun y x c => at4 (n0 := 128) (n1 := 32) (n2 := 64) (n3 := 64) (val_main_v546 (F := Ideal) x0 x1 x2 x3 x4 x5 x6 x7 x8 x9 x10 x11) b c y x)) (wk (O := 1) (I := 32) x12) y x o) := by
  rw [← sum_eq x0 x1 x2 x3 x4 x5 x6 x7 x8 x9 x10 x11 x12 h, at4_eq _ h, at4_eq _ h]
  rfl

end Cert.RefDec4

end
-- ==== Proof.ChainDec.lean ====
/- The decoder's layers: after each of the last four calls the images its result holds are the reference's, so the result is. -/
module

public import proofs.«01_k».proof.Proof.Args
public import proofs.«01_k».proof.Proof.ChainMem
public import proofs.«01_k».proof.Proof.Dec1
public import proofs.«01_k».proof.Proof.Dec1Reads
public import proofs.«01_k».proof.Proof.Dec2
public import proofs.«01_k».proof.Proof.Dec2Reads
public import proofs.«01_k».proof.Proof.Dec3
public import proofs.«01_k».proof.Proof.Dec3Reads
public import proofs.«01_k».proof.Proof.Dec4
public import proofs.«01_k».proof.Proof.Dec4Reads
public import proofs.«01_k».proof.Proof.RefDec1
public import proofs.«01_k».proof.Proof.RefDec2
public import proofs.«01_k».proof.Proof.RefDec3
public import proofs.«01_k».proof.Proof.RefDec4

@[expose] public section

set_option maxRecDepth 16384

noncomputable section

namespace Cert.ChainDec

open Idealize.ShloMosaic Idealize.ShloMosaic.TcCoe Idealize.ShloMosaic.ValueIdx Idealize.ShloMosaic.Tactic
open Cert.KernelIdeal Cert.KernelIdeal.Gen Cert.Arr
open scoped BigOperators

variable (m : (l : Loc nD τ sig) → Buf (Elt Ideal) l) (ρ : Dev nD → PrngReg) (c : Dev nD)

variable {m c} (hr : ChainMem.InRange m c)
include hr

theorem up1 : ∀ b y x o, at4 (Dec1.up (Keys.lowImage (W30 m ρ c (Proc.devRef .tc main_v113)))) b y x o = at4 (n0 := 128) (n1 := 256) (n2 := 16) (n3 := 16) (Cert.ReferenceIdeal.Read.val_main_v369 (F := Ideal) (Args.a0 m c) (Args.a1 m c) (Args.a2 m c) (Args.a3 m c) (Args.a4 m c) (Args.a5 m c) (Args.a6 m c) (Args.a7 m c) (Args.a8 m c)) b o y x :=
  at4_swap_ext fun b y x o h => by
    refine (Dec1.up_at _ h).trans ((ChainMem.low m ρ c hr b (y / 4) (x / 4) o).trans (Eq.symm ?_))
    exact at4_repeat' (n0 := 128) (n1 := 256) (n2 := 4) (n3 := 4) (f := 4) (p := 16) (q := 16) (Cert.ReferenceIdeal.Read.val_main_v325 (F := Ideal) (Args.a0 m c) (Args.a1 m c) (Args.a2 m c) (Args.a3 m c) (Args.a4 m c) (Args.a5 m c) (Args.a6 m c) (Args.a7 m c) (Args.a8 m c)) _ _ _ _ (by decide) (by decide) (by decide) (by decide)
      ⟨h.1, h.2.2.2, h.2.1, h.2.2.1⟩

theorem dec1 : ∀ b y x o, at4 (Dec1.image (W44 m ρ c (Proc.devRef .tc main_v135))) b y x o = at4 (n0 := 128) (n1 := 128) (n2 := 16) (n3 := 16) (Cert.ReferenceIdeal.Read.val_main_v426 (F := Ideal) (Args.a0 m c) (Args.a1 m c) (Args.a2 m c) (Args.a3 m c) (Args.a4 m c) (Args.a5 m c) (Args.a6 m c) (Args.a7 m c) (Args.a8 m c) (Args.a9 m c)) b o y x :=
  at4_swap_ext fun b y x o h => by
    have hw : W44 m ρ c (Proc.devRef .tc main_v135) = (dat6 (V43 m ρ) c).arrAt 3 cfg6.N := W44_arr m ρ c 3
    rw [hw]
    have ha : W32 m ρ c (Proc.devRef .tc main_arg9) = (Args.a9 m c) := W32_args m ρ c main_arg9 (by decide)
    refine (Dec1.layer (Dec1.up (Keys.lowImage (W30 m ρ c (Proc.devRef .tc main_v113)))) (Args.a9 m c) (Keys.skipImage (W32 m ρ c (Proc.devRef .tc main_v115))) (V43 m ρ) c ((Dec1Reads.read_v129 (W32 m ρ c)).trans (congrArg (fun Z => Dec1.flat (Dec1.up (Keys.lowImage Z))) (ChainMem.low32 m ρ c)))
      ((Dec1Reads.read_v124 (W32 m ρ c)).trans (congrArg Dec1.taps ha)) (Dec1Reads.read_v134 (W32 m ρ c)) h).trans ?_
    have e : at4 (n0 := 128) (n1 := 128) (n2 := 16) (n3 := 16) (Cert.ReferenceIdeal.Read.val_main_v426 (F := Ideal) (Args.a0 m c) (Args.a1 m c) (Args.a2 m c) (Args.a3 m c) (Args.a4 m c) (Args.a5 m c) (Args.a6 m c) (Args.a7 m c) (Args.a8 m c) (Args.a9 m c)) b o y x = at4 (n0 := 128) (n1 := 128) (n2 := 16) (n3 := 16) (Cert.ReferenceIdeal.Read.val_main_v425 (F := Ideal) (Args.a0 m c) (Args.a1 m c) (Args.a2 m c) (Args.a3 m c) (Args.a4 m c) (Args.a5 m c) (Args.a6 m c) (Args.a7 m c) (Args.a8 m c) (Args.a9 m c)) b o y x + at4 (n0 := 128) (n1 := 128) (n2 := 16) (n3 := 16) (Cert.ReferenceIdeal.Read.val_main_v365 (F := Ideal) (Args.a0 m c) (Args.a1 m c) (Args.a2 m c) (Args.a3 m c) (Args.a4 m c) (Args.a5 m c) (Args.a6 m c)) b o y x := by
      rw [at4_eq _ ⟨h.1, h.2.2.2, h.2.1, h.2.2.1⟩, at4_eq _ ⟨h.1, h.2.2.2, h.2.1, h.2.2.1⟩, at4_eq _ ⟨h.1, h.2.2.2, h.2.1, h.2.2.1⟩]
      rfl
    refine Eq.trans ?_ e.symm
    refine congrArg₂ (· + ·) (Eq.trans ?_ (RefDec1.layer (Args.a0 m c) (Args.a1 m c) (Args.a2 m c) (Args.a3 m c) (Args.a4 m c) (Args.a5 m c) (Args.a6 m c) (Args.a7 m c) (Args.a8 m c) (Args.a9 m c) ⟨h.1, h.2.2.2, h.2.1, h.2.2.1⟩).symm) (ChainMem.skip m ρ c hr b y x o)
    exact congrArg (max · 0) (conv9_congr (fun y x o => shifted_congr (fun y x o => up1 ρ hr b y x o) y x o) _ _ _)

theorem up2 : ∀ b y x o, at4 (Dec2.up (Dec1.image (W44 m ρ c (Proc.devRef .tc main_v135)))) b y x o = at4 (n0 := 128) (n1 := 128) (n2 := 32) (n3 := 32) (Cert.ReferenceIdeal.Read.val_main_v430 (F := Ideal) (Args.a0 m c) (Args.a1 m c) (Args.a2 m c) (Args.a3 m c) (Args.a4 m c) (Args.a5 m c) (Args.a6 m c) (Args.a7 m c) (Args.a8 m c) (Args.a9 m c)) b o y x :=
  at4_swap_ext fun b y x o h => by
    refine (Dec2.up_at _ h).trans ((dec1 ρ hr b (y / 2) (x / 2) o).trans (Eq.symm ?_))
    exact at4_repeat' (n0 := 128) (n1 := 128) (n2 := 16) (n3 := 16) (f := 2) (p := 32) (q := 32) (Cert.ReferenceIdeal.Read.val_main_v426 (F := Ideal) (Args.a0 m c) (Args.a1 m c) (Args.a2 m c) (Args.a3 m c) (Args.a4 m c) (Args.a5 m c) (Args.a6 m c) (Args.a7 m c) (Args.a8 m c) (Args.a9 m c)) _ _ _ _ (by decide) (by decide) (by decide) (by decide)
      ⟨h.1, h.2.2.2, h.2.1, h.2.2.1⟩

theorem dec2 : ∀ b y x o, at4 (Dec2.image (W51 m ρ c (Proc.devRef .tc main_v151))) b y x o = at4 (n0 := 128) (n1 := 64) (n2 := 32) (n3 := 32) (Cert.ReferenceIdeal.Read.val_main_v486 (F := Ideal) (Args.a0 m c) (Args.a1 m c) (Args.a2 m c) (Args.a3 m c) (Args.a4 m c) (Args.a5 m c) (Args.a6 m c) (Args.a7 m c) (Args.a8 m c) (Args.a9 m c) (Args.a10 m c)) b o y x :=
  at4_swap_ext fun b y x o h => by
    have hw : W51 m ρ c (Proc.devRef .tc main_v151) = (dat7 (V50 m ρ) c).arrAt 2 cfg7.N := W51_arr m ρ c 2
    rw [hw]
    have ha : W44 m ρ c (Proc.devRef .tc main_arg10) = (Args.a10 m c) := W44_args m ρ c main_arg10 (by decide)
    refine (Dec2.layer (Dec2.up (Dec1.image (W44 m ρ c (Proc.devRef .tc main_v135)))) (Args.a10 m c) (V50 m ρ) c (Dec2Reads.read_v150 (W44 m ρ c))
      ((Dec2Reads.read_v145 (W44 m ρ c)).trans (congrArg Dec2.taps ha)) h).trans ?_
    refine Eq.trans ?_ (RefDec2.layer (Args.a0 m c) (Args.a1 m c) (Args.a2 m c) (Args.a3 m c) (Args.a4 m c) (Args.a5 m c) (Args.a6 m c) (Args.a7 m c) (Args.a8 m c) (Args.a9 m c) (Args.a10 m c) ⟨h.1, h.2.2.2, h.2.1, h.2.2.1⟩).symm
    exact congrArg (max · 0) (conv9_congr (fun y x o => shifted_congr (fun y x o => up2 ρ hr b y x o) y x o) _ _ _)

theorem up3 : ∀ b y x o, at4 (Dec3.up (Dec2.image (W51 m ρ c (Proc.devRef .tc main_v151)))) b y x o = at4 (n0 := 128) (n1 := 64) (n2 := 64) (n3 := 64) (Cert.ReferenceIdeal.Read.val_main_v490 (F := Ideal) (Args.a0 m c) (Args.a1 m c) (Args.a2 m c) (Args.a3 m c) (Args.a4 m c) (Args.a5 m c) (Args.a6 m c) (Args.a7 m c) (Args.a8 m c) (Args.a9 m c) (Args.a10 m c)) b o y x :=
  at4_swap_ext fun b y x o h => by
    refine (Dec3.up_at _ h).trans ((dec2 ρ hr b (y / 2) (x / 2) o).trans (Eq.symm ?_))
    exact at4_repeat' (n0 := 128) (n1 := 64) (n2 := 32) (n3 := 32) (f := 2) (p := 64) (q := 64) (Cert.ReferenceIdeal.Read.val_main_v486 (F := Ideal) (Args.a0 m c) (Args.a1 m c) (Args.a2 m c) (Args.a3 m c) (Args.a4 m c) (Args.a5 m c) (Args.a6 m c) (Args.a7 m c) (Args.a8 m c) (Args.a9 m c) (Args.a10 m c)) _ _ _ _ (by decide) (by decide) (by decide) (by decide)
      ⟨h.1, h.2.2.2, h.2.1, h.2.2.1⟩

theorem dec3 : ∀ b y x o, at4 (Dec3.image (W58 m ρ c (Proc.devRef .tc main_v167))) b y x o = at4 (n0 := 128) (n1 := 32) (n2 := 64) (n3 := 64) (Cert.ReferenceIdeal.Read.val_main_v546 (F := Ideal) (Args.a0 m c) (Args.a1 m c) (Args.a2 m c) (Args.a3 m c) (Args.a4 m c) (Args.a5 m c) (Args.a6 m c) (Args.a7 m c) (Args.a8 m c) (Args.a9 m c) (Args.a10 m c) (Args.a11 m c)) b o y x :=
  at4_swap_ext fun b y x o h => by
    have hw : W58 m ρ c (Proc.devRef .tc main_v167) = (dat8 (V57 m ρ) c).arrAt 2 cfg8.N := W58_arr m ρ c 2
    rw [hw]
    have ha : W51 m ρ c (Proc.devRef .tc main_arg11) = (Args.a11 m c) := W51_args m ρ c main_arg11 (by decide)
    refine (Dec3.layer (Dec3.up (Dec2.image (W51 m ρ c (Proc.devRef .tc main_v151)))) (Args.a11 m c) (V57 m ρ) c (Dec3Reads.read_v166 (W51 m ρ c))
      ((Dec3Reads.read_v161 (W51 m ρ c)).trans (congrArg Dec3.taps ha)) h).trans ?_
    refine Eq.trans ?_ (RefDec3.layer (Args.a0 m c) (Args.a1 m c) (Args.a2 m c) (Args.a3 m c) (Args.a4 m c) (Args.a5 m c) (Args.a6 m c) (Args.a7 m c) (Args.a8 m c) (Args.a9 m c) (Args.a10 m c) (Args.a11 m c) ⟨h.1, h.2.2.2, h.2.1, h.2.2.1⟩).symm
    exact congrArg (max · 0) (conv9_congr (fun y x o => shifted_congr (fun y x o => up3 ρ hr b y x o) y x o) _ _ _)

theorem dec4 : ∀ b y x o, at4 (Dec4.image (W65 m ρ c (Proc.devRef .tc main_v180))) b y x o = at4 (n0 := 128) (n1 := 1) (n2 := 64) (n3 := 64) (Cert.ReferenceIdeal.Read.val_main_v601 (F := Ideal) (Args.a0 m c) (Args.a1 m c) (Args.a2 m c) (Args.a3 m c) (Args.a4 m c) (Args.a5 m c) (Args.a6 m c) (Args.a7 m c) (Args.a8 m c) (Args.a9 m c) (Args.a10 m c) (Args.a11 m c) (Args.a12 m c)) b o y x :=
  at4_swap_ext fun b y x o h => by
    have hw : W65 m ρ c (Proc.devRef .tc main_v180) = (dat9 (V64 m ρ) c).arrAt 2 cfg9.N := W65_arr m ρ c 2
    rw [hw]
    have ha : W58 m ρ c (Proc.devRef .tc main_arg12) = (Args.a12 m c) := W58_args m ρ c main_arg12 (by decide)
    refine (Dec4.layer (Dec3.image (W58 m ρ c (Proc.devRef .tc main_v167))) (Args.a12 m c) (V64 m ρ) c (Dec4Reads.read_v179 (W58 m ρ c))
      ((Dec4Reads.read_v174 (W58 m ρ c)).trans (congrArg Dec4.taps ha)) h).trans ?_
    refine Eq.trans ?_ (RefDec4.layer (Args.a0 m c) (Args.a1 m c) (Args.a2 m c) (Args.a3 m c) (Args.a4 m c) (Args.a5 m c) (Args.a6 m c) (Args.a7 m c) (Args.a8 m c) (Args.a9 m c) (Args.a10 m c) (Args.a11 m c) (Args.a12 m c) ⟨h.1, h.2.2.2, h.2.1, h.2.2.1⟩).symm
    exact congrArg Ideal.tanh (conv9_congr (fun y x o => shifted_congr (fun y x o => dec3 ρ hr b y x o) y x o) _ _ _)

/-- The kernel's result is the reference's. -/
theorem result : (W66 m ρ c (Proc.devRef .tc main_v185) : (⟨4, ![128, 1, 64, 64]⟩ : Shape).Idx → EReal) = (Cert.ReferenceIdeal.Read.val_main_v601 (F := Ideal) (Args.a0 m c) (Args.a1 m c) (Args.a2 m c) (Args.a3 m c) (Args.a4 m c) (Args.a5 m c) (Args.a6 m c) (Args.a7 m c) (Args.a8 m c) (Args.a9 m c) (Args.a10 m c) (Args.a11 m c) (Args.a12 m c)) := by
  have e : (W66 m ρ c (Proc.devRef .tc main_v185) : (⟨4, ![128, 1, 64, 64]⟩ : Shape).Idx → EReal)
      = transpose ⟨4, ![128, 1, 64, 64]⟩ [0, 3, 1, 2] (Dec4.image (W65 m ρ c (Proc.devRef .tc main_v180))) (by decide) := by
    show StableHlo.after hostOps10 (W65 m ρ c) (Proc.devRef .tc main_v185) = _
    generalize W65 m ρ c = U
    after_results
    try simp only [StableHlo.TRef.toBuf, StableHlo.TRef.ofBuf]
    repeat erw [cast_eq]
    rfl
  rw [e]
  funext i
  rw [eq_ix4 i]
  refine (at4_ix _ _ _ _ _).trans (Eq.trans ?_ (at4_ix (Cert.ReferenceIdeal.Read.val_main_v601 (F := Ideal) (Args.a0 m c) (Args.a1 m c) (Args.a2 m c) (Args.a3 m c) (Args.a4 m c) (Args.a5 m c) (Args.a6 m c) (Args.a7 m c) (Args.a8 m c) (Args.a9 m c) (Args.a10 m c) (Args.a11 m c) (Args.a12 m c)) _ _ _ _).symm)
  exact (at4_transpose0312 (Dec4.image (W65 m ρ c (Proc.devRef .tc main_v180))) _ _ _ _ _).trans (dec4 ρ hr _ _ _ _)

end Cert.ChainDec

end
-- ==== Proof.KRun.lean ====
/- The kernel's run at ideal arithmetic, with the result array read back: the launch over the segments, as the frame's, whose final
   state is read at the result's buffer as well as at the arguments'. -/
module

public import proofs.«01_k».proof.Proof.Gen.KernelIdeal.Frame

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every execution ends, with the result array at the last boundary's contents and the argument arrays as launched. -/
theorem run : θ_run defs (onTc (τ := τ) (main (F := F))) ⟨m, fun _ => 0, ρ⟩ (fun r => ∀ c : Dev nD,
      r.2.mem ((c.tc : Thread nD τ).loc main_v185) = W66 m ρ c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W66 m ρ c b)
    (hfin := fun c s' => by
      iintro ⟨⟨Hh, -⟩, HSI⟩
      unfold StableHlo.held
      imodintro
      iapply (pointsTo_read_all (Pipeline.ucRefs τ sig) (fun b => (((c : Thread nD τ)).1, b)) (W66 m ρ c) s')
      isplitl [Hh] <;> iassumption)
    (hQ := fun s h _ c =>
      ⟨h c _ (mem_uc main_v185 (by decide)),
       (h c _ (mem_uc main_arg0 (by decide))).trans (W66_main_arg0 m ρ c),
       (h c _ (mem_uc main_arg1 (by decide))).trans (W66_main_arg1 m ρ c),
       (h c _ (mem_uc main_arg2 (by decide))).trans (W66_main_arg2 m ρ c),
       (h c _ (mem_uc main_arg3 (by decide))).trans (W66_main_arg3 m ρ c),
       (h c _ (mem_uc main_arg4 (by decide))).trans (W66_main_arg4 m ρ c),
       (h c _ (mem_uc main_arg5 (by decide))).trans (W66_main_arg5 m ρ c),
       (h c _ (mem_uc main_arg6 (by decide))).trans (W66_main_arg6 m ρ c),
       (h c _ (mem_uc main_arg7 (by decide))).trans (W66_main_arg7 m ρ c),
       (h c _ (mem_uc main_arg8 (by decide))).trans (W66_main_arg8 m ρ c),
       (h c _ (mem_uc main_arg9 (by decide))).trans (W66_main_arg9 m ρ c),
       (h c _ (mem_uc main_arg10 (by decide))).trans (W66_main_arg10 m ρ c),
       (h c _ (mem_uc main_arg11 (by decide))).trans (W66_main_arg11 m ρ c),
       (h c _ (mem_uc main_arg12 (by decide))).trans (W66_main_arg12 m ρ c)⟩)

end Cert.KRun

end
-- ==== Proof.PreRange.lean ====
/- The precondition read back: the four index arrays' entries are within the memory's sizes. -/
module

public import proofs.«01_k».proof.Defs
public import proofs.«01_k».proof.Proof.ChainMem
public import Idealize.ShloMosaic.Lib.ValueIdx

@[expose] public section

set_option maxRecDepth 16384

noncomputable section

namespace Cert.PreRange

open Idealize.ShloMosaic Idealize.ShloMosaic.TcCoe Idealize.ShloMosaic.ValueIdx
open Cert.KernelIdeal

/-- The shape relations the precondition's own operations state. -/
instance facts : Cert.Pre_in_range.Facts := ⟨by decide, by decide⟩

theorem ofBool_iff (p : Bool) : BitVec.ofBool p = 1#1 ↔ p = true := by cases p <;> decide

theorem and_iff (p q : Bool) : BitVec.ofBool p &&& BitVec.ofBool q = 1#1 ↔ p = true ∧ q = true := by
  cases p <;> cases q <;> decide

/-- A bound test's two comparisons at an entry, read back. -/
theorem bound (x : BitVec 32) (n : BitVec 32) (h : IntOp.andi (IntOp.cmpi .sge x 0#32) (IntOp.cmpi .slt x n) = 1#1) :
    0 ≤ x.toInt ∧ x.toInt < n.toInt := by
  have h' : BitVec.ofBool (BitVec.sle 0#32 x) &&& BitVec.ofBool (BitVec.slt x n) = 1#1 := h
  rw [and_iff, BitVec.sle_eq_decide, BitVec.slt_eq_decide, decide_eq_true_eq, decide_eq_true_eq] at h'
  exact h'

theorem inRange (m : (l : Loc nD τ sig) → Buf (Elt Ideal) l) (h : Cert.Pre_KernelIdeal_in_range m) (c : Dev nD) :
    ChainMem.InRange m c := by
  obtain ⟨h0, h1, h3, h4⟩ := h c
  exact ⟨fun b => bound _ 8#32 (congrFun h0 (ix1 b)), fun b => bound _ 68#32 (congrFun h1 (ix1 b)),
    fun t => bound _ 8#32 (congrFun h3 (ix1 t)), fun t j => bound _ 68#32 (congrFun h4 (ix2 t j))⟩

end Cert.PreRange

end
-- ==== Proof.RefRun.lean ====
/- The reference's run at ideal arithmetic, its result array named. -/
module

public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.RefRun

open Idealize.ShloMosaic Idealize.ShloMosaic.TcCoe Idealize.SL.Sem
open Cert.ReferenceIdeal

variable (m : (l : Loc nD τ sig) → Buf (Elt Ideal) l) (ρ : Dev nD → PrngReg)

/-- The result array as a function of the arguments' contents on a device. -/
abbrev out (c : Dev nD) : (⟨4, ![128, 1, 64, 64]⟩ : Shape).Idx → EReal :=
  Read.val_main_v601 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- Every execution ends, with the result array that function's value and the argument arrays as launched. -/
theorem run : θ_run (defs (F := Ideal)) (onTc (τ := τ) (main (F := Ideal))) ⟨m, fun _ => 0, ρ⟩ (fun r => ∀ c : Dev nD,
      r.2.mem ((c.tc : Thread nD τ).loc main_v601) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c => ⟨(h c).1.trans (Read.val_main_v601_eq (StableHlo.launchContents m c)), (h c).2⟩) (Value.run m ρ)

end Cert.RefRun

end
-- ==== Proof.lean ====
/- The proof of the certificate's claims: the three frames, the named constant's rule, and the equality of the two results at ideal
   arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.ChainDec
public import proofs.«01_k».proof.Proof.KRun
public import proofs.«01_k».proof.Proof.PreRange
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every execution of the reference ends with its arguments as launched and every counter at zero. -/
theorem reference_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

set_option maxHeartbeats 100000000 in
/-- At ideal arithmetic the kernel's result is the reference's, where the index arrays are within the memory's sizes. -/
theorem same_result : Cert.algebraic_KernelIdeal_ReferenceIdeal_pre_in_range
    (hKernelIdeal := Cert.KernelIdeal.Gen.facts) (hReferenceIdeal := Cert.ReferenceIdeal.Gen.facts) (hPre_in_range := Cert.PreRange.facts) := by
  intro m g m' g' hpre hargs
  refine ⟨fun c => Cert.KernelIdeal.Gen.W66 m g c (Proc.devRef .tc Cert.KernelIdeal.main_v185), Cert.KRun.run m g, ?_⟩
  refine (θ_run _ _ _).mono (fun r h c => ⟨(h c).1.trans ?_, (h c).2⟩) (Cert.RefRun.run m' g')
  refine Eq.trans ?_ (Cert.ChainDec.result g (Cert.PreRange.inRange m hpre c)).symm
  obtain ⟨h0, h1, h2, h3, h4, h5, h6, h7, h8, h9, h10, h11, h12⟩ := hargs c
  unfold Cert.RefRun.out
  rw [h0, h1, h2, h3, h4, h5, h6, h7, h8, h9, h10, h11, h12]

theorem claim : Cert.Claim := ⟨Cert.Kernel.Gen.facts, Cert.KernelIdeal.Gen.facts, Cert.ReferenceIdeal.Gen.facts, Cert.PreRange.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "third" .f32 0x3EAAAAAB#32 ((1/3:ℝ):EReal) rfl, same_result⟩

end Cert.Proof

end
